-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  IdealRules.named_const.Statement Cert.Kernel2Ideal.κ "inv_sqrt_2" .f32 0x3F3504F3#32 (((Real.sqrt 2)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v82) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v17)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v58) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  IdealRules.named_const.Statement Cert.Kernel4Ideal.κ "q_scale" .f32 0x3E38AA3B#32 (((1 / 8) * (Real.log 2)⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v63_0)) (v1 : (c : Dev Cert.Kernel4Ideal.nD) → Buf (Elt Ideal) ((c.tc : Thread Cert.Kernel4Ideal.nD Cert.Kernel4Ideal.τ).loc Cert.Kernel4Ideal.main_v63_1)) (v2 : (c : Dev Cert.Kernel4Ideal.nD) → Buf (Elt Ideal) ((c.tc : Thread Cert.Kernel4Ideal.nD Cert.Kernel4Ideal.τ).loc Cert.Kernel4Ideal.main_v63_2)) (v3 : (c : Dev Cert.Kernel4Ideal.nD) → Buf (Elt Ideal) ((c.tc : Thread Cert.Kernel4Ideal.nD Cert.Kernel4Ideal.τ).loc Cert.Kernel4Ideal.main_v63_3)) (v4 : (c : Dev Cert.Kernel4Ideal.nD) → Buf (Elt Ideal) ((c.tc : Thread Cert.Kernel4Ideal.nD Cert.Kernel4Ideal.τ).loc Cert.Kernel4Ideal.main_v63_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v63_0) = v0 c
          ∧ r.2.mem ((c.tc : Thread Cert.Kernel4Ideal.nD Cert.Kernel4Ideal.τ).loc Cert.Kernel4Ideal.main_v63_1) = v1 c
          ∧ r.2.mem ((c.tc : Thread Cert.Kernel4Ideal.nD Cert.Kernel4Ideal.τ).loc Cert.Kernel4Ideal.main_v63_2) = v2 c
          ∧ r.2.mem ((c.tc : Thread Cert.Kernel4Ideal.nD Cert.Kernel4Ideal.τ).loc Cert.Kernel4Ideal.main_v63_3) = v3 c
          ∧ r.2.mem ((c.tc : Thread Cert.Kernel4Ideal.nD Cert.Kernel4Ideal.τ).loc Cert.Kernel4Ideal.main_v63_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v148) = v0 c
          ∧ r.2.mem ((c.tc : Thread Cert.Reference4Ideal.nD Cert.Reference4Ideal.τ).loc Cert.Reference4Ideal.main_v152) = v1 c
          ∧ r.2.mem ((c.tc : Thread Cert.Reference4Ideal.nD Cert.Reference4Ideal.τ).loc Cert.Reference4Ideal.main_v157) = v2 c
          ∧ r.2.mem ((c.tc : Thread Cert.Reference4Ideal.nD Cert.Reference4Ideal.τ).loc Cert.Reference4Ideal.main_v158) = v3 c
          ∧ r.2.mem ((c.tc : Thread Cert.Reference4Ideal.nD Cert.Reference4Ideal.τ).loc Cert.Reference4Ideal.main_v161) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v16_0)) (v1 : (c : Dev Cert.Kernel5Ideal.nD) → Buf (Elt Ideal) ((c.tc : Thread Cert.Kernel5Ideal.nD Cert.Kernel5Ideal.τ).loc Cert.Kernel5Ideal.main_v16_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v16_0) = v0 c
          ∧ r.2.mem ((c.tc : Thread Cert.Kernel5Ideal.nD Cert.Kernel5Ideal.τ).loc Cert.Kernel5Ideal.main_v16_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v408) = v0 c
          ∧ r.2.mem ((c.tc : Thread Cert.Reference5Ideal.nD Cert.Reference5Ideal.τ).loc Cert.Reference5Ideal.main_v410) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S2x8192x512 : Shape := ⟨3, ![2, 8192, 512]⟩
abbrev S2x256x512 : Shape := ⟨3, ![2, 256, 512]⟩
abbrev S64 : Shape := ⟨1, ![64]⟩
abbrev S128 : Shape := ⟨1, ![128]⟩
abbrev S_ : Shape := ⟨0, ![]⟩

class Facts : Prop where
  bcast_S_S2x8192x512 : S_.BroadcastsInDim S2x8192x512 (![] : Fin 0 → Fin S2x8192x512.rank)
  reducesTo_S2x8192x512_S_d0_1_2 : S2x8192x512.ReducesTo [0, 1, 2] S_
  h_S_ : 0 < S_.numel
  bcast_S_S2x256x512 : S_.BroadcastsInDim S2x256x512 (![] : Fin 0 → Fin S2x256x512.rank)
  reducesTo_S2x256x512_S_d0_1_2 : S2x256x512.ReducesTo [0, 1, 2] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_arg8 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S2x8192x512 .f32) (main_arg5 : FVec F S64 .f32) (main_arg6 : FVec F S64 .f32) (main_arg7 : FVec F S64 .f32) (main_arg8 : FVec F S64 .f32) (main_v13 : IVec S_ 1) (main_v16 : IVec S2x8192x512 1) : IVec S_ 1 :=
  let main_c_5 : IVec S_ 1 := constantI S_ 1 1#1
  let main_v17 : IVec S_ 1 := (fun x v => Host.reduce IntOp.andi x v reducesTo_S2x8192x512_S_d0_1_2 h_S_) main_v16 main_c_5
  let main_v18 : IVec S_ 1 := andi main_v13 main_v17
  let main_v19 : FVec F S2x8192x512 .f32 := Host.absf main_arg4
  let main_cst_6 : FVec F S_ .f32 := constant S_ .f32 0x7F800000#32
  let main_v20 : FVec F S2x8192x512 .f32 := broadcastInDim S2x8192x512 ![] bcast_S_S2x8192x512 main_cst_6
  let main_v21 : IVec S2x8192x512 1 := cmpf .olt main_v19 main_v20
  let main_c_7 : IVec S_ 1 := constantI S_ 1 1#1
  let main_v22 : IVec S_ 1 := (fun x v => Host.reduce IntOp.andi x v reducesTo_S2x8192x512_S_d0_1_2 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S2x8192x512 .f32) (main_arg1 : FVec F S2x256x512 .f32) (main_arg2 : FVec F S2x256x512 .f32) (main_arg3 : FVec F S2x8192x512 .f32) (main_arg4 : FVec F S2x8192x512 .f32) (main_arg5 : FVec F S64 .f32) (main_arg6 : FVec F S64 .f32) (main_arg7 : FVec F S64 .f32) (main_arg8 : FVec F S64 .f32) (main_arg9 : FVec F S128 .f32) : IVec S_ 1 :=
  let main_v0 : FVec F S2x8192x512 .f32 := Host.absf main_arg0
  let main_cst : FVec F S_ .f32 := constant S_ .f32 0x7F800000#32
  let main_v1 : FVec F S2x8192x512 .f32 := broadcastInDim S2x8192x512 ![] bcast_S_S2x8192x512 main_cst
  let main_v2 : IVec S2x8192x512 1 := cmpf .olt main_v0 main_v1
  let main_c : IVec S_ 1 := constantI S_ 1 1#1
  let main_v3 : IVec S_ 1 := (fun x v => Host.reduce IntOp.andi x v reducesTo_S2x8192x512_S_d0_1_2 h_S_) main_v2 main_c
  let main_v4 : FVec F S2x256x512 .f32 := Host.absf main_arg1
  let main_cst_0 : FVec F S_ .f32 := constant S_ .f32 0x7F800000#32
  let main_v5 : FVec F S2x256x512 .f32 := broadcastInDim S2x256x512 ![] bcast_S_S2x256x512 main_cst_0
  let main_v6 : IVec S2x256x512 1 := cmpf .olt main_v4 main_v5
  let main_c_1 : IVec S_ 1 := constantI S_ 1 1#1
  let main_v7 : IVec S_ 1 := (fun x v => Host.reduce IntOp.andi x v reducesTo_S2x256x512_S_d0_1_2 h_S_) main_v6 main_c_1
  let main_v8 : IVec S_ 1 := andi main_v3 main_v7
  let main_v9 : FVec F S2x256x512 .f32 := Host.absf main_arg2
  let main_cst_2 : FVec F S_ .f32 := constant S_ .f32 0x7F800000#32
  let main_v10 : FVec F S2x256x512 .f32 := broadcastInDim S2x256x512 ![] bcast_S_S2x256x512 main_cst_2
  let main_v11 : IVec S2x256x512 1 := cmpf .olt main_v9 main_v10
  let main_c_3 : IVec S_ 1 := constantI S_ 1 1#1
  let main_v12 : IVec S_ 1 := (fun x v => Host.reduce IntOp.andi x v reducesTo_S2x256x512_S_d0_1_2 h_S_) main_v11 main_c_3
  let main_v13 : IVec S_ 1 := andi main_v8 main_v12
  let main_v14 : FVec F S2x8192x512 .f32 := Host.absf main_arg3
  let main_cst_4 : FVec F S_ .f32 := constant S_ .f32 0x7F800000#32
  let main_v15 : FVec F S2x8192x512 .f32 := broadcastInDim S2x8192x512 ![] bcast_S_S2x8192x512 main_cst_4
  let main_v16 : IVec S2x8192x512 1 := cmpf .olt main_v14 main_v15
  fn_part1 (F := F) main_arg4 main_arg5 main_arg6 main_arg7 main_arg8 main_v13 main_v16
-- ==== Kernel.lean ====
abbrev S2x8192x512 : Shape := ⟨3, ![2, 8192, 512]⟩
abbrev S2x256x512 : Shape := ⟨3, ![2, 256, 512]⟩
abbrev S64 : Shape := ⟨1, ![64]⟩
abbrev S128 : Shape := ⟨1, ![128]⟩
abbrev S16384x512 : Shape := ⟨2, ![16384, 512]⟩
abbrev S512x16384 : Shape := ⟨2, ![512, 16384]⟩
abbrev S_ : Shape := ⟨0, ![]⟩
abbrev S512x512 : Shape := ⟨2, ![512, 512]⟩
abbrev S512x4x128 : Shape := ⟨3, ![512, 4, 128]⟩
abbrev S4x128x512 : Shape := ⟨3, ![4, 128, 512]⟩
abbrev S4x16x512 : Shape := ⟨3, ![4, 16, 512]⟩
abbrev S4x144x512 : Shape := ⟨3, ![4, 144, 512]⟩
abbrev S576x512 : Shape := ⟨2, ![576, 512]⟩
abbrev S16384x4x128 : Shape := ⟨3, ![16384, 4, 128]⟩
abbrev S4x128x16384 : Shape := ⟨3, ![4, 128, 16384]⟩
abbrev S4x16x16384 : Shape := ⟨3, ![4, 16, 16384]⟩
abbrev S4x144x16384 : Shape := ⟨3, ![4, 144, 16384]⟩
abbrev S576x16384 : Shape := ⟨2, ![576, 16384]⟩
abbrev S1x64 : Shape := ⟨2, ![1, 64]⟩
abbrev S128x1 : Shape := ⟨2, ![128, 1]⟩
abbrev S128x2048 : Shape := ⟨2, ![128, 2048]⟩
abbrev S256x128 : Shape := ⟨2, ![256, 128]⟩
abbrev S144x256 : Shape := ⟨2, ![144, 256]⟩
abbrev S8192x128 : Shape := ⟨2, ![8192, 128]⟩
abbrev S144x8192 : Shape := ⟨2, ![144, 8192]⟩
abbrev S2048x128 : Shape := ⟨2, ![2048, 128]⟩
abbrev S1 : Shape := ⟨1, ![1]⟩
abbrev S1x1 : Shape := ⟨2, ![1, 1]⟩
abbrev S128x256 : Shape := ⟨2, ![128, 256]⟩
abbrev S128x512 : Shape := ⟨2, ![128, 512]⟩
abbrev S1x512 : Shape := ⟨2, ![1, 512]⟩
abbrev S144x512 : Shape := ⟨2, ![144, 512]⟩
abbrev S256x512 : Shape := ⟨2, ![256, 512]⟩
abbrev S512 : Shape := ⟨1, ![512]⟩
abbrev S512x128 : Shape := ⟨2, ![512, 128]⟩
abbrev S1x256 : Shape := ⟨2, ![1, 256]⟩
abbrev S256 : Shape := ⟨1, ![256]⟩

abbrev nBuf : Space → Nat
  | .hbm => 45
  | .vmem => 17
  | .smem => 0
  | _ => 0

abbrev bufTy : (tb : Table) → Fin (tcTables nBuf tb) → BufTy
  | .hbm, ⟨0, _⟩ => ⟨S2x8192x512, .f32⟩
  | .hbm, ⟨1, _⟩ => ⟨S2x256x512, .f32⟩
  | .hbm, ⟨2, _⟩ => ⟨S2x256x512, .f32⟩
  | .hbm, ⟨3, _⟩ => ⟨S2x8192x512, .f32⟩
  | .hbm, ⟨4, _⟩ => ⟨S2x8192x512, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S128, .f32⟩
  | .hbm, ⟨10, _⟩ => ⟨S16384x512, .f32⟩
  | .hbm, ⟨11, _⟩ => ⟨S512x16384, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S512x16384, .f32⟩
  | .hbm, ⟨19, _⟩ => ⟨S512x16384, .f32⟩
  | .hbm, ⟨20, _⟩ => ⟨S512x16384, .bf16⟩
  | .hbm, ⟨21, _⟩ => ⟨S512x512, .f32⟩
  | .hbm, ⟨22, _⟩ => ⟨S512x512, .bf16⟩
  | .hbm, ⟨23, _⟩ => ⟨S16384x512, .f32⟩
  | .hbm, ⟨24, _⟩ => ⟨S16384x512, .bf16⟩
  | .hbm, ⟨25, _⟩ => ⟨S512x4x128, .f32⟩
  | .hbm, ⟨26, _⟩ => ⟨S4x128x512, .f32⟩
  | .hbm, ⟨27, _⟩ => ⟨S_, .f32⟩
  | .hbm, ⟨28, _⟩ => ⟨S4x16x512, .f32⟩
  | .hbm, ⟨29, _⟩ => ⟨S4x144x512, .f32⟩
  | .hbm, ⟨30, _⟩ => ⟨S576x512, .f32⟩
  | .hbm, ⟨31, _⟩ => ⟨S576x512, .bf16⟩
  | .hbm, ⟨32, _⟩ => ⟨S16384x4x128, .f32⟩
  | .hbm, ⟨33, _⟩ => ⟨S4x128x16384, .f32⟩
  | .hbm, ⟨34, _⟩ => ⟨S_, .f32⟩
  | .hbm, ⟨35, _⟩ => ⟨S4x16x16384, .f32⟩
  | .hbm, ⟨36, _⟩ => ⟨S4x144x16384, .f32⟩
  | .hbm, ⟨37, _⟩ => ⟨S576x16384, .f32⟩
  | .hbm, ⟨38, _⟩ => ⟨S576x16384, .bf16⟩
  | .hbm, ⟨39, _⟩ => ⟨S1x64, .f32⟩
  | .hbm, ⟨40, _⟩ => ⟨S1x64, .f32⟩
  | .hbm, ⟨41, _⟩ => ⟨S1x64, .f32⟩
  | .hbm, ⟨42, _⟩ => ⟨S1x64, .f32⟩
  | .hbm, ⟨43, _⟩ => ⟨S128x1, .f32⟩
  | .hbm, ⟨44, _⟩ => ⟨S16384x512, .bf16⟩
  | .local _ .vmem, ⟨0, _⟩ => ⟨S128x2048, .bf16⟩
  | .local _ .vmem, ⟨1, _⟩ => ⟨S128x2048, .bf16⟩
  | .local _ .vmem, ⟨2, _⟩ => ⟨S256x128, .bf16⟩
  | .local _ .vmem, ⟨3, _⟩ => ⟨S256x128, .bf16⟩
  | .local _ .vmem, ⟨4, _⟩ => ⟨S144x256, .bf16⟩
  | .local _ .vmem, ⟨5, _⟩ => ⟨S144x256, .bf16⟩
  | .local _ .vmem, ⟨6, _⟩ => ⟨S8192x128, .bf16⟩
  | .local _ .vmem, ⟨7, _⟩ => ⟨S8192x128, .bf16⟩
  | .local _ .vmem, ⟨8, _⟩ => ⟨S144x8192, .bf16⟩
  | .local _ .vmem, ⟨9, _⟩ => ⟨S144x8192, .bf16⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S128x1, .f32⟩
  | .local _ .vmem, ⟨15, _⟩ => ⟨S2048x128, .bf16⟩
  | .local _ .vmem, ⟨16, _⟩ => ⟨S2048x128, .bf16⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨3, ![2, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S144x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S144x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== ReferenceIdeal.lean ====
abbrev S2x8192x512 : Shape := ⟨3, ![2, 8192, 512]⟩
abbrev S2x256x512 : Shape := ⟨3, ![2, 256, 512]⟩
abbrev S64 : Shape := ⟨1, ![64]⟩
abbrev S128 : Shape := ⟨1, ![128]⟩
abbrev S_ : Shape := ⟨0, ![]⟩
abbrev S2x8192x4x2x64 : Shape := ⟨5, ![2, 8192, 4, 2, 64]⟩
abbrev S2x8448x512 : Shape := ⟨3, ![2, 8448, 512]⟩
abbrev S2x8448x4x2x64 : Shape := ⟨5, ![2, 8448, 4, 2, 64]⟩
abbrev S2x8448x4x128 : Shape := ⟨4, ![2, 8448, 4, 128]⟩
abbrev S2x4x2x8192x8448 : Shape := ⟨5, ![2, 4, 2, 8192, 8448]⟩
abbrev S2x4x2x8192 : Shape := ⟨4, ![2, 4, 2, 8192]⟩
abbrev S2x4x2x8192x1 : Shape := ⟨5, ![2, 4, 2, 8192, 1]⟩
abbrev S2x4x1x8192x8448 : Shape := ⟨5, ![2, 4, 1, 8192, 8448]⟩
abbrev S2x4x8192x8448 : Shape := ⟨4, ![2, 4, 8192, 8448]⟩
abbrev S2x4x128x8192 : Shape := ⟨4, ![2, 4, 128, 8192]⟩
abbrev S2x8192x4x128 : Shape := ⟨4, ![2, 8192, 4, 128]⟩
abbrev S2x8192x4 : Shape := ⟨3, ![2, 8192, 4]⟩
abbrev S2x8192x4x1 : Shape := ⟨4, ![2, 8192, 4, 1]⟩
abbrev S1x1x1x128 : Shape := ⟨4, ![1, 1, 1, 128]⟩
abbrev S16384x512 : Shape := ⟨2, ![16384, 512]⟩

abbrev nBuf : Space → Nat
  | .hbm => 74
  | .vmem => 0
  | .smem => 0
  | _ => 0

abbrev bufTy : (tb : Table) → Fin (tcTables nBuf tb) → BufTy
  | .hbm, ⟨0, _⟩ => ⟨S2x8192x512, .f32⟩
  | .hbm, ⟨1, _⟩ => ⟨S2x256x512, .f32⟩
  | .hbm, ⟨2, _⟩ => ⟨S2x256x512, .f32⟩
  | .hbm, ⟨3, _⟩ => ⟨S2x8192x512, .f32⟩
  | .hbm, ⟨4, _⟩ => ⟨S2x8192x512, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S128, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S2x8192x512, .f32⟩
  | .hbm, ⟨23, _⟩ => ⟨S2x8192x512, .f32⟩
  | .hbm, ⟨24, _⟩ => ⟨S2x8192x4x2x64, .f32⟩
  | .hbm, ⟨25, _⟩ => ⟨S2x8448x512, .f32⟩
  | .hbm, ⟨26, _⟩ => ⟨S2x8448x4x2x64, .f32⟩
  | .hbm, ⟨27, _⟩ => ⟨S2x8448x512, .f32⟩
  | .hbm, ⟨28, _⟩ => ⟨S2x8448x4x128, .f32⟩
  | .hbm, ⟨29, _⟩ => ⟨S2x4x2x8192x8448, .f32⟩
  | .hbm, ⟨30, _⟩ => ⟨S_, .f32⟩
  | .hbm, ⟨31, _⟩ => ⟨S2x4x2x8192, .f32⟩
  | .hbm, ⟨32, _⟩ => ⟨S_, .f32⟩
  | .hbm, ⟨33, _⟩ => ⟨S2x4x2x8192, .f32⟩
  | .hbm, ⟨34, _⟩ => ⟨S2x4x2x8192, .f32⟩
  | .hbm, ⟨35, _⟩ => ⟨S2x4x2x8192x1, .f32⟩
  | .hbm, ⟨36, _⟩ => ⟨S2x4x2x8192x8448, .f32⟩
  | .hbm, ⟨37, _⟩ => ⟨S2x4x2x8192x8448, .f32⟩
  | .hbm, ⟨38, _⟩ => ⟨S2x4x2x8192x8448, .f32⟩
  | .hbm, ⟨39, _⟩ => ⟨S_, .f32⟩
  | .hbm, ⟨40, _⟩ => ⟨S2x4x2x8192, .f32⟩
  | .hbm, ⟨41, _⟩ => ⟨S2x4x2x8192x1, .f32⟩
  | .hbm, ⟨42, _⟩ => ⟨S2x4x2x8192x8448, .f32⟩
  | .hbm, ⟨43, _⟩ => ⟨S2x4x2x8192x8448, .f32⟩
  | .hbm, ⟨44, _⟩ => ⟨S2x4x1x8192x8448, .f32⟩
  | .hbm, ⟨45, _⟩ => ⟨S2x4x8192x8448, .f32⟩
  | .hbm, ⟨46, _⟩ => ⟨S2x4x1x8192x8448, .f32⟩
  | .hbm, ⟨47, _⟩ => ⟨S2x4x8192x8448, .f32⟩
  | .hbm, ⟨48, _⟩ => ⟨S2x4x8192x8448, .f32⟩
  | .hbm, ⟨49, _⟩ => ⟨S2x4x8192x8448, .f32⟩
  | .hbm, ⟨50, _⟩ => ⟨S2x4x8192x8448, .f32⟩
  | .hbm, ⟨51, _⟩ => ⟨S2x4x128x8192, .f32⟩
  | .hbm, ⟨52, _⟩ => ⟨S2x8192x4x128, .f32⟩
  | .hbm, ⟨53, _⟩ => ⟨S2x8192x4x128, .f32⟩
  | .hbm, ⟨54, _⟩ => ⟨S_, .f32⟩
  | .hbm, ⟨55, _⟩ => ⟨S2x8192x4, .f32⟩
  | .hbm, ⟨56, _⟩ => ⟨S2x8192x4x1, .f32⟩
  | .hbm, ⟨57, _⟩ => ⟨S_, .f32⟩
  | .hbm, ⟨58, _⟩ => ⟨S2x8192x4x1, .f32⟩
  | .hbm, ⟨59, _⟩ => ⟨S2x8192x4x1, .f32⟩
  | .hbm, ⟨60, _⟩ => ⟨S_, .f32⟩
  | .hbm, ⟨61, _⟩ => ⟨S2x8192x4x1, .f32⟩
  | .hbm, ⟨62, _⟩ => ⟨S2x8192x4x1, .f32⟩
  | .hbm, ⟨63, _⟩ => ⟨S2x8192x4x1, .f32⟩
  | .hbm, ⟨64, _⟩ => ⟨S2x8192x4x128, .f32⟩
  | .hbm, ⟨65, _⟩ => ⟨S2x8192x4x128, .f32⟩
  | .hbm, ⟨66, _⟩ => ⟨S1x1x1x128, .f32⟩
  | .hbm, ⟨67, _⟩ => ⟨S2x8192x4x128, .f32⟩
  | .hbm, ⟨68, _⟩ => ⟨S2x8192x4x128, .f32⟩
  | .hbm, ⟨69, _⟩ => ⟨S_, .f32⟩
  | .hbm, ⟨70, _⟩ => ⟨S2x8192x4x128, .f32⟩
  | .hbm, ⟨71, _⟩ => ⟨S2x8192x4x128, .f32⟩
  | .hbm, ⟨72, _⟩ => ⟨S16384x512, .f32⟩
  | .hbm, ⟨73, _⟩ => ⟨S16384x512, .bf16⟩
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x6144 : Shape := ⟨2, ![2, 6144]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1024x2816 : Shape := ⟨2, ![1024, 2816]⟩
abbrev S16384x1024 : Shape := ⟨2, ![16384, 1024]⟩
abbrev S2x6x1024 : Shape := ⟨3, ![2, 6, 1024]⟩
abbrev S1x1024 : Shape := ⟨2, ![1, 1024]⟩
abbrev S1x2816 : Shape := ⟨2, ![1, 2816]⟩
abbrev S512x1024 : Shape := ⟨2, ![512, 1024]⟩
abbrev S16x1024 : Shape := ⟨2, ![16, 1024]⟩
abbrev S1x6x1024 : Shape := ⟨3, ![1, 6, 1024]⟩
abbrev S544x1024 : Shape := ⟨2, ![544, 1024]⟩
abbrev S544x256 : Shape := ⟨2, ![544, 256]⟩
abbrev S512x2816 : Shape := ⟨2, ![512, 2816]⟩
abbrev S1x1x1024 : Shape := ⟨3, ![1, 1, 1024]⟩
abbrev S512 : Shape := ⟨1, ![512]⟩
abbrev S512x1 : Shape := ⟨2, ![512, 1]⟩
abbrev S16 : Shape := ⟨1, ![16]⟩
abbrev S16x1 : Shape := ⟨2, ![16, 1]⟩
abbrev S1024x256 : Shape := ⟨2, ![1024, 256]⟩
abbrev S512x256 : Shape := ⟨2, ![512, 256]⟩
abbrev S16x256 : Shape := ⟨2, ![16, 256]⟩
abbrev S1x256 : Shape := ⟨2, ![1, 256]⟩

abbrev nBuf : Space → Nat
  | .hbm => 19
  | .vmem => 20
  | .smem => 0
  | _ => 0

abbrev bufTy : (tb : Table) → Fin (tcTables nBuf tb) → BufTy
  | .hbm, ⟨0, _⟩ => ⟨S2x8192x1024, .f32⟩
  | .hbm, ⟨1, _⟩ => ⟨S2x6144, .f32⟩
  | .hbm, ⟨2, _⟩ => ⟨S1024, .f32⟩
  | .hbm, ⟨3, _⟩ => ⟨S1024x5632, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S1024, .f32⟩
  | .hbm, ⟨8, _⟩ => ⟨S1024x2816, .f32⟩
  | .hbm, ⟨9, _⟩ => ⟨S1024x2816, .bf16⟩
  | .hbm, ⟨10, _⟩ => ⟨S1024x2816, .f32⟩
  | .hbm, ⟨11, _⟩ => ⟨S1024x2816, .bf16⟩
  | .hbm, ⟨12, _⟩ => ⟨S16384x1024, .f32⟩
  | .hbm, ⟨13, _⟩ => ⟨S2x6x1024, .f32⟩
  | .hbm, ⟨14, _⟩ => ⟨S2816x1024, .bf16⟩
  | .hbm, ⟨15, _⟩ => ⟨S1x1024, .f32⟩
  | .hbm, ⟨16, _⟩ => ⟨S1x2816, .f32⟩
  | .hbm, ⟨17, _⟩ => ⟨S1x1024, .f32⟩
  | .hbm, ⟨18, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S1024x2816, .bf16⟩
  | .local _ .vmem, ⟨10, _⟩ => ⟨S1024x2816, .bf16⟩
  | .local _ .vmem, ⟨11, _⟩ => ⟨S3x2816, .f32⟩
  | .local _ .vmem, ⟨12, _⟩ => ⟨S1x2816, .f32⟩
  | .local _ .vmem, ⟨13, _⟩ => ⟨S2816x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S544x1024, .bf16⟩
  | .local _ .vmem, ⟨18, _⟩ => ⟨S544x256, .f32⟩
  | .local _ .vmem, ⟨19, _⟩ => ⟨S512x2816, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Kernel2Ideal.lean ====
variable {F : FTy → Type} [FloatOps F] [Named F]
def κ : String → Option EReal := fun
  | "inv_sqrt_2" => some (((Real.sqrt 2)⁻¹ : ℝ) : EReal)
  | _ => none
-- ==== Reference2Ideal.lean ====
abbrev S2x8192x1024 : Shape := ⟨3, ![2, 8192, 1024]⟩
abbrev S2x6144 : Shape := ⟨2, ![2, 6144]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S2x1x6144 : Shape := ⟨3, ![2, 1, 6144]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x8192x2816 : Shape := ⟨3, ![2, 8192, 2816]⟩
abbrev S2x8194x2816 : Shape := ⟨3, ![2, 8194, 2816]⟩
abbrev S1x2816 : Shape := ⟨2, ![1, 2816]⟩
abbrev S1x1x2816 : Shape := ⟨3, ![1, 1, 2816]⟩
abbrev S16384x1024 : Shape := ⟨2, ![16384, 1024]⟩

abbrev nBuf : Space → Nat
  | .hbm => 104
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x6144, .f32⟩
  | .hbm, ⟨2, _⟩ => ⟨S1024, .f32⟩
  | .hbm, ⟨3, _⟩ => ⟨S1024x5632, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S1024, .f32⟩
  | .hbm, ⟨8, _⟩ => ⟨S2x1x6144, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x1x1024, .f32⟩
  | .hbm, ⟨14, _⟩ => ⟨S2x1x1024, .f32⟩
  | .hbm, ⟨15, _⟩ => ⟨S2x8192x1024, .f32⟩
  | .hbm, ⟨16, _⟩ => ⟨S_, .f32⟩
  | .hbm, ⟨17, _⟩ => ⟨S2x8192, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S2x8192x1, .f32⟩
  | .hbm, ⟨26, _⟩ => ⟨S2x8192x1024, .f32⟩
  | .hbm, ⟨27, _⟩ => ⟨S2x8192x1024, .f32⟩
  | .hbm, ⟨28, _⟩ => ⟨S1x1x1024, .f32⟩
  | .hbm, ⟨29, _⟩ => ⟨S2x8192x1024, .f32⟩
  | .hbm, ⟨30, _⟩ => ⟨S2x8192x1024, .f32⟩
  | .hbm, ⟨31, _⟩ => ⟨S_, .f32⟩
  | .hbm, ⟨32, _⟩ => ⟨S2x1x1024, .f32⟩
  | .hbm, ⟨33, _⟩ => ⟨S2x1x1024, .f32⟩
  | .hbm, ⟨34, _⟩ => ⟨S2x8192x1024, .f32⟩
  | .hbm, ⟨35, _⟩ => ⟨S2x8192x1024, .f32⟩
  | .hbm, ⟨36, _⟩ => ⟨S2x8192x1024, .f32⟩
  | .hbm, ⟨37, _⟩ => ⟨S2x8192x1024, .f32⟩
  | .hbm, ⟨38, _⟩ => ⟨S2x8192x5632, .f32⟩
  | .hbm, ⟨39, _⟩ => ⟨S2x8192x2816, .f32⟩
  | .hbm, ⟨40, _⟩ => ⟨S2x8192x2816, .f32⟩
  | .hbm, ⟨41, _⟩ => ⟨S_, .i32⟩
  | .hbm, ⟨42, _⟩ => ⟨S_, .f32⟩
  | .hbm, ⟨43, _⟩ => ⟨S2x8194x2816, .f32⟩
  | .hbm, ⟨44, _⟩ => ⟨S2x8192x2816, .f32⟩
  | .hbm, ⟨45, _⟩ => ⟨S1x2816, .f32⟩
  | .hbm, ⟨46, _⟩ => ⟨S2816, .f32⟩
  | .hbm, ⟨47, _⟩ => ⟨S1x1x2816, .f32⟩
  | .hbm, ⟨48, _⟩ => ⟨S2x8192x2816, .f32⟩
  | .hbm, ⟨49, _⟩ => ⟨S2x8192x2816, .f32⟩
  | .hbm, ⟨50, _⟩ => ⟨S_, .f32⟩
  | .hbm, ⟨51, _⟩ => ⟨S2x8192x2816, .f32⟩
  | .hbm, ⟨52, _⟩ => ⟨S2x8192x2816, .f32⟩
  | .hbm, ⟨53, _⟩ => ⟨S2x8192x2816, .f32⟩
  | .hbm, ⟨54, _⟩ => ⟨S1x2816, .f32⟩
  | .hbm, ⟨55, _⟩ => ⟨S2816, .f32⟩
  | .hbm, ⟨56, _⟩ => ⟨S1x1x2816, .f32⟩
  | .hbm, ⟨57, _⟩ => ⟨S2x8192x2816, .f32⟩
  | .hbm, ⟨58, _⟩ => ⟨S2x8192x2816, .f32⟩
  | .hbm, ⟨59, _⟩ => ⟨S2x8192x2816, .f32⟩
  | .hbm, ⟨60, _⟩ => ⟨S2x8192x2816, .f32⟩
  | .hbm, ⟨61, _⟩ => ⟨S1x2816, .f32⟩
  | .hbm, ⟨62, _⟩ => ⟨S2816, .f32⟩
  | .hbm, ⟨63, _⟩ => ⟨S1x1x2816, .f32⟩
  | .hbm, ⟨64, _⟩ => ⟨S2x8192x2816, .f32⟩
  | .hbm, ⟨65, _⟩ => ⟨S2x8192x2816, .f32⟩
  | .hbm, ⟨66, _⟩ => ⟨S2x8192x2816, .f32⟩
  | .hbm, ⟨67, _⟩ => ⟨S1x1x2816, .f32⟩
  | .hbm, ⟨68, _⟩ => ⟨S2x8192x2816, .f32⟩
  | .hbm, ⟨69, _⟩ => ⟨S2x8192x2816, .f32⟩
  | .hbm, ⟨70, _⟩ => ⟨S_, .f32⟩
  | .hbm, ⟨71, _⟩ => ⟨S2x8192x2816, .f32⟩
  | .hbm, ⟨72, _⟩ => ⟨S2x8192x2816, .f32⟩
  | .hbm, ⟨73, _⟩ => ⟨S_, .f32⟩
  | .hbm, ⟨74, _⟩ => ⟨S_, .f32⟩
  | .hbm, ⟨75, _⟩ => ⟨S2x8192x2816, .f32⟩
  | .hbm, ⟨76, _⟩ => ⟨S2x8192x2816, .f32⟩
  | .hbm, ⟨77, _⟩ => ⟨S2x8192x2816, .f32⟩
  | .hbm, ⟨78, _⟩ => ⟨S_, .f32⟩
  | .hbm, ⟨79, _⟩ => ⟨S2x8192x2816, .f32⟩
  | .hbm, ⟨80, _⟩ => ⟨S2x8192x2816, .f32⟩
  | .hbm, ⟨81, _⟩ => ⟨S2x8192x2816, .f32⟩
  | .hbm, ⟨82, _⟩ => ⟨S2x8192x2816, .f32⟩
  | .hbm, ⟨83, _⟩ => ⟨S2x8192x1024, .f32⟩
  | .hbm, ⟨84, _⟩ => ⟨S2x8192x1024, .f32⟩
  | .hbm, ⟨85, _⟩ => ⟨S2x8192x1024, .f32⟩
  | .hbm, ⟨86, _⟩ => ⟨S2x8192x1024, .f32⟩
  | .hbm, ⟨87, _⟩ => ⟨S2x8192x1024, .f32⟩
  | .hbm, ⟨88, _⟩ => ⟨S_, .f32⟩
  | .hbm, ⟨89, _⟩ => ⟨S2x8192, .f32⟩
  | .hbm, ⟨90, _⟩ => ⟨S2x8192x1, .f32⟩
  | .hbm, ⟨91, _⟩ => ⟨S_, .f32⟩
  | .hbm, ⟨92, _⟩ => ⟨S2x8192x1, .f32⟩
  | .hbm, ⟨93, _⟩ => ⟨S2x8192x1, .f32⟩
  | .hbm, ⟨94, _⟩ => ⟨S_, .f32⟩
  | .hbm, ⟨95, _⟩ => ⟨S2x8192x1, .f32⟩
  | .hbm, ⟨96, _⟩ => ⟨S2x8192x1, .f32⟩
  | .hbm, ⟨97, _⟩ => ⟨S2x8192x1, .f32⟩
  | .hbm, ⟨98, _⟩ => ⟨S2x8192x1024, .f32⟩
  | .hbm, ⟨99, _⟩ => ⟨S2x8192x1024, .f32⟩
  | .hbm, ⟨100, _⟩ => ⟨S1x1x1024, .f32⟩
  | .hbm, ⟨101, _⟩ => ⟨S2x8192x1024, .f32⟩
  | .hbm, ⟨102, _⟩ => ⟨S2x8192x1024, .f32⟩
  | .hbm, ⟨103, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c : Ref sig .tc := ⟨.hbm, 41, rfl⟩
abbrev main_call0_v0 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_4 : Ref sig .tc := ⟨.hbm, 70, rfl⟩
abbrev main_v55 : Ref sig .tc := ⟨.hbm, 71, rfl⟩
abbrev main_v56 : Ref sig .tc := ⟨.hbm, 72, rfl⟩
abbrev main_cst_5 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_6 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_7 : Ref sig .tc := ⟨.hbm, 88, rfl⟩
abbrev main_v70 : Ref sig .tc := ⟨.hbm, 89, rfl⟩
abbrev main_v71 : Ref sig .tc := ⟨.hbm, 90, rfl⟩
abbrev main_cst_8 : Ref sig .tc := ⟨.hbm, 91, rfl⟩
abbrev main_v72 : Ref sig .tc := ⟨.hbm, 92, rfl⟩
abbrev main_v73 : Ref sig .tc := ⟨.hbm, 93, rfl⟩
abbrev main_cst_9 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩

abbrev nD : Nat := 1
abbrev τ : Topo := Topo.v7x

variable {F : FTy → Type} [FloatOps F]
-- ==== Kernel3.lean ====
abbrev S2x8192x1024 : Shape := ⟨3, ![2, 8192, 1024]⟩
abbrev S2x6144 : Shape := ⟨2, ![2, 6144]⟩
abbrev S1024 : Shape := ⟨1, ![1024]⟩
abbrev S2x8192x256 : Shape := ⟨3, ![2, 8192, 256]⟩
abbrev S2x8192x512 : Shape := ⟨3, ![2, 8192, 512]⟩
abbrev S1024x6656 : Shape := ⟨2, ![1024, 6656]⟩
abbrev S256x1024 : Shape := ⟨2, ![256, 1024]⟩
abbrev S512x1024 : Shape := ⟨2, ![512, 1024]⟩
abbrev S1024x1024 : Shape := ⟨2, ![1024, 1024]⟩
abbrev S1024x4096 : Shape := ⟨2, ![1024, 4096]⟩
abbrev S16384x1024 : Shape := ⟨2, ![16384, 1024]⟩
abbrev S2x6x1024 : Shape := ⟨3, ![2, 6, 1024]⟩
abbrev S16384x256 : Shape := ⟨2, ![16384, 256]⟩
abbrev S16384x512 : Shape := ⟨2, ![16384, 512]⟩
abbrev S1x1024 : Shape := ⟨2, ![1, 1024]⟩
abbrev S1x6x1024 : Shape := ⟨3, ![1, 6, 1024]⟩
abbrev S512x256 : Shape := ⟨2, ![512, 256]⟩
abbrev S512x512 : Shape := ⟨2, ![512, 512]⟩
abbrev S1x1x1024 : Shape := ⟨3, ![1, 1, 1024]⟩
abbrev S512 : Shape := ⟨1, ![512]⟩
abbrev S512x1 : Shape := ⟨2, ![512, 1]⟩

abbrev nBuf : Space → Nat
  | .hbm => 31
  | .vmem => 21
  | .smem => 0
  | _ => 0

abbrev bufTy : (tb : Table) → Fin (tcTables nBuf tb) → BufTy
  | .hbm, ⟨0, _⟩ => ⟨S2x8192x1024, .f32⟩
  | .hbm, ⟨1, _⟩ => ⟨S2x6144, .f32⟩
  | .hbm, ⟨2, _⟩ => ⟨S1024, .f32⟩
  | .hbm, ⟨3, _⟩ => ⟨S2x8192x256, .f32⟩
  | .hbm, ⟨4, _⟩ => ⟨S2x8192x512, .f32⟩
  | .hbm, ⟨5, _⟩ => ⟨S2x8192x256, .f32⟩
  | .hbm, ⟨6, _⟩ => ⟨S2x8192x256, .f32⟩
  | .hbm, ⟨7, _⟩ => ⟨S1024x6656, .f32⟩
  | .hbm, ⟨8, _⟩ => ⟨S256x1024, .f32⟩
  | .hbm, ⟨9, _⟩ => ⟨S512x1024, .f32⟩
  | .hbm, ⟨10, _⟩ => ⟨S256x1024, .f32⟩
  | .hbm, ⟨11, _⟩ => ⟨S256x1024, .f32⟩
  | .hbm, ⟨12, _⟩ => ⟨S1024x1024, .f32⟩
  | .hbm, ⟨13, _⟩ => ⟨S1024x4096, .f32⟩
  | .hbm, ⟨14, _⟩ => ⟨S1024x4096, .bf16⟩
  | .hbm, ⟨15, _⟩ => ⟨S256x1024, .bf16⟩
  | .hbm, ⟨16, _⟩ => ⟨S512x1024, .bf16⟩
  | .hbm, ⟨17, _⟩ => ⟨S256x1024, .bf16⟩
  | .hbm, ⟨18, _⟩ => ⟨S256x1024, .bf16⟩
  | .hbm, ⟨19, _⟩ => ⟨S1024x1024, .bf16⟩
  | .hbm, ⟨20, _⟩ => ⟨S16384x1024, .f32⟩
  | .hbm, ⟨21, _⟩ => ⟨S2x6x1024, .f32⟩
  | .hbm, ⟨22, _⟩ => ⟨S16384x256, .f32⟩
  | .hbm, ⟨23, _⟩ => ⟨S16384x512, .f32⟩
  | .hbm, ⟨24, _⟩ => ⟨S16384x512, .bf16⟩
  | .hbm, ⟨25, _⟩ => ⟨S16384x256, .f32⟩
  | .hbm, ⟨26, _⟩ => ⟨S16384x256, .bf16⟩
  | .hbm, ⟨27, _⟩ => ⟨S16384x256, .f32⟩
  | .hbm, ⟨28, _⟩ => ⟨S16384x256, .bf16⟩
  | .hbm, ⟨29, _⟩ => ⟨S1x1024, .f32⟩
  | .hbm, ⟨30, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S512x256, .f32⟩
  | .local _ .vmem, ⟨6, _⟩ => ⟨S512x256, .f32⟩
  | .local _ .vmem, ⟨7, _⟩ => ⟨S512x512, .bf16⟩
  | .local _ .vmem, ⟨8, _⟩ => ⟨S512x512, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S1024x4096, .bf16⟩
  | .local _ .vmem, ⟨14, _⟩ => ⟨S256x1024, .bf16⟩
  | .local _ .vmem, ⟨15, _⟩ => ⟨S512x1024, .bf16⟩
  | .local _ .vmem, ⟨16, _⟩ => ⟨S256x1024, .bf16⟩
  | .local _ .vmem, ⟨17, _⟩ => ⟨S256x1024, .bf16⟩
  | .local _ .vmem, ⟨18, _⟩ => ⟨S1024x1024, .bf16⟩
  | .local _ .vmem, ⟨19, _⟩ => ⟨S512x1024, .f32⟩
  | .local _ .vmem, ⟨20, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S2x8192x1024 : Shape := ⟨3, ![2, 8192, 1024]⟩
abbrev S2x6144 : Shape := ⟨2, ![2, 6144]⟩
abbrev S1024 : Shape := ⟨1, ![1024]⟩
abbrev S2x8192x256 : Shape := ⟨3, ![2, 8192, 256]⟩
abbrev S2x8192x512 : Shape := ⟨3, ![2, 8192, 512]⟩
abbrev S1024x6656 : Shape := ⟨2, ![1024, 6656]⟩
abbrev S256x1024 : Shape := ⟨2, ![256, 1024]⟩
abbrev S512x1024 : Shape := ⟨2, ![512, 1024]⟩
abbrev S1024x1024 : Shape := ⟨2, ![1024, 1024]⟩
abbrev S2x1x6144 : Shape := ⟨3, ![2, 1, 6144]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x6656 : Shape := ⟨3, ![2, 8192, 6656]⟩
abbrev S2x8192x4096 : Shape := ⟨3, ![2, 8192, 4096]⟩
abbrev S2x8192x4x1024 : Shape := ⟨4, ![2, 8192, 4, 1024]⟩
abbrev S2x8192x1x1024 : Shape := ⟨4, ![2, 8192, 1, 1024]⟩
abbrev S16384x1024 : Shape := ⟨2, ![16384, 1024]⟩

abbrev nBuf : Space → Nat
  | .hbm => 78
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x6144, .f32⟩
  | .hbm, ⟨2, _⟩ => ⟨S1024, .f32⟩
  | .hbm, ⟨3, _⟩ => ⟨S2x8192x256, .f32⟩
  | .hbm, ⟨4, _⟩ => ⟨S2x8192x512, .f32⟩
  | .hbm, ⟨5, _⟩ => ⟨S2x8192x256, .f32⟩
  | .hbm, ⟨6, _⟩ => ⟨S2x8192x256, .f32⟩
  | .hbm, ⟨7, _⟩ => ⟨S1024x6656, .f32⟩
  | .hbm, ⟨8, _⟩ => ⟨S256x1024, .f32⟩
  | .hbm, ⟨9, _⟩ => ⟨S512x1024, .f32⟩
  | .hbm, ⟨10, _⟩ => ⟨S256x1024, .f32⟩
  | .hbm, ⟨11, _⟩ => ⟨S256x1024, .f32⟩
  | .hbm, ⟨12, _⟩ => ⟨S1024x1024, .f32⟩
  | .hbm, ⟨13, _⟩ => ⟨S2x1x6144, .f32⟩
  | .hbm, ⟨14, _⟩ => ⟨S2x1x1024, .f32⟩
  | .hbm, ⟨15, _⟩ => ⟨S2x1x1024, .f32⟩
  | .hbm, ⟨16, _⟩ => ⟨S2x1x1024, .f32⟩
  | .hbm, ⟨17, _⟩ => ⟨S2x1x1024, .f32⟩
  | .hbm, ⟨18, _⟩ => ⟨S2x1x1024, .f32⟩
  | .hbm, ⟨19, _⟩ => ⟨S2x1x1024, .f32⟩
  | .hbm, ⟨20, _⟩ => ⟨S2x8192x1024, .f32⟩
  | .hbm, ⟨21, _⟩ => ⟨S_, .f32⟩
  | .hbm, ⟨22, _⟩ => ⟨S2x8192, .f32⟩
  | .hbm, ⟨23, _⟩ => ⟨S2x8192x1, .f32⟩
  | .hbm, ⟨24, _⟩ => ⟨S_, .f32⟩
  | .hbm, ⟨25, _⟩ => ⟨S2x8192x1, .f32⟩
  | .hbm, ⟨26, _⟩ => ⟨S2x8192x1, .f32⟩
  | .hbm, ⟨27, _⟩ => ⟨S_, .f32⟩
  | .hbm, ⟨28, _⟩ => ⟨S2x8192x1, .f32⟩
  | .hbm, ⟨29, _⟩ => ⟨S2x8192x1, .f32⟩
  | .hbm, ⟨30, _⟩ => ⟨S2x8192x1, .f32⟩
  | .hbm, ⟨31, _⟩ => ⟨S2x8192x1024, .f32⟩
  | .hbm, ⟨32, _⟩ => ⟨S2x8192x1024, .f32⟩
  | .hbm, ⟨33, _⟩ => ⟨S1x1x1024, .f32⟩
  | .hbm, ⟨34, _⟩ => ⟨S2x8192x1024, .f32⟩
  | .hbm, ⟨35, _⟩ => ⟨S2x8192x1024, .f32⟩
  | .hbm, ⟨36, _⟩ => ⟨S_, .f32⟩
  | .hbm, ⟨37, _⟩ => ⟨S2x1x1024, .f32⟩
  | .hbm, ⟨38, _⟩ => ⟨S2x1x1024, .f32⟩
  | .hbm, ⟨39, _⟩ => ⟨S2x8192x1024, .f32⟩
  | .hbm, ⟨40, _⟩ => ⟨S2x8192x1024, .f32⟩
  | .hbm, ⟨41, _⟩ => ⟨S2x8192x1024, .f32⟩
  | .hbm, ⟨42, _⟩ => ⟨S2x8192x1024, .f32⟩
  | .hbm, ⟨43, _⟩ => ⟨S2x8192x6656, .f32⟩
  | .hbm, ⟨44, _⟩ => ⟨S2x8192x4096, .f32⟩
  | .hbm, ⟨45, _⟩ => ⟨S2x8192x4096, .f32⟩
  | .hbm, ⟨46, _⟩ => ⟨S2x8192x4096, .f32⟩
  | .hbm, ⟨47, _⟩ => ⟨S_, .f32⟩
  | .hbm, ⟨48, _⟩ => ⟨S2x8192x4096, .f32⟩
  | .hbm, ⟨49, _⟩ => ⟨S2x8192x4096, .f32⟩
  | .hbm, ⟨50, _⟩ => ⟨S_, .f32⟩
  | .hbm, ⟨51, _⟩ => ⟨S2x8192x4096, .f32⟩
  | .hbm, ⟨52, _⟩ => ⟨S2x8192x4096, .f32⟩
  | .hbm, ⟨53, _⟩ => ⟨S2x8192x4x1024, .f32⟩
  | .hbm, ⟨54, _⟩ => ⟨S2x8192x1x1024, .f32⟩
  | .hbm, ⟨55, _⟩ => ⟨S2x8192x1024, .f32⟩
  | .hbm, ⟨56, _⟩ => ⟨S2x8192x1024, .f32⟩
  | .hbm, ⟨57, _⟩ => ⟨S2x8192x1024, .f32⟩
  | .hbm, ⟨58, _⟩ => ⟨S2x8192x1x1024, .f32⟩
  | .hbm, ⟨59, _⟩ => ⟨S2x8192x1024, .f32⟩
  | .hbm, ⟨60, _⟩ => ⟨S2x8192x1024, .f32⟩
  | .hbm, ⟨61, _⟩ => ⟨S2x8192x1024, .f32⟩
  | .hbm, ⟨62, _⟩ => ⟨S2x8192x1024, .f32⟩
  | .hbm, ⟨63, _⟩ => ⟨S2x8192x1x1024, .f32⟩
  | .hbm, ⟨64, _⟩ => ⟨S2x8192x1024, .f32⟩
  | .hbm, ⟨65, _⟩ => ⟨S2x8192x1024, .f32⟩
  | .hbm, ⟨66, _⟩ => ⟨S2x8192x1024, .f32⟩
  | .hbm, ⟨67, _⟩ => ⟨S2x8192x1024, .f32⟩
  | .hbm, ⟨68, _⟩ => ⟨S2x8192x1x1024, .f32⟩
  | .hbm, ⟨69, _⟩ => ⟨S2x8192x1024, .f32⟩
  | .hbm, ⟨70, _⟩ => ⟨S2x8192x1024, .f32⟩
  | .hbm, ⟨71, _⟩ => ⟨S2x8192x1024, .f32⟩
  | .hbm, ⟨72, _⟩ => ⟨S2x8192x1024, .f32⟩
  | .hbm, ⟨73, _⟩ => ⟨S2x8192x1024, .f32⟩
  | .hbm, ⟨74, _⟩ => ⟨S2x8192x1024, .f32⟩
  | .hbm, ⟨75, _⟩ => ⟨S2x8192x1024, .f32⟩
  | .hbm, ⟨76, _⟩ => ⟨S2x8192x1024, .f32⟩
  | .hbm, ⟨77, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩

abbrev nD : Nat := 1
abbrev τ : Topo := Topo.v7x

variable {F : FTy → Type} [FloatOps F]
-- ==== Kernel4.lean ====
abbrev S2x8192x1024 : Shape := ⟨3, ![2, 8192, 1024]⟩
abbrev S2x6144 : Shape := ⟨2, ![2, 6144]⟩
abbrev S1024 : Shape := ⟨1, ![1024]⟩
abbrev S1024x6656 : Shape := ⟨2, ![1024, 6656]⟩
abbrev S512 : Shape := ⟨1, ![512]⟩
abbrev S1024x256 : Shape := ⟨2, ![1024, 256]⟩
abbrev S1024x512 : Shape := ⟨2, ![1024, 512]⟩
abbrev S_ : Shape := ⟨0, ![]⟩
abbrev S512x1 : Shape := ⟨2, ![512, 1]⟩
abbrev S512x1024 : Shape := ⟨2, ![512, 1024]⟩
abbrev S1024x768 : Shape := ⟨2, ![1024, 768]⟩
abbrev S16384x1024 : Shape := ⟨2, ![16384, 1024]⟩
abbrev S2x6x1024 : Shape := ⟨3, ![2, 6, 1024]⟩
abbrev S16 : Shape := ⟨1, ![16]⟩
abbrev S128 : Shape := ⟨1, ![128]⟩
abbrev S128x1 : Shape := ⟨2, ![128, 1]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S8192x128 : Shape := ⟨2, ![8192, 128]⟩
abbrev S8192x64 : Shape := ⟨2, ![8192, 64]⟩
abbrev S64x8192 : Shape := ⟨2, ![64, 8192]⟩
abbrev S1x1024 : Shape := ⟨2, ![1, 1024]⟩
abbrev S16384x256 : Shape := ⟨2, ![16384, 256]⟩
abbrev S16384x512 : Shape := ⟨2, ![16384, 512]⟩
abbrev S512x16384 : Shape := ⟨2, ![512, 16384]⟩
abbrev S576x16384 : Shape := ⟨2, ![576, 16384]⟩
abbrev S16384x768 : Shape := ⟨2, ![16384, 768]⟩
abbrev S1x6x1024 : Shape := ⟨3, ![1, 6, 1024]⟩
abbrev S512x128 : Shape := ⟨2, ![512, 128]⟩
abbrev S64x512 : Shape := ⟨2, ![64, 512]⟩
abbrev S512x256 : Shape := ⟨2, ![512, 256]⟩
abbrev S512x512 : Shape := ⟨2, ![512, 512]⟩
abbrev S576x512 : Shape := ⟨2, ![576, 512]⟩
abbrev S512x768 : Shape := ⟨2, ![512, 768]⟩
abbrev S1x1x1024 : Shape := ⟨3, ![1, 1, 1024]⟩
abbrev S128x512 : Shape := ⟨2, ![128, 512]⟩
abbrev S16x512 : Shape := ⟨2, ![16, 512]⟩
abbrev S8x64x512 : Shape := ⟨3, ![8, 64, 512]⟩
abbrev S8x32x512 : Shape := ⟨3, ![8, 32, 512]⟩
abbrev S1x64x512 : Shape := ⟨3, ![1, 64, 512]⟩

abbrev nBuf : Space → Nat
  | .hbm => 80
  | .vmem => 30
  | .smem => 0
  | _ => 0

abbrev bufTy : (tb : Table) → Fin (tcTables nBuf tb) → BufTy
  | .hbm, ⟨0, _⟩ => ⟨S2x8192x1024, .f32⟩
  | .hbm, ⟨1, _⟩ => ⟨S2x6144, .f32⟩
  | .hbm, ⟨2, _⟩ => ⟨S1024, .f32⟩
  | .hbm, ⟨3, _⟩ => ⟨S1024x6656, .f32⟩
  | .hbm, ⟨4, _⟩ => ⟨S512, .i32⟩
  | .hbm, ⟨5, _⟩ => ⟨S512, .i1⟩
  | .hbm, ⟨6, _⟩ => ⟨S512, .i1⟩
  | .hbm, ⟨7, _⟩ => ⟨S1024x256, .f32⟩
  | .hbm, ⟨8, _⟩ => ⟨S1024x256, .bf16⟩
  | .hbm, ⟨9, _⟩ => ⟨S1024x512, .f32⟩
  | .hbm, ⟨10, _⟩ => ⟨S_, .i32⟩
  | .hbm, ⟨11, _⟩ => ⟨S512, .i32⟩
  | .hbm, ⟨12, _⟩ => ⟨S512, .i32⟩
  | .hbm, ⟨13, _⟩ => ⟨S512, .i32⟩
  | .hbm, ⟨14, _⟩ => ⟨S512x1, .i32⟩
  | .hbm, ⟨15, _⟩ => ⟨S1024x512, .f32⟩
  | .hbm, ⟨16, _⟩ => ⟨S1024x512, .bf16⟩
  | .hbm, ⟨17, _⟩ => ⟨S1024x512, .f32⟩
  | .hbm, ⟨18, _⟩ => ⟨S_, .i32⟩
  | .hbm, ⟨19, _⟩ => ⟨S512, .i32⟩
  | .hbm, ⟨20, _⟩ => ⟨S512, .i32⟩
  | .hbm, ⟨21, _⟩ => ⟨S512, .i32⟩
  | .hbm, ⟨22, _⟩ => ⟨S512x1, .i32⟩
  | .hbm, ⟨23, _⟩ => ⟨S1024x512, .f32⟩
  | .hbm, ⟨24, _⟩ => ⟨S512x1024, .f32⟩
  | .hbm, ⟨25, _⟩ => ⟨S512x1024, .bf16⟩
  | .hbm, ⟨26, _⟩ => ⟨S1024x512, .f32⟩
  | .hbm, ⟨27, _⟩ => ⟨S512x1024, .f32⟩
  | .hbm, ⟨28, _⟩ => ⟨S512x1024, .bf16⟩
  | .hbm, ⟨29, _⟩ => ⟨S1024x768, .f32⟩
  | .hbm, ⟨30, _⟩ => ⟨S1024x768, .bf16⟩
  | .hbm, ⟨31, _⟩ => ⟨S16384x1024, .f32⟩
  | .hbm, ⟨32, _⟩ => ⟨S2x6x1024, .f32⟩
  | .hbm, ⟨33, _⟩ => ⟨S16, .f32⟩
  | .hbm, ⟨34, _⟩ => ⟨S16, .f32⟩
  | .hbm, ⟨35, _⟩ => ⟨S_, .f32⟩
  | .hbm, ⟨36, _⟩ => ⟨S16, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S16, .f32⟩
  | .hbm, ⟨41, _⟩ => ⟨S128, .f32⟩
  | .hbm, ⟨42, _⟩ => ⟨S128x1, .f32⟩
  | .hbm, ⟨43, _⟩ => ⟨S128x64, .f32⟩
  | .hbm, ⟨44, _⟩ => ⟨S8192, .f32⟩
  | .hbm, ⟨45, _⟩ => ⟨S64, .f32⟩
  | .hbm, ⟨46, _⟩ => ⟨S1x64, .f32⟩
  | .hbm, ⟨47, _⟩ => ⟨S128x64, .f32⟩
  | .hbm, ⟨48, _⟩ => ⟨S8192, .f32⟩
  | .hbm, ⟨49, _⟩ => ⟨S8192x1, .f32⟩
  | .hbm, ⟨50, _⟩ => ⟨S1x16, .f32⟩
  | .hbm, ⟨51, _⟩ => ⟨S8192x16, .f32⟩
  | .hbm, ⟨52, _⟩ => ⟨S8192x16, .f32⟩
  | .hbm, ⟨53, _⟩ => ⟨S8192x16, .f32⟩
  | .hbm, ⟨54, _⟩ => ⟨S8192x1, .f32⟩
  | .hbm, ⟨55, _⟩ => ⟨S1x16, .f32⟩
  | .hbm, ⟨56, _⟩ => ⟨S8192x16, .f32⟩
  | .hbm, ⟨57, _⟩ => ⟨S8192x16, .f32⟩
  | .hbm, ⟨58, _⟩ => ⟨S8192x16, .f32⟩
  | .hbm, ⟨59, _⟩ => ⟨S8192x32, .f32⟩
  | .hbm, ⟨60, _⟩ => ⟨S8192x32, .f32⟩
  | .hbm, ⟨61, _⟩ => ⟨S8192x32, .f32⟩
  | .hbm, ⟨62, _⟩ => ⟨S_, .f32⟩
  | .hbm, ⟨63, _⟩ => ⟨S8192x32, .f32⟩
  | .hbm, ⟨64, _⟩ => ⟨S8192x128, .f32⟩
  | .hbm, ⟨65, _⟩ => ⟨S8192x128, .f32⟩
  | .hbm, ⟨66, _⟩ => ⟨S8192x32, .f32⟩
  | .hbm, ⟨67, _⟩ => ⟨S8192x32, .f32⟩
  | .hbm, ⟨68, _⟩ => ⟨S8192x128, .f32⟩
  | .hbm, ⟨69, _⟩ => ⟨S8192x64, .f32⟩
  | .hbm, ⟨70, _⟩ => ⟨S64x8192, .f32⟩
  | .hbm, ⟨71, _⟩ => ⟨S8192x32, .f32⟩
  | .hbm, ⟨72, _⟩ => ⟨S8192x64, .f32⟩
  | .hbm, ⟨73, _⟩ => ⟨S64x8192, .f32⟩
  | .hbm, ⟨74, _⟩ => ⟨S1x1024, .f32⟩
  | .hbm, ⟨75, _⟩ => ⟨S16384x256, .f32⟩
  | .hbm, ⟨76, _⟩ => ⟨S16384x512, .bf16⟩
  | .hbm, ⟨77, _⟩ => ⟨S512x16384, .bf16⟩
  | .hbm, ⟨78, _⟩ => ⟨S576x16384, .bf16⟩
  | .hbm, ⟨79, _⟩ => ⟨S16384x768, .bf16⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x256, .bf16⟩
  | .local _ .vmem, ⟨6, _⟩ => ⟨S1024x512, .bf16⟩
  | .local _ .vmem, ⟨7, _⟩ => ⟨S512x1024, .bf16⟩
  | .local _ .vmem, ⟨8, _⟩ => ⟨S512x1024, .bf16⟩
  | .local _ .vmem, ⟨9, _⟩ => ⟨S1024x768, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S64x512, .f32⟩
  | .local _ .vmem, ⟨17, _⟩ => ⟨S64x512, .f32⟩
  | .local _ .vmem, ⟨18, _⟩ => ⟨S64x512, .f32⟩
  | .local _ .vmem, ⟨19, _⟩ => ⟨S64x512, .f32⟩
  | .local _ .vmem, ⟨20, _⟩ => ⟨S512x256, .f32⟩
  | .local _ .vmem, ⟨21, _⟩ => ⟨S512x256, .f32⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S576x512, .bf16⟩
  | .local _ .vmem, ⟨27, _⟩ => ⟨S576x512, .bf16⟩
  | .local _ .vmem, ⟨28, _⟩ => ⟨S512x768, .bf16⟩
  | .local _ .vmem, ⟨29, _⟩ => ⟨S512x768, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_5 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63_0 : Ref sig .tc := ⟨.hbm, 75, rfl⟩
abbrev main_v63_1 : Ref sig .tc := ⟨.hbm, 76, rfl⟩
abbrev main_v63_2 : Ref sig .tc := ⟨.hbm, 77, rfl⟩
abbrev main_v63_3 : Ref sig .tc := ⟨.hbm, 78, rfl⟩
abbrev main_v63_4 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_12 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S576x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x768 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Kernel4Ideal.lean ====
variable {F : FTy → Type} [FloatOps F] [Named F]
def κ : String → Option EReal := fun
  | "q_scale" => some (((1 / 8) * (Real.log 2)⁻¹ : ℝ) : EReal)
  | _ => none
-- ==== Reference4Ideal.lean ====
abbrev S2x8192x1024 : Shape := ⟨3, ![2, 8192, 1024]⟩
abbrev S2x6144 : Shape := ⟨2, ![2, 6144]⟩
abbrev S1024 : Shape := ⟨1, ![1024]⟩
abbrev S1024x6656 : Shape := ⟨2, ![1024, 6656]⟩
abbrev S2x1x6144 : Shape := ⟨3, ![2, 1, 6144]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x6656 : Shape := ⟨3, ![2, 8192, 6656]⟩
abbrev S16 : Shape := ⟨1, ![16]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S8192x1 : Shape := ⟨2, ![8192, 1]⟩
abbrev S1x16 : Shape := ⟨2, ![1, 16]⟩
abbrev S8192x16 : Shape := ⟨2, ![8192, 16]⟩
abbrev S8192x1x1x16 : Shape := ⟨4, ![8192, 1, 1, 16]⟩
abbrev S2x8192x512 : Shape := ⟨3, ![2, 8192, 512]⟩
abbrev S2x8192x4x2x64 : Shape := ⟨5, ![2, 8192, 4, 2, 64]⟩
abbrev S2x8192x4x2x32 : Shape := ⟨5, ![2, 8192, 4, 2, 32]⟩
abbrev S2x8192x4x2x16 : Shape := ⟨5, ![2, 8192, 4, 2, 16]⟩
abbrev S1x8192x1x1x16 : Shape := ⟨5, ![1, 8192, 1, 1, 16]⟩
abbrev S16384x4x128 : Shape := ⟨3, ![16384, 4, 128]⟩
abbrev S4x128x16384 : Shape := ⟨3, ![4, 128, 16384]⟩
abbrev S4x16x16384 : Shape := ⟨3, ![4, 16, 16384]⟩
abbrev S4x144x16384 : Shape := ⟨3, ![4, 144, 16384]⟩
abbrev S576x16384 : Shape := ⟨2, ![576, 16384]⟩
abbrev S2x8192x256 : Shape := ⟨3, ![2, 8192, 256]⟩
abbrev S16384x256 : Shape := ⟨2, ![16384, 256]⟩
abbrev S16384x8x2x2x16 : Shape := ⟨5, ![16384, 8, 2, 2, 16]⟩
abbrev S16384x512 : Shape := ⟨2, ![16384, 512]⟩
abbrev S512x16384 : Shape := ⟨2, ![512, 16384]⟩
abbrev S2x8192x768 : Shape := ⟨3, ![2, 8192, 768]⟩
abbrev S16384x768 : Shape := ⟨2, ![16384, 768]⟩

abbrev nBuf : Space → Nat
  | .hbm => 175
  | .vmem => 0
  | .smem => 0
  | _ => 0

abbrev hbmTy0_0 (i : Nat) : BufTy := match i % 128 with
  | 0 => ⟨S2x8192x1024, .f32⟩
  | 1 => ⟨S2x6144, .f32⟩
  | 2 => ⟨S1024, .f32⟩
  | 3 => ⟨S1024x6656, .f32⟩
  | 4 => ⟨S2x1x6144, .f32⟩
  | 5 => ⟨S2x1x1024, .f32⟩
  | 6 => ⟨S2x1x1024, .f32⟩
  | 7 => ⟨S2x1x1024, .f32⟩
  | 8 => ⟨S2x1x1024, .f32⟩
  | 9 => ⟨S2x1x1024, .f32⟩
  | 10 => ⟨S2x1x1024, .f32⟩
  | 11 => ⟨S2x8192x1024, .f32⟩
  | 12 => ⟨S_, .f32⟩
  | 13 => ⟨S2x8192, .f32⟩
  | 14 => ⟨S2x8192x1, .f32⟩
  | 15 => ⟨S_, .f32⟩
  | 16 => ⟨S2x8192x1, .f32⟩
  | 17 => ⟨S2x8192x1, .f32⟩
  | 18 => ⟨S_, .f32⟩
  | 19 => ⟨S2x8192x1, .f32⟩
  | 20 => ⟨S2x8192x1, .f32⟩
  | 21 => ⟨S2x8192x1, .f32⟩
  | 22 => ⟨S2x8192x1024, .f32⟩
  | 23 => ⟨S2x8192x1024, .f32⟩
  | 24 => ⟨S1x1x1024, .f32⟩
  | 25 => ⟨S2x8192x1024, .f32⟩
  | 26 => ⟨S2x8192x1024, .f32⟩
  | 27 => ⟨S_, .f32⟩
  | 28 => ⟨S2x1x1024, .f32⟩
  | 29 => ⟨S2x1x1024, .f32⟩
  | 30 => ⟨S2x8192x1024, .f32⟩
  | 31 => ⟨S2x8192x1024, .f32⟩
  | 32 => ⟨S2x8192x1024, .f32⟩
  | 33 => ⟨S2x8192x1024, .f32⟩
  | 34 => ⟨S2x8192x6656, .f32⟩
  | 35 => ⟨S16, .f32⟩
  | 36 => ⟨S16, .f32⟩
  | 37 => ⟨S_, .f32⟩
  | 38 => ⟨S16, .f32⟩
  | 39 => ⟨S16, .f32⟩
  | 40 => ⟨S_, .f32⟩
  | 41 => ⟨S16, .f32⟩
  | 42 => ⟨S16, .f32⟩
  | 43 => ⟨S128, .f32⟩
  | 44 => ⟨S128x64, .f32⟩
  | 45 => ⟨S8192, .f32⟩
  | 46 => ⟨S64, .f32⟩
  | 47 => ⟨S1x64, .f32⟩
  | 48 => ⟨S128x64, .f32⟩
  | 49 => ⟨S8192, .f32⟩
  | 50 => ⟨S8192x1, .f32⟩
  | 51 => ⟨S1x16, .f32⟩
  | 52 => ⟨S8192x16, .f32⟩
  | 53 => ⟨S8192x16, .f32⟩
  | 54 => ⟨S8192x16, .f32⟩
  | 55 => ⟨S8192x1, .f32⟩
  | 56 => ⟨S1x16, .f32⟩
  | 57 => ⟨S8192x16, .f32⟩
  | 58 => ⟨S8192x16, .f32⟩
  | 59 => ⟨S8192x16, .f32⟩
  | 60 => ⟨S8192x16, .f32⟩
  | 61 => ⟨S8192x1x1x16, .f32⟩
  | 62 => ⟨S8192x16, .f32⟩
  | 63 => ⟨S8192x1x1x16, .f32⟩
  | 64 => ⟨S8192x16, .f32⟩
  | 65 => ⟨S8192x1x1x16, .f32⟩
  | 66 => ⟨S8192x16, .f32⟩
  | 67 => ⟨S8192x1x1x16, .f32⟩
  | 68 => ⟨S2x8192x512, .f32⟩
  | 69 => ⟨S2x8192x4x2x64, .f32⟩
  | 70 => ⟨S2x8192x4x2x32, .f32⟩
  | 71 => ⟨S2x8192x4x2x16, .f32⟩
  | 72 => ⟨S2x8192x4x2x16, .f32⟩
  | 73 => ⟨S1x8192x1x1x16, .f32⟩
  | 74 => ⟨S2x8192x4x2x16, .f32⟩
  | 75 => ⟨S2x8192x4x2x16, .f32⟩
  | 76 => ⟨S1x8192x1x1x16, .f32⟩
  | 77 => ⟨S2x8192x4x2x16, .f32⟩
  | 78 => ⟨S2x8192x4x2x16, .f32⟩
  | 79 => ⟨S2x8192x4x2x16, .f32⟩
  | 80 => ⟨S1x8192x1x1x16, .f32⟩
  | 81 => ⟨S2x8192x4x2x16, .f32⟩
  | 82 => ⟨S2x8192x4x2x16, .f32⟩
  | 83 => ⟨S1x8192x1x1x16, .f32⟩
  | 84 => ⟨S2x8192x4x2x16, .f32⟩
  | 85 => ⟨S2x8192x4x2x16, .f32⟩
  | 86 => ⟨S2x8192x4x2x16, .f32⟩
  | 87 => ⟨S2x8192x4x2x32, .f32⟩
  | 88 => ⟨S2x8192x4x2x32, .f32⟩
  | 89 => ⟨S2x8192x4x2x16, .f32⟩
  | 90 => ⟨S2x8192x4x2x16, .f32⟩
  | 91 => ⟨S1x8192x1x1x16, .f32⟩
  | 92 => ⟨S2x8192x4x2x16, .f32⟩
  | 93 => ⟨S2x8192x4x2x16, .f32⟩
  | 94 => ⟨S1x8192x1x1x16, .f32⟩
  | 95 => ⟨S2x8192x4x2x16, .f32⟩
  | 96 => ⟨S2x8192x4x2x16, .f32⟩
  | 97 => ⟨S2x8192x4x2x16, .f32⟩
  | 98 => ⟨S1x8192x1x1x16, .f32⟩
  | 99 => ⟨S2x8192x4x2x16, .f32⟩
  | 100 => ⟨S2x8192x4x2x16, .f32⟩
  | 101 => ⟨S1x8192x1x1x16, .f32⟩
  | 102 => ⟨S2x8192x4x2x16, .f32⟩
  | 103 => ⟨S2x8192x4x2x16, .f32⟩
  | 104 => ⟨S2x8192x4x2x16, .f32⟩
  | 105 => ⟨S2x8192x4x2x32, .f32⟩
  | 106 => ⟨S2x8192x4x2x64, .f32⟩
  | 107 => ⟨S_, .f32⟩
  | 108 => ⟨S2x8192x4x2x64, .f32⟩
  | 109 => ⟨S2x8192x4x2x64, .f32⟩
  | 110 => ⟨S_, .f32⟩
  | 111 => ⟨S_, .f32⟩
  | 112 => ⟨S2x8192x4x2x64, .f32⟩
  | 113 => ⟨S2x8192x4x2x64, .f32⟩
  | 114 => ⟨S2x8192x512, .f32⟩
  | 115 => ⟨S2x8192x4x2x64, .f32⟩
  | 116 => ⟨S2x8192x4x2x32, .f32⟩
  | 117 => ⟨S2x8192x4x2x16, .f32⟩
  | 118 => ⟨S2x8192x4x2x16, .f32⟩
  | 119 => ⟨S1x8192x1x1x16, .f32⟩
  | 120 => ⟨S2x8192x4x2x16, .f32⟩
  | 121 => ⟨S2x8192x4x2x16, .f32⟩
  | 122 => ⟨S1x8192x1x1x16, .f32⟩
  | 123 => ⟨S2x8192x4x2x16, .f32⟩
  | 124 => ⟨S2x8192x4x2x16, .f32⟩
  | 125 => ⟨S2x8192x4x2x16, .f32⟩
  | 126 => ⟨S1x8192x1x1x16, .f32⟩
  | 127 => ⟨S2x8192x4x2x16, .f32⟩
  | _ => ⟨S2x8192x1024, .f32⟩

abbrev hbmTy0_1 (i : Nat) : BufTy := match i % 128 with
  | 0 => ⟨S2x8192x4x2x16, .f32⟩
  | 1 => ⟨S1x8192x1x1x16, .f32⟩
  | 2 => ⟨S2x8192x4x2x16, .f32⟩
  | 3 => ⟨S2x8192x4x2x16, .f32⟩
  | 4 => ⟨S2x8192x4x2x16, .f32⟩
  | 5 => ⟨S2x8192x4x2x32, .f32⟩
  | 6 => ⟨S2x8192x4x2x32, .f32⟩
  | 7 => ⟨S2x8192x4x2x16, .f32⟩
  | 8 => ⟨S2x8192x4x2x16, .f32⟩
  | 9 => ⟨S1x8192x1x1x16, .f32⟩
  | 10 => ⟨S2x8192x4x2x16, .f32⟩
  | 11 => ⟨S2x8192x4x2x16, .f32⟩
  | 12 => ⟨S1x8192x1x1x16, .f32⟩
  | 13 => ⟨S2x8192x4x2x16, .f32⟩
  | 14 => ⟨S2x8192x4x2x16, .f32⟩
  | 15 => ⟨S2x8192x4x2x16, .f32⟩
  | 16 => ⟨S1x8192x1x1x16, .f32⟩
  | 17 => ⟨S2x8192x4x2x16, .f32⟩
  | 18 => ⟨S2x8192x4x2x16, .f32⟩
  | 19 => ⟨S1x8192x1x1x16, .f32⟩
  | 20 => ⟨S2x8192x4x2x16, .f32⟩
  | 21 => ⟨S2x8192x4x2x16, .f32⟩
  | 22 => ⟨S2x8192x4x2x16, .f32⟩
  | 23 => ⟨S2x8192x4x2x32, .f32⟩
  | 24 => ⟨S2x8192x4x2x64, .f32⟩
  | 25 => ⟨S2x8192x512, .f32⟩
  | 26 => ⟨S16384x4x128, .f32⟩
  | 27 => ⟨S4x128x16384, .f32⟩
  | 28 => ⟨S_, .f32⟩
  | 29 => ⟨S4x16x16384, .f32⟩
  | 30 => ⟨S4x144x16384, .f32⟩
  | 31 => ⟨S576x16384, .f32⟩
  | 32 => ⟨S2x8192x256, .f32⟩
  | 33 => ⟨S16384x256, .f32⟩
  | 34 => ⟨S16384x8x2x2x16, .f32⟩
  | 35 => ⟨S16384x8x2x2x16, .f32⟩
  | 36 => ⟨S16384x512, .f32⟩
  | 37 => ⟨S16384x512, .bf16⟩
  | 38 => ⟨S16384x8x2x2x16, .f32⟩
  | 39 => ⟨S16384x8x2x2x16, .f32⟩
  | 40 => ⟨S16384x512, .f32⟩
  | 41 => ⟨S512x16384, .f32⟩
  | 42 => ⟨S512x16384, .bf16⟩
  | 43 => ⟨S576x16384, .bf16⟩
  | 44 => ⟨S2x8192x768, .f32⟩
  | 45 => ⟨S16384x768, .f32⟩
  | 46 => ⟨S16384x768, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_cst_5 : Ref sig .tc := ⟨.hbm, 107, rfl⟩
abbrev main_v97 : Ref sig .tc := ⟨.hbm, 108, rfl⟩
abbrev main_v98 : Ref sig .tc := ⟨.hbm, 109, rfl⟩
abbrev main_cst_6 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_cst_7 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_v161 : Ref sig .tc := ⟨.hbm, 174, rfl⟩

abbrev nD : Nat := 1
abbrev τ : Topo := Topo.v7x

variable {F : FTy → Type} [FloatOps F]
-- ==== Kernel5.lean ====
abbrev S2x8192x768 : Shape := ⟨3, ![2, 8192, 768]⟩
abbrev S31x256 : Shape := ⟨2, ![31, 256]⟩
abbrev S256 : Shape := ⟨1, ![256]⟩
abbrev S4x64x64 : Shape := ⟨3, ![4, 64, 64]⟩
abbrev S1x64x64 : Shape := ⟨3, ![1, 64, 64]⟩
abbrev S64x64 : Shape := ⟨2, ![64, 64]⟩
abbrev S_ : Shape := ⟨0, ![]⟩
abbrev S64x256 : Shape := ⟨2, ![64, 256]⟩
abbrev S256x256 : Shape := ⟨2, ![256, 256]⟩
abbrev S16384x768 : Shape := ⟨2, ![16384, 768]⟩
abbrev S1x256 : Shape := ⟨2, ![1, 256]⟩
abbrev S16384x256 : Shape := ⟨2, ![16384, 256]⟩
abbrev S512x768 : Shape := ⟨2, ![512, 768]⟩
abbrev S16x768 : Shape := ⟨2, ![16, 768]⟩
abbrev S512x256 : Shape := ⟨2, ![512, 256]⟩
abbrev S544x256 : Shape := ⟨2, ![544, 256]⟩
abbrev S16x256 : Shape := ⟨2, ![16, 256]⟩
abbrev S536x256 : Shape := ⟨2, ![536, 256]⟩
abbrev S512 : Shape := ⟨1, ![512]⟩
abbrev S512x1 : Shape := ⟨2, ![512, 1]⟩

abbrev nBuf : Space → Nat
  | .hbm => 33
  | .vmem => 18
  | .smem => 0
  | _ => 0

abbrev bufTy : (tb : Table) → Fin (tcTables nBuf tb) → BufTy
  | .hbm, ⟨0, _⟩ => ⟨S2x8192x768, .f32⟩
  | .hbm, ⟨1, _⟩ => ⟨S31x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S4x64x64, .f32⟩
  | .hbm, ⟨6, _⟩ => ⟨S256, .f32⟩
  | .hbm, ⟨7, _⟩ => ⟨S1x64x64, .f32⟩
  | .hbm, ⟨8, _⟩ => ⟨S64x64, .f32⟩
  | .hbm, ⟨9, _⟩ => ⟨S1x64x64, .f32⟩
  | .hbm, ⟨10, _⟩ => ⟨S64x64, .f32⟩
  | .hbm, ⟨11, _⟩ => ⟨S1x64x64, .f32⟩
  | .hbm, ⟨12, _⟩ => ⟨S64x64, .f32⟩
  | .hbm, ⟨13, _⟩ => ⟨S1x64x64, .f32⟩
  | .hbm, ⟨14, _⟩ => ⟨S64x64, .f32⟩
  | .hbm, ⟨15, _⟩ => ⟨S_, .f32⟩
  | .hbm, ⟨16, _⟩ => ⟨S64x256, .f32⟩
  | .hbm, ⟨17, _⟩ => ⟨S_, .f32⟩
  | .hbm, ⟨18, _⟩ => ⟨S64x256, .f32⟩
  | .hbm, ⟨19, _⟩ => ⟨S_, .f32⟩
  | .hbm, ⟨20, _⟩ => ⟨S64x256, .f32⟩
  | .hbm, ⟨21, _⟩ => ⟨S_, .f32⟩
  | .hbm, ⟨22, _⟩ => ⟨S64x256, .f32⟩
  | .hbm, ⟨23, _⟩ => ⟨S256x256, .f32⟩
  | .hbm, ⟨24, _⟩ => ⟨S256x256, .bf16⟩
  | .hbm, ⟨25, _⟩ => ⟨S16384x768, .f32⟩
  | .hbm, ⟨26, _⟩ => ⟨S16384x768, .bf16⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S1x256, .f32⟩
  | .hbm, ⟨31, _⟩ => ⟨S16384x256, .bf16⟩
  | .hbm, ⟨32, _⟩ => ⟨S16384x256, .bf16⟩
  | .local _ .vmem, ⟨0, _⟩ => ⟨S512x768, .bf16⟩
  | .local _ .vmem, ⟨1, _⟩ => ⟨S512x768, .bf16⟩
  | .local _ .vmem, ⟨2, _⟩ => ⟨S16x768, .bf16⟩
  | .local _ .vmem, ⟨3, _⟩ => ⟨S16x768, .bf16⟩
  | .local _ .vmem, ⟨4, _⟩ => ⟨S16x768, .bf16⟩
  | .local _ .vmem, ⟨5, _⟩ => ⟨S16x768, .bf16⟩
  | .local _ .vmem, ⟨6, _⟩ => ⟨S31x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S256x256, .bf16⟩
  | .local _ .vmem, ⟨11, _⟩ => ⟨S1x256, .f32⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S544x256, .f32⟩
  | .local _ .vmem, ⟨17, _⟩ => ⟨S544x256, .f32⟩
  | _, _ => ⟨S2x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_cst : Ref sig .tc := ⟨.hbm, 15, rfl⟩
abbrev main_call0_v4 : Ref sig .tc := ⟨.hbm, 16, rfl⟩
abbrev main_call0_cst_0 : Ref sig .tc := ⟨.hbm, 17, rfl⟩
abbrev main_call0_v5 : Ref sig .tc := ⟨.hbm, 18, rfl⟩
abbrev main_call0_cst_1 : Ref sig .tc := ⟨.hbm, 19, rfl⟩
abbrev main_call0_v6 : Ref sig .tc := ⟨.hbm, 20, rfl⟩
abbrev main_call0_cst_2 : Ref sig .tc := ⟨.hbm, 21, rfl⟩
abbrev main_call0_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16_0 : Ref sig .tc := ⟨.hbm, 31, rfl⟩
abbrev main_v16_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S31x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference5Ideal.lean ====
abbrev S2x8192x768 : Shape := ⟨3, ![2, 8192, 768]⟩
abbrev S31x256 : Shape := ⟨2, ![31, 256]⟩
abbrev S256 : Shape := ⟨1, ![256]⟩
abbrev S4x64x64 : Shape := ⟨3, ![4, 64, 64]⟩
abbrev S2x8192x512 : Shape := ⟨3, ![2, 8192, 512]⟩
abbrev S2x8192x256 : Shape := ⟨3, ![2, 8192, 256]⟩
abbrev S_ : Shape := ⟨0, ![]⟩
abbrev S2x8222x256 : Shape := ⟨3, ![2, 8222, 256]⟩
abbrev S1x256 : Shape := ⟨2, ![1, 256]⟩
abbrev S1x1x256 : Shape := ⟨3, ![1, 1, 256]⟩
abbrev S2x8192 : Shape := ⟨2, ![2, 8192]⟩
abbrev S2x8192x1 : Shape := ⟨3, ![2, 8192, 1]⟩
abbrev S2x8207x256 : Shape := ⟨3, ![2, 8207, 256]⟩
abbrev S8192 : Shape := ⟨1, ![8192]⟩
abbrev S1x8192x1 : Shape := ⟨3, ![1, 8192, 1]⟩
abbrev S2x8192x64 : Shape := ⟨3, ![2, 8192, 64]⟩
abbrev S2x8192x4x64 : Shape := ⟨4, ![2, 8192, 4, 64]⟩
abbrev S4x64x2x8192 : Shape := ⟨4, ![4, 64, 2, 8192]⟩
abbrev S16384x256 : Shape := ⟨2, ![16384, 256]⟩

abbrev nBuf : Space → Nat
  | .hbm => 512
  | .vmem => 0
  | .smem => 0
  | _ => 0

abbrev hbmTy0_0 (i : Nat) : BufTy := match i % 128 with
  | 0 => ⟨S2x8192x768, .f32⟩
  | 1 => ⟨S31x256, .f32⟩
  | 2 => ⟨S256, .f32⟩
  | 3 => ⟨S256, .f32⟩
  | 4 => ⟨S256, .f32⟩
  | 5 => ⟨S4x64x64, .f32⟩
  | 6 => ⟨S256, .f32⟩
  | 7 => ⟨S2x8192x512, .f32⟩
  | 8 => ⟨S2x8192x256, .f32⟩
  | 9 => ⟨S2x8192x256, .f32⟩
  | 10 => ⟨S2x8192x256, .f32⟩
  | 11 => ⟨S2x8192x256, .f32⟩
  | 12 => ⟨S_, .f32⟩
  | 13 => ⟨S2x8192x256, .f32⟩
  | 14 => ⟨S2x8192x256, .f32⟩
  | 15 => ⟨S_, .f32⟩
  | 16 => ⟨S2x8192x256, .f32⟩
  | 17 => ⟨S2x8192x256, .f32⟩
  | 18 => ⟨S2x8192x256, .f32⟩
  | 19 => ⟨S_, .i32⟩
  | 20 => ⟨S_, .f32⟩
  | 21 => ⟨S2x8222x256, .f32⟩
  | 22 => ⟨S2x8192x256, .f32⟩
  | 23 => ⟨S1x256, .f32⟩
  | 24 => ⟨S256, .f32⟩
  | 25 => ⟨S1x1x256, .f32⟩
  | 26 => ⟨S2x8192x256, .f32⟩
  | 27 => ⟨S2x8192x256, .f32⟩
  | 28 => ⟨S_, .f32⟩
  | 29 => ⟨S2x8192x256, .f32⟩
  | 30 => ⟨S2x8192x256, .f32⟩
  | 31 => ⟨S2x8192x256, .f32⟩
  | 32 => ⟨S1x256, .f32⟩
  | 33 => ⟨S256, .f32⟩
  | 34 => ⟨S1x1x256, .f32⟩
  | 35 => ⟨S2x8192x256, .f32⟩
  | 36 => ⟨S2x8192x256, .f32⟩
  | 37 => ⟨S2x8192x256, .f32⟩
  | 38 => ⟨S2x8192x256, .f32⟩
  | 39 => ⟨S1x256, .f32⟩
  | 40 => ⟨S256, .f32⟩
  | 41 => ⟨S1x1x256, .f32⟩
  | 42 => ⟨S2x8192x256, .f32⟩
  | 43 => ⟨S2x8192x256, .f32⟩
  | 44 => ⟨S2x8192x256, .f32⟩
  | 45 => ⟨S2x8192x256, .f32⟩
  | 46 => ⟨S1x256, .f32⟩
  | 47 => ⟨S256, .f32⟩
  | 48 => ⟨S1x1x256, .f32⟩
  | 49 => ⟨S2x8192x256, .f32⟩
  | 50 => ⟨S2x8192x256, .f32⟩
  | 51 => ⟨S2x8192x256, .f32⟩
  | 52 => ⟨S2x8192x256, .f32⟩
  | 53 => ⟨S1x256, .f32⟩
  | 54 => ⟨S256, .f32⟩
  | 55 => ⟨S1x1x256, .f32⟩
  | 56 => ⟨S2x8192x256, .f32⟩
  | 57 => ⟨S2x8192x256, .f32⟩
  | 58 => ⟨S2x8192x256, .f32⟩
  | 59 => ⟨S2x8192x256, .f32⟩
  | 60 => ⟨S1x256, .f32⟩
  | 61 => ⟨S256, .f32⟩
  | 62 => ⟨S1x1x256, .f32⟩
  | 63 => ⟨S2x8192x256, .f32⟩
  | 64 => ⟨S2x8192x256, .f32⟩
  | 65 => ⟨S2x8192x256, .f32⟩
  | 66 => ⟨S2x8192x256, .f32⟩
  | 67 => ⟨S1x256, .f32⟩
  | 68 => ⟨S256, .f32⟩
  | 69 => ⟨S1x1x256, .f32⟩
  | 70 => ⟨S2x8192x256, .f32⟩
  | 71 => ⟨S2x8192x256, .f32⟩
  | 72 => ⟨S2x8192x256, .f32⟩
  | 73 => ⟨S2x8192x256, .f32⟩
  | 74 => ⟨S1x256, .f32⟩
  | 75 => ⟨S256, .f32⟩
  | 76 => ⟨S1x1x256, .f32⟩
  | 77 => ⟨S2x8192x256, .f32⟩
  | 78 => ⟨S2x8192x256, .f32⟩
  | 79 => ⟨S2x8192x256, .f32⟩
  | 80 => ⟨S2x8192x256, .f32⟩
  | 81 => ⟨S1x256, .f32⟩
  | 82 => ⟨S256, .f32⟩
  | 83 => ⟨S1x1x256, .f32⟩
  | 84 => ⟨S2x8192x256, .f32⟩
  | 85 => ⟨S2x8192x256, .f32⟩
  | 86 => ⟨S2x8192x256, .f32⟩
  | 87 => ⟨S2x8192x256, .f32⟩
  | 88 => ⟨S1x256, .f32⟩
  | 89 => ⟨S256, .f32⟩
  | 90 => ⟨S1x1x256, .f32⟩
  | 91 => ⟨S2x8192x256, .f32⟩
  | 92 => ⟨S2x8192x256, .f32⟩
  | 93 => ⟨S2x8192x256, .f32⟩
  | 94 => ⟨S2x8192x256, .f32⟩
  | 95 => ⟨S1x256, .f32⟩
  | 96 => ⟨S256, .f32⟩
  | 97 => ⟨S1x1x256, .f32⟩
  | 98 => ⟨S2x8192x256, .f32⟩
  | 99 => ⟨S2x8192x256, .f32⟩
  | 100 => ⟨S2x8192x256, .f32⟩
  | 101 => ⟨S2x8192x256, .f32⟩
  | 102 => ⟨S1x256, .f32⟩
  | 103 => ⟨S256, .f32⟩
  | 104 => ⟨S1x1x256, .f32⟩
  | 105 => ⟨S2x8192x256, .f32⟩
  | 106 => ⟨S2x8192x256, .f32⟩
  | 107 => ⟨S2x8192x256, .f32⟩
  | 108 => ⟨S2x8192x256, .f32⟩
  | 109 => ⟨S1x256, .f32⟩
  | 110 => ⟨S256, .f32⟩
  | 111 => ⟨S1x1x256, .f32⟩
  | 112 => ⟨S2x8192x256, .f32⟩
  | 113 => ⟨S2x8192x256, .f32⟩
  | 114 => ⟨S2x8192x256, .f32⟩
  | 115 => ⟨S2x8192x256, .f32⟩
  | 116 => ⟨S1x256, .f32⟩
  | 117 => ⟨S256, .f32⟩
  | 118 => ⟨S1x1x256, .f32⟩
  | 119 => ⟨S2x8192x256, .f32⟩
  | 120 => ⟨S2x8192x256, .f32⟩
  | 121 => ⟨S2x8192x256, .f32⟩
  | 122 => ⟨S2x8192x256, .f32⟩
  | 123 => ⟨S1x256, .f32⟩
  | 124 => ⟨S256, .f32⟩
  | 125 => ⟨S1x1x256, .f32⟩
  | 126 => ⟨S2x8192x256, .f32⟩
  | 127 => ⟨S2x8192x256, .f32⟩
  | _ => ⟨S2x8192x768, .f32⟩

abbrev hbmTy0_1 (i : Nat) : BufTy := match i % 128 with
  | 0 => ⟨S2x8192x256, .f32⟩
  | 1 => ⟨S2x8192x256, .f32⟩
  | 2 => ⟨S1x256, .f32⟩
  | 3 => ⟨S256, .f32⟩
  | 4 => ⟨S1x1x256, .f32⟩
  | 5 => ⟨S2x8192x256, .f32⟩
  | 6 => ⟨S2x8192x256, .f32⟩
  | 7 => ⟨S2x8192x256, .f32⟩
  | 8 => ⟨S2x8192x256, .f32⟩
  | 9 => ⟨S1x256, .f32⟩
  | 10 => ⟨S256, .f32⟩
  | 11 => ⟨S1x1x256, .f32⟩
  | 12 => ⟨S2x8192x256, .f32⟩
  | 13 => ⟨S2x8192x256, .f32⟩
  | 14 => ⟨S2x8192x256, .f32⟩
  | 15 => ⟨S2x8192x256, .f32⟩
  | 16 => ⟨S1x256, .f32⟩
  | 17 => ⟨S256, .f32⟩
  | 18 => ⟨S1x1x256, .f32⟩
  | 19 => ⟨S2x8192x256, .f32⟩
  | 20 => ⟨S2x8192x256, .f32⟩
  | 21 => ⟨S2x8192x256, .f32⟩
  | 22 => ⟨S2x8192x256, .f32⟩
  | 23 => ⟨S1x256, .f32⟩
  | 24 => ⟨S256, .f32⟩
  | 25 => ⟨S1x1x256, .f32⟩
  | 26 => ⟨S2x8192x256, .f32⟩
  | 27 => ⟨S2x8192x256, .f32⟩
  | 28 => ⟨S2x8192x256, .f32⟩
  | 29 => ⟨S2x8192x256, .f32⟩
  | 30 => ⟨S1x256, .f32⟩
  | 31 => ⟨S256, .f32⟩
  | 32 => ⟨S1x1x256, .f32⟩
  | 33 => ⟨S2x8192x256, .f32⟩
  | 34 => ⟨S2x8192x256, .f32⟩
  | 35 => ⟨S2x8192x256, .f32⟩
  | 36 => ⟨S2x8192x256, .f32⟩
  | 37 => ⟨S1x256, .f32⟩
  | 38 => ⟨S256, .f32⟩
  | 39 => ⟨S1x1x256, .f32⟩
  | 40 => ⟨S2x8192x256, .f32⟩
  | 41 => ⟨S2x8192x256, .f32⟩
  | 42 => ⟨S2x8192x256, .f32⟩
  | 43 => ⟨S2x8192x256, .f32⟩
  | 44 => ⟨S1x256, .f32⟩
  | 45 => ⟨S256, .f32⟩
  | 46 => ⟨S1x1x256, .f32⟩
  | 47 => ⟨S2x8192x256, .f32⟩
  | 48 => ⟨S2x8192x256, .f32⟩
  | 49 => ⟨S2x8192x256, .f32⟩
  | 50 => ⟨S2x8192x256, .f32⟩
  | 51 => ⟨S1x256, .f32⟩
  | 52 => ⟨S256, .f32⟩
  | 53 => ⟨S1x1x256, .f32⟩
  | 54 => ⟨S2x8192x256, .f32⟩
  | 55 => ⟨S2x8192x256, .f32⟩
  | 56 => ⟨S2x8192x256, .f32⟩
  | 57 => ⟨S2x8192x256, .f32⟩
  | 58 => ⟨S1x256, .f32⟩
  | 59 => ⟨S256, .f32⟩
  | 60 => ⟨S1x1x256, .f32⟩
  | 61 => ⟨S2x8192x256, .f32⟩
  | 62 => ⟨S2x8192x256, .f32⟩
  | 63 => ⟨S2x8192x256, .f32⟩
  | 64 => ⟨S2x8192x256, .f32⟩
  | 65 => ⟨S1x256, .f32⟩
  | 66 => ⟨S256, .f32⟩
  | 67 => ⟨S1x1x256, .f32⟩
  | 68 => ⟨S2x8192x256, .f32⟩
  | 69 => ⟨S2x8192x256, .f32⟩
  | 70 => ⟨S2x8192x256, .f32⟩
  | 71 => ⟨S2x8192x256, .f32⟩
  | 72 => ⟨S1x256, .f32⟩
  | 73 => ⟨S256, .f32⟩
  | 74 => ⟨S1x1x256, .f32⟩
  | 75 => ⟨S2x8192x256, .f32⟩
  | 76 => ⟨S2x8192x256, .f32⟩
  | 77 => ⟨S2x8192x256, .f32⟩
  | 78 => ⟨S2x8192x256, .f32⟩
  | 79 => ⟨S1x256, .f32⟩
  | 80 => ⟨S256, .f32⟩
  | 81 => ⟨S1x1x256, .f32⟩
  | 82 => ⟨S2x8192x256, .f32⟩
  | 83 => ⟨S2x8192x256, .f32⟩
  | 84 => ⟨S2x8192x256, .f32⟩
  | 85 => ⟨S2x8192x256, .f32⟩
  | 86 => ⟨S1x256, .f32⟩
  | 87 => ⟨S256, .f32⟩
  | 88 => ⟨S1x1x256, .f32⟩
  | 89 => ⟨S2x8192x256, .f32⟩
  | 90 => ⟨S2x8192x256, .f32⟩
  | 91 => ⟨S2x8192x256, .f32⟩
  | 92 => ⟨S2x8192x256, .f32⟩
  | 93 => ⟨S1x256, .f32⟩
  | 94 => ⟨S256, .f32⟩
  | 95 => ⟨S1x1x256, .f32⟩
  | 96 => ⟨S2x8192x256, .f32⟩
  | 97 => ⟨S2x8192x256, .f32⟩
  | 98 => ⟨S2x8192x256, .f32⟩
  | 99 => ⟨S2x8192x256, .f32⟩
  | 100 => ⟨S1x256, .f32⟩
  | 101 => ⟨S256, .f32⟩
  | 102 => ⟨S1x1x256, .f32⟩
  | 103 => ⟨S2x8192x256, .f32⟩
  | 104 => ⟨S2x8192x256, .f32⟩
  | 105 => ⟨S2x8192x256, .f32⟩
  | 106 => ⟨S2x8192x256, .f32⟩
  | 107 => ⟨S1x256, .f32⟩
  | 108 => ⟨S256, .f32⟩
  | 109 => ⟨S1x1x256, .f32⟩
  | 110 => ⟨S2x8192x256, .f32⟩
  | 111 => ⟨S2x8192x256, .f32⟩
  | 112 => ⟨S2x8192x256, .f32⟩
  | 113 => ⟨S1x1x256, .f32⟩
  | 114 => ⟨S2x8192x256, .f32⟩
  | 115 => ⟨S2x8192x256, .f32⟩
  | 116 => ⟨S_, .f32⟩
  | 117 => ⟨S2x8192, .f32⟩
  | 118 => ⟨S2x8192x1, .f32⟩
  | 119 => ⟨S_, .f32⟩
  | 120 => ⟨S2x8192x1, .f32⟩
  | 121 => ⟨S2x8192x1, .f32⟩
  | 122 => ⟨S2x8192x256, .f32⟩
  | 123 => ⟨S2x8192x256, .f32⟩
  | 124 => ⟨S2x8192x256, .f32⟩
  | 125 => ⟨S_, .f32⟩
  | 126 => ⟨S2x8192, .f32⟩
  | 127 => ⟨S2x8192x1, .f32⟩
  | _ => ⟨S2x8192x768, .f32⟩

abbrev hbmTy0_2 (i : Nat) : BufTy := match i % 128 with
  | 0 => ⟨S_, .f32⟩
  | 1 => ⟨S2x8192x1, .f32⟩
  | 2 => ⟨S2x8192x1, .f32⟩
  | 3 => ⟨S2x8192x256, .f32⟩
  | 4 => ⟨S2x8192x256, .f32⟩
  | 5 => ⟨S_, .f32⟩
  | 6 => ⟨S2x8192x1, .f32⟩
  | 7 => ⟨S2x8192x1, .f32⟩
  | 8 => ⟨S2x8192x1, .f32⟩
  | 9 => ⟨S2x8192x256, .f32⟩
  | 10 => ⟨S2x8192x256, .f32⟩
  | 11 => ⟨S1x1x256, .f32⟩
  | 12 => ⟨S2x8192x256, .f32⟩
  | 13 => ⟨S2x8192x256, .f32⟩
  | 14 => ⟨S1x1x256, .f32⟩
  | 15 => ⟨S2x8192x256, .f32⟩
  | 16 => ⟨S2x8192x256, .f32⟩
  | 17 => ⟨S2x8192x256, .f32⟩
  | 18 => ⟨S2x8192x256, .f32⟩
  | 19 => ⟨S_, .f32⟩
  | 20 => ⟨S2x8192x256, .f32⟩
  | 21 => ⟨S2x8192x256, .f32⟩
  | 22 => ⟨S_, .f32⟩
  | 23 => ⟨S2x8192x256, .f32⟩
  | 24 => ⟨S2x8192x256, .f32⟩
  | 25 => ⟨S2x8192x256, .f32⟩
  | 26 => ⟨S2x8192x256, .f32⟩
  | 27 => ⟨S_, .i32⟩
  | 28 => ⟨S_, .f32⟩
  | 29 => ⟨S2x8207x256, .f32⟩
  | 30 => ⟨S8192, .i32⟩
  | 31 => ⟨S_, .i32⟩
  | 32 => ⟨S8192, .i32⟩
  | 33 => ⟨S8192, .i32⟩
  | 34 => ⟨S_, .i32⟩
  | 35 => ⟨S_, .i32⟩
  | 36 => ⟨S_, .i32⟩
  | 37 => ⟨S8192, .i32⟩
  | 38 => ⟨S8192, .i32⟩
  | 39 => ⟨S_, .i32⟩
  | 40 => ⟨S8192, .i32⟩
  | 41 => ⟨S8192, .i32⟩
  | 42 => ⟨S_, .i32⟩
  | 43 => ⟨S8192, .i32⟩
  | 44 => ⟨S8192, .i32⟩
  | 45 => ⟨S_, .i32⟩
  | 46 => ⟨S8192, .i32⟩
  | 47 => ⟨S8192, .i32⟩
  | 48 => ⟨S_, .i32⟩
  | 49 => ⟨S8192, .i32⟩
  | 50 => ⟨S8192, .i32⟩
  | 51 => ⟨S_, .i32⟩
  | 52 => ⟨S_, .i32⟩
  | 53 => ⟨S_, .i32⟩
  | 54 => ⟨S8192, .i32⟩
  | 55 => ⟨S8192, .i32⟩
  | 56 => ⟨S_, .i32⟩
  | 57 => ⟨S8192, .i32⟩
  | 58 => ⟨S8192, .i32⟩
  | 59 => ⟨S8192, .i32⟩
  | 60 => ⟨S_, .i32⟩
  | 61 => ⟨S8192, .i32⟩
  | 62 => ⟨S8192, .i32⟩
  | 63 => ⟨S8192, .f32⟩
  | 64 => ⟨S1x8192x1, .f32⟩
  | 65 => ⟨S2x8192x64, .f32⟩
  | 66 => ⟨S_, .f32⟩
  | 67 => ⟨S2x8192x64, .f32⟩
  | 68 => ⟨S2x8192x64, .f32⟩
  | 69 => ⟨S2x8192x64, .f32⟩
  | 70 => ⟨S2x8192x64, .f32⟩
  | 71 => ⟨S2x8192x64, .f32⟩
  | 72 => ⟨S2x8192x64, .f32⟩
  | 73 => ⟨S_, .i32⟩
  | 74 => ⟨S8192, .i32⟩
  | 75 => ⟨S8192, .i32⟩
  | 76 => ⟨S_, .i32⟩
  | 77 => ⟨S_, .i32⟩
  | 78 => ⟨S_, .i32⟩
  | 79 => ⟨S8192, .i32⟩
  | 80 => ⟨S8192, .i32⟩
  | 81 => ⟨S_, .i32⟩
  | 82 => ⟨S8192, .i32⟩
  | 83 => ⟨S8192, .i32⟩
  | 84 => ⟨S_, .i32⟩
  | 85 => ⟨S8192, .i32⟩
  | 86 => ⟨S8192, .i32⟩
  | 87 => ⟨S_, .i32⟩
  | 88 => ⟨S8192, .i32⟩
  | 89 => ⟨S8192, .i32⟩
  | 90 => ⟨S_, .i32⟩
  | 91 => ⟨S8192, .i32⟩
  | 92 => ⟨S8192, .i32⟩
  | 93 => ⟨S_, .i32⟩
  | 94 => ⟨S_, .i32⟩
  | 95 => ⟨S_, .i32⟩
  | 96 => ⟨S8192, .i32⟩
  | 97 => ⟨S8192, .i32⟩
  | 98 => ⟨S_, .i32⟩
  | 99 => ⟨S8192, .i32⟩
  | 100 => ⟨S8192, .i32⟩
  | 101 => ⟨S8192, .i32⟩
  | 102 => ⟨S_, .i32⟩
  | 103 => ⟨S8192, .i32⟩
  | 104 => ⟨S8192, .i32⟩
  | 105 => ⟨S8192, .f32⟩
  | 106 => ⟨S1x8192x1, .f32⟩
  | 107 => ⟨S2x8192x64, .f32⟩
  | 108 => ⟨S_, .f32⟩
  | 109 => ⟨S2x8192x64, .f32⟩
  | 110 => ⟨S2x8192x64, .f32⟩
  | 111 => ⟨S2x8192x64, .f32⟩
  | 112 => ⟨S2x8192x64, .f32⟩
  | 113 => ⟨S2x8192x64, .f32⟩
  | 114 => ⟨S2x8192x64, .f32⟩
  | 115 => ⟨S2x8192x64, .f32⟩
  | 116 => ⟨S2x8192x64, .f32⟩
  | 117 => ⟨S2x8192x64, .f32⟩
  | 118 => ⟨S2x8192x64, .f32⟩
  | 119 => ⟨S_, .i32⟩
  | 120 => ⟨S8192, .i32⟩
  | 121 => ⟨S8192, .i32⟩
  | 122 => ⟨S_, .i32⟩
  | 123 => ⟨S_, .i32⟩
  | 124 => ⟨S_, .i32⟩
  | 125 => ⟨S8192, .i32⟩
  | 126 => ⟨S8192, .i32⟩
  | 127 => ⟨S_, .i32⟩
  | _ => ⟨S2x8192x768, .f32⟩

abbrev hbmTy0_3 (i : Nat) : BufTy := match i % 128 with
  | 0 => ⟨S8192, .i32⟩
  | 1 => ⟨S8192, .i32⟩
  | 2 => ⟨S_, .i32⟩
  | 3 => ⟨S8192, .i32⟩
  | 4 => ⟨S8192, .i32⟩
  | 5 => ⟨S_, .i32⟩
  | 6 => ⟨S8192, .i32⟩
  | 7 => ⟨S8192, .i32⟩
  | 8 => ⟨S_, .i32⟩
  | 9 => ⟨S8192, .i32⟩
  | 10 => ⟨S8192, .i32⟩
  | 11 => ⟨S_, .i32⟩
  | 12 => ⟨S_, .i32⟩
  | 13 => ⟨S_, .i32⟩
  | 14 => ⟨S8192, .i32⟩
  | 15 => ⟨S8192, .i32⟩
  | 16 => ⟨S_, .i32⟩
  | 17 => ⟨S8192, .i32⟩
  | 18 => ⟨S8192, .i32⟩
  | 19 => ⟨S8192, .i32⟩
  | 20 => ⟨S_, .i32⟩
  | 21 => ⟨S8192, .i32⟩
  | 22 => ⟨S8192, .i32⟩
  | 23 => ⟨S8192, .f32⟩
  | 24 => ⟨S1x8192x1, .f32⟩
  | 25 => ⟨S2x8192x64, .f32⟩
  | 26 => ⟨S_, .f32⟩
  | 27 => ⟨S2x8192x64, .f32⟩
  | 28 => ⟨S2x8192x64, .f32⟩
  | 29 => ⟨S2x8192x64, .f32⟩
  | 30 => ⟨S2x8192x64, .f32⟩
  | 31 => ⟨S2x8192x64, .f32⟩
  | 32 => ⟨S2x8192x64, .f32⟩
  | 33 => ⟨S2x8192x64, .f32⟩
  | 34 => ⟨S2x8192x64, .f32⟩
  | 35 => ⟨S2x8192x64, .f32⟩
  | 36 => ⟨S2x8192x64, .f32⟩
  | 37 => ⟨S2x8192x64, .f32⟩
  | 38 => ⟨S2x8192x64, .f32⟩
  | 39 => ⟨S2x8192x64, .f32⟩
  | 40 => ⟨S2x8192x64, .f32⟩
  | 41 => ⟨S2x8192x64, .f32⟩
  | 42 => ⟨S2x8192x64, .f32⟩
  | 43 => ⟨S2x8192x64, .f32⟩
  | 44 => ⟨S2x8192x64, .f32⟩
  | 45 => ⟨S_, .i32⟩
  | 46 => ⟨S8192, .i32⟩
  | 47 => ⟨S8192, .i32⟩
  | 48 => ⟨S_, .i32⟩
  | 49 => ⟨S_, .i32⟩
  | 50 => ⟨S_, .i32⟩
  | 51 => ⟨S8192, .i32⟩
  | 52 => ⟨S8192, .i32⟩
  | 53 => ⟨S_, .i32⟩
  | 54 => ⟨S8192, .i32⟩
  | 55 => ⟨S8192, .i32⟩
  | 56 => ⟨S_, .i32⟩
  | 57 => ⟨S8192, .i32⟩
  | 58 => ⟨S8192, .i32⟩
  | 59 => ⟨S_, .i32⟩
  | 60 => ⟨S8192, .i32⟩
  | 61 => ⟨S8192, .i32⟩
  | 62 => ⟨S_, .i32⟩
  | 63 => ⟨S8192, .i32⟩
  | 64 => ⟨S8192, .i32⟩
  | 65 => ⟨S_, .i32⟩
  | 66 => ⟨S_, .i32⟩
  | 67 => ⟨S_, .i32⟩
  | 68 => ⟨S8192, .i32⟩
  | 69 => ⟨S8192, .i32⟩
  | 70 => ⟨S_, .i32⟩
  | 71 => ⟨S8192, .i32⟩
  | 72 => ⟨S8192, .i32⟩
  | 73 => ⟨S8192, .i32⟩
  | 74 => ⟨S_, .i32⟩
  | 75 => ⟨S8192, .i32⟩
  | 76 => ⟨S8192, .i32⟩
  | 77 => ⟨S8192, .f32⟩
  | 78 => ⟨S1x8192x1, .f32⟩
  | 79 => ⟨S2x8192x64, .f32⟩
  | 80 => ⟨S_, .f32⟩
  | 81 => ⟨S2x8192x64, .f32⟩
  | 82 => ⟨S2x8192x64, .f32⟩
  | 83 => ⟨S2x8192x64, .f32⟩
  | 84 => ⟨S2x8192x64, .f32⟩
  | 85 => ⟨S2x8192x64, .f32⟩
  | 86 => ⟨S2x8192x64, .f32⟩
  | 87 => ⟨S2x8192x64, .f32⟩
  | 88 => ⟨S2x8192x64, .f32⟩
  | 89 => ⟨S2x8192x64, .f32⟩
  | 90 => ⟨S2x8192x64, .f32⟩
  | 91 => ⟨S2x8192x64, .f32⟩
  | 92 => ⟨S2x8192x64, .f32⟩
  | 93 => ⟨S2x8192x64, .f32⟩
  | 94 => ⟨S2x8192x64, .f32⟩
  | 95 => ⟨S2x8192x64, .f32⟩
  | 96 => ⟨S2x8192x64, .f32⟩
  | 97 => ⟨S2x8192x64, .f32⟩
  | 98 => ⟨S2x8192x64, .f32⟩
  | 99 => ⟨S2x8192x64, .f32⟩
  | 100 => ⟨S2x8192x64, .f32⟩
  | 101 => ⟨S2x8192x64, .f32⟩
  | 102 => ⟨S2x8192x64, .f32⟩
  | 103 => ⟨S2x8192x64, .f32⟩
  | 104 => ⟨S2x8192x64, .f32⟩
  | 105 => ⟨S2x8192x64, .f32⟩
  | 106 => ⟨S2x8192x64, .f32⟩
  | 107 => ⟨S2x8192x64, .f32⟩
  | 108 => ⟨S2x8192x64, .f32⟩
  | 109 => ⟨S2x8192x64, .f32⟩
  | 110 => ⟨S2x8192x64, .f32⟩
  | 111 => ⟨S2x8192x64, .f32⟩
  | 112 => ⟨S2x8192x64, .f32⟩
  | 113 => ⟨S2x8192x64, .f32⟩
  | 114 => ⟨S2x8192x64, .f32⟩
  | 115 => ⟨S2x8192x256, .f32⟩
  | 116 => ⟨S2x8192x256, .f32⟩
  | 117 => ⟨S2x8192x4x64, .f32⟩
  | 118 => ⟨S4x64x2x8192, .f32⟩
  | 119 => ⟨S2x8192x4x64, .f32⟩
  | 120 => ⟨S2x8192x256, .f32⟩
  | 121 => ⟨S1x1x256, .f32⟩
  | 122 => ⟨S2x8192x256, .f32⟩
  | 123 => ⟨S2x8192x256, .f32⟩
  | 124 => ⟨S16384x256, .f32⟩
  | 125 => ⟨S16384x256, .bf16⟩
  | 126 => ⟨S16384x256, .f32⟩
  | 127 => ⟨S16384x256, .bf16⟩
  | _ => ⟨S2x8192x768, .f32⟩

abbrev hbmTy (i : Nat) : BufTy := match i / 128 with
  | 0 => hbmTy0_0 i
  | 1 => hbmTy0_1 i
  | 2 => hbmTy0_2 i
  | 3 => hbmTy0_3 i
  | _ => ⟨S2x8192x768, .f32⟩

abbrev bufTy : (tb : Table) → Fin (tcTables nBuf tb) → BufTy
  | .hbm, ⟨i, _⟩ => hbmTy i
  | _, _ => ⟨S2x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_call0_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_v164 : Ref sig .tc := ⟨.hbm, 176, rfl⟩
abbrev main_v165 : Ref sig .tc := ⟨.hbm, 177, rfl⟩
abbrev main_v166 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_v175 : Ref sig .tc := ⟨.hbm, 187, rfl⟩
abbrev main_v176 : Ref sig .tc := ⟨.hbm, 188, rfl⟩
abbrev main_v177 : Ref sig .tc := ⟨.hbm, 189, rfl⟩
abbrev main_v178 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_v183 : Ref sig .tc := ⟨.hbm, 195, rfl⟩
abbrev main_v184 : Ref sig .tc := ⟨.hbm, 196, rfl⟩
abbrev main_v185 : Ref sig .tc := ⟨.hbm, 197, rfl⟩
abbrev main_v186 : Ref sig .tc := ⟨.hbm, 198, rfl⟩
abbrev main_v187 : Ref sig .tc := ⟨.hbm, 199, rfl⟩
abbrev main_v188 : Ref sig .tc := ⟨.hbm, 200, rfl⟩
abbrev main_v189 : Ref sig .tc := ⟨.hbm, 201, rfl⟩
abbrev main_v190 : Ref sig .tc := ⟨.hbm, 202, rfl⟩
abbrev main_v191 : Ref sig .tc := ⟨.hbm, 203, rfl⟩
abbrev main_v192 : Ref sig .tc := ⟨.hbm, 204, rfl⟩
abbrev main_v193 : Ref sig .tc := ⟨.hbm, 205, rfl⟩
abbrev main_v194 : Ref sig .tc := ⟨.hbm, 206, rfl⟩
abbrev main_v195 : Ref sig .tc := ⟨.hbm, 207, rfl⟩
abbrev main_v196 : Ref sig .tc := ⟨.hbm, 208, rfl⟩
abbrev main_v197 : Ref sig .tc := ⟨.hbm, 209, rfl⟩
abbrev main_v198 : Ref sig .tc := ⟨.hbm, 210, rfl⟩
abbrev main_v199 : Ref sig .tc := ⟨.hbm, 211, rfl⟩
abbrev main_v200 : Ref sig .tc := ⟨.hbm, 212, rfl⟩
abbrev main_v201 : Ref sig .tc := ⟨.hbm, 213, rfl⟩
abbrev main_v202 : Ref sig .tc := ⟨.hbm, 214, rfl⟩
abbrev main_v203 : Ref sig .tc := ⟨.hbm, 215, rfl⟩
abbrev main_v204 : Ref sig .tc := ⟨.hbm, 216, rfl⟩
abbrev main_v205 : Ref sig .tc := ⟨.hbm, 217, rfl⟩
abbrev main_v206 : Ref sig .tc := ⟨.hbm, 218, rfl⟩
abbrev main_v207 : Ref sig .tc := ⟨.hbm, 219, rfl⟩
abbrev main_v208 : Ref sig .tc := ⟨.hbm, 220, rfl⟩
abbrev main_v209 : Ref sig .tc := ⟨.hbm, 221, rfl⟩
abbrev main_v210 : Ref sig .tc := ⟨.hbm, 222, rfl⟩
abbrev main_v211 : Ref sig .tc := ⟨.hbm, 223, rfl⟩
abbrev main_v212 : Ref sig .tc := ⟨.hbm, 224, rfl⟩
abbrev main_v213 : Ref sig .tc := ⟨.hbm, 225, rfl⟩
abbrev main_v214 : Ref sig .tc := ⟨.hbm, 226, rfl⟩
abbrev main_v215 : Ref sig .tc := ⟨.hbm, 227, rfl⟩
abbrev main_v216 : Ref sig .tc := ⟨.hbm, 228, rfl⟩
abbrev main_v217 : Ref sig .tc := ⟨.hbm, 229, rfl⟩
abbrev main_v218 : Ref sig .tc := ⟨.hbm, 230, rfl⟩
abbrev main_v219 : Ref sig .tc := ⟨.hbm, 231, rfl⟩
abbrev main_v220 : Ref sig .tc := ⟨.hbm, 232, rfl⟩
abbrev main_v221 : Ref sig .tc := ⟨.hbm, 233, rfl⟩
abbrev main_v222 : Ref sig .tc := ⟨.hbm, 234, rfl⟩
abbrev main_v223 : Ref sig .tc := ⟨.hbm, 235, rfl⟩
abbrev main_v224 : Ref sig .tc := ⟨.hbm, 236, rfl⟩
abbrev main_v225 : Ref sig .tc := ⟨.hbm, 237, rfl⟩
abbrev main_v226 : Ref sig .tc := ⟨.hbm, 238, rfl⟩
abbrev main_v227 : Ref sig .tc := ⟨.hbm, 239, rfl⟩
abbrev main_v228 : Ref sig .tc := ⟨.hbm, 240, rfl⟩
abbrev main_v229 : Ref sig .tc := ⟨.hbm, 241, rfl⟩
abbrev main_v230 : Ref sig .tc := ⟨.hbm, 242, rfl⟩
abbrev main_v231 : Ref sig .tc := ⟨.hbm, 243, rfl⟩
abbrev main_cst_2 : Ref sig .tc := ⟨.hbm, 244, rfl⟩
abbrev main_v232 : Ref sig .tc := ⟨.hbm, 245, rfl⟩
abbrev main_v233 : Ref sig .tc := ⟨.hbm, 246, rfl⟩
abbrev main_cst_3 : Ref sig .tc := ⟨.hbm, 247, rfl⟩
abbrev main_v234 : Ref sig .tc := ⟨.hbm, 248, rfl⟩
abbrev main_v235 : Ref sig .tc := ⟨.hbm, 249, rfl⟩
abbrev main_v236 : Ref sig .tc := ⟨.hbm, 250, rfl⟩
abbrev main_v237 : Ref sig .tc := ⟨.hbm, 251, rfl⟩
abbrev main_v238 : Ref sig .tc := ⟨.hbm, 252, rfl⟩
abbrev main_cst_4 : Ref sig .tc := ⟨.hbm, 253, rfl⟩
abbrev main_v239 : Ref sig .tc := ⟨.hbm, 254, rfl⟩
abbrev main_v240 : Ref sig .tc := ⟨.hbm, 255, rfl⟩
abbrev main_cst_5 : Ref sig .tc := ⟨.hbm, 256, rfl⟩
abbrev main_v241 : Ref sig .tc := ⟨.hbm, 257, rfl⟩
abbrev main_v242 : Ref sig .tc := ⟨.hbm, 258, rfl⟩
abbrev main_v243 : Ref sig .tc := ⟨.hbm, 259, rfl⟩
abbrev main_v244 : Ref sig .tc := ⟨.hbm, 260, rfl⟩
abbrev main_cst_6 : Ref sig .tc := ⟨.hbm, 261, rfl⟩
abbrev main_v245 : Ref sig .tc := ⟨.hbm, 262, rfl⟩
abbrev main_v246 : Ref sig .tc := ⟨.hbm, 263, rfl⟩
abbrev main_v247 : Ref sig .tc := ⟨.hbm, 264, rfl⟩
abbrev main_v248 : Ref sig .tc := ⟨.hbm, 265, rfl⟩
abbrev main_v249 : Ref sig .tc := ⟨.hbm, 266, rfl⟩
abbrev main_v250 : Ref sig .tc := ⟨.hbm, 267, rfl⟩
abbrev main_v251 : Ref sig .tc := ⟨.hbm, 268, rfl⟩
abbrev main_v252 : Ref sig .tc := ⟨.hbm, 269, rfl⟩
abbrev main_v253 : Ref sig .tc := ⟨.hbm, 270, rfl⟩
abbrev main_v254 : Ref sig .tc := ⟨.hbm, 271, rfl⟩
abbrev main_v255 : Ref sig .tc := ⟨.hbm, 272, rfl⟩
abbrev main_v256 : Ref sig .tc := ⟨.hbm, 273, rfl⟩
abbrev main_v257 : Ref sig .tc := ⟨.hbm, 274, rfl⟩
abbrev main_cst_7 : Ref sig .tc := ⟨.hbm, 275, rfl⟩
abbrev main_v258 : Ref sig .tc := ⟨.hbm, 276, rfl⟩
abbrev main_v259 : Ref sig .tc := ⟨.hbm, 277, rfl⟩
abbrev main_cst_8 : Ref sig .tc := ⟨.hbm, 278, rfl⟩
abbrev main_v260 : Ref sig .tc := ⟨.hbm, 279, rfl⟩
abbrev main_v261 : Ref sig .tc := ⟨.hbm, 280, rfl⟩
abbrev main_v262 : Ref sig .tc := ⟨.hbm, 281, rfl⟩
abbrev main_v263 : Ref sig .tc := ⟨.hbm, 282, rfl⟩
abbrev main_c_9 : Ref sig .tc := ⟨.hbm, 283, rfl⟩
abbrev main_call1_v0 : Ref sig .tc := ⟨.hbm, 284, rfl⟩
abbrev main_v264 : Ref sig .tc := ⟨.hbm, 285, rfl⟩
abbrev main_v265 : Ref sig .tc := ⟨.hbm, 286, rfl⟩
abbrev main_c_10 : Ref sig .tc := ⟨.hbm, 287, rfl⟩
abbrev main_v266 : Ref sig .tc := ⟨.hbm, 288, rfl⟩
abbrev main_v267 : Ref sig .tc := ⟨.hbm, 289, rfl⟩
abbrev main_c_11 : Ref sig .tc := ⟨.hbm, 290, rfl⟩
abbrev main_c_12 : Ref sig .tc := ⟨.hbm, 291, rfl⟩
abbrev main_call2_v0 : Ref sig .tc := ⟨.hbm, 292, rfl⟩
abbrev main_call2_v1 : Ref sig .tc := ⟨.hbm, 293, rfl⟩
abbrev main_call2_v2 : Ref sig .tc := ⟨.hbm, 294, rfl⟩
abbrev main_call2_v3 : Ref sig .tc := ⟨.hbm, 295, rfl⟩
abbrev main_call2_v4 : Ref sig .tc := ⟨.hbm, 296, rfl⟩
abbrev main_v268 : Ref sig .tc := ⟨.hbm, 297, rfl⟩
abbrev main_c_13 : Ref sig .tc := ⟨.hbm, 298, rfl⟩
abbrev main_v269 : Ref sig .tc := ⟨.hbm, 299, rfl⟩
abbrev main_v270 : Ref sig .tc := ⟨.hbm, 300, rfl⟩
abbrev main_c_14 : Ref sig .tc := ⟨.hbm, 301, rfl⟩
abbrev main_v271 : Ref sig .tc := ⟨.hbm, 302, rfl⟩
abbrev main_v272 : Ref sig .tc := ⟨.hbm, 303, rfl⟩
abbrev main_c_15 : Ref sig .tc := ⟨.hbm, 304, rfl⟩
abbrev main_v273 : Ref sig .tc := ⟨.hbm, 305, rfl⟩
abbrev main_v274 : Ref sig .tc := ⟨.hbm, 306, rfl⟩
abbrev main_c_16 : Ref sig .tc := ⟨.hbm, 307, rfl⟩
abbrev main_c_17 : Ref sig .tc := ⟨.hbm, 308, rfl⟩
abbrev main_call3_v0 : Ref sig .tc := ⟨.hbm, 309, rfl⟩
abbrev main_call3_v1 : Ref sig .tc := ⟨.hbm, 310, rfl⟩
abbrev main_call3_v2 : Ref sig .tc := ⟨.hbm, 311, rfl⟩
abbrev main_call3_v3 : Ref sig .tc := ⟨.hbm, 312, rfl⟩
abbrev main_call3_v4 : Ref sig .tc := ⟨.hbm, 313, rfl⟩
abbrev main_v275 : Ref sig .tc := ⟨.hbm, 314, rfl⟩
abbrev main_v276 : Ref sig .tc := ⟨.hbm, 315, rfl⟩
abbrev main_c_18 : Ref sig .tc := ⟨.hbm, 316, rfl⟩
abbrev main_v277 : Ref sig .tc := ⟨.hbm, 317, rfl⟩
abbrev main_v278 : Ref sig .tc := ⟨.hbm, 318, rfl⟩
abbrev main_v279 : Ref sig .tc := ⟨.hbm, 319, rfl⟩
abbrev main_v280 : Ref sig .tc := ⟨.hbm, 320, rfl⟩
abbrev main_v281 : Ref sig .tc := ⟨.hbm, 321, rfl⟩
abbrev main_cst_19 : Ref sig .tc := ⟨.hbm, 322, rfl⟩
abbrev main_v282 : Ref sig .tc := ⟨.hbm, 323, rfl⟩
abbrev main_v283 : Ref sig .tc := ⟨.hbm, 324, rfl⟩
abbrev main_v284 : Ref sig .tc := ⟨.hbm, 325, rfl⟩
abbrev main_v285 : Ref sig .tc := ⟨.hbm, 326, rfl⟩
abbrev main_v286 : Ref sig .tc := ⟨.hbm, 327, rfl⟩
abbrev main_v287 : Ref sig .tc := ⟨.hbm, 328, rfl⟩
abbrev main_c_20 : Ref sig .tc := ⟨.hbm, 329, rfl⟩
abbrev main_v288 : Ref sig .tc := ⟨.hbm, 330, rfl⟩
abbrev main_v289 : Ref sig .tc := ⟨.hbm, 331, rfl⟩
abbrev main_c_21 : Ref sig .tc := ⟨.hbm, 332, rfl⟩
abbrev main_c_22 : Ref sig .tc := ⟨.hbm, 333, rfl⟩
abbrev main_call4_v0 : Ref sig .tc := ⟨.hbm, 334, rfl⟩
abbrev main_call4_v1 : Ref sig .tc := ⟨.hbm, 335, rfl⟩
abbrev main_call4_v2 : Ref sig .tc := ⟨.hbm, 336, rfl⟩
abbrev main_call4_v3 : Ref sig .tc := ⟨.hbm, 337, rfl⟩
abbrev main_call4_v4 : Ref sig .tc := ⟨.hbm, 338, rfl⟩
abbrev main_v290 : Ref sig .tc := ⟨.hbm, 339, rfl⟩
abbrev main_c_23 : Ref sig .tc := ⟨.hbm, 340, rfl⟩
abbrev main_v291 : Ref sig .tc := ⟨.hbm, 341, rfl⟩
abbrev main_v292 : Ref sig .tc := ⟨.hbm, 342, rfl⟩
abbrev main_c_24 : Ref sig .tc := ⟨.hbm, 343, rfl⟩
abbrev main_v293 : Ref sig .tc := ⟨.hbm, 344, rfl⟩
abbrev main_v294 : Ref sig .tc := ⟨.hbm, 345, rfl⟩
abbrev main_c_25 : Ref sig .tc := ⟨.hbm, 346, rfl⟩
abbrev main_v295 : Ref sig .tc := ⟨.hbm, 347, rfl⟩
abbrev main_v296 : Ref sig .tc := ⟨.hbm, 348, rfl⟩
abbrev main_c_26 : Ref sig .tc := ⟨.hbm, 349, rfl⟩
abbrev main_c_27 : Ref sig .tc := ⟨.hbm, 350, rfl⟩
abbrev main_call5_v0 : Ref sig .tc := ⟨.hbm, 351, rfl⟩
abbrev main_call5_v1 : Ref sig .tc := ⟨.hbm, 352, rfl⟩
abbrev main_call5_v2 : Ref sig .tc := ⟨.hbm, 353, rfl⟩
abbrev main_call5_v3 : Ref sig .tc := ⟨.hbm, 354, rfl⟩
abbrev main_call5_v4 : Ref sig .tc := ⟨.hbm, 355, rfl⟩
abbrev main_v297 : Ref sig .tc := ⟨.hbm, 356, rfl⟩
abbrev main_v298 : Ref sig .tc := ⟨.hbm, 357, rfl⟩
abbrev main_c_28 : Ref sig .tc := ⟨.hbm, 358, rfl⟩
abbrev main_v299 : Ref sig .tc := ⟨.hbm, 359, rfl⟩
abbrev main_v300 : Ref sig .tc := ⟨.hbm, 360, rfl⟩
abbrev main_v301 : Ref sig .tc := ⟨.hbm, 361, rfl⟩
abbrev main_v302 : Ref sig .tc := ⟨.hbm, 362, rfl⟩
abbrev main_v303 : Ref sig .tc := ⟨.hbm, 363, rfl⟩
abbrev main_cst_29 : Ref sig .tc := ⟨.hbm, 364, rfl⟩
abbrev main_v304 : Ref sig .tc := ⟨.hbm, 365, rfl⟩
abbrev main_v305 : Ref sig .tc := ⟨.hbm, 366, rfl⟩
abbrev main_v306 : Ref sig .tc := ⟨.hbm, 367, rfl⟩
abbrev main_v307 : Ref sig .tc := ⟨.hbm, 368, rfl⟩
abbrev main_v308 : Ref sig .tc := ⟨.hbm, 369, rfl⟩
abbrev main_v309 : Ref sig .tc := ⟨.hbm, 370, rfl⟩
abbrev main_v310 : Ref sig .tc := ⟨.hbm, 371, rfl⟩
abbrev main_v311 : Ref sig .tc := ⟨.hbm, 372, rfl⟩
abbrev main_v312 : Ref sig .tc := ⟨.hbm, 373, rfl⟩
abbrev main_v313 : Ref sig .tc := ⟨.hbm, 374, rfl⟩
abbrev main_c_30 : Ref sig .tc := ⟨.hbm, 375, rfl⟩
abbrev main_v314 : Ref sig .tc := ⟨.hbm, 376, rfl⟩
abbrev main_v315 : Ref sig .tc := ⟨.hbm, 377, rfl⟩
abbrev main_c_31 : Ref sig .tc := ⟨.hbm, 378, rfl⟩
abbrev main_c_32 : Ref sig .tc := ⟨.hbm, 379, rfl⟩
abbrev main_call6_v0 : Ref sig .tc := ⟨.hbm, 380, rfl⟩
abbrev main_call6_v1 : Ref sig .tc := ⟨.hbm, 381, rfl⟩
abbrev main_call6_v2 : Ref sig .tc := ⟨.hbm, 382, rfl⟩
abbrev main_call6_v3 : Ref sig .tc := ⟨.hbm, 383, rfl⟩
abbrev main_call6_v4 : Ref sig .tc := ⟨.hbm, 384, rfl⟩
abbrev main_v316 : Ref sig .tc := ⟨.hbm, 385, rfl⟩
abbrev main_c_33 : Ref sig .tc := ⟨.hbm, 386, rfl⟩
abbrev main_v317 : Ref sig .tc := ⟨.hbm, 387, rfl⟩
abbrev main_v318 : Ref sig .tc := ⟨.hbm, 388, rfl⟩
abbrev main_c_34 : Ref sig .tc := ⟨.hbm, 389, rfl⟩
abbrev main_v319 : Ref sig .tc := ⟨.hbm, 390, rfl⟩
abbrev main_v320 : Ref sig .tc := ⟨.hbm, 391, rfl⟩
abbrev main_c_35 : Ref sig .tc := ⟨.hbm, 392, rfl⟩
abbrev main_v321 : Ref sig .tc := ⟨.hbm, 393, rfl⟩
abbrev main_v322 : Ref sig .tc := ⟨.hbm, 394, rfl⟩
abbrev main_c_36 : Ref sig .tc := ⟨.hbm, 395, rfl⟩
abbrev main_c_37 : Ref sig .tc := ⟨.hbm, 396, rfl⟩
abbrev main_call7_v0 : Ref sig .tc := ⟨.hbm, 397, rfl⟩
abbrev main_call7_v1 : Ref sig .tc := ⟨.hbm, 398, rfl⟩
abbrev main_call7_v2 : Ref sig .tc := ⟨.hbm, 399, rfl⟩
abbrev main_call7_v3 : Ref sig .tc := ⟨.hbm, 400, rfl⟩
abbrev main_call7_v4 : Ref sig .tc := ⟨.hbm, 401, rfl⟩
abbrev main_v323 : Ref sig .tc := ⟨.hbm, 402, rfl⟩
abbrev main_v324 : Ref sig .tc := ⟨.hbm, 403, rfl⟩
abbrev main_c_38 : Ref sig .tc := ⟨.hbm, 404, rfl⟩
abbrev main_v325 : Ref sig .tc := ⟨.hbm, 405, rfl⟩
abbrev main_v326 : Ref sig .tc := ⟨.hbm, 406, rfl⟩
abbrev main_v327 : Ref sig .tc := ⟨.hbm, 407, rfl⟩
abbrev main_v328 : Ref sig .tc := ⟨.hbm, 408, rfl⟩
abbrev main_v329 : Ref sig .tc := ⟨.hbm, 409, rfl⟩
abbrev main_cst_39 : Ref sig .tc := ⟨.hbm, 410, rfl⟩
abbrev main_v330 : Ref sig .tc := ⟨.hbm, 411, rfl⟩
abbrev main_v331 : Ref sig .tc := ⟨.hbm, 412, rfl⟩
abbrev main_v332 : Ref sig .tc := ⟨.hbm, 413, rfl⟩
abbrev main_v333 : Ref sig .tc := ⟨.hbm, 414, rfl⟩
abbrev main_v334 : Ref sig .tc := ⟨.hbm, 415, rfl⟩
abbrev main_v335 : Ref sig .tc := ⟨.hbm, 416, rfl⟩
abbrev main_v336 : Ref sig .tc := ⟨.hbm, 417, rfl⟩
abbrev main_v337 : Ref sig .tc := ⟨.hbm, 418, rfl⟩
abbrev main_v338 : Ref sig .tc := ⟨.hbm, 419, rfl⟩
abbrev main_v339 : Ref sig .tc := ⟨.hbm, 420, rfl⟩
abbrev main_v340 : Ref sig .tc := ⟨.hbm, 421, rfl⟩
abbrev main_v341 : Ref sig .tc := ⟨.hbm, 422, rfl⟩
abbrev main_v342 : Ref sig .tc := ⟨.hbm, 423, rfl⟩
abbrev main_v343 : Ref sig .tc := ⟨.hbm, 424, rfl⟩
abbrev main_v344 : Ref sig .tc := ⟨.hbm, 425, rfl⟩
abbrev main_v345 : Ref sig .tc := ⟨.hbm, 426, rfl⟩
abbrev main_v346 : Ref sig .tc := ⟨.hbm, 427, rfl⟩
abbrev main_v347 : Ref sig .tc := ⟨.hbm, 428, rfl⟩
abbrev main_c_40 : Ref sig .tc := ⟨.hbm, 429, rfl⟩
abbrev main_v348 : Ref sig .tc := ⟨.hbm, 430, rfl⟩
abbrev main_v349 : Ref sig .tc := ⟨.hbm, 431, rfl⟩
abbrev main_c_41 : Ref sig .tc := ⟨.hbm, 432, rfl⟩
abbrev main_c_42 : Ref sig .tc := ⟨.hbm, 433, rfl⟩
abbrev main_call8_v0 : Ref sig .tc := ⟨.hbm, 434, rfl⟩
abbrev main_call8_v1 : Ref sig .tc := ⟨.hbm, 435, rfl⟩
abbrev main_call8_v2 : Ref sig .tc := ⟨.hbm, 436, rfl⟩
abbrev main_call8_v3 : Ref sig .tc := ⟨.hbm, 437, rfl⟩
abbrev main_call8_v4 : Ref sig .tc := ⟨.hbm, 438, rfl⟩
abbrev main_v350 : Ref sig .tc := ⟨.hbm, 439, rfl⟩
abbrev main_c_43 : Ref sig .tc := ⟨.hbm, 440, rfl⟩
abbrev main_v351 : Ref sig .tc := ⟨.hbm, 441, rfl⟩
abbrev main_v352 : Ref sig .tc := ⟨.hbm, 442, rfl⟩
abbrev main_c_44 : Ref sig .tc := ⟨.hbm, 443, rfl⟩
abbrev main_v353 : Ref sig .tc := ⟨.hbm, 444, rfl⟩
abbrev main_v354 : Ref sig .tc := ⟨.hbm, 445, rfl⟩
abbrev main_c_45 : Ref sig .tc := ⟨.hbm, 446, rfl⟩
abbrev main_v355 : Ref sig .tc := ⟨.hbm, 447, rfl⟩
abbrev main_v356 : Ref sig .tc := ⟨.hbm, 448, rfl⟩
abbrev main_c_46 : Ref sig .tc := ⟨.hbm, 449, rfl⟩
abbrev main_c_47 : Ref sig .tc := ⟨.hbm, 450, rfl⟩
abbrev main_call9_v0 : Ref sig .tc := ⟨.hbm, 451, rfl⟩
abbrev main_call9_v1 : Ref sig .tc := ⟨.hbm, 452, rfl⟩
abbrev main_call9_v2 : Ref sig .tc := ⟨.hbm, 453, rfl⟩
abbrev main_call9_v3 : Ref sig .tc := ⟨.hbm, 454, rfl⟩
abbrev main_call9_v4 : Ref sig .tc := ⟨.hbm, 455, rfl⟩
abbrev main_v357 : Ref sig .tc := ⟨.hbm, 456, rfl⟩
abbrev main_v358 : Ref sig .tc := ⟨.hbm, 457, rfl⟩
abbrev main_c_48 : Ref sig .tc := ⟨.hbm, 458, rfl⟩
abbrev main_v359 : Ref sig .tc := ⟨.hbm, 459, rfl⟩
abbrev main_v360 : Ref sig .tc := ⟨.hbm, 460, rfl⟩
abbrev main_v361 : Ref sig .tc := ⟨.hbm, 461, rfl⟩
abbrev main_v362 : Ref sig .tc := ⟨.hbm, 462, rfl⟩
abbrev main_v363 : Ref sig .tc := ⟨.hbm, 463, rfl⟩
abbrev main_cst_49 : Ref sig .tc := ⟨.hbm, 464, rfl⟩
abbrev main_v364 : Ref sig .tc := ⟨.hbm, 465, rfl⟩
abbrev main_v365 : Ref sig .tc := ⟨.hbm, 466, rfl⟩
abbrev main_v366 : Ref sig .tc := ⟨.hbm, 467, rfl⟩
abbrev main_v367 : Ref sig .tc := ⟨.hbm, 468, rfl⟩
abbrev main_v368 : Ref sig .tc := ⟨.hbm, 469, rfl⟩
abbrev main_v369 : Ref sig .tc := ⟨.hbm, 470, rfl⟩
abbrev main_v370 : Ref sig .tc := ⟨.hbm, 471, rfl⟩
abbrev main_v371 : Ref sig .tc := ⟨.hbm, 472, rfl⟩
abbrev main_v372 : Ref sig .tc := ⟨.hbm, 473, rfl⟩
abbrev main_v373 : Ref sig .tc := ⟨.hbm, 474, rfl⟩
abbrev main_v374 : Ref sig .tc := ⟨.hbm, 475, rfl⟩
abbrev main_v375 : Ref sig .tc := ⟨.hbm, 476, rfl⟩
abbrev main_v376 : Ref sig .tc := ⟨.hbm, 477, rfl⟩
abbrev main_v377 : Ref sig .tc := ⟨.hbm, 478, rfl⟩
abbrev main_v378 : Ref sig .tc := ⟨.hbm, 479, rfl⟩
abbrev main_v379 : Ref sig .tc := ⟨.hbm, 480, rfl⟩
abbrev main_v380 : Ref sig .tc := ⟨.hbm, 481, rfl⟩
abbrev main_v381 : Ref sig .tc := ⟨.hbm, 482, rfl⟩
abbrev main_v382 : Ref sig .tc := ⟨.hbm, 483, rfl⟩
abbrev main_v383 : Ref sig .tc := ⟨.hbm, 484, rfl⟩
abbrev main_v384 : Ref sig .tc := ⟨.hbm, 485, rfl⟩
abbrev main_v385 : Ref sig .tc := ⟨.hbm, 486, rfl⟩
abbrev main_v386 : Ref sig .tc := ⟨.hbm, 487, rfl⟩
abbrev main_v387 : Ref sig .tc := ⟨.hbm, 488, rfl⟩
abbrev main_v388 : Ref sig .tc := ⟨.hbm, 489, rfl⟩
abbrev main_v389 : Ref sig .tc := ⟨.hbm, 490, rfl⟩
abbrev main_v390 : Ref sig .tc := ⟨.hbm, 491, rfl⟩
abbrev main_v391 : Ref sig .tc := ⟨.hbm, 492, rfl⟩
abbrev main_v392 : Ref sig .tc := ⟨.hbm, 493, rfl⟩
abbrev main_v393 : Ref sig .tc := ⟨.hbm, 494, rfl⟩
abbrev main_v394 : Ref sig .tc := ⟨.hbm, 495, rfl⟩
abbrev main_v395 : Ref sig .tc := ⟨.hbm, 496, rfl⟩
abbrev main_v396 : Ref sig .tc := ⟨.hbm, 497, rfl⟩
abbrev main_v397 : Ref sig .tc := ⟨.hbm, 498, rfl⟩
abbrev main_v398 : Ref sig .tc := ⟨.hbm, 499, rfl⟩
abbrev main_v399 : Ref sig .tc := ⟨.hbm, 500, rfl⟩
abbrev main_v400 : Ref sig .tc := ⟨.hbm, 501, rfl⟩
abbrev main_v401 : Ref sig .tc := ⟨.hbm, 502, rfl⟩
abbrev main_v402 : Ref sig .tc := ⟨.hbm, 503, rfl⟩
abbrev main_v403 : Ref sig .tc := ⟨.hbm, 504, rfl⟩
abbrev main_v404 : Ref sig .tc := ⟨.hbm, 505, rfl⟩
abbrev main_v405 : Ref sig .tc := ⟨.hbm, 506, rfl⟩
abbrev main_v406 : Ref sig .tc := ⟨.hbm, 507, rfl⟩
abbrev main_v407 : Ref sig .tc := ⟨.hbm, 508, rfl⟩
abbrev main_v408 : Ref sig .tc := ⟨.hbm, 509, rfl⟩
abbrev main_v409 : Ref sig .tc := ⟨.hbm, 510, rfl⟩
abbrev main_v410 : Ref sig .tc := ⟨.hbm, 511, rfl⟩

abbrev nD : Nat := 1
abbrev τ : Topo := Topo.v7x

variable {F : FTy → Type} [FloatOps F]
-- ==== Proof.Tile.lean ====
/-
  What the attention kernel stores, block by block: each of the eight tiles of 256 queries is the same function of its
  query block, the context's block of keys and values, and the sixteen blocks of 512 keys and values, folded in order.
-/
module

public import proofs.«01_k».proof.Proof.Gen.KernelIdeal.Value

@[expose] public section

set_option maxRecDepth 16384

noncomputable section

open Idealize.ShloMosaic Idealize.ShloMosaic.TcCoe Idealize.SL.Sem
open Idealize.ShloMosaic.Pipeline (Dat)

namespace Cert.KernelIdeal.Tile

open Cert.KernelIdeal Cert.KernelIdeal.Gen

variable {F : FTy → Type} [FloatOps F]

/-- The accumulators of one tile: the running row of maxima and the running sums (value rows, then rows of ones). -/
abbrev Acc (F : FTy → Type) [FloatOps F] : Type := FVec F S1x512 .f32 × FVec F S144x512 .f32

/-- The accumulators before any block of keys. -/
def start : Acc F := (k0_pay16, k0_pay31)

/-- The accumulators after the context's block of 256 keys and values. -/
def stepC (q : FVec F S128x512 .bf16) (st : Acc F) (k : Vec F S256x128 .bf16) (v : Vec F S144x256 .bf16) : Acc F :=
  (k0_pay33 q st.1 k, k0_pay42 st.2 (k0_pay34 q st.1 k) (k0_pay35 q st.1 k) (k0_pay41 v))

/-- The sums after one block of 512 keys: old sums scaled, plus the values weighted by the block's powers. -/
def sums512 (acc : FVec F S144x512 .f32) (al : FVec F S1x512 .f32) (e : FVec F S512x512 .bf16)
    (v : Vec F S144x512 .bf16) : FVec F S144x512 .f32 :=
  addf (matmul dot_S144x512_S512x512_S144x512_1_0_0_1_n_n none
      (shapeCast S144x512 v shapeCasts_S144x512_S144x512 : FVec F S144x512 .bf16) e
      (constant S144x512 .f32 0x00000000#32 : FVec F S144x512 .f32))
    (mulf acc (broadcastTo S144x512 al broadcasts_S1x512_S144x512))

/-- The accumulators after one more block of 512 keys and values. -/
def stepX (q : FVec F S128x512 .bf16) (st : Acc F) (b : Vec F S512x128 .bf16 × Vec F S144x512 .bf16) : Acc F :=
  (k0_pay68 q st.1 b.1, sums512 st.2 (k0_pay69 q st.1 b.1) (k0_pay70 q st.1 b.1) b.2)

/-- The sixteen blocks of keys and values in the order they are read. -/
def kvs (x3 : Vec F S8192x128 .bf16) (x4 : Vec F S144x8192 .bf16) :
    List (Vec F S512x128 .bf16 × Vec F S144x512 .bf16) :=
  [(View.ld x3 r0_11, View.ld x4 r0_12),
   (View.ld x3 r0_13, View.ld x4 r0_14),
   (View.ld x3 r0_15, View.ld x4 r0_16),
   (View.ld x3 r0_17, View.ld x4 r0_18),
   (View.ld x3 r0_19, View.ld x4 r0_20),
   (View.ld x3 r0_21, View.ld x4 r0_22),
   (View.ld x3 r0_23, View.ld x4 r0_24),
   (View.ld x3 r0_25, View.ld x4 r0_26),
   (View.ld x3 r0_27, View.ld x4 r0_28),
   (View.ld x3 r0_29, View.ld x4 r0_30),
   (View.ld x3 r0_31, View.ld x4 r0_32),
   (View.ld x3 r0_33, View.ld x4 r0_34),
   (View.ld x3 r0_35, View.ld x4 r0_36),
   (View.ld x3 r0_37, View.ld x4 r0_38),
   (View.ld x3 r0_39, View.ld x4 r0_40),
   (View.ld x3 r0_41, View.ld x4 r0_42)]

/-- One tile of the output: its 256 queries' rows, from the query block `qb`. -/
def tile (x1 : Vec F S256x128 .bf16) (x2 : Vec F S144x256 .bf16)
    (x3 : Vec F S8192x128 .bf16) (x4 : Vec F S144x8192 .bf16) (x5 x6 x7 x8 : Vec F S1x64 .f32)
    (x9 : Vec F S128x1 .f32) (qb : Vec F S128x256 .bf16) : FVec F S256x128 .bf16 :=
  k0_pay669 (k0_pay2 (View.ld x5 r0_0) (View.ld x6 r0_0) (View.ld x7 r0_0) (View.ld x8 r0_0))
    ((kvs x3 x4).foldl (stepX (k0_pay3 qb)) (stepC (k0_pay3 qb) start (View.ld x1 r0_9) (View.ld x2 r0_10))).2
    (View.ld x9 r0_43)

theorem piece_cons {Val : EltTy → Type} {s : Shape} {e : EltTy} (r : Rect s) {w w' : r.shape.Idx → Val e}
    {L L' : List (View.Piece Val s e)} (h : w = w') (hL : L = L') :
    (⟨r, w⟩ : View.Piece Val s e) :: L = ⟨r, w'⟩ :: L' := by rw [h, hL]

variable (x0 : Vec F S128x2048 .bf16) (x1 : Vec F S256x128 .bf16) (x2 : Vec F S144x256 .bf16)
  (x3 : Vec F S8192x128 .bf16) (x4 : Vec F S144x8192 .bf16) (x5 x6 x7 x8 : Vec F S1x64 .f32) (x9 : Vec F S128x1 .f32)

/-- What one point stores: eight tiles, each the same function of its own query block. -/
theorem out_eq : out0_10 x0 x1 x2 x3 x4 x5 x6 x7 x8 x9 = View.canon [
      ⟨r0_51, tile x1 x2 x3 x4 x5 x6 x7 x8 x9 (View.ld x0 r0_8)⟩,
      ⟨r0_50, tile x1 x2 x3 x4 x5 x6 x7 x8 x9 (View.ld x0 r0_7)⟩,
      ⟨r0_49, tile x1 x2 x3 x4 x5 x6 x7 x8 x9 (View.ld x0 r0_6)⟩,
      ⟨r0_48, tile x1 x2 x3 x4 x5 x6 x7 x8 x9 (View.ld x0 r0_5)⟩,
      ⟨r0_47, tile x1 x2 x3 x4 x5 x6 x7 x8 x9 (View.ld x0 r0_4)⟩,
      ⟨r0_46, tile x1 x2 x3 x4 x5 x6 x7 x8 x9 (View.ld x0 r0_3)⟩,
      ⟨r0_45, tile x1 x2 x3 x4 x5 x6 x7 x8 x9 (View.ld x0 r0_2)⟩,
      ⟨r0_44, tile x1 x2 x3 x4 x5 x6 x7 x8 x9 (View.ld x0 r0_1)⟩] := by
  rfl

end Cert.KernelIdeal.Tile
-- ==== Proof.Online.lean ====
/-
  The running softmax of one query, over the reals: blocks of keys taken in order, each with its own maximum, leave the
  same quotient as the softmax over all keys at once.
-/
module

public import Idealize.ShloMosaic.Lib.Pointwise

@[expose] public section

noncomputable section

open Idealize.ShloMosaic

namespace Cert.Online

/-- A finite sum of reals is the same sum taken in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of finitely many reals, at least one, is a real. -/
theorem fold_max_real {n : ℕ} (hn : 0 < n) (f : Fin n → EReal) (g : Fin n → ℝ) (hf : ∀ i, f i = g i) :
    ∃ r : ℝ, Finset.univ.fold max (⊥ : EReal) f = r := by
  have hle : Finset.univ.fold max (⊥ : EReal) f ≠ ⊤ := by
    refine ne_of_lt (Finset.fold_max_lt _ |>.mpr ⟨bot_lt_top, fun x _ => ?_⟩)
    rw [hf]; exact EReal.coe_lt_top _
  have hge : Finset.univ.fold max (⊥ : EReal) f ≠ ⊥ := by
    refine ne_of_gt (lt_of_lt_of_le (EReal.bot_lt_coe (g ⟨0, hn⟩)) ?_)
    rw [← hf]
    exact Finset.le_fold_max _ |>.mpr (Or.inr ⟨_, Finset.mem_univ _, le_rfl⟩)
  exact ⟨_, (EReal.coe_toReal hle hge).symm⟩

/-- The larger of a real and an extended real below the top is a real. -/
theorem max_real (a : EReal) (ha : a = ⊥ ∨ ∃ r : ℝ, a = r) (b : ℝ) : ∃ r : ℝ, max a (b : EReal) = r := by
  rcases ha with rfl | ⟨r, rfl⟩
  · exact ⟨b, by simp⟩
  · exact ⟨max r b, (EReal.coe_strictMono.monotone.map_max).symm⟩

/-- The accumulators of one query after its first `n` keys: nothing yet, or the sums weighted by powers of two taken
    relative to some real `μ`, which is the running maximum. -/
def Inv {ι : Type*} (s : ℕ → ℝ) (w : ι → ℕ → ℝ) (n : ℕ) (M : EReal) (A : ι → EReal) : Prop :=
  (n = 0 ∧ M = ⊥ ∧ ∀ i, A i = 0) ∨
    ∃ μ : ℝ, M = μ ∧ ∀ i, A i = ((∑ r ∈ Finset.range n, w i r * (2 : ℝ) ^ (s r - μ) : ℝ) : EReal)

variable {ι : Type*} {s : ℕ → ℝ} {w : ι → ℕ → ℝ}

/-- One more block of `b` keys keeps the accumulators' form. -/
theorem Inv.step {n b : ℕ} (hb : 0 < b) {M : EReal} {A : ι → EReal} (h : Inv s w n M A)
    (sc : Fin b → EReal) (v : ι → Fin b → EReal) (hs : ∀ r, sc r = (s (n + r.val) : EReal))
    (hv : ∀ i r, v i r = (w i (n + r.val) : EReal)) {M' : EReal} {A' : ι → EReal}
    (hM : M' = max M (Finset.univ.fold max ⊥ sc))
    (hA : ∀ i, A' i = (∑ r, v i r * Ideal.exp2 (sc r - M')) + A i * Ideal.exp2 (M - M')) :
    Inv s w (n + b) M' A' := by
  obtain ⟨β, hβ⟩ := fold_max_real hb sc (fun r => s (n + r.val)) hs
  obtain ⟨μ', hμ'⟩ : ∃ r : ℝ, M' = r := by
    rw [hM, hβ]
    exact max_real M (h.imp (fun h => h.2.1) fun ⟨μ, h, _⟩ => ⟨μ, h⟩) β
  have hblock : ∀ i, (∑ r, v i r * Ideal.exp2 (sc r - M'))
      = ((∑ r ∈ Finset.range b, w i (n + r) * (2 : ℝ) ^ (s (n + r) - μ') : ℝ) : EReal) := by
    intro i
    rw [Finset.sum_range, coe_sum]
    refine Finset.sum_congr rfl fun r _ => ?_
    rw [hv, hs, hμ', ← EReal.coe_sub, Ideal.exp2_coe, ← EReal.coe_mul]
    rfl
  refine Or.inr ⟨μ', hμ', fun i => ?_⟩
  rw [hA, hblock, Finset.sum_range_add]
  rcases h with ⟨rfl, rfl, h0⟩ | ⟨μ, rfl, h1⟩
  · rw [h0, zero_mul, add_zero]; simp
  · rw [h1, hμ', ← EReal.coe_sub, Ideal.exp2_coe, ← EReal.coe_mul, ← EReal.coe_add, add_comm]
    congr 2
    rw [Finset.sum_mul]
    refine Finset.sum_congr rfl fun r _ => ?_
    show w i r * (2 : ℝ) ^ (s r - μ) * (2 : ℝ) ^ (μ - μ') = _
    rw [mul_assoc, ← Real.rpow_add two_pos]
    congr 2; ring

/-- Weights by powers of two of scores divided by `log 2`, shifted by any real, are the softmax's weights shifted by any
    other. -/
theorem weight_eq {N : ℕ} (hN : 0 < N) (t : ℕ → ℝ) (μ m : ℝ) (u : ℕ → ℝ) :
    (∑ r ∈ Finset.range N, u r * (2 : ℝ) ^ (t r * (1 / Real.log 2) - μ))
        * (1 / ∑ r ∈ Finset.range N, 1 * (2 : ℝ) ^ (t r * (1 / Real.log 2) - μ))
      = ∑ r ∈ Finset.range N, Real.exp (t r - m) * (1 / ∑ r ∈ Finset.range N, Real.exp (t r - m)) * u r := by
  have hl : Real.log 2 ≠ 0 := (Real.log_pos one_lt_two).ne'
  have e : ∀ r, (2 : ℝ) ^ (t r * (1 / Real.log 2) - μ) = Real.exp (m - Real.log 2 * μ) * Real.exp (t r - m) := by
    intro r
    rw [Real.rpow_def_of_pos two_pos, ← Real.exp_add]
    congr 1
    field_simp
    ring
  have hpos : 0 < ∑ r ∈ Finset.range N, Real.exp (t r - m) :=
    Finset.sum_pos (fun r _ => Real.exp_pos _) ⟨0, Finset.mem_range.mpr hN⟩
  have hc : Real.exp (m - Real.log 2 * μ) ≠ 0 := (Real.exp_pos _).ne'
  simp only [e, one_mul]
  rw [← Finset.mul_sum]
  have : (∑ r ∈ Finset.range N, u r * (Real.exp (m - Real.log 2 * μ) * Real.exp (t r - m)))
      = Real.exp (m - Real.log 2 * μ) * ∑ r ∈ Finset.range N, Real.exp (t r - m) * u r := by
    rw [Finset.mul_sum]; exact Finset.sum_congr rfl fun r _ => by ring
  rw [this]
  have : (∑ r ∈ Finset.range N, Real.exp (t r - m) * (1 / ∑ r ∈ Finset.range N, Real.exp (t r - m)) * u r)
      = (∑ r ∈ Finset.range N, Real.exp (t r - m) * u r) * (1 / ∑ r ∈ Finset.range N, Real.exp (t r - m)) := by
    rw [Finset.sum_mul]; exact Finset.sum_congr rfl fun r _ => by ring
  rw [this]
  field_simp

end Cert.Online
-- ==== Proof.Read.lean ====
/-
  One tile's arithmetic read element by element on the extended reals: the running softmax of each query, block by
  block, and what the tile ends with.
-/
module

public import proofs.«01_k».proof.Proof.Tile
public import proofs.«01_k».proof.Proof.Online

@[expose] public section

set_option maxRecDepth 16384

noncomputable section

open Idealize.ShloMosaic Idealize.ShloMosaic.TcCoe Idealize.SL.Sem
open Idealize.ShloMosaic.Pipeline (Dat)

namespace Cert.KernelIdeal.Tile

open Cert.KernelIdeal Cert.KernelIdeal.Gen Cert.Online

theorem ninf_bf16 : Ideal.ofBits .bf16 0xFF80#16 = ⊥ := by simp [Ideal.ofBits, Ideal.ieee]
theorem ninf_f32 : Ideal.ofBits .f32 0xFF800000#32 = ⊥ := by simp [Ideal.ofBits, Ideal.ieee]

/-- The masked queries: the first 256 columns keep the first map's 64 rows, the last 256 the second map's. -/
def maskq (f : Fin 128 → Fin 256 → ℝ) (d : Fin 128) (l : Fin 512) : ℝ :=
  if h : l.val < 256 then (if d.val < 64 then f d ⟨l.val, h⟩ else 0)
  else (if d.val < 64 then 0 else f d ⟨l.val - 256, by omega⟩)

theorem lt64 : ∀ d : Fin 128, IntOp.cmpi CmpIPredicate.slt (BitVec.ofNat 32 d.val) 64#32 = if d.val < 64 then 1#1 else 0#1 := by
  decide +kernel
theorem ge64 : ∀ d : Fin 128, IntOp.cmpi CmpIPredicate.sge (BitVec.ofNat 32 d.val) 64#32 = if d.val < 64 then 0#1 else 1#1 := by
  decide +kernel

/-- The kernel's masked queries are the real ones. -/
theorem masked_read (f : Fin 128 → Fin 256 → ℝ) (qb : Vec Ideal S128x256 .bf16)
    (hq : ∀ d j, qb (ix2 d j) = (f d j : EReal)) (d : Fin 128) (l : Fin 512) :
    k0_pay3 (F := Ideal) qb (ix2 d l) = (maskq f d l : EReal) := by
  pointwise [k0_pay3]
  rw [lt64, ge64]
  unfold maskq
  by_cases h : l.val < 256 <;> by_cases h' : d.val < 64 <;> simp [h, h', Scalar.select, hq]

/-- The score of key `n` against the masked query of column `l`. -/
def score (f : Fin 128 → Fin 256 → ℝ) (K : ℕ → Fin 128 → ℝ) (l : Fin 512) (n : ℕ) : ℝ :=
  ∑ d : Fin 128, K n d * maskq f d l

section steps

variable (f : Fin 128 → Fin 256 → ℝ) (K : ℕ → Fin 128 → ℝ) (W : Fin 144 → ℕ → ℝ)
  (q : FVec Ideal S128x512 .bf16) (hq : ∀ d l, q (ix2 d l) = (maskq f d l : EReal))

/-- The state of column `l` after its first `n` keys. -/
def Col (n : ℕ) (l : Fin 512) (st : Acc Ideal) : Prop :=
  Inv (score f K l) W n (st.1 (ix2 0 l)) (fun i : Fin 144 => st.2 (ix2 i l))

include hq

/-- The context's block of 256 keys. -/
theorem stepC_col (st : Acc Ideal) (k : Vec Ideal S256x128 .bf16) (v : Vec Ideal S144x256 .bf16) (n : ℕ)
    (hk : ∀ (r : Fin 256) (d : Fin 128), k (ix2 r d) = (K (n + r.val) d : EReal))
    (hv : ∀ (i : Fin 144) (r : Fin 256), v (ix2 i r) = (W i (n + r.val) : EReal)) (l : Fin 512)
    (h : Col f K W n l st) : Col f K W (n + 256) l (stepC q st k v) := by
  refine Inv.step (by norm_num) h (fun r : Fin 256 => k0_pay32 (F := Ideal) q k (ix2 r l))
    (fun i r => v (ix2 i r)) (fun r => ?_) hv ?_ (fun i => ?_)
  · pointwise [k0_pay32]
    rw [score, coe_sum]
    exact Finset.sum_congr rfl fun d _ => by rw [hk, hq, EReal.coe_mul]
  · show k0_pay33 (F := Ideal) q st.1 k (ix2 0 l) = _
    pointwise [k0_pay33]
    rw [ninf_bf16]
  · show k0_pay42 (F := Ideal) st.2 (k0_pay34 q st.1 k) (k0_pay35 q st.1 k) (k0_pay41 v) (ix2 i l) = _
    pointwise [k0_pay42, k0_pay34, k0_pay35, k0_pay41]
    rfl

/-- A block of 512 keys. -/
theorem stepX_col (st : Acc Ideal) (b : Vec Ideal S512x128 .bf16 × Vec Ideal S144x512 .bf16) (n : ℕ)
    (hk : ∀ (r : Fin 512) (d : Fin 128), b.1 (ix2 r d) = (K (n + r.val) d : EReal))
    (hv : ∀ (i : Fin 144) (r : Fin 512), b.2 (ix2 i r) = (W i (n + r.val) : EReal)) (l : Fin 512)
    (h : Col f K W n l st) : Col f K W (n + 512) l (stepX q st b) := by
  refine Inv.step (by norm_num) h (fun r : Fin 512 => k0_pay66 (F := Ideal) q b.1 (ix2 r l))
    (fun i r => b.2 (ix2 i r)) (fun r => ?_) hv ?_ (fun i => ?_)
  · pointwise [k0_pay66]
    rw [score, coe_sum]
    exact Finset.sum_congr rfl fun d _ => by rw [hk, hq, EReal.coe_mul]
  · show k0_pay68 (F := Ideal) q st.1 b.1 (ix2 0 l) = _
    pointwise [k0_pay68]
    rw [ninf_bf16]
  · show sums512 (F := Ideal) st.2 (k0_pay69 q st.1 b.1) (k0_pay70 q st.1 b.1) b.2 (ix2 i l) = _
    pointwise [sums512, k0_pay69, k0_pay70]
    rfl

/-- Any number of blocks of 512 keys. -/
theorem fold_col (L : List (Vec Ideal S512x128 .bf16 × Vec Ideal S144x512 .bf16)) (l : Fin 512) :
    ∀ (n : ℕ) (st : Acc Ideal),
      (∀ (c : ℕ) (hc : c < L.length) (r : Fin 512) (d : Fin 128), L[c].1 (ix2 r d) = (K (n + 512 * c + r.val) d : EReal)) →
      (∀ (c : ℕ) (hc : c < L.length) (i : Fin 144) (r : Fin 512), L[c].2 (ix2 i r) = (W i (n + 512 * c + r.val) : EReal)) →
      Col f K W n l st → Col f K W (n + 512 * L.length) l (L.foldl (stepX q) st) := by
  induction L with
  | nil => intro n st _ _ h; exact h
  | cons b L ih =>
    intro n st hk hv h
    have := ih (n + 512) (stepX q st b)
      (fun c hc r d => by
        have := hk (c + 1) (by simpa using hc) r d
        rw [show n + 512 * (c + 1) = n + 512 + 512 * c by ring] at this; simpa using this)
      (fun c hc i r => by
        have := hv (c + 1) (by simpa using hc) i r
        rw [show n + 512 * (c + 1) = n + 512 + 512 * c by ring] at this; simpa using this)
      (stepX_col f K W q hq st b n (fun r d => hk 0 (Nat.succ_pos _) r d)
        (fun i r => hv 0 (Nat.succ_pos _) i r) l h)
    rw [List.length_cons, show n + 512 * (L.length + 1) = n + 512 + 512 * L.length by ring]
    exact this

end steps

/-- 512 rows from row `o` of the keys, read at an element. -/
theorem ld_keys (x3 : Vec Ideal S8192x128 .bf16) (o : ℕ) (hb) (r : Fin 512) (d : Fin 128) (h : o + r.val < 8192) :
    View.ld x3 (Rect.unit (s := S8192x128) ![o, 0] S512x128.size hb) (ix2 r d) = x3 (ix2 ⟨o + r.val, h⟩ d) := by
  pointwise []

/-- 512 columns from column `o` of the values, read at an element. -/
theorem ld_vals (x4 : Vec Ideal S144x8192 .bf16) (o : ℕ) (hb) (i : Fin 144) (r : Fin 512) (h : o + r.val < 8192) :
    View.ld x4 (Rect.unit (s := S144x8192) ![0, o] S144x512.size hb) (ix2 i r) = x4 (ix2 i ⟨o + r.val, h⟩) := by
  pointwise []

/-- The sixteen blocks read at an element: rows `512 c + r` of the keys. -/
theorem kvs_keys (x3 : Vec Ideal S8192x128 .bf16) (x4 : Vec Ideal S144x8192 .bf16) (c : ℕ) (hc : c < (kvs x3 x4).length)
    (r : Fin 512) (d : Fin 128) (h : 512 * c + r.val < 8192) :
    (kvs x3 x4)[c].1 (ix2 r d) = x3 (ix2 ⟨512 * c + r.val, h⟩ d) := by
  have hc' : c < 16 := hc
  interval_cases c <;> exact ld_keys x3 _ _ r d h

/-- The sixteen blocks read at an element: columns `512 c + r` of the values. -/
theorem kvs_vals (x3 : Vec Ideal S8192x128 .bf16) (x4 : Vec Ideal S144x8192 .bf16) (c : ℕ) (hc : c < (kvs x3 x4).length)
    (i : Fin 144) (r : Fin 512) (h : 512 * c + r.val < 8192) :
    (kvs x3 x4)[c].2 (ix2 i r) = x4 (ix2 i ⟨512 * c + r.val, h⟩) := by
  have hc' : c < 16 := hc
  interval_cases c <;> exact ld_vals x4 _ _ i r h

end Cert.KernelIdeal.Tile
-- ==== Proof.Finish.lean ====
/-
  What a tile ends with: the difference of the two softmaxes' sums of the values, normalised over its 128 columns.
-/
module

public import proofs.«01_k».proof.Proof.Read

@[expose] public section

set_option maxRecDepth 16384

noncomputable section

open Idealize.ShloMosaic Idealize.ShloMosaic.TcCoe Idealize.SL.Sem
open Idealize.ShloMosaic.Pipeline (Dat)

namespace Cert.Online

/-- The softmax's weight of key `n` among the first `N`, its scores shifted by `μ`. -/
def prob (N : ℕ) (T : ℕ → ℝ) (μ : ℝ) (n : ℕ) : ℝ :=
  Real.exp (T n - μ) * (1 / ∑ r ∈ Finset.range N, Real.exp (T r - μ))

/-- The two maps' difference: the first softmax's sum of the values less `lam` times the second's. -/
def attn (N : ℕ) (T0 T1 : ℕ → ℝ) (μ0 μ1 lam : ℝ) (u : ℕ → ℝ) : ℝ :=
  (∑ n ∈ Finset.range N, prob N T0 μ0 n * u n) - lam * ∑ n ∈ Finset.range N, prob N T1 μ1 n * u n

/-- One column's sums over its ones row's sum: the softmax's sum of the values. -/
theorem Inv.quot {ι : Type*} {s : ℕ → ℝ} {w : ι → ℕ → ℝ} {N : ℕ} (hN : 0 < N) {M : EReal} {A : ι → EReal}
    (h : Inv s w N M A) (T : ℕ → ℝ) (hT : ∀ n, s n = T n * (1 / Real.log 2)) (i1 : ι) (h1 : ∀ n, w i1 n = 1)
    (μ : ℝ) (i : ι) :
    A i * Ideal.div 1 (A i1) = ((∑ n ∈ Finset.range N, prob N T μ n * w i n : ℝ) : EReal) := by
  rcases h with ⟨h0, _⟩ | ⟨μ', _, h⟩
  · omega
  · rw [h, h, Ideal.div_coe, one_mul, ← EReal.coe_mul]
    · congr 1
      simp only [hT, h1]
      exact weight_eq hN T μ' μ (w i)
    · refine (Finset.sum_pos (fun r _ => ?_) ⟨0, Finset.mem_range.mpr hN⟩).ne'
      rw [h1, one_mul]
      exact Real.rpow_pos_of_pos two_pos _

/-- The normalisation over a row of 128: each element over the root of the mean square, times the gain and a constant. -/
def normed (o : Fin 128 → EReal) (g : EReal) (i : Fin 128) : EReal :=
  o i * Ideal.rsqrt (Ideal.div (∑ x, o x * o x) (Ideal.ofBits .f32 0x43000000#32) + Ideal.ofBits .f32 0x358637BD#32)
    * g * Ideal.ofBits .f32 0x3F4CCCCD#32

end Cert.Online

namespace Cert.KernelIdeal.Tile

open Cert.KernelIdeal Cert.KernelIdeal.Gen Cert.Online

/-- Before any key: no maximum, no sums. -/
theorem start_col (f : Fin 128 → Fin 256 → ℝ) (K : ℕ → Fin 128 → ℝ) (W : Fin 144 → ℕ → ℝ) (l : Fin 512) :
    Col f K W 0 l start := by
  refine Or.inl ⟨rfl, ?_, fun i => ?_⟩
  · show k0_pay16 (F := Ideal) (ix2 0 l) = _
    pointwise [k0_pay16]
    rw [ninf_f32]
  · show k0_pay31 (F := Ideal) (ix2 i l) = _
    pointwise [k0_pay31]

/-- `lam` as the kernel computes it. -/
theorem lam_read (a b c d : Vec Ideal S1x64 .f32) :
    k0_pay2 (F := Ideal) (View.ld a r0_0) (View.ld b r0_0) (View.ld c r0_0) (View.ld d r0_0) (ix2 0 0)
      = Ideal.exp (∑ x : Fin 64, a (ix2 0 x) * b (ix2 0 x)) - Ideal.exp (∑ x : Fin 64, c (ix2 0 x) * d (ix2 0 x))
        + Ideal.ofBits .f32 0x3E4CCCCD#32 := by
  pointwise [k0_pay2]

section tile

variable (f : Fin 128 → Fin 256 → ℝ) (K : ℕ → Fin 128 → ℝ) (W : Fin 144 → ℕ → ℝ)
  (x1 : Vec Ideal S256x128 .bf16) (x2 : Vec Ideal S144x256 .bf16)
  (x3 : Vec Ideal S8192x128 .bf16) (x4 : Vec Ideal S144x8192 .bf16) (x5 x6 x7 x8 : Vec Ideal S1x64 .f32)
  (x9 : Vec Ideal S128x1 .f32) (qb : Vec Ideal S128x256 .bf16)

variable (hq : ∀ d j, qb (ix2 d j) = (f d j : EReal))
  (h1 : ∀ (r : Fin 256) (d : Fin 128), x1 (ix2 r d) = (K r.val d : EReal))
  (h2 : ∀ (i : Fin 144) (r : Fin 256), x2 (ix2 i r) = (W i r.val : EReal))
  (h3 : ∀ (r : Fin 8192) (d : Fin 128), x3 (ix2 r d) = (K (256 + r.val) d : EReal))
  (h4 : ∀ (i : Fin 144) (r : Fin 8192), x4 (ix2 i r) = (W i (256 + r.val) : EReal))

include hq h1 h2 h3 h4

/-- Every column after all 8448 keys. -/
theorem all_col (l : Fin 512) : Col f K W 8448 l
    ((kvs x3 x4).foldl (stepX (k0_pay3 qb)) (stepC (k0_pay3 qb) start (View.ld x1 r0_9) (View.ld x2 r0_10))) := by
  have hm := masked_read f qb hq
  refine fold_col f K W (k0_pay3 qb) hm (kvs x3 x4) l 256 _ (fun c hc r d => ?_) (fun c hc i r => ?_) ?_
  · have hc' : c < 16 := hc
    have hr := r.isLt
    rw [kvs_keys x3 x4 c hc r d (by omega), h3, ← add_assoc]
  · have hc' : c < 16 := hc
    have hr := r.isLt
    rw [kvs_vals x3 x4 c hc i r (by omega), h4, ← add_assoc]
  · have := stepC_col f K W (k0_pay3 qb) hm start (View.ld x1 r0_9) (View.ld x2 r0_10) 0 (fun r d => ?_) (fun i r => ?_) l
      (start_col f K W l)
    · simpa using this
    · rw [zero_add, ← h1]
      pointwise []
    · rw [zero_add, ← h2]
      pointwise []

/-- The tile's element of query `j`, column `i`. -/
theorem tile_read (T : Fin 512 → ℕ → ℝ) (hT : ∀ l n, score f K l n = T l n * (1 / Real.log 2))
    (hW : ∀ n, W 128 n = 1) (μ : Fin 512 → ℝ) (lam : ℝ)
    (hlam : k0_pay2 (F := Ideal) (View.ld x5 r0_0) (View.ld x6 r0_0) (View.ld x7 r0_0) (View.ld x8 r0_0) (ix2 0 0)
      = (lam : EReal)) (j : Fin 256) (i : Fin 128) :
    tile x1 x2 x3 x4 x5 x6 x7 x8 x9 qb (ix2 j i)
      = normed (fun x => (attn 8448 (T ⟨j.val, by omega⟩) (T ⟨256 + j.val, by omega⟩) (μ ⟨j.val, by omega⟩)
          (μ ⟨256 + j.val, by omega⟩) lam (W ⟨x.val, by omega⟩) : EReal)) (x9 (ix2 i 0)) i := by
  have hall := all_col f K W x1 x2 x3 x4 qb hq h1 h2 h3 h4
  unfold tile
  generalize (kvs x3 x4).foldl (stepX (k0_pay3 qb)) (stepC (k0_pay3 qb) start (View.ld x1 r0_9) (View.ld x2 r0_10)) = st at hall ⊢
  have hquot : ∀ (l : Fin 512) (x : Fin 144), st.2 (ix2 x l) * Ideal.div 1 (st.2 (ix2 128 l))
      = ((∑ n ∈ Finset.range 8448, prob 8448 (T l) (μ l) n * W x n : ℝ) : EReal) :=
    fun l x => (hall l).quot (by norm_num) (T l) (hT l) 128 hW (μ l) x
  generalize st.2 = acc at hquot ⊢
  have e : ∀ x : Fin 128, acc (ix2 ⟨x.val, by omega⟩ ⟨j.val, by omega⟩) * Ideal.div 1 (acc (ix2 128 ⟨j.val, by omega⟩))
        - k0_pay2 (F := Ideal) (View.ld x5 r0_0) (View.ld x6 r0_0) (View.ld x7 r0_0) (View.ld x8 r0_0) (ix2 0 0)
          * (acc (ix2 ⟨x.val, by omega⟩ ⟨256 + j.val, by omega⟩) * Ideal.div 1 (acc (ix2 128 ⟨256 + j.val, by omega⟩)))
      = (attn 8448 (T ⟨j.val, by omega⟩) (T ⟨256 + j.val, by omega⟩) (μ ⟨j.val, by omega⟩)
          (μ ⟨256 + j.val, by omega⟩) lam (W ⟨x.val, by omega⟩) : EReal) := by
    intro x
    rw [hquot, hquot, hlam, ← EReal.coe_mul, ← EReal.coe_sub]
    rfl
  generalize k0_pay2 (F := Ideal) (View.ld x5 r0_0) (View.ld x6 r0_0) (View.ld x7 r0_0) (View.ld x8 r0_0) = lv at e ⊢
  pointwise [k0_pay669]
  simp only [e]
  rfl

end tile

end Cert.KernelIdeal.Tile
-- ==== Proof.Ref.lean ====
/-
  The reference attention, in named steps, and each step read element by element.
-/
module

public import proofs.«01_k».proof.Proof.Gen.ReferenceIdeal.Run
public import proofs.«01_k».proof.Proof.Finish

@[expose] public section

set_option maxRecDepth 16384

noncomputable section

open Idealize.ShloMosaic Idealize.ShloMosaic.TcCoe Idealize.SL.Sem

namespace Cert.ReferenceIdeal.Steps

open Cert.ReferenceIdeal Cert.ReferenceIdeal.Gen Cert.Online

section defs
variable {F : FTy → Type} [FloatOps F]

/-- `lam`. -/
def lamR (a b c d : FVec F S64 .f32) : FVec F S_ .f32 :=
  addf (subf (Host.exp (Host.reduceAdd (mulf a b) (constant S_ .f32 0x00000000#32) reducesTo_S64_S_d0 h_S_))
    (Host.exp (Host.reduceAdd (mulf c d) (constant S_ .f32 0x00000000#32) reducesTo_S64_S_d0 h_S_))) (constant S_ .f32 0x3E4CCCCD#32)

/-- The context's rows, then the sequence's. -/
def joinR (a : FVec F S2x256x512 .f32) (b : FVec F S2x8192x512 .f32) : FVec F S2x8448x512 .f32 :=
  concatenate S2x8448x512 1 [⟨S2x256x512, a⟩, ⟨S2x8192x512, b⟩] concatenates_S2x256x512_S2x8192x512_S2x8448x512_d1

/-- The scores of both maps. -/
def scoreR (q : FVec F S2x8192x512 .f32) (ks : FVec F S2x8448x512 .f32) : FVec F S2x4x2x8192x8448 .f32 :=
  Host.dotGeneral dot_S2x8192x4x2x64_S2x8448x4x2x64_S2x4x2x8192x8448_4_4_1_1_023_023 none
    (shapeCast S2x8192x4x2x64 (mulf q (broadcastInDim S2x8192x512 ![] bcast_S_S2x8192x512 (constant S_ .f32 0x3E000000#32)) : FVec F S2x8192x512 .f32) shapeCasts_S2x8192x512_S2x8192x4x2x64 : FVec F S2x8192x4x2x64 .f32)
    (shapeCast S2x8448x4x2x64 ks shapeCasts_S2x8448x512_S2x8448x4x2x64 : FVec F S2x8448x4x2x64 .f32)

/-- Each query's largest score. -/
def maxR (s : FVec F S2x4x2x8192x8448 .f32) : FVec F S2x4x2x8192 .f32 :=
  maximumf (broadcastInDim S2x4x2x8192 ![] bcast_S_S2x4x2x8192 (constant S_ .f32 0xFF800000#32))
    (Host.reduce FloatOps.maximumf s (constant S_ .f32 0xFF800000#32) reducesTo_S2x4x2x8192x8448_S2x4x2x8192_d4 h_S_)

/-- A number per query, repeated over the keys. -/
def overR (x : FVec F S2x4x2x8192 .f32) : FVec F S2x4x2x8192x8448 .f32 :=
  broadcastInDim S2x4x2x8192x8448 ![0, 1, 2, 3, 4] bcast_S2x4x2x8192x1_S2x4x2x8192x8448_0_1_2_3_4
    (broadcastInDim S2x4x2x8192x1 ![0, 1, 2, 3] bcast_S2x4x2x8192_S2x4x2x8192x1_0_1_2_3 x)

/-- The exponentials, and their sums. -/
def expR (s : FVec F S2x4x2x8192x8448 .f32) (mx : FVec F S2x4x2x8192 .f32) : FVec F S2x4x2x8192x8448 .f32 :=
  Host.exp (subf s (overR mx))
def sumR (e : FVec F S2x4x2x8192x8448 .f32) : FVec F S2x4x2x8192 .f32 :=
  Host.reduceAdd e (constant S_ .f32 0x00000000#32) reducesTo_S2x4x2x8192x8448_S2x4x2x8192_d4 h_S_

/-- The first map's weights less `lam` times the second's. -/
def diffR (e : FVec F S2x4x2x8192x8448 .f32) (z : FVec F S2x4x2x8192 .f32) (l : FVec F S_ .f32) : FVec F S2x4x8192x8448 .f32 :=
  subf (shapeCast S2x4x8192x8448 (extractStridedSlice S2x4x1x8192x8448 ![0, 0, 0, 0, 0] (Host.divf e (overR z)) slices_S2x4x2x8192x8448_S2x4x1x8192x8448_0_0_0_0_0 : FVec F S2x4x1x8192x8448 .f32) shapeCasts_S2x4x1x8192x8448_S2x4x8192x8448)
    (mulf (broadcastInDim S2x4x8192x8448 ![] bcast_S_S2x4x8192x8448 l)
      (shapeCast S2x4x8192x8448 (extractStridedSlice S2x4x1x8192x8448 ![0, 0, 1, 0, 0] (Host.divf e (overR z)) slices_S2x4x2x8192x8448_S2x4x1x8192x8448_0_0_1_0_0 : FVec F S2x4x1x8192x8448 .f32) shapeCasts_S2x4x1x8192x8448_S2x4x8192x8448))

/-- The weighted values. -/
def mixR (vs : FVec F S2x8448x512 .f32) (w : FVec F S2x4x8192x8448 .f32) : FVec F S2x8192x4x128 .f32 :=
  transpose S2x8192x4x128 [0, 3, 1, 2] (Host.dotGeneral dot_S2x8448x4x128_S2x4x8192x8448_S2x4x128x8192_1_3_3_2_02_01 none
    (shapeCast S2x8448x4x128 vs shapeCasts_S2x8448x512_S2x8448x4x128 : FVec F S2x8448x4x128 .f32) w : FVec F S2x4x128x8192 .f32) transposes_S2x4x128x8192_S2x8192x4x128_0_3_1_2

/-- The normalisation of each head's row. -/
def normR (o : FVec F S2x8192x4x128 .f32) (g : FVec F S128 .f32) : FVec F S16384x512 .bf16 :=
  truncf .bf16 (shapeCast S16384x512 (mulf (mulf (mulf o (broadcastInDim S2x8192x4x128 ![0, 1, 2, 3] bcast_S2x8192x4x1_S2x8192x4x128_0_1_2_3
      (Host.rsqrt (addf (Host.divf (broadcastInDim S2x8192x4x1 ![0, 1, 2] bcast_S2x8192x4_S2x8192x4x1_0_1_2
          (Host.reduceAdd (mulf o o) (constant S_ .f32 0x00000000#32) reducesTo_S2x8192x4x128_S2x8192x4_d3 h_S_))
        (broadcastInDim S2x8192x4x1 ![] bcast_S_S2x8192x4x1 (constant S_ .f32 0x43000000#32)))
        (broadcastInDim S2x8192x4x1 ![] bcast_S_S2x8192x4x1 (constant S_ .f32 0x358637BD#32))))))
      (broadcastInDim S2x8192x4x128 ![0, 1, 2, 3] bcast_S1x1x1x128_S2x8192x4x128_0_1_2_3 (broadcastInDim S1x1x1x128 ![3] bcast_S128_S1x1x1x128_3 g)))
      (broadcastInDim S2x8192x4x128 ![] bcast_S_S2x8192x4x128 (constant S_ .f32 0x3F4CCCCD#32)) : FVec F S2x8192x4x128 .f32) shapeCasts_S2x8192x4x128_S16384x512 : FVec F S16384x512 .f32) bitsLt_bf16_f32

/-- The whole reference in those steps. -/
def attnR (q : FVec F S2x8192x512 .f32) (kc vc : FVec F S2x256x512 .f32) (k v : FVec F S2x8192x512 .f32)
    (a b c d : FVec F S64 .f32) (g : FVec F S128 .f32) : FVec F S16384x512 .bf16 :=
  normR (mixR (joinR vc v) (diffR (expR (scoreR q (joinR kc k)) (maxR (scoreR q (joinR kc k))))
    (sumR (expR (scoreR q (joinR kc k)) (maxR (scoreR q (joinR kc k))))) (lamR a b c d))) g

theorem res_eq (m : (ℓ : Loc nD τ sig) → Buf (Elt F) ℓ) (c : Dev nD) :
    Value.res_main_v52 m c = attnR (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) := rfl
end defs

theorem lamR_read (a b c d : FVec Ideal S64 .f32) : lamR (F := Ideal) a b c d ix0 =
    Ideal.exp (∑ x : Fin 64, a (ix1 x) * b (ix1 x)) - Ideal.exp (∑ x : Fin 64, c (ix1 x) * d (ix1 x)) + Ideal.ofBits .f32 0x3E4CCCCD#32 := by
  pointwise [lamR]

theorem joinR_read (x : FVec Ideal S2x256x512 .f32) (y : FVec Ideal S2x8192x512 .f32) (b : Fin 2) (n : Fin 8448) (a : Fin 512) :
    joinR (F := Ideal) x y (ix3 b n a)
      = if h : (n : ℕ) < 256 then x (ix3 b ⟨n, h⟩ a) else y (ix3 b ⟨n - 256, by omega⟩ a) := by
  pointwise [joinR]

theorem scoreR_read (q : FVec Ideal S2x8192x512 .f32) (ks : FVec Ideal S2x8448x512 .f32) (b : Fin 2) (h : Fin 4) (p : Fin 2) (r : Fin 8192) (n : Fin 8448) :
    scoreR (F := Ideal) q ks (ix5 b h p r n) = ∑ x : Fin 64,
      q (ix3 b r ⟨h * 128 + p * 64 + x, by omega⟩) * Ideal.ofBits .f32 0x3E000000#32 * ks (ix3 b n ⟨h * 128 + p * 64 + x, by omega⟩) := by
  pointwise [scoreR]

/-- A maximum over the last axis of a rank-5 array, at any sizes. -/
theorem max_last {n0 n1 n2 n3 n4 : ℕ} {u : Shape} (h : (⟨5, ![n0, n1, n2, n3, n4]⟩ : Shape).ReducesTo [4] ⟨4, ![n0, n1, n2, n3]⟩)
    (hu : 0 < u.numel) (x : FVec Ideal ⟨5, ![n0, n1, n2, n3, n4]⟩ .f32) (e : FVec Ideal u .f32) (b : Fin n0) (c : Fin n1) (p : Fin n2) (r : Fin n3) :
    Host.reduce (FloatOps.maximumf (F := Ideal)) x e h hu (ix4 b c p r)
      = Finset.univ.fold max (e (Shape.Idx.first hu)) (fun n : Fin n4 => x (ix5 b c p r n)) := by
  rw [Host.reduce_eq_fold, Shape.ReducesTo.fold_fiber_r5_a4]
  rfl
theorem maxR_read (s : FVec Ideal S2x4x2x8192x8448 .f32) (b : Fin 2) (h : Fin 4) (p : Fin 2) (r : Fin 8192) :
    maxR (F := Ideal) s (ix4 b h p r) = Finset.univ.fold max (⊥ : EReal) (fun n : Fin 8448 => s (ix5 b h p r n)) := by
  have e : Ideal.ofBits .f32 0xFF800000#32 = ⊥ := by simp [Ideal.ofBits, Ideal.ieee]
  have := max_last reducesTo_S2x4x2x8192x8448_S2x4x2x8192_d4 h_S_ s (constant S_ .f32 0xFF800000#32) b h p r
  unfold maxR
  rw [maximumf, this]
  pointwise []
  rw [e, max_eq_right bot_le]

theorem expR_read (s : FVec Ideal S2x4x2x8192x8448 .f32) (mx) (b : Fin 2) (h : Fin 4) (p : Fin 2) (r : Fin 8192) (n : Fin 8448) :
    expR (F := Ideal) s mx (ix5 b h p r n) = Ideal.exp (s (ix5 b h p r n) - mx (ix4 b h p r)) := by
  pointwise [expR, overR]

theorem sumR_read (s : FVec Ideal S2x4x2x8192x8448 .f32) (b : Fin 2) (h : Fin 4) (p : Fin 2) (r : Fin 8192) :
    sumR (F := Ideal) s (ix4 b h p r) = ∑ x : Fin 8448, s (ix5 b h p r x) := by
  pointwise [sumR]

theorem diffR_read (e : FVec Ideal S2x4x2x8192x8448 .f32) (z l) (b : Fin 2) (h : Fin 4) (r : Fin 8192) (n : Fin 8448) :
    diffR (F := Ideal) e z l (ix4 b h r n)
      = Ideal.div (e (ix5 b h 0 r n)) (z (ix4 b h 0 r)) - l ix0 * Ideal.div (e (ix5 b h 1 r n)) (z (ix4 b h 1 r)) := by
  pointwise [diffR, overR]

theorem mixR_read (vs) (w) (b : Fin 2) (h : Fin 4) (r : Fin 8192) (i : Fin 128) :
    mixR (F := Ideal) vs w (ix4 b r h i) = ∑ x : Fin 8448, vs (ix3 b x ⟨h * 128 + i, by omega⟩) * w (ix4 b h r x) := by
  pointwise [mixR]

theorem normR_read (o) (g) (r : Fin 16384) (a : Fin 512) :
    normR (F := Ideal) o g (ix2 r a) = normed (fun x => o (ix4 ⟨r / 8192, by omega⟩ ⟨r % 8192, by omega⟩ ⟨a / 128, by omega⟩ x))
      (g (ix1 ⟨a % 128, by omega⟩)) ⟨a % 128, by omega⟩ := by
  unfold normed
  pointwise [normR]

/-- A real array. -/
def Real1 {s : Shape} {φ : FTy} (x : FVec Ideal s φ) : Prop := ∀ i, x i = ((x i).toReal : EReal)

/-- The joined rows' elements as real numbers, over all row numbers. -/
def row (x : FVec Ideal S2x256x512 .f32) (y : FVec Ideal S2x8192x512 .f32) (b : Fin 2) (n : ℕ) (a : Fin 512) : ℝ :=
  if h : n < 256 then (x (ix3 b ⟨n, h⟩ a)).toReal else if h' : n < 8448 then (y (ix3 b ⟨n - 256, by omega⟩ a)).toReal else 0

theorem joinR_row {x : FVec Ideal S2x256x512 .f32} {y : FVec Ideal S2x8192x512 .f32} (hx : Real1 x) (hy : Real1 y) (b : Fin 2)
    (n : Fin 8448) (a : Fin 512) : joinR (F := Ideal) x y (ix3 b n a) = (row x y b n a : EReal) := by
  rw [joinR_read, row]
  by_cases h : (n : ℕ) < 256
  · rw [dif_pos h, dif_pos h]; exact hx _
  · rw [dif_neg h, dif_neg h, dif_pos n.2]; exact hy _

theorem eighth : Ideal.ofBits .f32 0x3E000000#32 = ((0.125 : ℝ) : EReal) := by
  simp [Ideal.ofBits, Ideal.ieee]; rw [← EReal.coe_mul]; norm_num

/-- The score of query `r` and key `n` in map `p` of head `h`. -/
def logit (q : FVec Ideal S2x8192x512 .f32) (x : FVec Ideal S2x256x512 .f32) (y : FVec Ideal S2x8192x512 .f32)
    (b : Fin 2) (h : Fin 4) (r : Fin 8192) (p : Fin 2) (n : ℕ) : ℝ :=
  ∑ d : Fin 64, (q (ix3 b r ⟨h * 128 + p * 64 + d, by omega⟩)).toReal * 0.125 * row x y b n ⟨h * 128 + p * 64 + d, by omega⟩

theorem scoreR_logit {q : FVec Ideal S2x8192x512 .f32} {x : FVec Ideal S2x256x512 .f32} {y : FVec Ideal S2x8192x512 .f32}
    (hq : Real1 q) (hx : Real1 x) (hy : Real1 y) (b : Fin 2) (h : Fin 4) (p : Fin 2) (r : Fin 8192) (n : Fin 8448) :
    scoreR (F := Ideal) q (joinR x y) (ix5 b h p r n) = (logit q x y b h r p n : EReal) := by
  rw [scoreR_read, logit, coe_sum]
  refine Finset.sum_congr rfl fun d _ => ?_
  rw [joinR_row hx hy, hq, eighth, EReal.coe_mul, EReal.coe_mul]
  rfl

theorem bits_lam : ∃ e : ℝ, Ideal.ofBits .f32 0x3E4CCCCD#32 = (e : EReal) := by
  simp only [Ideal.ofBits, Ideal.ieee]
  simp
  exact ⟨_, (EReal.coe_mul _ _).symm⟩

/-- `lam` of real vectors is a real number. -/
theorem lamR_real {a b c d : FVec Ideal S64 .f32} (ha : Real1 a) (hb : Real1 b) (hc : Real1 c) (hd : Real1 d) :
    ∃ lam : ℝ, lamR (F := Ideal) a b c d ix0 = (lam : EReal) := by
  obtain ⟨e, he⟩ := bits_lam
  have key : ∀ {u v : FVec Ideal S64 .f32}, Real1 u → Real1 v →
      ∃ t : ℝ, Ideal.exp (∑ x : Fin 64, u (ix1 x) * v (ix1 x)) = (t : EReal) := fun {u v} hu hv =>
    ⟨Real.exp (∑ x : Fin 64, (u (ix1 x)).toReal * (v (ix1 x)).toReal), by
      rw [← Ideal.exp_coe, coe_sum]
      refine congrArg _ (Finset.sum_congr rfl fun x _ => ?_)
      rw [EReal.coe_mul, ← hu, ← hv]⟩
  obtain ⟨s, hs⟩ := key ha hb
  obtain ⟨t, ht⟩ := key hc hd
  exact ⟨s - t + e, by rw [lamR_read, hs, ht, he, EReal.coe_add, EReal.coe_sub]⟩

/-- The reference's element: the normalised difference of the two softmaxes' sums of the values. -/
theorem attnR_read {q : FVec Ideal S2x8192x512 .f32} {kc vc : FVec Ideal S2x256x512 .f32} {k v : FVec Ideal S2x8192x512 .f32}
    {a b c d : FVec Ideal S64 .f32} (g : FVec Ideal S128 .f32) (hq : Real1 q) (hkc : Real1 kc) (hvc : Real1 vc) (hk : Real1 k)
    (hv : Real1 v) (lam : ℝ) (hl : lamR (F := Ideal) a b c d ix0 = (lam : EReal)) (bb : Fin 2) (h : Fin 4) (r : Fin 8192) :
    ∃ μ : Fin 2 → ℝ, ∀ i : Fin 128,
      mixR (F := Ideal) (joinR vc v) (diffR (expR (scoreR q (joinR kc k)) (maxR (scoreR q (joinR kc k))))
        (sumR (expR (scoreR q (joinR kc k)) (maxR (scoreR q (joinR kc k))))) (lamR a b c d)) (ix4 bb r h i)
      = (attn 8448 (logit q kc k bb h r 0) (logit q kc k bb h r 1) (μ 0) (μ 1) lam
          (fun n => row vc v bb n ⟨h * 128 + i, by omega⟩) : EReal) := by
  have hmax : ∀ p, ∃ μ : ℝ, maxR (scoreR q (joinR kc k)) (ix4 bb h p r) = (μ : EReal) := fun p => by
    rw [maxR_read]
    exact fold_max_real (by norm_num) _ (fun n : Fin 8448 => logit q kc k bb h r p n) fun n => scoreR_logit hq hkc hk bb h p r n
  choose μ hμ using hmax
  refine ⟨μ, fun i => ?_⟩
  have he : ∀ p (n : Fin 8448), expR (scoreR q (joinR kc k)) (maxR (scoreR q (joinR kc k))) (ix5 bb h p r n)
      = (Real.exp (logit q kc k bb h r p n - μ p) : EReal) := fun p n => by
    rw [expR_read, scoreR_logit hq hkc hk, hμ, ← EReal.coe_sub, Ideal.exp_coe]
  have hz : ∀ p, sumR (expR (scoreR q (joinR kc k)) (maxR (scoreR q (joinR kc k)))) (ix4 bb h p r)
      = ((∑ n ∈ Finset.range 8448, Real.exp (logit q kc k bb h r p n - μ p) : ℝ) : EReal) := fun p => by
    rw [sumR_read, ← Fin.sum_univ_eq_sum_range (fun n => Real.exp (logit q kc k bb h r p n - μ p)), coe_sum]
    exact Finset.sum_congr rfl fun n _ => he p n
  have hp : ∀ p (n : Fin 8448), Ideal.div (expR (scoreR q (joinR kc k)) (maxR (scoreR q (joinR kc k))) (ix5 bb h p r n))
      (sumR (expR (scoreR q (joinR kc k)) (maxR (scoreR q (joinR kc k)))) (ix4 bb h p r))
      = (prob 8448 (logit q kc k bb h r p) (μ p) n : EReal) := fun p n => by
    rw [he, hz, Ideal.div_coe (Finset.sum_pos (fun n _ => Real.exp_pos _) ⟨0, by simp⟩).ne', prob, EReal.coe_mul]
  rw [mixR_read]
  have : ∀ n : Fin 8448, joinR (F := Ideal) vc v (ix3 bb n ⟨h * 128 + i, by omega⟩)
      * diffR (F := Ideal) (expR (scoreR q (joinR kc k)) (maxR (scoreR q (joinR kc k))))
        (sumR (expR (scoreR q (joinR kc k)) (maxR (scoreR q (joinR kc k))))) (lamR a b c d) (ix4 bb h r n)
      = ((prob 8448 (logit q kc k bb h r 0) (μ 0) n * row vc v bb n ⟨h * 128 + i, by omega⟩
        - lam * (prob 8448 (logit q kc k bb h r 1) (μ 1) n * row vc v bb n ⟨h * 128 + i, by omega⟩) : ℝ) : EReal) := fun n => by
    rw [joinR_row hvc hv, diffR_read, hp, hp, hl, ← EReal.coe_mul, ← EReal.coe_sub, ← EReal.coe_mul]
    congr 1; ring
  rw [Finset.sum_congr rfl fun n _ => this n, ← coe_sum, attn, Finset.sum_sub_distrib, ← Finset.mul_sum,
    Fin.sum_univ_eq_sum_range (fun n => prob 8448 (logit q kc k bb h r 0) (μ 0) n * row vc v bb n ⟨h * 128 + i, by omega⟩),
    Fin.sum_univ_eq_sum_range (fun n => prob 8448 (logit q kc k bb h r 1) (μ 1) n * row vc v bb n ⟨h * 128 + i, by omega⟩)]

end Cert.ReferenceIdeal.Steps
-- ==== Proof.Pre.lean ====
/-
  What the precondition says: every element of every argument but the norm's gain is a real number.
-/
module

public import proofs.«01_k».proof.Pre_finite
public import proofs.«01_k».proof.Proof.Ref
public import Idealize.ShloMosaic.Lib.ReduceAll
public import Idealize.ShloMosaic.Lib.Decide
public import Idealize.ShloMosaic.Lib.WordCmp

@[expose] public section

set_option maxRecDepth 16384

noncomputable section

open Idealize.ShloMosaic

namespace Cert.Pre_finite

/-- The shape relations of the precondition's operations. -/
theorem facts : Facts where
  bcast_S_S2x8192x512 := by decide
  reducesTo_S2x8192x512_S_d0_1_2 := by decide
  h_S_ := by decide
  bcast_S_S2x256x512 := by decide
  reducesTo_S2x256x512_S_d0_1_2 := by decide
  bcast_S_S64 := by decide
  reducesTo_S64_S_d0 := by decide

open Cert.ReferenceIdeal.Steps (Real1)

/-- A number whose absolute value is below infinity is real. -/
theorem real_of_lt (x : EReal) (h : Ideal.cmp .olt (max x (-x)) (Ideal.ofBits .f32 0x7F800000#32) = 1#1) : x = (x.toReal : EReal) := by
  have e : Ideal.ofBits .f32 0x7F800000#32 = ⊤ := by simp [Ideal.ofBits, Ideal.ieee]
  rw [e] at h
  induction x using EReal.rec with
  | bot => simp [Ideal.cmp] at h
  | top => simp [Ideal.cmp] at h
  | coe r => rfl

/-- One argument's test. -/
theorem real_of_all {s : Shape} {axes : List (Fin s.rank)} (x : FVec Ideal s .f32) (hb : S_.BroadcastsInDim s (![] : Fin 0 → Fin s.rank))
    (h : s.ReducesTo axes S_) (hu : 0 < S_.numel) (j : S_.Idx)
    (e : Host.reduce IntOp.andi (cmpf .olt (Host.absf x) (broadcastInDim s ![] hb (constant S_ .f32 0x7F800000#32 : FVec Ideal S_ .f32)))
      (constantI S_ 1 1#1) h hu j = 1#1) : Real1 x := fun i =>
  real_of_lt (x i) (Host.reduce_andi_all _ _ _ _ j e i)

variable [Facts]

/-- The precondition, argument by argument. -/
theorem real_args (a0 a3 a4 : FVec Ideal S2x8192x512 .f32) (a1 a2 : FVec Ideal S2x256x512 .f32) (a5 a6 a7 a8 : FVec Ideal S64 .f32)
    (a9 : FVec Ideal S128 .f32) (h : fn (F := Ideal) a0 a1 a2 a3 a4 a5 a6 a7 a8 a9 = fun _ => 1#1) :
    Real1 a0 ∧ Real1 a1 ∧ Real1 a2 ∧ Real1 a3 ∧ Real1 a4 ∧ Real1 a5 ∧ Real1 a6 ∧ Real1 a7 ∧ Real1 a8 := by
  have h := congrFun h ix0
  unfold fn fn_part1 fn_part2 at h
  have key : ∀ x y : IVec S_ 1, andi x y ix0 = 1#1 → x ix0 = 1#1 ∧ y ix0 = 1#1 := fun x y h => IntOp.andi_eq_one.1 h
  have k8 := key _ _ h
  have k7 := key _ _ k8.1
  have k6 := key _ _ k7.1
  have k5 := key _ _ k6.1
  have k4 := key _ _ k5.1
  have k3 := key _ _ k4.1
  have k2 := key _ _ k3.1
  have k1 := key _ _ k2.1
  exact ⟨real_of_all a0 _ _ _ _ k1.1, real_of_all a1 _ _ _ _ k1.2, real_of_all a2 _ _ _ _ k2.2, real_of_all a3 _ _ _ _ k3.2, real_of_all a4 _ _ _ _ k4.2, real_of_all a5 _ _ _ _ k5.2, real_of_all a6 _ _ _ _ k6.2, real_of_all a7 _ _ _ _ k7.2, real_of_all a8 _ _ _ _ k8.2⟩

end Cert.Pre_finite
-- ==== Proof.Prep.lean ====
/-
  The arrays the host prepares for the attention kernel, read element by element.
-/
module

public import proofs.«01_k».proof.Proof.Gen.KernelIdeal.Value
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Prep

open Cert.KernelIdeal Cert.KernelIdeal.Gen

section defs
variable {F : FTy → Type} [FloatOps F]

/-- The queries: scaled, transposed, cast. -/
def qt (q : Vec F S2x8192x512 .f32) : FVec F S512x16384 .bf16 :=
  truncf .bf16 (mulf (transpose S512x16384 [1, 0] (shapeCast S16384x512 q shapeCasts_S2x8192x512_S16384x512 : FVec F S16384x512 .f32) transposes_S16384x512_S512x16384_1_0)
    (broadcastInDim S512x16384 ![] bcast_S_S512x16384
      (mulf (constant S_ .f32 0x3E000000#32) (Host.divf (constant S_ .f32 0x3F800000#32) (Host.log (constant S_ .f32 0x40000000#32 : FVec F S_ .f32)))))) bitsLt_bf16_f32

/-- The context's keys and the sequence's keys: rows flattened, cast. -/
def kc (k : Vec F S2x256x512 .f32) : FVec F S512x512 .bf16 :=
  truncf .bf16 (shapeCast S512x512 k shapeCasts_S2x256x512_S512x512 : FVec F S512x512 .f32) bitsLt_bf16_f32
def kx (k : Vec F S2x8192x512 .f32) : FVec F S16384x512 .bf16 :=
  truncf .bf16 (shapeCast S16384x512 k shapeCasts_S2x8192x512_S16384x512 : FVec F S16384x512 .f32) bitsLt_bf16_f32

/-- The context's values and the sequence's values: transposed, a slab of ones below each head. -/
def vc (v : Vec F S2x256x512 .f32) : FVec F S576x512 .bf16 :=
  truncf .bf16 (shapeCast S576x512 (concatenate S4x144x512 1
    [⟨S4x128x512, transpose S4x128x512 [1, 2, 0] (shapeCast S512x4x128 v shapeCasts_S2x256x512_S512x4x128 : FVec F S512x4x128 .f32) transposes_S512x4x128_S4x128x512_1_2_0⟩,
     ⟨S4x16x512, broadcastInDim S4x16x512 ![] bcast_S_S4x16x512 (constant S_ .f32 0x3F800000#32 : FVec F S_ .f32)⟩]
    concatenates_S4x128x512_S4x16x512_S4x144x512_d1) shapeCasts_S4x144x512_S576x512 : FVec F S576x512 .f32) bitsLt_bf16_f32
def vx (v : Vec F S2x8192x512 .f32) : FVec F S576x16384 .bf16 :=
  truncf .bf16 (shapeCast S576x16384 (concatenate S4x144x16384 1
    [⟨S4x128x16384, transpose S4x128x16384 [1, 2, 0] (shapeCast S16384x4x128 v shapeCasts_S2x8192x512_S16384x4x128 : FVec F S16384x4x128 .f32) transposes_S16384x4x128_S4x128x16384_1_2_0⟩,
     ⟨S4x16x16384, broadcastInDim S4x16x16384 ![] bcast_S_S4x16x16384 (constant S_ .f32 0x3F800000#32 : FVec F S_ .f32)⟩]
    concatenates_S4x128x16384_S4x16x16384_S4x144x16384_d1) shapeCasts_S4x144x16384_S576x16384 : FVec F S576x16384 .f32) bitsLt_bf16_f32

variable (m : (ℓ : Loc nD τ sig) → Buf (Elt F) ℓ) (c : Dev nD)

theorem V_q : V m c main_v7 = qt (m ((c : Thread nD τ).loc main_arg0)) := by
  unfold_abbrev_sides
  after_results <;> rfl
theorem V_kc : V m c main_v9 = kc (m ((c : Thread nD τ).loc main_arg1)) := by
  unfold_abbrev_sides
  after_results <;> rfl
theorem V_kx : V m c main_v11 = kx (m ((c : Thread nD τ).loc main_arg3)) := by
  unfold_abbrev_sides
  after_results <;> rfl
theorem V_vc : V m c main_v17 = vc (m ((c : Thread nD τ).loc main_arg2)) := by
  unfold_abbrev_sides
  after_results <;> rfl
theorem V_vx : V m c main_v23 = vx (m ((c : Thread nD τ).loc main_arg4)) := by
  unfold_abbrev_sides
  after_results <;> rfl
theorem V_l1 : V m c main_v24 = (shapeCast S1x64 (m ((c : Thread nD τ).loc main_arg5) : Vec F S64 .f32) shapeCasts_S64_S1x64 : Vec F S1x64 .f32) := by
  unfold_abbrev_sides
  after_results <;> rfl
theorem V_l2 : V m c main_v25 = (shapeCast S1x64 (m ((c : Thread nD τ).loc main_arg6) : Vec F S64 .f32) shapeCasts_S64_S1x64 : Vec F S1x64 .f32) := by
  unfold_abbrev_sides
  after_results <;> rfl
theorem V_l3 : V m c main_v26 = (shapeCast S1x64 (m ((c : Thread nD τ).loc main_arg7) : Vec F S64 .f32) shapeCasts_S64_S1x64 : Vec F S1x64 .f32) := by
  unfold_abbrev_sides
  after_results <;> rfl
theorem V_l4 : V m c main_v27 = (shapeCast S1x64 (m ((c : Thread nD τ).loc main_arg8) : Vec F S64 .f32) shapeCasts_S64_S1x64 : Vec F S1x64 .f32) := by
  unfold_abbrev_sides
  after_results <;> rfl
theorem V_g : V m c main_v28 = (shapeCast S128x1 (m ((c : Thread nD τ).loc main_arg9) : Vec F S128 .f32) shapeCasts_S128_S128x1 : Vec F S128x1 .f32) := by
  unfold_abbrev_sides
  after_results <;> rfl
end defs

theorem qt_read (q : Vec Ideal S2x8192x512 .f32) (a : Fin 512) (n : Fin 16384) :
    qt (F := Ideal) q (ix2 a n) = q (ix3 ⟨n / 8192, by omega⟩ ⟨n % 8192, by omega⟩ a)
      * (Ideal.ofBits .f32 0x3E000000#32 * Ideal.div 1 (Ideal.log (Ideal.ofBits .f32 0x40000000#32))) := by
  pointwise [qt]
theorem kx_read (k : Vec Ideal S2x8192x512 .f32) (a : Fin 512) (n : Fin 16384) :
    kx (F := Ideal) k (ix2 n a) = k (ix3 ⟨n / 8192, by omega⟩ ⟨n % 8192, by omega⟩ a) := by
  pointwise [kx]
theorem kc_read (k : Vec Ideal S2x256x512 .f32) (a : Fin 512) (n : Fin 512) :
    kc (F := Ideal) k (ix2 n a) = k (ix3 ⟨n / 256, by omega⟩ ⟨n % 256, by omega⟩ a) := by
  pointwise [kc]
theorem vx_read (v : Vec Ideal S2x8192x512 .f32) (a : Fin 576) (n : Fin 16384) :
    vx (F := Ideal) v (ix2 a n) = if h : (a : ℕ) % 144 < 128 then
      v (ix3 ⟨n / 8192, by omega⟩ ⟨n % 8192, by omega⟩ ⟨a / 144 * 128 + a % 144, by omega⟩) else 1 := by
  pointwise [vx]
theorem vc_read (v : Vec Ideal S2x256x512 .f32) (a : Fin 576) (n : Fin 512) :
    vc (F := Ideal) v (ix2 a n) = if h : (a : ℕ) % 144 < 128 then
      v (ix3 ⟨n / 256, by omega⟩ ⟨n % 256, by omega⟩ ⟨a / 144 * 128 + a % 144, by omega⟩) else 1 := by
  pointwise [vc]
theorem l1_read (q : Vec Ideal S64 .f32) (a : Fin 64) :
    (shapeCast S1x64 q shapeCasts_S64_S1x64 : Vec Ideal S1x64 .f32) (ix2 0 a) = q (ix1 a) := by
  pointwise []
theorem g_read (q : Vec Ideal S128 .f32) (a : Fin 128) :
    (shapeCast S128x1 q shapeCasts_S128_S128x1 : Vec Ideal S128x1 .f32) (ix2 a 0) = q (ix1 a) := by
  pointwise []

end Cert.KernelIdeal.Prep
-- ==== Proof.Geometry.lean ====
/-
  The kernel's blocks: which block of which array each grid point stages, and the output array read from the points' tiles.
-/
module

public import proofs.«01_k».proof.Proof.Finish
public import proofs.«01_k».proof.Proof.Prep
public import proofs.«01_k».proof.Proof.Gen.KernelIdeal.Value
public import Idealize.ShloMosaic.Lib.Pipeline.ValueKit.Tiles

@[expose] public section

set_option maxRecDepth 16384

noncomputable section

open Idealize.ShloMosaic Idealize.ShloMosaic.TcCoe Idealize.SL.Sem
open Idealize.ShloMosaic.Pipeline (Dat)

namespace Cert.KernelIdeal.Geometry

open Cert.KernelIdeal Cert.KernelIdeal.Gen Cert.KernelIdeal.Tile

/-- Point `t` is head `t / 4 % 4` of batch entry `t / 16`, queries' block `t % 4`. -/
theorem index_q : ∀ t : Fin grid0.N, win0_0.index t 0 = t.val / 4 % 4 ∧ win0_0.index t 1 = t.val / 16 * 4 + t.val % 4 := by decide +kernel
theorem index_kc : ∀ t : Fin grid0.N, win0_1.index t 0 = t.val / 16 ∧ win0_1.index t 1 = t.val / 4 % 4 := by decide +kernel
theorem index_vc : ∀ t : Fin grid0.N, win0_2.index t 0 = t.val / 4 % 4 ∧ win0_2.index t 1 = t.val / 16 := by decide +kernel
theorem index_kx : ∀ t : Fin grid0.N, win0_3.index t 0 = t.val / 16 ∧ win0_3.index t 1 = t.val / 4 % 4 := by decide +kernel
theorem index_vx : ∀ t : Fin grid0.N, win0_4.index t 0 = t.val / 4 % 4 ∧ win0_4.index t 1 = t.val / 16 := by decide +kernel
theorem index_l : ∀ t : Fin grid0.N, (win0_5.index t 0 = 0 ∧ win0_5.index t 1 = 0) ∧ (win0_6.index t 0 = 0 ∧ win0_6.index t 1 = 0)
    ∧ (win0_7.index t 0 = 0 ∧ win0_7.index t 1 = 0) ∧ (win0_8.index t 0 = 0 ∧ win0_8.index t 1 = 0)
    ∧ (win0_9.index t 0 = 0 ∧ win0_9.index t 1 = 0) := by decide +kernel
theorem index_o : ∀ t : Fin grid0.N, win0_10.index t 0 = t.val / 16 * 4 + t.val % 4 ∧ win0_10.index t 1 = t.val / 4 % 4 := by decide +kernel

section blocks
variable {F : FTy → Type} [FloatOps F]
variable (m : (ℓ : Loc nD τ sig) → Buf (Elt F) ℓ) (c : Dev nD) (t : Fin cfg0.N)

/-- Each window's block, element by element. -/
theorem blk_q (d : Fin 128) (r : Fin 2048) (x : Fin 512) (y : Fin 16384) (hx : x.val = t.val / 4 % 4 * 128 + d.val)
    (hy : y.val = (t.val / 16 * 4 + t.val % 4) * 2048 + r.val) :
    (iblk m c 0 t : Vec F S128x2048 .bf16) (ix2 d r) = (V m c main_v7 : Vec F S512x16384 .bf16) (ix2 x y) := by
  refine congrArg (V m c main_v7 : Vec F S512x16384 .bf16) (funext fun a => Fin.ext ?_)
  match a with
  | ⟨0, _⟩ => show win0_0.index t 0 * 128 + 1 * d.val = x.val; rw [(index_q t).1, hx]; omega
  | ⟨1, _⟩ => show win0_0.index t 1 * 2048 + 1 * r.val = y.val; rw [(index_q t).2, hy]; omega

theorem blk_kc (r : Fin 256) (d : Fin 128) (x : Fin 512) (y : Fin 512) (hx : x.val = t.val / 16 * 256 + r.val)
    (hy : y.val = t.val / 4 % 4 * 128 + d.val) :
    (iblk m c 1 t : Vec F S256x128 .bf16) (ix2 r d) = (V m c main_v9 : Vec F S512x512 .bf16) (ix2 x y) := by
  refine congrArg (V m c main_v9 : Vec F S512x512 .bf16) (funext fun a => Fin.ext ?_)
  match a with
  | ⟨0, _⟩ => show win0_1.index t 0 * 256 + 1 * r.val = x.val; rw [(index_kc t).1, hx]; omega
  | ⟨1, _⟩ => show win0_1.index t 1 * 128 + 1 * d.val = y.val; rw [(index_kc t).2, hy]; omega

theorem blk_vc (i : Fin 144) (r : Fin 256) (x : Fin 576) (y : Fin 512) (hx : x.val = t.val / 4 % 4 * 144 + i.val)
    (hy : y.val = t.val / 16 * 256 + r.val) :
    (iblk m c 2 t : Vec F S144x256 .bf16) (ix2 i r) = (V m c main_v17 : Vec F S576x512 .bf16) (ix2 x y) := by
  refine congrArg (V m c main_v17 : Vec F S576x512 .bf16) (funext fun a => Fin.ext ?_)
  match a with
  | ⟨0, _⟩ => show win0_2.index t 0 * 144 + 1 * i.val = x.val; rw [(index_vc t).1, hx]; omega
  | ⟨1, _⟩ => show win0_2.index t 1 * 256 + 1 * r.val = y.val; rw [(index_vc t).2, hy]; omega

theorem blk_kx (r : Fin 8192) (d : Fin 128) (x : Fin 16384) (y : Fin 512) (hx : x.val = t.val / 16 * 8192 + r.val)
    (hy : y.val = t.val / 4 % 4 * 128 + d.val) :
    (iblk m c 3 t : Vec F S8192x128 .bf16) (ix2 r d) = (V m c main_v11 : Vec F S16384x512 .bf16) (ix2 x y) := by
  refine congrArg (V m c main_v11 : Vec F S16384x512 .bf16) (funext fun a => Fin.ext ?_)
  match a with
  | ⟨0, _⟩ => show win0_3.index t 0 * 8192 + 1 * r.val = x.val; rw [(index_kx t).1, hx]; omega
  | ⟨1, _⟩ => show win0_3.index t 1 * 128 + 1 * d.val = y.val; rw [(index_kx t).2, hy]; omega

theorem blk_vx (i : Fin 144) (r : Fin 8192) (x : Fin 576) (y : Fin 16384) (hx : x.val = t.val / 4 % 4 * 144 + i.val)
    (hy : y.val = t.val / 16 * 8192 + r.val) :
    (iblk m c 4 t : Vec F S144x8192 .bf16) (ix2 i r) = (V m c main_v23 : Vec F S576x16384 .bf16) (ix2 x y) := by
  refine congrArg (V m c main_v23 : Vec F S576x16384 .bf16) (funext fun a => Fin.ext ?_)
  match a with
  | ⟨0, _⟩ => show win0_4.index t 0 * 144 + 1 * i.val = x.val; rw [(index_vx t).1, hx]; omega
  | ⟨1, _⟩ => show win0_4.index t 1 * 8192 + 1 * r.val = y.val; rw [(index_vx t).2, hy]; omega

theorem blk_l (x : Fin 64) :
    (iblk m c 5 t : Vec F S1x64 .f32) (ix2 0 x) = (V m c main_v24 : Vec F S1x64 .f32) (ix2 0 x)
    ∧ (iblk m c 6 t : Vec F S1x64 .f32) (ix2 0 x) = (V m c main_v25 : Vec F S1x64 .f32) (ix2 0 x)
    ∧ (iblk m c 7 t : Vec F S1x64 .f32) (ix2 0 x) = (V m c main_v26 : Vec F S1x64 .f32) (ix2 0 x)
    ∧ (iblk m c 8 t : Vec F S1x64 .f32) (ix2 0 x) = (V m c main_v27 : Vec F S1x64 .f32) (ix2 0 x) := by
  obtain ⟨h5, h6, h7, h8, _⟩ := index_l t
  refine ⟨congrArg (V m c main_v24 : Vec F S1x64 .f32) (funext fun a => Fin.ext ?_),
    congrArg (V m c main_v25 : Vec F S1x64 .f32) (funext fun a => Fin.ext ?_),
    congrArg (V m c main_v26 : Vec F S1x64 .f32) (funext fun a => Fin.ext ?_),
    congrArg (V m c main_v27 : Vec F S1x64 .f32) (funext fun a => Fin.ext ?_)⟩
  · match a with
    | ⟨0, _⟩ => show win0_5.index t 0 * 1 + 1 * 0 = 0; rw [h5.1]
    | ⟨1, _⟩ => show win0_5.index t 1 * 64 + 1 * x.val = x.val; rw [h5.2]; omega
  · match a with
    | ⟨0, _⟩ => show win0_6.index t 0 * 1 + 1 * 0 = 0; rw [h6.1]
    | ⟨1, _⟩ => show win0_6.index t 1 * 64 + 1 * x.val = x.val; rw [h6.2]; omega
  · match a with
    | ⟨0, _⟩ => show win0_7.index t 0 * 1 + 1 * 0 = 0; rw [h7.1]
    | ⟨1, _⟩ => show win0_7.index t 1 * 64 + 1 * x.val = x.val; rw [h7.2]; omega
  · match a with
    | ⟨0, _⟩ => show win0_8.index t 0 * 1 + 1 * 0 = 0; rw [h8.1]
    | ⟨1, _⟩ => show win0_8.index t 1 * 64 + 1 * x.val = x.val; rw [h8.2]; omega

theorem blk_g (x : Fin 128) :
    (iblk m c 9 t : Vec F S128x1 .f32) (ix2 x 0) = (V m c main_v28 : Vec F S128x1 .f32) (ix2 x 0) := by
  obtain ⟨_, _, _, _, h9⟩ := index_l t
  refine congrArg (V m c main_v28 : Vec F S128x1 .f32) (funext fun a => Fin.ext ?_)
  match a with
  | ⟨0, _⟩ => show win0_9.index t 0 * 128 + 1 * x.val = x.val; rw [h9.1]; omega
  | ⟨1, _⟩ => show win0_9.index t 1 * 1 + 1 * 0 = 0; rw [h9.2]

/-- Every point writes its own block of the output, and the blocks tile it. -/
theorem flush_o : ∀ t : Fin grid0.N, win0_10.flush t = true := by decide +kernel

theorem cover (i : S16384x512.Idx) : ∃ t : Fin cfg0.N, (cfg0.win 10).flush t = true ∧ i ∈ ((cfg0.win 10).blk t).view.set := by
  have h0 : (i 0 : Nat) < 16384 := (i 0).isLt
  have h1 : (i 1 : Nat) < 512 := (i 1).isLt
  have hN : grid0.N = 32 := by decide +kernel
  let t : Fin grid0.N := ⟨(i 0 : Nat) / 8192 * 16 + (i 1 : Nat) / 128 * 4 + (i 0 : Nat) / 2048 % 4, by omega⟩
  refine ⟨t, flush_o t, ?_⟩
  show i ∈ ((View.whole main_v29).slice (win0_10.rect t)).set
  rw [View.set_slice_whole, Rect.mem_set_unit]
  obtain ⟨e0, e1⟩ := index_o t
  have ht : t.val = (i 0 : Nat) / 8192 * 16 + (i 1 : Nat) / 128 * 4 + (i 0 : Nat) / 2048 % 4 := rfl
  intro a
  match a with
  | ⟨0, _⟩ => show win0_10.index t 0 * 2048 ≤ (i 0 : Nat) ∧ (i 0 : Nat) < win0_10.index t 0 * 2048 + 2048
              rw [e0]; omega
  | ⟨1, _⟩ => show win0_10.index t 1 * 128 ≤ (i 1 : Nat) ∧ (i 1 : Nat) < win0_10.index t 1 * 128 + 128
              rw [e1]; omega

/-- The output array is `G` when each point's block is `G` there. -/
theorem final_eq (G : Vec F S16384x512 .bf16)
    (hG : ∀ (t : Fin cfg0.N) (R : Fin 2048) (i : Fin 128) (x : Fin 16384) (y : Fin 512),
      x.val = (t.val / 16 * 4 + t.val % 4) * 2048 + R.val → y.val = t.val / 4 % 4 * 128 + i.val →
      out0_10 (iblk m c 0 t) (iblk m c 1 t) (iblk m c 2 t) (iblk m c 3 t) (iblk m c 4 t) (iblk m c 5 t) (iblk m c 6 t) (iblk m c 7 t)
        (iblk m c 8 t) (iblk m c 9 t) (ix2 R i) = G (ix2 x y)) :
    (dats m 0 c).arrAt 10 cfg0.N = G := by
  refine (dats m 0 c).arrAt_eq_of_cover 10 G (fun t _ => ?_) cover
  rw [Value.flushed10]
  have hN : cfg0.N = 32 := by decide +kernel
  have ht : t.val < 32 := hN ▸ t.isLt
  refine funext fun j => ?_
  have e : (win0_10.rect t).emb j = (ix2 ⟨(t.val / 16 * 4 + t.val % 4) * 2048 + (j 0).val, by have : (j 0).val < 2048 := (j 0).isLt; omega⟩
      ⟨t.val / 4 % 4 * 128 + (j 1).val, by have : (j 1).val < 128 := (j 1).isLt; omega⟩ : S16384x512.Idx) := by
    refine funext fun a => Fin.ext ?_
    match a with
    | ⟨0, _⟩ => show win0_10.index t 0 * 2048 + 1 * (j 0).val = _; rw [(index_o t).1]; simp
    | ⟨1, _⟩ => show win0_10.index t 1 * 128 + 1 * (j 1).val = _; rw [(index_o t).2]; simp
  show _ = G ((win0_10.rect t).emb j)
  rw [e, ← hG t ⟨(j 0).val, (j 0).isLt⟩ ⟨(j 1).val, (j 1).isLt⟩ _ _ rfl rfl]
  refine congrArg _ (funext fun a => ?_)
  match a with
  | ⟨0, _⟩ => rfl
  | ⟨1, _⟩ => rfl
end blocks

/-- An output block's row lies in one tile of 256 rows, and there it is the tile's value. -/
theorem out_at {F : FTy → Type} [FloatOps F] (x0 : Vec F S128x2048 .bf16) (x1 : Vec F S256x128 .bf16) (x2 : Vec F S144x256 .bf16)
    (x3 : Vec F S8192x128 .bf16) (x4 : Vec F S144x8192 .bf16) (x5 x6 x7 x8 : Vec F S1x64 .f32) (x9 : Vec F S128x1 .f32)
    (R : Fin 2048) (i : Fin 128) (v : Elt F .bf16)
    (h : ∀ (u : Fin 8) (j : Fin 256) (qb : Vec F S128x256 .bf16), R.val = 256 * u.val + j.val →
      (∀ (d : Fin 128) (k : Fin 256), qb (ix2 d k) = x0 (ix2 d ⟨256 * u.val + k.val, by omega⟩)) →
      tile x1 x2 x3 x4 x5 x6 x7 x8 x9 qb (ix2 j i) = v) :
    out0_10 x0 x1 x2 x3 x4 x5 x6 x7 x8 x9 (ix2 R i) = v := by
  have piece : ∀ (u : Fin 8) (inb) (inb') (k : S256x128.Idx),
      (Rect.unit (s := S2048x128) ![256 * u.val, 0] S256x128.size inb).emb k = (ix2 R i : S2048x128.Idx) →
      tile x1 x2 x3 x4 x5 x6 x7 x8 x9 (View.ld x0 (Rect.unit (s := S128x2048) ![0, 256 * u.val] S128x256.size inb')) k = v := by
    intro u inb inb' k hk
    have e0 : 256 * u.val + 1 * (k 0).val = R.val := congrArg (fun f : S2048x128.Idx => (f 0).val) hk
    have e1 : 0 + 1 * (k 1).val = i.val := congrArg (fun f : S2048x128.Idx => (f 1).val) hk
    have ek : k = ix2 ⟨(k 0).val, (k 0).isLt⟩ i := by
      refine funext fun a => Fin.ext ?_
      match a with
      | ⟨0, _⟩ => rfl
      | ⟨1, _⟩ => show (k 1).val = i.val; omega
    rw [ek]
    refine h u ⟨(k 0).val, (k 0).isLt⟩ _ (by show R.val = 256 * u.val + (k 0).val; omega) fun d l => ?_
    show x0 _ = _
    refine congrArg x0 (funext fun a => Fin.ext ?_)
    match a with
    | ⟨0, _⟩ => show 0 + 1 * d.val = d.val; omega
    | ⟨1, _⟩ => show 256 * u.val + 1 * l.val = 256 * u.val + l.val; omega
  rw [out_eq]
  refine View.canon_eq_of_allAt _ _ _ ?_ ?_
  · have mem : ∀ (u : Fin 8) (inb), u.val = R.val / 256 →
        (ix2 R i : S2048x128.Idx) ∈ (Rect.unit (s := S2048x128) ![256 * u.val, 0] S256x128.size inb).set := by
      intro u inb hu
      rw [Rect.mem_set_unit]
      intro a
      match a with
      | ⟨0, _⟩ => show 256 * u.val ≤ R.val ∧ R.val < 256 * u.val + 256; omega
      | ⟨1, _⟩ => show 0 ≤ i.val ∧ i.val < 0 + 128; omega
    have hR : R.val / 256 < 8 := by omega
    generalize hu : R.val / 256 = u at hR mem
    interval_cases u
    · exact ⟨_, .tail _ (.tail _ (.tail _ (.tail _ (.tail _ (.tail _ (.tail _ (.head _))))))), mem 0 (by decide) rfl⟩
    · exact ⟨_, .tail _ (.tail _ (.tail _ (.tail _ (.tail _ (.tail _ (.head _)))))), mem 1 (by decide) rfl⟩
    · exact ⟨_, .tail _ (.tail _ (.tail _ (.tail _ (.tail _ (.head _))))), mem 2 (by decide) rfl⟩
    · exact ⟨_, .tail _ (.tail _ (.tail _ (.tail _ (.head _)))), mem 3 (by decide) rfl⟩
    · exact ⟨_, .tail _ (.tail _ (.tail _ (.head _))), mem 4 (by decide) rfl⟩
    · exact ⟨_, .tail _ (.tail _ (.head _)), mem 5 (by decide) rfl⟩
    · exact ⟨_, .tail _ (.head _), mem 6 (by decide) rfl⟩
    · exact ⟨_, .head _, mem 7 (by decide) rfl⟩
  · intro p hp
    simp only [List.mem_cons, List.not_mem_nil, or_false] at hp
    rcases hp with rfl | rfl | rfl | rfl | rfl | rfl | rfl | rfl
    · exact fun k hk => piece 7 (by decide) (by decide) k hk
    · exact fun k hk => piece 6 (by decide) (by decide) k hk
    · exact fun k hk => piece 5 (by decide) (by decide) k hk
    · exact fun k hk => piece 4 (by decide) (by decide) k hk
    · exact fun k hk => piece 3 (by decide) (by decide) k hk
    · exact fun k hk => piece 2 (by decide) (by decide) k hk
    · exact fun k hk => piece 1 (by decide) (by decide) k hk
    · exact fun k hk => piece 0 (by decide) (by decide) k hk

end Cert.KernelIdeal.Geometry
-- ==== Proof.Agree.lean ====
/-
  The kernel's output array is the reference's: each tile's element against the reference's at the same row and column.
-/
module

public import proofs.«01_k».proof.Proof.Geometry
public import proofs.«01_k».proof.Proof.Ref

@[expose] public section

set_option maxRecDepth 16384

noncomputable section

open Idealize.ShloMosaic Idealize.ShloMosaic.TcCoe Idealize.SL.Sem
open Idealize.ShloMosaic.Pipeline (Dat)

namespace Cert.KernelIdeal.Agree

open Cert.KernelIdeal Cert.KernelIdeal.Gen Cert.KernelIdeal.Tile Cert.KernelIdeal.Prep Cert.KernelIdeal.Geometry
open Cert.ReferenceIdeal.Steps Cert.Online

/-- The query's scale: the reference's eighth, over the logarithm of two. -/
theorem scale : Ideal.ofBits .f32 0x3E000000#32 * Ideal.div 1 (Ideal.log (Ideal.ofBits .f32 0x40000000#32))
    = ((0.125 * (1 / Real.log 2) : ℝ) : EReal) := by
  have h2 : Ideal.ofBits .f32 0x40000000#32 = ((2 : ℝ) : EReal) := by
    simp [Ideal.ofBits, Ideal.ieee]; rw [← EReal.coe_mul]; norm_num
  rw [h2, show Ideal.log ((2 : ℝ) : EReal) = ((Real.log 2 : ℝ) : EReal) by rw [Ideal.log_coe, if_neg (by norm_num)], Ideal.div_coe (Real.log_pos one_lt_two).ne', eighth, one_mul, ← EReal.coe_mul]

section point
variable (q : FVec Ideal S2x8192x512 .f32) (kca vca : FVec Ideal S2x256x512 .f32) (ka va : FVec Ideal S2x8192x512 .f32)
variable (b : Fin 2) (h : Fin 4) (r0 : ℕ) (hr0 : r0 + 256 ≤ 8192)

/-- The tile's queries, scaled, as real numbers. -/
def qreal (d : Fin 128) (j : Fin 256) : ℝ :=
  (q (ix3 b ⟨r0 + j.val, by omega⟩ ⟨h * 128 + d, by omega⟩)).toReal * (0.125 * (1 / Real.log 2))

/-- Column `l` of a tile: map `l / 256` of query `l % 256`. -/
def tcol (l : Fin 512) : ℕ → ℝ :=
  if l.val < 256 then logit q kca ka b h ⟨r0 + l.val % 256, by omega⟩ 0 else logit q kca ka b h ⟨r0 + l.val % 256, by omega⟩ 1

theorem score_tcol (l : Fin 512) (n : ℕ) :
    score (qreal q b h r0 hr0) (fun n d => row kca ka b n ⟨h * 128 + d, by omega⟩) l n = tcol q kca ka b h r0 hr0 l n * (1 / Real.log 2) := by
  unfold score
  rw [show (∑ d : Fin 128, row kca ka b n ⟨h * 128 + d, by omega⟩ * maskq (qreal q b h r0 hr0) d l)
      = ∑ d : Fin (64 + 64), row kca ka b n ⟨h * 128 + d.val, by omega⟩ * maskq (qreal q b h r0 hr0) ⟨d.val, by omega⟩ l from rfl,
    Fin.sum_univ_add]
  unfold tcol
  by_cases hl : l.val < 256
  · rw [if_pos hl, logit, Finset.sum_mul]
    have z : ∀ d : Fin 64, maskq (qreal q b h r0 hr0) ⟨(Fin.natAdd 64 d).val, by omega⟩ l = 0 := fun d => by
      rw [maskq, dif_pos hl, if_neg (by simp)]
    rw [Finset.sum_eq_zero (s := Finset.univ) (f := fun d : Fin 64 => row kca ka b n ⟨h * 128 + (Fin.natAdd 64 d).val, _⟩
      * maskq (qreal q b h r0 hr0) ⟨(Fin.natAdd 64 d).val, _⟩ l) fun d _ => by rw [z d, mul_zero], add_zero]
    refine Finset.sum_congr rfl fun d _ => ?_
    rw [maskq, dif_pos hl, if_pos (by simp), qreal]
    have e1 : (⟨h * 128 + (Fin.castAdd 64 d).val, by omega⟩ : Fin 512) = ⟨h * 128 + (0 : Fin 2) * 64 + d, by simp; omega⟩ :=
      Fin.ext (by simp)
    have e2 : (⟨r0 + l.val, by omega⟩ : Fin 8192) = ⟨r0 + l.val % 256, by omega⟩ := Fin.ext (by simp; omega)
    simp only [e1, e2]
    ring
  · rw [if_neg hl, logit, Finset.sum_mul]
    have z : ∀ d : Fin 64, maskq (qreal q b h r0 hr0) ⟨(Fin.castAdd 64 d).val, by omega⟩ l = 0 := fun d => by
      rw [maskq, dif_neg hl, if_pos (by simp)]
    rw [Finset.sum_eq_zero (s := Finset.univ) (f := fun d : Fin 64 => row kca ka b n ⟨h * 128 + (Fin.castAdd 64 d).val, _⟩
      * maskq (qreal q b h r0 hr0) ⟨(Fin.castAdd 64 d).val, _⟩ l) fun d _ => by rw [z d, mul_zero], zero_add]
    refine Finset.sum_congr rfl fun d _ => ?_
    rw [maskq, dif_neg hl, if_neg (by simp), qreal]
    have e1 : (⟨h * 128 + (Fin.natAdd 64 d).val, by omega⟩ : Fin 512) = ⟨h * 128 + (1 : Fin 2) * 64 + d, by simp; omega⟩ :=
      Fin.ext (by simp; omega)
    have e2 : (⟨r0 + (l.val - 256), by omega⟩ : Fin 8192) = ⟨r0 + l.val % 256, by omega⟩ := Fin.ext (by simp; omega)
    simp only [e1, e2]
    ring
end point

variable (m : (ℓ : Loc nD τ sig) → Buf (Elt Ideal) ℓ) (c : Dev nD)

/-- Where every argument but the gain is real, the kernel's output array is the reference's function of the arguments. -/
theorem final (hq : Real1 (s := S2x8192x512) (φ := .f32) (m ((c : Thread nD τ).loc main_arg0)))
    (hkc : Real1 (s := S2x256x512) (φ := .f32) (m ((c : Thread nD τ).loc main_arg1)))
    (hvc : Real1 (s := S2x256x512) (φ := .f32) (m ((c : Thread nD τ).loc main_arg2)))
    (hk : Real1 (s := S2x8192x512) (φ := .f32) (m ((c : Thread nD τ).loc main_arg3)))
    (hv : Real1 (s := S2x8192x512) (φ := .f32) (m ((c : Thread nD τ).loc main_arg4)))
    (h5 : Real1 (s := S64) (φ := .f32) (m ((c : Thread nD τ).loc main_arg5))) (h6 : Real1 (s := S64) (φ := .f32) (m ((c : Thread nD τ).loc main_arg6)))
    (h7 : Real1 (s := S64) (φ := .f32) (m ((c : Thread nD τ).loc main_arg7))) (h8 : Real1 (s := S64) (φ := .f32) (m ((c : Thread nD τ).loc main_arg8))) :
    (dats m 0 c).arrAt 10 cfg0.N = attnR (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) := by
  obtain ⟨lam, hlam⟩ := lamR_real h5 h6 h7 h8
  have hN : cfg0.N = 32 := by decide +kernel
  refine final_eq m c _ fun t R i x y hx hy => ?_
  have ht : t.val < 32 := hN ▸ t.isLt
  refine out_at _ _ _ _ _ _ _ _ _ _ R i _ fun u j qb hR hqb => ?_
  have eb : x.val / 8192 = t.val / 16 := by omega
  have er : x.val % 8192 = t.val % 4 * 2048 + 256 * u.val + j.val := by omega
  have eh : y.val / 128 = t.val / 4 % 4 := by omega
  have ei : y.val % 128 = i.val := by omega
  let b : Fin 2 := ⟨t.val / 16, by omega⟩
  let h : Fin 4 := ⟨t.val / 4 % 4, by omega⟩
  have hr0 : t.val % 4 * 2048 + 256 * u.val + 256 ≤ 8192 := by omega
  unfold attnR
  rw [normR_read]
  rw [show (⟨x.val / 8192, by omega⟩ : Fin 2) = b from Fin.ext eb, show (⟨y.val / 128, by omega⟩ : Fin 4) = h from Fin.ext eh,
    show (⟨y.val % 128, by omega⟩ : Fin 128) = i from Fin.ext ei,
    show (⟨x.val % 8192, by omega⟩ : Fin 8192) = ⟨t.val % 4 * 2048 + 256 * u.val + j.val, by omega⟩ from Fin.ext er]
  obtain ⟨μ, hμ⟩ := attnR_read (m ((c : Thread nD τ).loc main_arg9)) hq hkc hvc hk hv lam hlam b h
    ⟨t.val % 4 * 2048 + 256 * u.val + j.val, by omega⟩
  simp only [hμ]
  refine (tile_read (qreal (m ((c : Thread nD τ).loc main_arg0)) b h _ hr0)
    (fun n d => row (m ((c : Thread nD τ).loc main_arg1)) (m ((c : Thread nD τ).loc main_arg3)) b n ⟨h * 128 + d, by omega⟩)
    (fun i n => if hi : i.val < 128 then row (m ((c : Thread nD τ).loc main_arg2)) (m ((c : Thread nD τ).loc main_arg4)) b n ⟨h * 128 + i, by omega⟩ else 1)
    _ _ _ _ _ _ _ _ _ qb ?_ ?_ ?_ ?_ ?_ (tcol (m ((c : Thread nD τ).loc main_arg0)) (m ((c : Thread nD τ).loc main_arg1)) (m ((c : Thread nD τ).loc main_arg3)) b h _ hr0)
    (score_tcol _ _ _ b h _ hr0) (fun n => by rw [dif_neg (by decide)]) (fun l => if l.val < 256 then μ 0 else μ 1) lam ?_ j i).trans ?_
  · intro d j
    rw [hqb, blk_q m c t d ⟨256 * u.val + j.val, by omega⟩ ⟨t.val / 4 % 4 * 128 + d, by omega⟩
      ⟨(t.val / 16 * 4 + t.val % 4) * 2048 + (256 * u.val + j.val), by omega⟩ rfl rfl, V_q, qt_read, scale, qreal, EReal.coe_mul (EReal.toReal _), ← hq]
    congr 2
    congr 1
    · refine Fin.ext ?_; show _ = t.val / 16; simp <;> omega
    · refine Fin.ext ?_; simp <;> omega
  · intro r d
    rw [blk_kc m c t r d ⟨t.val / 16 * 256 + r, by omega⟩ ⟨t.val / 4 % 4 * 128 + d, by omega⟩ rfl rfl, V_kc, kc_read, row, dif_pos r.isLt, ← hkc]
    refine congrArg _ (congrArg₂ (fun b r => ix3 b r _) (Fin.ext ?_) (Fin.ext ?_))
    · show _ = t.val / 16; simp <;> omega
    · simp <;> omega
  · intro i r
    rw [blk_vc m c t i r ⟨t.val / 4 % 4 * 144 + i, by omega⟩ ⟨t.val / 16 * 256 + r, by omega⟩ rfl rfl, V_vc, vc_read]
    by_cases hi : i.val < 128
    · rw [dif_pos (by simp <;> omega), dif_pos hi, row, dif_pos r.isLt, ← hvc]
      refine congrArg _ ?_
      congr 1
      · refine Fin.ext ?_; show _ = t.val / 16; simp <;> omega
      · refine Fin.ext ?_; simp <;> omega
      · refine Fin.ext ?_; show _ = t.val / 4 % 4 * 128 + i.val; simp <;> omega
    · rw [dif_neg (by simp <;> omega), dif_neg hi]; rfl
  · intro r d
    rw [blk_kx m c t r d ⟨t.val / 16 * 8192 + r, by omega⟩ ⟨t.val / 4 % 4 * 128 + d, by omega⟩ rfl rfl, V_kx, kx_read, row,
      dif_neg (by omega), dif_pos (by omega), ← hk]
    refine congrArg _ (congrArg₂ (fun b r => ix3 b r _) (Fin.ext ?_) (Fin.ext ?_))
    · show _ = t.val / 16; simp <;> omega
    · simp <;> omega
  · intro i r
    rw [blk_vx m c t i r ⟨t.val / 4 % 4 * 144 + i, by omega⟩ ⟨t.val / 16 * 8192 + r, by omega⟩ rfl rfl, V_vx, vx_read]
    by_cases hi : i.val < 128
    · rw [dif_pos (by simp <;> omega), dif_pos hi, row, dif_neg (by omega), dif_pos (by omega), ← hv]
      refine congrArg _ ?_
      congr 1
      · refine Fin.ext ?_; show _ = t.val / 16; simp <;> omega
      · refine Fin.ext ?_; simp <;> omega
      · refine Fin.ext ?_; show _ = t.val / 4 % 4 * 128 + i.val; simp <;> omega
    · rw [dif_neg (by simp <;> omega), dif_neg hi]; rfl
  · rw [lam_read, ← hlam, lamR_read]
    have e := fun x => blk_l m c t x
    simp only [(e _).1, (e _).2.1, (e _).2.2.1, (e _).2.2.2]
    rw [V_l1, V_l2, V_l3, V_l4]
    have l := fun x : Fin 64 => And.intro (congrArg₂ (· * ·) (l1_read (m ((c : Thread nD τ).loc main_arg5)) x) (l1_read (m ((c : Thread nD τ).loc main_arg6)) x))
      (congrArg₂ (· * ·) (l1_read (m ((c : Thread nD τ).loc main_arg7)) x) (l1_read (m ((c : Thread nD τ).loc main_arg8)) x))
    exact congrArg₂ (· + ·) (congrArg₂ (· - ·) (congrArg _ (Finset.sum_congr rfl fun x _ => (l x).1))
      (congrArg _ (Finset.sum_congr rfl fun x _ => (l x).2))) rfl
  · rw [blk_g, V_g, g_read]
    refine congrArg (fun o => normed o _ i) (funext fun x => ?_)
    have hj : ¬ (256 + j.val < 256) := by omega
    have hj' : (256 + j.val) % 256 = j.val := by omega
    have hj'' : j.val % 256 = j.val := by omega
    simp only [tcol, hj, hj', hj'', j.isLt, if_true, if_false, x.isLt, dif_pos]

end Cert.KernelIdeal.Agree
-- ==== Proof.Scalar.lean ====
/-
  What the layer computes of one row, as functions of extended reals.
-/
module

public import Idealize.ShloMosaic.Lib.Pointwise

@[expose] public section

noncomputable section

open Idealize.ShloMosaic

namespace Cert.Layer

/-- The reciprocal root of a row's mean square. -/
def rms (x : Fin 1024 → EReal) : EReal :=
  Ideal.rsqrt (Ideal.div (∑ i : Fin 1024, x i * x i) (Ideal.ofBits .f32 0x44800000#32) + Ideal.ofBits .f32 0x358637BD#32)

/-- The modulated norm of a row: normalised, gained, scaled, shifted. -/
def modn (x g sc sh : Fin 1024 → EReal) (k : Fin 1024) : EReal :=
  x k * rms x * g k * (1 + sc k) + sh k

/-- One branch of the merge: its gate, the sigmoid of a product of the normed row, times its own product. -/
def branch {n : ℕ} (h : Fin 1024 → EReal) (wg : Fin 1024 → EReal) (a w : Fin n → EReal) : EReal :=
  Ideal.logistic (∑ d : Fin 1024, h d * wg d) * ∑ e : Fin n, a e * w e

/-- The exact gelu. -/
def gelu (q : EReal) : EReal :=
  Ideal.ofBits .f32 0x3F000000#32 * q * (1 + Ideal.erf (q * (((Real.sqrt 2)⁻¹ : ℝ) : EReal)))

/-- A grid row or column, or the number of a frequency, as the real of its word. -/
def place (i : ℕ) : EReal := (((BitVec.ofNat 32 i).toInt : ℝ) : EReal)

/-- A rotary frequency: ten thousand to the power of minus a sixteenth of its number. -/
def freq (f : ℕ) : EReal :=
  Ideal.pow (Ideal.ofBits .f32 0x461C4000#32) (Ideal.div (-place f) (Ideal.ofBits .f32 0x41800000#32))

/-- The angle by which position `s` turns column `n` of the interleaved layout. -/
def angle (s n : ℕ) : EReal := place (if n % 32 < 16 then s / 64 else s % 64) * freq (n % 16)

/-- The projection's column that the interleaved layout puts at `n`. -/
def orig (n : ℕ) : ℕ := n / 64 * 64 + (n % 32 / 16 * 32 + (n % 64 / 32 * 16 + n % 16))

theorem orig_lt (n : ℕ) (h : n < 512) : orig n < 512 := by unfold orig; omega

/-- Column `n` of the interleaved layout, turned. -/
def axial (p : Fin 512 → EReal) (s : ℕ) (n : Fin 512) : EReal :=
  if h : n.val % 64 < 32
  then p ⟨orig n, orig_lt _ n.isLt⟩ * Ideal.cos (angle s n) - p ⟨orig (n + 32), orig_lt _ (by omega)⟩ * Ideal.sin (angle s n)
  else p ⟨orig n, orig_lt _ n.isLt⟩ * Ideal.cos (angle s n) + p ⟨orig (n - 32), orig_lt _ (by omega)⟩ * Ideal.sin (angle s n)

/-- The float word of two. -/
theorem two_bits : Ideal.ofBits .f32 0x40000000#32 = ((2 : ℝ) : EReal) := by
  simp [Ideal.ofBits, Ideal.ieee, -EReal.coe_mul]; norm_num

/-- A quotient by the root of two. -/
theorem div_root (q : EReal) : Ideal.div q (Ideal.sqrt (Ideal.ofBits .f32 0x40000000#32)) = q * (((Real.sqrt 2)⁻¹ : ℝ) : EReal) := by
  rw [two_bits, Ideal.sqrt_coe, if_neg (by norm_num), Ideal.div_coe (Real.sqrt_pos.mpr (by norm_num)).ne', one_div]

/-- The float word of an eighth. -/
theorem eighth_bits : Ideal.ofBits .f32 0x3E000000#32 = (((1 : ℝ) / 8 : ℝ) : EReal) := by
  simp [Ideal.ofBits, Ideal.ieee, -EReal.coe_mul]; norm_num

/-- An eighth, by the logarithm of two. -/
theorem div_log (q : EReal) : Ideal.div (q * Ideal.ofBits .f32 0x3E000000#32) (Ideal.log (Ideal.ofBits .f32 0x40000000#32))
    = q * (((1 : ℝ) / 8 * (Real.log 2)⁻¹ : ℝ) : EReal) := by
  rw [two_bits, eighth_bits, Ideal.log_coe, if_neg (by norm_num), Ideal.div_coe (Real.log_pos (by norm_num)).ne', one_div (Real.log 2), mul_assoc, ← EReal.coe_mul]

end Cert.Layer

end
-- ==== Proof.FfnRef.lean ====
/-
  The reference feed-forward part, in named steps, and each step read element by element.
-/
module

public import proofs.«01_k».proof.Proof.Gen.Reference2Ideal.Run
public import proofs.«01_k».proof.Proof.Scalar

@[expose] public section

set_option maxRecDepth 16384

noncomputable section

open Idealize.ShloMosaic Idealize.ShloMosaic.TcCoe Idealize.SL.Sem

namespace Cert.Reference2Ideal.Steps

open Cert.Reference2Ideal Cert.Reference2Ideal.Gen Cert.Layer

section defs
variable {F : FTy → Type} [FloatOps F]

/-- The reciprocal root of a row's mean square, in every column. -/
def rowR (x : FVec F S2x8192x1024 .f32) : FVec F S2x8192x1024 .f32 :=
  broadcastInDim S2x8192x1024 ![0, 1, 2] bcast_S2x8192x1_S2x8192x1024_0_1_2
    (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_))
      (broadcastInDim S2x8192x1 ![] bcast_S_S2x8192x1 (constant S_ .f32 0x44800000#32))) (broadcastInDim S2x8192x1 ![] bcast_S_S2x8192x1 (constant S_ .f32 0x358637BD#32))))

/-- The modulated norm of the stream. -/
def hR (x : FVec F S2x8192x1024 .f32) (mod : FVec F S2x6144 .f32) (g : FVec F S1024 .f32) : FVec F S2x8192x1024 .f32 :=
  addf (mulf (mulf (mulf x (rowR x))
    (broadcastInDim S2x8192x1024 ![0, 1, 2] bcast_S1x1x1024_S2x8192x1024_0_1_2 (broadcastInDim S1x1x1024 ![2] bcast_S1024_S1x1x1024_2 g)))
    (broadcastInDim S2x8192x1024 ![0, 1, 2] bcast_S2x1x1024_S2x8192x1024_0_1_2 (addf (broadcastInDim S2x1x1024 ![] bcast_S_S2x1x1024 (constant S_ .f32 0x3F800000#32))
      (extractStridedSlice S2x1x1024 ![0, 0, 4096] (broadcastInDim S2x1x6144 ![0, 2] bcast_S2x6144_S2x1x6144_0_2 mod) slices_S2x1x6144_S2x1x1024_0_0_4096))))
    (broadcastInDim S2x8192x1024 ![0, 1, 2] bcast_S2x1x1024_S2x8192x1024_0_1_2
      (extractStridedSlice S2x1x1024 ![0, 0, 3072] (broadcastInDim S2x1x6144 ![0, 2] bcast_S2x6144_S2x1x6144_0_2 mod) slices_S2x1x6144_S2x1x1024_0_0_3072))

/-- The up product's columns of values. -/
def valR (h : FVec F S2x8192x1024 .f32) (w : FVec F S1024x5632 .f32) : FVec F S2x8192x2816 .f32 :=
  extractStridedSlice S2x8192x2816 ![0, 0, 0] (Host.dotGeneral dot_S2x8192x1024_S1024x5632_S2x8192x5632_2_0_01_1_n_n none h w : FVec F S2x8192x5632 .f32) slices_S2x8192x5632_S2x8192x2816_0_0_0

/-- The up product's columns of gates. -/
def gateR (h : FVec F S2x8192x1024 .f32) (w : FVec F S1024x5632 .f32) : FVec F S2x8192x2816 .f32 :=
  extractStridedSlice S2x8192x2816 ![0, 0, 2816] (Host.dotGeneral dot_S2x8192x1024_S1024x5632_S2x8192x5632_2_0_01_1_n_n none h w : FVec F S2x8192x5632 .f32) slices_S2x8192x5632_S2x8192x2816_0_0_2816

/-- The gates with a row of zeros before and after. -/
def padR (q : FVec F S2x8192x2816 .f32) : FVec F S2x8194x2816 .f32 :=
  pad S2x8194x2816 ![0, 1, 0] ![0, 1, 0] ![0, 0, 0] q (sitofp .f32 (constantI S_ 32 0#32) : FVec F S_ .f32) pads_S2x8192x2816_S2x8194x2816_000_110_000 h_S_

/-- The convolution over the positions. -/
def convR (p : FVec F S2x8194x2816 .f32) (w : FVec F S3x2816 .f32) (b : FVec F S2816 .f32) : FVec F S2x8192x2816 .f32 :=
  addf (addf (addf (addf (broadcastInDim S2x8192x2816 ![] bcast_S_S2x8192x2816 (constant S_ .f32 0x00000000#32))
    (mulf (extractStridedSlice S2x8192x2816 ![0, 0, 0] p slices_S2x8194x2816_S2x8192x2816_0_0_0)
      (broadcastInDim S2x8192x2816 ![0, 1, 2] bcast_S1x1x2816_S2x8192x2816_0_1_2 (broadcastInDim S1x1x2816 ![2] bcast_S2816_S1x1x2816_2
        (shapeCast _ (extractStridedSlice S1x2816 ![0, 0] w slices_S3x2816_S1x2816_0_0) shapeCasts_S1x2816_S2816)))))
    (mulf (extractStridedSlice S2x8192x2816 ![0, 1, 0] p slices_S2x8194x2816_S2x8192x2816_0_1_0)
      (broadcastInDim S2x8192x2816 ![0, 1, 2] bcast_S1x1x2816_S2x8192x2816_0_1_2 (broadcastInDim S1x1x2816 ![2] bcast_S2816_S1x1x2816_2
        (shapeCast _ (extractStridedSlice S1x2816 ![1, 0] w slices_S3x2816_S1x2816_1_0) shapeCasts_S1x2816_S2816)))))
    (mulf (extractStridedSlice S2x8192x2816 ![0, 2, 0] p slices_S2x8194x2816_S2x8192x2816_0_2_0)
      (broadcastInDim S2x8192x2816 ![0, 1, 2] bcast_S1x1x2816_S2x8192x2816_0_1_2 (broadcastInDim S1x1x2816 ![2] bcast_S2816_S1x1x2816_2
        (shapeCast _ (extractStridedSlice S1x2816 ![2, 0] w slices_S3x2816_S1x2816_2_0) shapeCasts_S1x2816_S2816)))))
    (broadcastInDim S2x8192x2816 ![0, 1, 2] bcast_S1x1x2816_S2x8192x2816_0_1_2 (broadcastInDim S1x1x2816 ![2] bcast_S2816_S1x1x2816_2 b))

/-- The exact gelu, times the values. -/
def midR (v q : FVec F S2x8192x2816 .f32) : FVec F S2x8192x2816 .f32 :=
  mulf v (mulf (mulf (broadcastInDim S2x8192x2816 ![] bcast_S_S2x8192x2816 (constant S_ .f32 0x3F000000#32)) q)
    (addf (broadcastInDim S2x8192x2816 ![] bcast_S_S2x8192x2816 (constant S_ .f32 0x3F800000#32))
      (Host.erf (Host.divf q (broadcastInDim S2x8192x2816 ![] bcast_S_S2x8192x2816 (Host.sqrt (constant S_ .f32 0x40000000#32 : FVec F S_ .f32)))))))

/-- The down product, gated onto the stream. -/
def ontoR (x : FVec F S2x8192x1024 .f32) (mod : FVec F S2x6144 .f32) (y : FVec F S2x8192x2816 .f32) (w : FVec F S2816x1024 .f32) : FVec F S2x8192x1024 .f32 :=
  addf x (mulf (broadcastInDim S2x8192x1024 ![0, 1, 2] bcast_S2x1x1024_S2x8192x1024_0_1_2
    (extractStridedSlice S2x1x1024 ![0, 0, 5120] (broadcastInDim S2x1x6144 ![0, 2] bcast_S2x6144_S2x1x6144_0_2 mod) slices_S2x1x6144_S2x1x1024_0_0_5120))
    (Host.dotGeneral dot_S2x8192x2816_S2816x1024_S2x8192x1024_2_0_01_1_n_n none y w))

/-- The final norm, over the flattened positions. -/
def lastR (y : FVec F S2x8192x1024 .f32) (g : FVec F S1024 .f32) : FVec F S16384x1024 .f32 :=
  shapeCast _ (mulf (mulf y (rowR y))
    (broadcastInDim S2x8192x1024 ![0, 1, 2] bcast_S1x1x1024_S2x8192x1024_0_1_2 (broadcastInDim S1x1x1024 ![2] bcast_S1024_S1x1x1024_2 g)) : FVec F S2x8192x1024 .f32)
    shapeCasts_S2x8192x1024_S16384x1024

/-- The steps one after the other. -/
def allR (x : FVec F S2x8192x1024 .f32) (mod : FVec F S2x6144 .f32) (g : FVec F S1024 .f32) (wu : FVec F S1024x5632 .f32) (dw : FVec F S3x2816 .f32)
    (db : FVec F S2816 .f32) (wd : FVec F S2816x1024 .f32) (fg : FVec F S1024 .f32) : FVec F S16384x1024 .f32 :=
  lastR (ontoR x mod (midR (valR (hR x mod g) wu) (convR (padR (gateR (hR x mod g) wu)) dw db)) wd) fg

/-- The reference's result is these steps one after the other. -/
theorem res_eq (m : (ℓ : Loc nD τ sig) → Buf (Elt F) ℓ) (c : Dev nD) :
    Value.res_main_v82 m c = allR (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) := rfl
end defs

theorem rowR_read (x) (b : Fin 2) (r : Fin 8192) (k : Fin 1024) :
    rowR (F := Ideal) x (ix3 b r k) = rms (fun i => x (ix3 b r i)) := by
  unfold rms
  pointwise [rowR]

theorem hR_read (x mod g) (b : Fin 2) (r : Fin 8192) (k : Fin 1024) :
    hR (F := Ideal) x mod g (ix3 b r k)
      = modn (fun i => x (ix3 b r i)) (fun i => g (ix1 i)) (fun i => mod (ix2 b ⟨4096 + i, by omega⟩)) (fun i => mod (ix2 b ⟨3072 + i, by omega⟩)) k := by
  unfold modn
  rw [← rowR_read x b r k]
  pointwise [hR]

theorem valR_read (h w) (b : Fin 2) (r : Fin 8192) (k : Fin 2816) :
    valR (F := Ideal) h w (ix3 b r k) = ∑ d : Fin 1024, h (ix3 b r d) * w (ix2 d ⟨k, by omega⟩) := by
  pointwise [valR]

theorem gateR_read (h w) (b : Fin 2) (r : Fin 8192) (k : Fin 2816) :
    gateR (F := Ideal) h w (ix3 b r k) = ∑ d : Fin 1024, h (ix3 b r d) * w (ix2 d ⟨2816 + k, by omega⟩) := by
  pointwise [gateR]

theorem padR_read (q) (b : Fin 2) (r : Fin 8194) (k : Fin 2816) :
    padR (F := Ideal) q (ix3 b r k) = if h : 1 ≤ r.val ∧ r.val - 1 < 8192 then q (ix3 b ⟨r - 1, by omega⟩ k) else 0 := by
  have z : (FloatOps.sitofp .f32 (0#32) : Ideal .f32) = 0 := by
    show (((0#32 : BitVec 32).toInt : ℝ) : EReal) = 0
    simp
  pointwise [padR, z]

theorem convR_read (p w bias) (b : Fin 2) (r : Fin 8192) (k : Fin 2816) :
    convR (F := Ideal) p w bias (ix3 b r k)
      = p (ix3 b ⟨r, by omega⟩ k) * w (ix2 0 k) + p (ix3 b ⟨1 + r, by omega⟩ k) * w (ix2 1 k) + p (ix3 b ⟨2 + r, by omega⟩ k) * w (ix2 2 k) + bias (ix1 k) := by
  pointwise [convR]

theorem midR_read (v q) (b : Fin 2) (r : Fin 8192) (k : Fin 2816) :
    midR (F := Ideal) v q (ix3 b r k) = v (ix3 b r k) * gelu (q (ix3 b r k)) := by
  unfold gelu
  rw [← div_root]
  pointwise [midR]

theorem ontoR_read (x mod y w) (b : Fin 2) (r : Fin 8192) (k : Fin 1024) :
    ontoR (F := Ideal) x mod y w (ix3 b r k)
      = x (ix3 b r k) + mod (ix2 b ⟨5120 + k, by omega⟩) * ∑ e : Fin 2816, y (ix3 b r e) * w (ix2 e k) := by
  pointwise [ontoR]

theorem lastR_read (y g) (r : Fin 16384) (k : Fin 1024) :
    lastR (F := Ideal) y g (ix2 r k)
      = y (ix3 ⟨r / 8192, by omega⟩ ⟨r % 8192, by omega⟩ k) * rms (fun i => y (ix3 ⟨r / 8192, by omega⟩ ⟨r % 8192, by omega⟩ i)) * g (ix1 k) := by
  rw [← rowR_read y ⟨r / 8192, by omega⟩ ⟨r % 8192, by omega⟩ k]
  pointwise [lastR]

end Cert.Reference2Ideal.Steps

end
-- ==== Proof.FfnTile.lean ====
/-
  One point of the feed-forward kernel: the scratch of the rows with their halo, the eleven chunks of gated columns, and
  what is stored, as functions of the point's blocks.
-/
module

public import proofs.«01_k».proof.Proof.Gen.Kernel2Ideal.Value
public import proofs.«01_k».proof.Proof.Scalar
public import Idealize.ShloMosaic.Lib.Claim
public import Idealize.ShloMosaic.Lib.Pipeline.Value
public import Idealize.ShloMosaic.Lib.Pipeline.ValueKit.Tiles

@[expose] public section

set_option maxRecDepth 16384

noncomputable section

open Idealize.ShloMosaic Idealize.ShloMosaic.TcCoe Idealize.SL.Sem

namespace Cert.Kernel2Ideal.Tile

open Cert.Kernel2Ideal Cert.Kernel2Ideal.Gen Cert.Layer

/-- A row block with sixteen halo rows above and sixteen below, of 1024 columns. -/
def wide (n p : Vec Ideal S16x1024 .bf16) (q : Vec Ideal S512x1024 .bf16) : Vec Ideal S544x1024 .bf16 := fun y =>
  if h : (y 0).val < 16 then p (ix2 ⟨(y 0).val, h⟩ (y 1))
  else if h' : (y 0).val < 528 then q (ix2 ⟨(y 0).val - 16, by omega⟩ (y 1))
  else n (ix2 ⟨(y 0).val - 528, by have : (y 0).val < 544 := (y 0).isLt; omega⟩ (y 1))

/-- The same of 256 columns. -/
def slim (n p : Vec Ideal S16x256 .f32) (q : Vec Ideal S512x256 .f32) : Vec Ideal S544x256 .f32 := fun y =>
  if h : (y 0).val < 16 then p (ix2 ⟨(y 0).val, h⟩ (y 1))
  else if h' : (y 0).val < 528 then q (ix2 ⟨(y 0).val - 16, by omega⟩ (y 1))
  else n (ix2 ⟨(y 0).val - 528, by have : (y 0).val < 544 := (y 0).isLt; omega⟩ (y 1))

/-- Three stores over the scratch of 1024 columns leave the block with its halo. -/
theorem canon_wide (h1 : ∀ a, (![528, 0] : Fin 2 → ℕ) a + S16x1024.size a ≤ S544x1024.size a)
    (h2 : ∀ a, (![0, 0] : Fin 2 → ℕ) a + S16x1024.size a ≤ S544x1024.size a)
    (h3 : ∀ a, (![16, 0] : Fin 2 → ℕ) a + S512x1024.size a ≤ S544x1024.size a)
    (n p : Vec Ideal S16x1024 .bf16) (q : Vec Ideal S512x1024 .bf16) (L : List (View.Piece (Elt Ideal) S544x1024 .bf16)) :
    View.canon (⟨Rect.unit (s := S544x1024) ![528, 0] S16x1024.size h1, n⟩ :: ⟨Rect.unit (s := S544x1024) ![0, 0] S16x1024.size h2, p⟩
      :: ⟨Rect.unit (s := S544x1024) ![16, 0] S512x1024.size h3, q⟩ :: L) = wide n p q := by
  funext y
  have hy : (y 0).val < 544 := (y 0).isLt
  have hz : (y 1).val < 1024 := (y 1).isLt
  unfold wide
  by_cases c1 : (y 0).val < 16
  · rw [dif_pos c1, View.canon_cons_of_not_mem _ _ (by rw [Rect.mem_set_unit]; intro h; have := (h 0).1; simp at this; omega)]
    refine (congrArg _ ?_).trans (View.canon_cons_emb (Rect.unit (s := S544x1024) ![0, 0] S16x1024.size h2) p _
        (ix2 ⟨(y 0).val, c1⟩ (y 1)))
    refine funext fun a => Fin.ext ?_
    match a with
    | ⟨0, _⟩ => show (y 0).val = 0 + 1 * (y 0).val; omega
    | ⟨1, _⟩ => show (y 1).val = 0 + 1 * (y 1).val; omega
  · rw [dif_neg c1]
    by_cases c2 : (y 0).val < 528
    · rw [dif_pos c2, View.canon_cons_of_not_mem _ _ (by rw [Rect.mem_set_unit]; intro h; have := (h 0).1; simp at this; omega),
        View.canon_cons_of_not_mem _ _ (by rw [Rect.mem_set_unit]; intro h; have := (h 0).2; simp at this; omega)]
      refine (congrArg _ ?_).trans (View.canon_cons_emb (Rect.unit (s := S544x1024) ![16, 0] S512x1024.size h3) q _
        (ix2 ⟨(y 0).val - 16, by omega⟩ (y 1)))
      refine funext fun a => Fin.ext ?_
      match a with
      | ⟨0, _⟩ => show (y 0).val = 16 + 1 * ((y 0).val - 16); omega
      | ⟨1, _⟩ => show (y 1).val = 0 + 1 * (y 1).val; omega
    · rw [dif_neg c2]
      refine (congrArg _ ?_).trans (View.canon_cons_emb (Rect.unit (s := S544x1024) ![528, 0] S16x1024.size h1) n _
        (ix2 ⟨(y 0).val - 528, by omega⟩ (y 1)))
      refine funext fun a => Fin.ext ?_
      match a with
      | ⟨0, _⟩ => show (y 0).val = 528 + 1 * ((y 0).val - 528); omega
      | ⟨1, _⟩ => show (y 1).val = 0 + 1 * (y 1).val; omega

/-- Three stores over the scratch of 256 columns leave the block with its halo, whatever was stored before. -/
theorem canon_slim (h1 : ∀ a, (![528, 0] : Fin 2 → ℕ) a + S16x256.size a ≤ S544x256.size a)
    (h2 : ∀ a, (![0, 0] : Fin 2 → ℕ) a + S16x256.size a ≤ S544x256.size a)
    (h3 : ∀ a, (![16, 0] : Fin 2 → ℕ) a + S512x256.size a ≤ S544x256.size a)
    (n p : Vec Ideal S16x256 .f32) (q : Vec Ideal S512x256 .f32) (L : List (View.Piece (Elt Ideal) S544x256 .f32)) :
    View.canon (⟨Rect.unit (s := S544x256) ![528, 0] S16x256.size h1, n⟩ :: ⟨Rect.unit (s := S544x256) ![0, 0] S16x256.size h2, p⟩
      :: ⟨Rect.unit (s := S544x256) ![16, 0] S512x256.size h3, q⟩ :: L) = slim n p q := by
  funext y
  have hy : (y 0).val < 544 := (y 0).isLt
  have hz : (y 1).val < 256 := (y 1).isLt
  unfold slim
  by_cases c1 : (y 0).val < 16
  · rw [dif_pos c1, View.canon_cons_of_not_mem _ _ (by rw [Rect.mem_set_unit]; intro h; have := (h 0).1; simp at this; omega)]
    refine (congrArg _ ?_).trans (View.canon_cons_emb (Rect.unit (s := S544x256) ![0, 0] S16x256.size h2) p _
        (ix2 ⟨(y 0).val, c1⟩ (y 1)))
    refine funext fun a => Fin.ext ?_
    match a with
    | ⟨0, _⟩ => show (y 0).val = 0 + 1 * (y 0).val; omega
    | ⟨1, _⟩ => show (y 1).val = 0 + 1 * (y 1).val; omega
  · rw [dif_neg c1]
    by_cases c2 : (y 0).val < 528
    · rw [dif_pos c2, View.canon_cons_of_not_mem _ _ (by rw [Rect.mem_set_unit]; intro h; have := (h 0).1; simp at this; omega),
        View.canon_cons_of_not_mem _ _ (by rw [Rect.mem_set_unit]; intro h; have := (h 0).2; simp at this; omega)]
      refine (congrArg _ ?_).trans (View.canon_cons_emb (Rect.unit (s := S544x256) ![16, 0] S512x256.size h3) q _
        (ix2 ⟨(y 0).val - 16, by omega⟩ (y 1)))
      refine funext fun a => Fin.ext ?_
      match a with
      | ⟨0, _⟩ => show (y 0).val = 16 + 1 * ((y 0).val - 16); omega
      | ⟨1, _⟩ => show (y 1).val = 0 + 1 * (y 1).val; omega
    · rw [dif_neg c2]
      refine (congrArg _ ?_).trans (View.canon_cons_emb (Rect.unit (s := S544x256) ![528, 0] S16x256.size h1) n _
        (ix2 ⟨(y 0).val - 528, by omega⟩ (y 1)))
      refine funext fun a => Fin.ext ?_
      match a with
      | ⟨0, _⟩ => show (y 0).val = 528 + 1 * ((y 0).val - 528); omega
      | ⟨1, _⟩ => show (y 1).val = 0 + 1 * (y 1).val; omega

/-- A load of the scratch of 1024 columns after its three stores. -/
theorem load_wide {κ : Kind} {sp : Space} (v : View sig κ sp S544x1024 .bf16) (h1 : ∀ a, (![528, 0] : Fin 2 → ℕ) a + (![16, 1024] : Fin 2 → ℕ) a ≤ (![544, 1024] : Fin 2 → ℕ) a)
    (h2 : ∀ a, (![0, 0] : Fin 2 → ℕ) a + (![16, 1024] : Fin 2 → ℕ) a ≤ (![544, 1024] : Fin 2 → ℕ) a)
    (h3 : ∀ a, (![16, 0] : Fin 2 → ℕ) a + (![512, 1024] : Fin 2 → ℕ) a ≤ (![544, 1024] : Fin 2 → ℕ) a)
    (n p : Vec Ideal S16x1024 .bf16) (q : Vec Ideal S512x1024 .bf16) (L : List (View.Piece (Elt Ideal) S544x1024 .bf16)) (r : Rect S544x1024) :
    v.readCov (⟨Rect.unit (s := S544x1024) ![528, 0] ![16, 1024] h1, n⟩ :: ⟨Rect.unit (s := S544x1024) ![0, 0] ![16, 1024] h2, p⟩
      :: ⟨Rect.unit (s := S544x1024) ![16, 0] ![512, 1024] h3, q⟩ :: L) r.toLoadRect = View.ld (wide n p q) r := by
  rw [View.readCov_eq_canon']; exact congrArg (fun X => View.ld X r) (canon_wide h1 h2 h3 n p q L)

/-- A load of the scratch of 256 columns after a chunk's three stores. -/
theorem load_slim {κ : Kind} {sp : Space} (v : View sig κ sp S544x256 .f32) (h1 : ∀ a, (![528, 0] : Fin 2 → ℕ) a + (![16, 256] : Fin 2 → ℕ) a ≤ (![544, 256] : Fin 2 → ℕ) a)
    (h2 : ∀ a, (![0, 0] : Fin 2 → ℕ) a + (![16, 256] : Fin 2 → ℕ) a ≤ (![544, 256] : Fin 2 → ℕ) a)
    (h3 : ∀ a, (![16, 0] : Fin 2 → ℕ) a + (![512, 256] : Fin 2 → ℕ) a ≤ (![544, 256] : Fin 2 → ℕ) a)
    (n p : Vec Ideal S16x256 .f32) (q : Vec Ideal S512x256 .f32) (L : List (View.Piece (Elt Ideal) S544x256 .f32)) (r : Rect S544x256) :
    v.readCov (⟨Rect.unit (s := S544x256) ![528, 0] ![16, 256] h1, n⟩ :: ⟨Rect.unit (s := S544x256) ![0, 0] ![16, 256] h2, p⟩
      :: ⟨Rect.unit (s := S544x256) ![16, 0] ![512, 256] h3, q⟩ :: L) r.toLoadRect = View.ld (slim n p q) r := by
  rw [View.readCov_eq_canon']; exact congrArg (fun X => View.ld X r) (canon_slim h1 h2 h3 n p q L)

/-- A column window of width 256 stays inside. -/
theorem inside {o a b c : ℕ} (ha : a + b ≤ c) (h : o + 256 ≤ 2816) :
    ∀ x, (![a, o] : Fin 2 → ℕ) x + (![b, 256] : Fin 2 → ℕ) x ≤ (![c, 2816] : Fin 2 → ℕ) x := by
  intro x
  match x with
  | ⟨0, _⟩ => exact ha
  | ⟨1, _⟩ => exact h

/-- The gate rows of one chunk, with the halo. -/
def gates (top bot : BitVec 1) (H : Vec Ideal S544x1024 .bf16) (w : Vec Ideal S1024x256 .bf16) : Vec Ideal S544x256 .f32 :=
  slim (k0_pay19 (k0_pay18 bot H w)) (k0_pay17 top H w) (k0_pay16 H w)

/-- One chunk of 256 gated columns, from column `o`. -/
def chunk (top bot : BitVec 1) (H : Vec Ideal S544x1024 .bf16) (wv wg : Vec Ideal S1024x2816 .bf16) (dw : Vec Ideal S3x2816 .f32)
    (db : Vec Ideal S1x2816 .f32) (o : ℕ) (h : o + 256 ≤ 2816) : Vec Ideal S512x256 .bf16 :=
  let G : Vec Ideal S544x256 .f32 := gates top bot (View.ld H (Rect.unit (s := S544x1024) ![0, 0] S544x1024.size inb_S544x1024_S544x1024_0_0))
    (View.ld wg (Rect.unit (s := S1024x2816) ![0, o] S1024x256.size (inside (by norm_num) h)))
  k0_pay20 (F := Ideal) (k0_pay14 (View.ld H (Rect.unit (s := S544x1024) ![16, 0] S512x1024.size inb_S544x1024_S512x1024_16_0))
      (View.ld wv (Rect.unit (s := S1024x2816) ![0, o] S1024x256.size (inside (by norm_num) h))))
    (View.ld db (Rect.unit (s := S1x2816) ![0, o] S1x256.size (inside (by norm_num) h)))
    (View.ld G (Rect.unit (s := S544x256) ![16, 0] S512x256.size inb_S544x256_S512x256_16_0))
    (View.ld dw (Rect.unit (s := S3x2816) ![1, o] S1x256.size (inside (by norm_num) h)))
    (View.ld G (Rect.unit (s := S544x256) ![15, 0] S512x256.size inb_S544x256_S512x256_15_0))
    (View.ld dw (Rect.unit (s := S3x2816) ![0, o] S1x256.size (inside (by norm_num) h)))
    (View.ld G (Rect.unit (s := S544x256) ![17, 0] S512x256.size inb_S544x256_S512x256_17_0))
    (View.ld dw (Rect.unit (s := S3x2816) ![2, o] S1x256.size (inside (by norm_num) h)))

/-- The normed rows of a point with their halo. -/
def rows (x0 : Vec Ideal S512x1024 .f32) (x1 x2 : Vec Ideal S16x1024 .f32) (x3 : Vec Ideal S1x6x1024 .f32) (x4 : Vec Ideal S1x1024 .f32) :
    Vec Ideal S544x1024 .bf16 :=
  let g : Vec Ideal S1x1024 .f32 := View.ld x4 (Rect.unit (s := S1x1024) ![0, 0] S1x1024.size inb_S1x1024_S1x1024_0_0)
  let sh : Vec Ideal S1x1x1024 .f32 := View.ld x3 (Rect.unit (s := S1x6x1024) ![0, 3, 0] S1x1x1024.size inb_S1x6x1024_S1x1x1024_0_3_0)
  let sc : Vec Ideal S1x1x1024 .f32 := View.ld x3 (Rect.unit (s := S1x6x1024) ![0, 4, 0] S1x1x1024.size inb_S1x6x1024_S1x1x1024_0_4_0)
  wide (k0_pay11 (F := Ideal) (k0_pay3 sh) (k0_pay4 sc) (k0_pay10 (k0_pay2 g) (View.ld x2 (Rect.unit (s := S16x1024) ![0, 0] S16x1024.size inb_S16x1024_S16x1024_0_0))))
    (k0_pay9 (F := Ideal) (k0_pay2 g) (k0_pay3 sh) (k0_pay4 sc) (View.ld x1 (Rect.unit (s := S16x1024) ![0, 0] S16x1024.size inb_S16x1024_S16x1024_0_0)))
    (k0_pay8 (F := Ideal) (k0_pay6 g sc (View.ld x0 (Rect.unit (s := S512x1024) ![0, 0] S512x1024.size inb_S512x1024_S512x1024_0_0))) (k0_pay7 sh))

/-- The eleven chunks as stored, last first. -/
def pieces (top bot : BitVec 1) (H : Vec Ideal S544x1024 .bf16) (x5 x6 : Vec Ideal S1024x2816 .bf16) (x7 : Vec Ideal S3x2816 .f32)
    (x8 : Vec Ideal S1x2816 .f32) : List (View.Piece (Elt Ideal) S512x2816 .bf16) :=
  [⟨Rect.unit (s := S512x2816) ![0, 2560] S512x256.size inb_S512x2816_S512x256_0_2560, chunk top bot H x5 x6 x7 x8 2560 (by norm_num)⟩,
    ⟨Rect.unit (s := S512x2816) ![0, 2304] S512x256.size inb_S512x2816_S512x256_0_2304, chunk top bot H x5 x6 x7 x8 2304 (by norm_num)⟩,
    ⟨Rect.unit (s := S512x2816) ![0, 2048] S512x256.size inb_S512x2816_S512x256_0_2048, chunk top bot H x5 x6 x7 x8 2048 (by norm_num)⟩,
    ⟨Rect.unit (s := S512x2816) ![0, 1792] S512x256.size inb_S512x2816_S512x256_0_1792, chunk top bot H x5 x6 x7 x8 1792 (by norm_num)⟩,
    ⟨Rect.unit (s := S512x2816) ![0, 1536] S512x256.size inb_S512x2816_S512x256_0_1536, chunk top bot H x5 x6 x7 x8 1536 (by norm_num)⟩,
    ⟨Rect.unit (s := S512x2816) ![0, 1280] S512x256.size inb_S512x2816_S512x256_0_1280, chunk top bot H x5 x6 x7 x8 1280 (by norm_num)⟩,
    ⟨Rect.unit (s := S512x2816) ![0, 1024] S512x256.size inb_S512x2816_S512x256_0_1024, chunk top bot H x5 x6 x7 x8 1024 (by norm_num)⟩,
    ⟨Rect.unit (s := S512x2816) ![0, 768] S512x256.size inb_S512x2816_S512x256_0_768, chunk top bot H x5 x6 x7 x8 768 (by norm_num)⟩,
    ⟨Rect.unit (s := S512x2816) ![0, 512] S512x256.size inb_S512x2816_S512x256_0_512, chunk top bot H x5 x6 x7 x8 512 (by norm_num)⟩,
    ⟨Rect.unit (s := S512x2816) ![0, 256] S512x256.size inb_S512x2816_S512x256_0_256, chunk top bot H x5 x6 x7 x8 256 (by norm_num)⟩,
    ⟨Rect.unit (s := S512x2816) ![0, 0] S512x256.size inb_S512x2816_S512x256_0_0, chunk top bot H x5 x6 x7 x8 0 (by norm_num)⟩]

/-- What a point stores, from the gated columns. -/
def stored (x0 : Vec Ideal S512x1024 .f32) (x3 : Vec Ideal S1x6x1024 .f32) (M : Vec Ideal S512x2816 .bf16) (x9 : Vec Ideal S2816x1024 .bf16)
    (x10 : Vec Ideal S1x1024 .f32) : Vec Ideal S512x1024 .f32 :=
  let x : FVec Ideal S512x1024 .f32 := k0_pay5 (View.ld x0 (Rect.unit (s := S512x1024) ![0, 0] S512x1024.size inb_S512x1024_S512x1024_0_0))
  let g : Vec Ideal S1x1x1024 .f32 := View.ld x3 (Rect.unit (s := S1x6x1024) ![0, 5, 0] S1x1x1024.size inb_S1x6x1024_S1x1x1024_0_5_0)
  let w : Vec Ideal S2816x1024 .bf16 := View.ld x9 (Rect.unit (s := S2816x1024) ![0, 0] S2816x1024.size inb_S2816x1024_S2816x1024_0_0)
  let M' : Vec Ideal S512x2816 .bf16 := View.ld M (Rect.unit (s := S512x2816) ![0, 0] S512x2816.size inb_S512x2816_S512x2816_0_0)
  k0_pay1 (F := Ideal) (k0_pay95 x g M' w) (k0_pay96 x g M' w) k0_pay97 (View.ld x10 (Rect.unit (s := S1x1024) ![0, 0] S1x1024.size inb_S1x1024_S1x1024_0_0))

/-- A load of the scratch of gated columns after its stores. -/
theorem load_mid {κ : Kind} {sp : Space} (v : View sig κ sp S512x2816 .bf16) (L : List (View.Piece (Elt Ideal) S512x2816 .bf16)) (r : Rect S512x2816) :
    v.readCov L r.toLoadRect = View.ld (View.canon L) r := by
  rw [View.readCov_eq_canon']

set_option maxHeartbeats 4000000 in
/-- What a point's body leaves in the output block. -/
theorem run_read (c : Dev nD) (i : grid0.Coords)
    (arg1 : Memref sig .tc .vmem S512x1024 .f32) (harg1 : arg1.IsWhole)
    (arg2 : Memref sig .tc .vmem S16x1024 .f32) (harg2 : arg2.IsWhole)
    (arg3 : Memref sig .tc .vmem S16x1024 .f32) (harg3 : arg3.IsWhole)
    (arg4 : Memref sig .tc .vmem S1x6x1024 .f32) (harg4 : arg4.IsWhole)
    (arg5 : Memref sig .tc .vmem S1x1024 .f32) (harg5 : arg5.IsWhole)
    (arg6 : Memref sig .tc .vmem S1024x2816 .bf16) (harg6 : arg6.IsWhole)
    (arg7 : Memref sig .tc .vmem S1024x2816 .bf16) (harg7 : arg7.IsWhole)
    (arg8 : Memref sig .tc .vmem S3x2816 .f32) (harg8 : arg8.IsWhole)
    (arg9 : Memref sig .tc .vmem S1x2816 .f32) (harg9 : arg9.IsWhole)
    (arg10 : Memref sig .tc .vmem S2816x1024 .bf16) (harg10 : arg10.IsWhole)
    (arg11 : Memref sig .tc .vmem S1x1024 .f32) (harg11 : arg11.IsWhole)
    (arg12 : Memref sig .tc .vmem S512x1024 .f32) (harg12 : arg12.IsWhole)
    (arg13 : Memref sig .tc .vmem S544x1024 .bf16) (harg13 : arg13.IsWhole)
    (arg14 : Memref sig .tc .vmem S544x256 .f32) (harg14 : arg14.IsWhole)
    (arg15 : Memref sig .tc .vmem S512x2816 .bf16) (harg15 : arg15.IsWhole)
    (x0 : Vec Ideal S512x1024 .f32) (x1 : Vec Ideal S16x1024 .f32) (x2 : Vec Ideal S16x1024 .f32) (x3 : Vec Ideal S1x6x1024 .f32) (x4 : Vec Ideal S1x1024 .f32) (x5 : Vec Ideal S1024x2816 .bf16) (x6 : Vec Ideal S1024x2816 .bf16) (x7 : Vec Ideal S3x2816 .f32) (x8 : Vec Ideal S1x2816 .f32) (x9 : Vec Ideal S2816x1024 .bf16) (x10 : Vec Ideal S1x1024 .f32) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10
      = stored x0 x3 (View.canon (pieces (kernelRun0_A.sl.v10 i) (kernelRun0_A.sl.v11 i) (rows x0 x1 x2 x3 x4) x5 x6 x7 x8)) x9 x10 := by
  unfold out0_A_11 kernelRun0_A
  dsimp only
  rw [View.read_writes_junk_eq_canon]
  simp only [kernelRun0_A.sl.HS0_3, kernelRun0_A.sl.HS1_12, kernelRun0_A.sl.HS1_15, kernelRun0_A.sl.HS1_18, kernelRun0_A.sl.HS1_21, kernelRun0_A.sl.HS1_24, kernelRun0_A.sl.HS1_27, kernelRun0_A.sl.HS1_3, kernelRun0_A.sl.HS1_30, kernelRun0_A.sl.HS1_33, kernelRun0_A.sl.HS1_6, kernelRun0_A.sl.HS1_9, kernelRun0_A.sl.HS2_11, kernelRun0_A.sl.cst_264, kernelRun0_A.sl.cst_306, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_3, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_4, kernelRun0_A.sl.r_40, kernelRun0_A.sl.r_5, kernelRun0_A.sl.r_6, kernelRun0_A.sl.r_7, kernelRun0_A.sl.r_8, kernelRun0_A.sl.r_9, kernelRun0_A.sl.v118, kernelRun0_A.sl.v124, kernelRun0_A.sl.v129, kernelRun0_A.sl.v173, kernelRun0_A.sl.v179, kernelRun0_A.sl.v184, kernelRun0_A.sl.v228, kernelRun0_A.sl.v234, kernelRun0_A.sl.v239, kernelRun0_A.sl.v283, kernelRun0_A.sl.v289, kernelRun0_A.sl.v294, kernelRun0_A.sl.v338, kernelRun0_A.sl.v344, kernelRun0_A.sl.v349, kernelRun0_A.sl.v393, kernelRun0_A.sl.v399, kernelRun0_A.sl.v404, kernelRun0_A.sl.v448, kernelRun0_A.sl.v454, kernelRun0_A.sl.v459, kernelRun0_A.sl.v503, kernelRun0_A.sl.v509, kernelRun0_A.sl.v514, kernelRun0_A.sl.v558, kernelRun0_A.sl.v564, kernelRun0_A.sl.v569, kernelRun0_A.sl.v613, kernelRun0_A.sl.v619, kernelRun0_A.sl.v624, kernelRun0_A.sl.v668, kernelRun0_A.sl.v674, kernelRun0_A.sl.v679, kernelRun0_A.sl.v699, kernelRun0_A.sl.v92, kernelRun0_A.sl.v96,
    load_wide, load_slim, load_mid, View.readAt_eq_ld, Memref.IsWhole.read_unread]
  rw [View.canon_unit_zero (funext fun a => by match a with | ⟨0, _⟩ => rfl | ⟨1, _⟩ => rfl)]
  unfold stored pieces chunk gates rows
  rfl

end Cert.Kernel2Ideal.Tile

end
-- ==== Proof.FfnRead.lean ====
/-
  One point of the feed-forward kernel read element by element.
-/
module

public import proofs.«01_k».proof.Proof.FfnTile

@[expose] public section

set_option maxRecDepth 16384

noncomputable section

open Idealize.ShloMosaic Idealize.ShloMosaic.TcCoe Idealize.SL.Sem

namespace Cert.Kernel2Ideal.Tile

open Cert.Kernel2Ideal Cert.Kernel2Ideal.Gen Cert.Layer

/-- The row of the sequence at place `a` of the block with its halo. -/
def near (x0 : Vec Ideal S512x1024 .f32) (x1 x2 : Vec Ideal S16x1024 .f32) (a : Fin 544) (i : Fin 1024) : EReal :=
  if h : a.val < 16 then x1 (ix2 ⟨a.val, h⟩ i)
  else if h' : a.val < 528 then x0 (ix2 ⟨a.val - 16, by omega⟩ i)
  else x2 (ix2 ⟨a.val - 528, by omega⟩ i)

theorem above_read (g : Vec Ideal S1x1024 .f32) (sh sc : Vec Ideal S1x1x1024 .f32) (x : Vec Ideal S16x1024 .f32) (r : Fin 16) (k : Fin 1024) :
    k0_pay9 (F := Ideal) (k0_pay2 g) (k0_pay3 sh) (k0_pay4 sc) x (ix2 r k)
      = modn (fun i => x (ix2 r i)) (fun i => g (ix2 0 i)) (fun i => sc (ix3 0 0 i)) (fun i => sh (ix3 0 0 i)) k := by
  unfold modn rms
  pointwise [k0_pay9, k0_pay2, k0_pay3, k0_pay4]

theorem below_read (g : Vec Ideal S1x1024 .f32) (sh sc : Vec Ideal S1x1x1024 .f32) (x : Vec Ideal S16x1024 .f32) (r : Fin 16) (k : Fin 1024) :
    k0_pay11 (F := Ideal) (k0_pay3 sh) (k0_pay4 sc) (k0_pay10 (k0_pay2 g) x) (ix2 r k)
      = modn (fun i => x (ix2 r i)) (fun i => g (ix2 0 i)) (fun i => sc (ix3 0 0 i)) (fun i => sh (ix3 0 0 i)) k := by
  unfold modn rms
  pointwise [k0_pay11, k0_pay10, k0_pay2, k0_pay3, k0_pay4]

theorem block_read (g : Vec Ideal S1x1024 .f32) (sh sc : Vec Ideal S1x1x1024 .f32) (x : Vec Ideal S512x1024 .f32) (r : Fin 512) (k : Fin 1024) :
    k0_pay8 (F := Ideal) (k0_pay6 g sc x) (k0_pay7 sh) (ix2 r k)
      = modn (fun i => x (ix2 r i)) (fun i => g (ix2 0 i)) (fun i => sc (ix3 0 0 i)) (fun i => sh (ix3 0 0 i)) k := by
  unfold modn rms
  pointwise [k0_pay8, k0_pay6, k0_pay7, k0_pay5, k0_pay2, k0_pay3, k0_pay4]

/-- The normed rows. -/
theorem rows_read (x0 : Vec Ideal S512x1024 .f32) (x1 x2 : Vec Ideal S16x1024 .f32) (x3 : Vec Ideal S1x6x1024 .f32) (x4 : Vec Ideal S1x1024 .f32)
    (a : Fin 544) (k : Fin 1024) :
    rows x0 x1 x2 x3 x4 (ix2 a k)
      = modn (near x0 x1 x2 a) (fun i => x4 (ix2 0 i)) (fun i => x3 (ix3 0 4 i)) (fun i => x3 (ix3 0 3 i)) k := by
  have e4 : ∀ i : Fin 1024, View.ld x4 (Rect.unit (s := S1x1024) ![0, 0] S1x1024.size inb_S1x1024_S1x1024_0_0) (ix2 0 i) = x4 (ix2 0 i) := by
    intro i
    pointwise []
  have e3 : ∀ i : Fin 1024, View.ld x3 (Rect.unit (s := S1x6x1024) ![0, 4, 0] S1x1x1024.size inb_S1x6x1024_S1x1x1024_0_4_0) (ix3 0 0 i) = x3 (ix3 0 4 i) := by
    intro i
    pointwise []
  have e2 : ∀ i : Fin 1024, View.ld x3 (Rect.unit (s := S1x6x1024) ![0, 3, 0] S1x1x1024.size inb_S1x6x1024_S1x1x1024_0_3_0) (ix3 0 0 i) = x3 (ix3 0 3 i) := by
    intro i
    pointwise []
  unfold rows wide
  show (if h : a.val < 16 then _ else if h' : a.val < 528 then _ else _) = _
  by_cases c1 : a.val < 16
  · rw [dif_pos c1]
    refine (above_read _ _ _ _ ⟨a.val, c1⟩ k).trans ?_
    refine congrFun (congr (congr (congr (congrArg _ ?_) (funext e4)) (funext e3)) (funext e2)) k
    funext i
    unfold near
    rw [dif_pos c1]
    pointwise []
  · rw [dif_neg c1]
    by_cases c2 : a.val < 528
    · rw [dif_pos c2]
      refine (block_read _ _ _ _ ⟨a.val - 16, by omega⟩ k).trans ?_
      refine congrFun (congr (congr (congr (congrArg _ ?_) (funext e4)) (funext e3)) (funext e2)) k
      funext i
      unfold near
      rw [dif_neg c1, dif_pos c2]
      pointwise []
    · rw [dif_neg c2]
      refine (below_read _ _ _ _ ⟨a.val - 528, by omega⟩ k).trans ?_
      refine congrFun (congr (congr (congr (congrArg _ ?_) (funext e4)) (funext e3)) (funext e2)) k
      funext i
      unfold near
      rw [dif_neg c1, dif_neg c2]
      pointwise []

/-- The factor a halo is kept by: none of it where the flag is set. -/
def keep (b : BitVec 1) : EReal := Scalar.select b (Ideal.ofBits .f32 0x00000000#32) (Ideal.ofBits .f32 0x3F800000#32)

/-- The gate at place `a` of the block with its halo. -/
def gateAt (top bot : BitVec 1) (H : Vec Ideal S544x1024 .bf16) (wg : Fin 1024 → EReal) (a : Fin 544) : EReal :=
  if a.val < 16 then (∑ d : Fin 1024, H (ix2 a d) * wg d) * keep top
  else if a.val < 528 then ∑ d : Fin 1024, H (ix2 a d) * wg d
  else (∑ d : Fin 1024, H (ix2 a d) * wg d) * keep bot

theorem gates_read (top bot : BitVec 1) (H : Vec Ideal S544x1024 .bf16) (w : Vec Ideal S1024x256 .bf16) (a : Fin 544) (j : Fin 256) :
    gates top bot H w (ix2 a j) = gateAt top bot H (fun d => w (ix2 d j)) a := by
  unfold gates slim gateAt
  show (if h : a.val < 16 then _ else if h' : a.val < 528 then _ else _) = _
  by_cases c1 : a.val < 16
  · rw [dif_pos c1, if_pos c1]
    show k0_pay17 (F := Ideal) top H w (ix2 ⟨a.val, c1⟩ j) = _
    unfold keep
    pointwise [k0_pay17, k0_pay15, k0_pay12]
  · rw [dif_neg c1, if_neg c1]
    by_cases c2 : a.val < 528
    · rw [dif_pos c2, if_pos c2]
      show k0_pay16 (F := Ideal) H w (ix2 ⟨a.val - 16, by omega⟩ j) = _
      pointwise [k0_pay16, k0_pay15]
      simp only [show (⟨16 + (a.val - 16), by omega⟩ : Fin 544) = a from Fin.ext (by show 16 + (a.val - 16) = a.val; omega)]
    · rw [dif_neg c2, if_neg c2]
      show k0_pay19 (F := Ideal) (k0_pay18 bot H w) (ix2 ⟨a.val - 528, by omega⟩ j) = _
      unfold keep
      pointwise [k0_pay19, k0_pay18, k0_pay15, k0_pay13]
      simp only [show (⟨528 + (a.val - 528), by omega⟩ : Fin 544) = a from Fin.ext (by show 528 + (a.val - 528) = a.val; omega)]

/-- The gated column of one chunk, from its loads. -/
theorem mix_read (v : FVec Ideal S512x256 .f32) (b w1 w0 w2 : Vec Ideal S1x256 .f32) (g1 g0 g2 : Vec Ideal S512x256 .f32) (r : Fin 512) (j : Fin 256) :
    k0_pay20 (F := Ideal) v b g1 w1 g0 w0 g2 w2 (ix2 r j)
      = v (ix2 r j) * gelu (b (ix2 0 j) + g1 (ix2 r j) * w1 (ix2 0 j) + g0 (ix2 r j) * w0 (ix2 0 j) + g2 (ix2 r j) * w2 (ix2 0 j)) := by
  unfold gelu
  pointwise [k0_pay20]
  rw [show (Named.named κ "inv_sqrt_2" 0x3F3504F3#32 : Ideal .f32) = (((Real.sqrt 2)⁻¹ : ℝ) : EReal) from
    IdealRules.named_const.ideal_named_scalar _ _ _ _ rfl]
  rfl

/-- A gated column of the point: value times the gelu of the gate convolved over three rows. -/
def mixed (top bot : BitVec 1) (H : Vec Ideal S544x1024 .bf16) (wv wg : Vec Ideal S1024x2816 .bf16) (dw : Vec Ideal S3x2816 .f32)
    (db : Vec Ideal S1x2816 .f32) (r : Fin 512) (J : Fin 2816) : EReal :=
  (∑ d : Fin 1024, H (ix2 ⟨16 + r.val, by omega⟩ d) * wv (ix2 d J))
    * gelu (db (ix2 0 J) + gateAt top bot H (fun d => wg (ix2 d J)) ⟨16 + r.val, by omega⟩ * dw (ix2 1 J)
      + gateAt top bot H (fun d => wg (ix2 d J)) ⟨15 + r.val, by omega⟩ * dw (ix2 0 J)
      + gateAt top bot H (fun d => wg (ix2 d J)) ⟨17 + r.val, by omega⟩ * dw (ix2 2 J))

theorem value_read (h : Vec Ideal S512x1024 .bf16) (w : Vec Ideal S1024x256 .bf16) (r : Fin 512) (j : Fin 256) :
    k0_pay14 (F := Ideal) h w (ix2 r j) = ∑ d : Fin 1024, h (ix2 r d) * w (ix2 d j) := by
  pointwise [k0_pay14]

theorem chunk_read (top bot : BitVec 1) (H : Vec Ideal S544x1024 .bf16) (wv wg : Vec Ideal S1024x2816 .bf16) (dw : Vec Ideal S3x2816 .f32)
    (db : Vec Ideal S1x2816 .f32) (o : ℕ) (h : o + 256 ≤ 2816) (r : Fin 512) (j : Fin 256) (J : Fin 2816) (hJ : J.val = o + j.val) :
    chunk top bot H wv wg dw db o h (ix2 r j) = mixed top bot H wv wg dw db r J := by
  have eH : View.ld H (Rect.unit (s := S544x1024) ![0, 0] S544x1024.size inb_S544x1024_S544x1024_0_0) = H := by
    refine funext fun y => congrArg H (funext fun a => Fin.ext ?_)
    match a with
    | ⟨0, _⟩ => show 0 + 1 * (y 0).val = (y 0).val; omega
    | ⟨1, _⟩ => show 0 + 1 * (y 1).val = (y 1).val; omega
  have eg : (fun d : Fin 1024 => View.ld wg (Rect.unit (s := S1024x2816) ![0, o] S1024x256.size (inside (by norm_num) h)) (ix2 d j))
      = fun d => wg (ix2 d J) := by
    refine funext fun d => congrArg wg (funext fun a => Fin.ext ?_)
    match a with
    | ⟨0, _⟩ => show 0 + 1 * d.val = d.val; omega
    | ⟨1, _⟩ => show o + 1 * j.val = J.val; omega
  have ed : ∀ (x : ℕ) (i : Fin 3) (hx : x + 1 ≤ 3), i.val = x →
      View.ld dw (Rect.unit (s := S3x2816) ![x, o] S1x256.size (inside hx h)) (ix2 0 j) = dw (ix2 i J) := by
    intro x i hx hi
    refine congrArg dw (funext fun a => Fin.ext ?_)
    match a with
    | ⟨0, _⟩ => show x + 1 * 0 = i.val; omega
    | ⟨1, _⟩ => show o + 1 * j.val = J.val; omega
  have tap : ∀ (x : ℕ) (hx : ∀ a, (![x, 0] : Fin 2 → ℕ) a + S512x256.size a ≤ S544x256.size a) (G : Vec Ideal S544x256 .f32) (a' : Fin 544),
      a'.val = x + r.val → View.ld G (Rect.unit (s := S544x256) ![x, 0] S512x256.size hx) (ix2 r j) = G (ix2 a' j) := by
    intro x hx G a' ha
    refine congrArg G (funext fun a => Fin.ext ?_)
    match a with
    | ⟨0, _⟩ => show x + 1 * r.val = a'.val; omega
    | ⟨1, _⟩ => show 0 + 1 * j.val = j.val; omega
  unfold chunk
  dsimp only
  rw [mix_read, value_read, eH, tap 16 _ _ ⟨16 + r.val, by omega⟩ rfl, tap 15 _ _ ⟨15 + r.val, by omega⟩ rfl,
    tap 17 _ _ ⟨17 + r.val, by omega⟩ rfl, gates_read, gates_read, gates_read, eg]
  unfold mixed
  refine congr (congrArg _ (Finset.sum_congr rfl fun d _ => congr (congrArg _ ?_) ?_)) (congrArg _ ?_)
  · refine congrArg H (funext fun a => Fin.ext ?_)
    match a with
    | ⟨0, _⟩ => show 16 + 1 * r.val = 16 + r.val; omega
    | ⟨1, _⟩ => show 0 + 1 * d.val = d.val; omega
  · refine congrArg wv (funext fun a => Fin.ext ?_)
    match a with
    | ⟨0, _⟩ => show 0 + 1 * d.val = d.val; omega
    | ⟨1, _⟩ => show o + 1 * j.val = J.val; omega
  · rw [ed 0 0 (by norm_num) rfl, ed 1 1 (by norm_num) rfl, ed 2 2 (by norm_num) rfl]
    refine congr (congrArg _ (congr (congrArg _ (congr (congrArg _ ?_) rfl)) rfl)) rfl
    refine congrArg db (funext fun a => Fin.ext ?_)
    match a with
    | ⟨0, _⟩ => rfl
    | ⟨1, _⟩ => show o + 1 * j.val = J.val; omega

/-- The gated columns, read back over the eleven chunks. -/
theorem mid_read (top bot : BitVec 1) (H : Vec Ideal S544x1024 .bf16) (wv wg : Vec Ideal S1024x2816 .bf16) (dw : Vec Ideal S3x2816 .f32)
    (db : Vec Ideal S1x2816 .f32) (r : Fin 512) (J : Fin 2816) :
    View.canon (pieces top bot H wv wg dw db) (ix2 r J) = mixed top bot H wv wg dw db r J := by
  have one : ∀ (o : ℕ) (h : o + 256 ≤ 2816) (hb : ∀ a, (![0, o] : Fin 2 → ℕ) a + S512x256.size a ≤ S512x2816.size a)
      (x : (Rect.unit (s := S512x2816) ![0, o] S512x256.size hb).shape.Idx),
      (Rect.unit (s := S512x2816) ![0, o] S512x256.size hb).idx x = ix2 r J →
      chunk top bot H wv wg dw db o h x = mixed top bot H wv wg dw db r J := by
    intro o h hb x hx
    have h0 : 0 + 1 * (x 0).val = r.val := congrArg (fun y : S512x2816.Idx => (y 0).val) hx
    have h1 : o + 1 * (x 1).val = J.val := congrArg (fun y : S512x2816.Idx => (y 1).val) hx
    have ex : x = (ix2 r ⟨J.val - o, by have : (x 1).val < 256 := (x 1).isLt; omega⟩ : S512x256.Idx) := by
      refine funext fun a => Fin.ext ?_
      match a with
      | ⟨0, _⟩ => show (x 0).val = r.val; omega
      | ⟨1, _⟩ => show (x 1).val = J.val - o; omega
    rw [ex]
    exact chunk_read top bot H wv wg dw db o h r _ J (by show J.val = o + (J.val - o); omega)
  refine View.canon_eq_of_allAt _ _ _ (View.cover_of_tiled_head _ _ _ rfl _) ?_
  intro p hp x hx
  simp only [pieces, List.mem_cons, List.not_mem_nil, or_false] at hp
  rcases hp with rfl | rfl | rfl | rfl | rfl | rfl | rfl | rfl | rfl | rfl | rfl <;> exact one _ (by norm_num) (inside (by norm_num) (by norm_num)) x hx

/-- What a point stores at one place. -/
theorem stored_read (x0 : Vec Ideal S512x1024 .f32) (x3 : Vec Ideal S1x6x1024 .f32) (M : Vec Ideal S512x2816 .bf16) (x9 : Vec Ideal S2816x1024 .bf16)
    (x10 : Vec Ideal S1x1024 .f32) (r : Fin 512) (k : Fin 1024) :
    let y : Fin 1024 → EReal := fun i => x0 (ix2 r i) + x3 (ix3 0 5 i) * ∑ e : Fin 2816, M (ix2 r e) * x9 (ix2 e i)
    stored x0 x3 M x9 x10 (ix2 r k) = y k * rms y * x10 (ix2 0 k) := by
  intro y
  unfold rms
  pointwise [stored, k0_pay1, k0_pay95, k0_pay96, k0_pay97, k0_pay5]
  rfl

end Cert.Kernel2Ideal.Tile

end
-- ==== Proof.FfnAgree.lean ====
/-
  The feed-forward part's output array is the reference's.
-/
module

public import proofs.«01_k».proof.Proof.FfnRead
public import proofs.«01_k».proof.Proof.FfnRef
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.Kernel2Ideal.Agree

open Cert.Kernel2Ideal Cert.Kernel2Ideal.Gen Cert.Kernel2Ideal.Tile Cert.Layer
open Cert.Reference2Ideal.Steps (rowR hR valR gateR padR convR midR ontoR lastR allR hR_read valR_read gateR_read padR_read convR_read midR_read ontoR_read lastR_read)

/-- The rows and the batch entry of each point's blocks. -/
theorem index_x : ∀ t : Fin grid0.N, (win0_0.index t 0 = t.val ∧ win0_0.index t 1 = 0) ∧ (win0_1.index t 0 = 32 * t.val - 1 ∧ win0_1.index t 1 = 0)
    ∧ (win0_2.index t 0 = min (32 * (t.val + 1)) 1023 ∧ win0_2.index t 1 = 0) ∧ (win0_11.index t 0 = t.val ∧ win0_11.index t 1 = 0) := by
  decide +kernel
theorem index_mod : ∀ t : Fin grid0.N, win0_3.index t 0 = t.val / 16 ∧ win0_3.index t 1 = 0 ∧ win0_3.index t 2 = 0 := by decide +kernel
theorem index_w : ∀ t : Fin grid0.N, (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0)
    ∧ (win0_10.index t 0 = 0 ∧ win0_10.index t 1 = 0) := by decide +kernel
theorem flush_o : ∀ t : Fin grid0.N, win0_11.flush t = true := by decide +kernel
/-- The two flags: the first tile of a batch entry, and the last. -/
theorem flags : ∀ t : Fin grid0.N, kernelRun0_A.sl.v10 (grid0.coords t) = (if t.val % 16 = 0 then 1#1 else 0#1)
    ∧ kernelRun0_A.sl.v11 (grid0.coords t) = (if t.val % 16 = 15 then 1#1 else 0#1) := by decide +kernel

section prep
variable {F : FTy → Type} [FloatOps F] [Named F] (m : (ℓ : Loc nD τ sig) → Buf (Elt F) ℓ) (c : Dev nD)

theorem V_val : V m c main_v1 = truncf .bf16 (extractStridedSlice S1024x2816 ![0, 0] (m ((c : Thread nD τ).loc main_arg3) : FVec F S1024x5632 .f32) slices_S1024x5632_S1024x2816_0_0 : FVec F S1024x2816 .f32) bitsLt_bf16_f32 := by
  unfold_abbrev_sides
  after_results <;> rfl
theorem V_gate : V m c main_v3 = truncf .bf16 (extractStridedSlice S1024x2816 ![0, 2816] (m ((c : Thread nD τ).loc main_arg3) : FVec F S1024x5632 .f32) slices_S1024x5632_S1024x2816_0_2816 : FVec F S1024x2816 .f32) bitsLt_bf16_f32 := by
  unfold_abbrev_sides
  after_results <;> rfl
theorem V_x : V m c main_v4 = (shapeCast S16384x1024 (m ((c : Thread nD τ).loc main_arg0) : FVec F S2x8192x1024 .f32) shapeCasts_S2x8192x1024_S16384x1024 : FVec F S16384x1024 .f32) := by
  unfold_abbrev_sides
  after_results <;> rfl
theorem V_mod : V m c main_v5 = (shapeCast S2x6x1024 (m ((c : Thread nD τ).loc main_arg1) : FVec F S2x6144 .f32) shapeCasts_S2x6144_S2x6x1024 : FVec F S2x6x1024 .f32) := by
  unfold_abbrev_sides
  after_results <;> rfl
theorem V_down : V m c main_v6 = truncf .bf16 (m ((c : Thread nD τ).loc main_arg6) : FVec F S2816x1024 .f32) bitsLt_bf16_f32 := by
  unfold_abbrev_sides
  after_results <;> rfl
theorem V_gain : V m c main_v7 = (shapeCast S1x1024 (m ((c : Thread nD τ).loc main_arg2) : FVec F S1024 .f32) shapeCasts_S1024_S1x1024 : FVec F S1x1024 .f32) := by
  unfold_abbrev_sides
  after_results <;> rfl
theorem V_bias : V m c main_v8 = (shapeCast S1x2816 (m ((c : Thread nD τ).loc main_arg5) : FVec F S2816 .f32) shapeCasts_S2816_S1x2816 : FVec F S1x2816 .f32) := by
  unfold_abbrev_sides
  after_results <;> rfl
theorem V_last : V m c main_v9 = (shapeCast S1x1024 (m ((c : Thread nD τ).loc main_arg7) : FVec F S1024 .f32) shapeCasts_S1024_S1x1024 : FVec F S1x1024 .f32) := by
  unfold_abbrev_sides
  after_results <;> rfl
theorem V_conv : V m c main_arg4 = m ((c : Thread nD τ).loc main_arg4) := by
  unfold_abbrev_sides
  after_results <;> rfl
end prep

/-- A row of the flattened sequence is a row of one batch entry. -/
theorem flat_x (x : FVec Ideal S2x8192x1024 .f32) (y : Fin 16384) (k : Fin 1024) (b : Fin 2) (s : Fin 8192) (h : y.val = b.val * 8192 + s.val) :
    (shapeCast S16384x1024 x shapeCasts_S2x8192x1024_S16384x1024 : FVec Ideal S16384x1024 .f32) (ix2 y k) = x (ix3 b s k) := by
  have e : (shapeCast S16384x1024 x shapeCasts_S2x8192x1024_S16384x1024 : FVec Ideal S16384x1024 .f32) (ix2 y k)
      = x (ix3 ⟨y / 8192, by omega⟩ ⟨y % 8192, by omega⟩ k) := by
    pointwise []
  rw [e, show (⟨y / 8192, by omega⟩ : Fin 2) = b from Fin.ext (by show y.val / 8192 = b.val; omega),
    show (⟨y % 8192, by omega⟩ : Fin 8192) = s from Fin.ext (by show y.val % 8192 = s.val; omega)]

section blocks
variable (m : (ℓ : Loc nD τ sig) → Buf (Elt Ideal) ℓ) (c : Dev nD) (t : Fin cfg0.N)

/-- The blocks of rows: the tile's own, and the sixteen rows above and below it. -/
theorem blk_x (r : Fin 512) (k : Fin 1024) (b : Fin 2) (s : Fin 8192) (h : t.val * 512 + r.val = b.val * 8192 + s.val) :
    (iblk m c 0 t : Vec Ideal S512x1024 .f32) (ix2 r k) = (m ((c : Thread nD τ).loc main_arg0) : Vec Ideal S2x8192x1024 .f32) (ix3 b s k) := by
  have : (iblk m c 0 t : Vec Ideal S512x1024 .f32) (ix2 r k) = (V m c main_v4 : Vec Ideal S16384x1024 .f32) (ix2 ⟨b.val * 8192 + s.val, by omega⟩ k) := by
    refine congrArg (V m c main_v4 : Vec Ideal S16384x1024 .f32) (funext fun a => Fin.ext ?_)
    match a with
    | ⟨0, _⟩ => show win0_0.index t 0 * 512 + 1 * r.val = b.val * 8192 + s.val; rw [(index_x t).1.1, ← h, Nat.one_mul]
    | ⟨1, _⟩ => show win0_0.index t 1 * 1024 + 1 * k.val = k.val; rw [(index_x t).1.2, Nat.zero_mul, Nat.zero_add, Nat.one_mul]
  rw [this, V_x, flat_x _ _ k b s rfl]

theorem blk_above (r : Fin 16) (k : Fin 1024) (b : Fin 2) (s : Fin 8192) (h : (32 * t.val - 1) * 16 + r.val = b.val * 8192 + s.val) :
    (iblk m c 1 t : Vec Ideal S16x1024 .f32) (ix2 r k) = (m ((c : Thread nD τ).loc main_arg0) : Vec Ideal S2x8192x1024 .f32) (ix3 b s k) := by
  have : (iblk m c 1 t : Vec Ideal S16x1024 .f32) (ix2 r k) = (V m c main_v4 : Vec Ideal S16384x1024 .f32) (ix2 ⟨b.val * 8192 + s.val, by omega⟩ k) := by
    refine congrArg (V m c main_v4 : Vec Ideal S16384x1024 .f32) (funext fun a => Fin.ext ?_)
    match a with
    | ⟨0, _⟩ => show win0_1.index t 0 * 16 + 1 * r.val = b.val * 8192 + s.val; rw [(index_x t).2.1.1, ← h, Nat.one_mul]
    | ⟨1, _⟩ => show win0_1.index t 1 * 1024 + 1 * k.val = k.val; rw [(index_x t).2.1.2, Nat.zero_mul, Nat.zero_add, Nat.one_mul]
  rw [this, V_x, flat_x _ _ k b s rfl]

theorem blk_below (r : Fin 16) (k : Fin 1024) (b : Fin 2) (s : Fin 8192) (h : min (32 * (t.val + 1)) 1023 * 16 + r.val = b.val * 8192 + s.val) :
    (iblk m c 2 t : Vec Ideal S16x1024 .f32) (ix2 r k) = (m ((c : Thread nD τ).loc main_arg0) : Vec Ideal S2x8192x1024 .f32) (ix3 b s k) := by
  have : (iblk m c 2 t : Vec Ideal S16x1024 .f32) (ix2 r k) = (V m c main_v4 : Vec Ideal S16384x1024 .f32) (ix2 ⟨b.val * 8192 + s.val, by omega⟩ k) := by
    refine congrArg (V m c main_v4 : Vec Ideal S16384x1024 .f32) (funext fun a => Fin.ext ?_)
    match a with
    | ⟨0, _⟩ => show win0_2.index t 0 * 16 + 1 * r.val = b.val * 8192 + s.val; rw [(index_x t).2.2.1.1, ← h, Nat.one_mul]
    | ⟨1, _⟩ => show win0_2.index t 1 * 1024 + 1 * k.val = k.val; rw [(index_x t).2.2.1.2, Nat.zero_mul, Nat.zero_add, Nat.one_mul]
  rw [this, V_x, flat_x _ _ k b s rfl]

/-- The modulation vectors of the point's batch entry. -/
theorem blk_mod (p : Fin 6) (k : Fin 1024) (b : Fin 2) (hb : b.val = t.val / 16) :
    (iblk m c 3 t : Vec Ideal S1x6x1024 .f32) (ix3 0 p k)
      = (m ((c : Thread nD τ).loc main_arg1) : Vec Ideal S2x6144 .f32) (ix2 b ⟨p * 1024 + k, by omega⟩) := by
  have : (iblk m c 3 t : Vec Ideal S1x6x1024 .f32) (ix3 0 p k) = (V m c main_v5 : Vec Ideal S2x6x1024 .f32) (ix3 b p k) := by
    obtain ⟨e0, e1, e2⟩ := index_mod t
    refine congrArg (V m c main_v5 : Vec Ideal S2x6x1024 .f32) (funext fun a => Fin.ext ?_)
    match a with
    | ⟨0, _⟩ => show win0_3.index t 0 * 1 + 1 * 0 = b.val; rw [e0, hb]; omega
    | ⟨1, _⟩ => show win0_3.index t 1 * 6 + 1 * p.val = p.val; rw [e1]; omega
    | ⟨2, _⟩ => show win0_3.index t 2 * 1024 + 1 * k.val = k.val; rw [e2]; omega
  rw [this, V_mod]
  pointwise []

/-- The weights, whole at every point. -/
theorem blk_gain (k : Fin 1024) : (iblk m c 4 t : Vec Ideal S1x1024 .f32) (ix2 0 k)
      = (m ((c : Thread nD τ).loc main_arg2) : Vec Ideal S1024 .f32) (ix1 k) := by
  have : (iblk m c 4 t : Vec Ideal S1x1024 .f32) (ix2 0 k) = (V m c main_v7 : Vec Ideal S1x1024 .f32) (ix2 0 k) := by
    refine congrArg (V m c main_v7 : Vec Ideal S1x1024 .f32) (funext fun a => Fin.ext ?_)
    match a with
    | ⟨0, _⟩ => show win0_4.index t 0 * 1 + 1 * 0 = 0; rw [(index_w t).1.1]
    | ⟨1, _⟩ => show win0_4.index t 1 * 1024 + 1 * k.val = k.val; rw [(index_w t).1.2]; omega
  rw [this, V_gain]
  pointwise []

theorem blk_val (i : Fin 1024) (k : Fin 2816) : (iblk m c 5 t : Vec Ideal S1024x2816 .bf16) (ix2 i k)
      = (m ((c : Thread nD τ).loc main_arg3) : Vec Ideal S1024x5632 .f32) (ix2 i ⟨k, by omega⟩) := by
  have : (iblk m c 5 t : Vec Ideal S1024x2816 .bf16) (ix2 i k) = (V m c main_v1 : Vec Ideal S1024x2816 .bf16) (ix2 i k) := by
    refine congrArg (V m c main_v1 : Vec Ideal S1024x2816 .bf16) (funext fun a => Fin.ext ?_)
    match a with
    | ⟨0, _⟩ => show win0_5.index t 0 * 1024 + 1 * i.val = i.val; rw [(index_w t).2.1.1]; omega
    | ⟨1, _⟩ => show win0_5.index t 1 * 2816 + 1 * k.val = k.val; rw [(index_w t).2.1.2]; omega
  rw [this, V_val]
  pointwise []

theorem blk_gate (i : Fin 1024) (k : Fin 2816) : (iblk m c 6 t : Vec Ideal S1024x2816 .bf16) (ix2 i k)
      = (m ((c : Thread nD τ).loc main_arg3) : Vec Ideal S1024x5632 .f32) (ix2 i ⟨2816 + k, by omega⟩) := by
  have : (iblk m c 6 t : Vec Ideal S1024x2816 .bf16) (ix2 i k) = (V m c main_v3 : Vec Ideal S1024x2816 .bf16) (ix2 i k) := by
    refine congrArg (V m c main_v3 : Vec Ideal S1024x2816 .bf16) (funext fun a => Fin.ext ?_)
    match a with
    | ⟨0, _⟩ => show win0_6.index t 0 * 1024 + 1 * i.val = i.val; rw [(index_w t).2.2.1.1]; omega
    | ⟨1, _⟩ => show win0_6.index t 1 * 2816 + 1 * k.val = k.val; rw [(index_w t).2.2.1.2]; omega
  rw [this, V_gate]
  pointwise []

theorem blk_conv (p : Fin 3) (k : Fin 2816) : (iblk m c 7 t : Vec Ideal S3x2816 .f32) (ix2 p k)
      = (m ((c : Thread nD τ).loc main_arg4) : Vec Ideal S3x2816 .f32) (ix2 p k) := by
  have : (iblk m c 7 t : Vec Ideal S3x2816 .f32) (ix2 p k) = (V m c main_arg4 : Vec Ideal S3x2816 .f32) (ix2 p k) := by
    refine congrArg (V m c main_arg4 : Vec Ideal S3x2816 .f32) (funext fun a => Fin.ext ?_)
    match a with
    | ⟨0, _⟩ => show win0_7.index t 0 * 3 + 1 * p.val = p.val; rw [(index_w t).2.2.2.1.1]; omega
    | ⟨1, _⟩ => show win0_7.index t 1 * 2816 + 1 * k.val = k.val; rw [(index_w t).2.2.2.1.2]; omega
  rw [this, V_conv]

theorem blk_bias (k : Fin 2816) : (iblk m c 8 t : Vec Ideal S1x2816 .f32) (ix2 0 k)
      = (m ((c : Thread nD τ).loc main_arg5) : Vec Ideal S2816 .f32) (ix1 k) := by
  have : (iblk m c 8 t : Vec Ideal S1x2816 .f32) (ix2 0 k) = (V m c main_v8 : Vec Ideal S1x2816 .f32) (ix2 0 k) := by
    refine congrArg (V m c main_v8 : Vec Ideal S1x2816 .f32) (funext fun a => Fin.ext ?_)
    match a with
    | ⟨0, _⟩ => show win0_8.index t 0 * 1 + 1 * 0 = 0; rw [(index_w t).2.2.2.2.1.1]
    | ⟨1, _⟩ => show win0_8.index t 1 * 2816 + 1 * k.val = k.val; rw [(index_w t).2.2.2.2.1.2]; omega
  rw [this, V_bias]
  pointwise []

theorem blk_down (i : Fin 2816) (k : Fin 1024) : (iblk m c 9 t : Vec Ideal S2816x1024 .bf16) (ix2 i k)
      = (m ((c : Thread nD τ).loc main_arg6) : Vec Ideal S2816x1024 .f32) (ix2 i k) := by
  have : (iblk m c 9 t : Vec Ideal S2816x1024 .bf16) (ix2 i k) = (V m c main_v6 : Vec Ideal S2816x1024 .bf16) (ix2 i k) := by
    refine congrArg (V m c main_v6 : Vec Ideal S2816x1024 .bf16) (funext fun a => Fin.ext ?_)
    match a with
    | ⟨0, _⟩ => show win0_9.index t 0 * 2816 + 1 * i.val = i.val; rw [(index_w t).2.2.2.2.2.1.1]; omega
    | ⟨1, _⟩ => show win0_9.index t 1 * 1024 + 1 * k.val = k.val; rw [(index_w t).2.2.2.2.2.1.2]; omega
  rw [this, V_down]
  pointwise []

theorem blk_last (k : Fin 1024) : (iblk m c 10 t : Vec Ideal S1x1024 .f32) (ix2 0 k)
      = (m ((c : Thread nD τ).loc main_arg7) : Vec Ideal S1024 .f32) (ix1 k) := by
  have : (iblk m c 10 t : Vec Ideal S1x1024 .f32) (ix2 0 k) = (V m c main_v9 : Vec Ideal S1x1024 .f32) (ix2 0 k) := by
    refine congrArg (V m c main_v9 : Vec Ideal S1x1024 .f32) (funext fun a => Fin.ext ?_)
    match a with
    | ⟨0, _⟩ => show win0_10.index t 0 * 1 + 1 * 0 = 0; rw [(index_w t).2.2.2.2.2.2.1]
    | ⟨1, _⟩ => show win0_10.index t 1 * 1024 + 1 * k.val = k.val; rw [(index_w t).2.2.2.2.2.2.2]; omega
  rw [this, V_last]
  pointwise []

/-- The points' blocks tile the output. -/
theorem cover (i : S16384x1024.Idx) : ∃ t : Fin cfg0.N, (cfg0.win 11).flush t = true ∧ i ∈ ((cfg0.win 11).blk t).view.set := by
  have h0 : (i 0 : Nat) < 16384 := (i 0).isLt
  have h1 : (i 1 : Nat) < 1024 := (i 1).isLt
  have hN : grid0.N = 32 := by decide +kernel
  let t : Fin grid0.N := ⟨(i 0 : Nat) / 512, by omega⟩
  refine ⟨t, flush_o t, ?_⟩
  show i ∈ ((View.whole main_v10).slice (win0_11.rect t)).set
  rw [View.set_slice_whole, Rect.mem_set_unit]
  obtain ⟨e0, e1⟩ := (index_x t).2.2.2
  have ht : t.val = (i 0 : Nat) / 512 := rfl
  intro a
  match a with
  | ⟨0, _⟩ => show win0_11.index t 0 * 512 ≤ (i 0 : Nat) ∧ (i 0 : Nat) < win0_11.index t 0 * 512 + 512
              rw [e0]; omega
  | ⟨1, _⟩ => show win0_11.index t 1 * 1024 ≤ (i 1 : Nat) ∧ (i 1 : Nat) < win0_11.index t 1 * 1024 + 1024
              rw [e1]; omega

/-- The normed rows of a point are the reference's, at every place the convolution takes from inside the batch entry. -/
theorem rows_at (a : Fin 544) (d : Fin 1024) (b : Fin 2) (s : Fin 8192) (hb : b.val = t.val / 16) (ha : 15 ≤ a.val ∧ a.val ≤ 528)
    (hs : s.val + 16 = t.val % 16 * 512 + a.val) :
    rows (iblk m c 0 t) (iblk m c 1 t) (iblk m c 2 t) (iblk m c 3 t) (iblk m c 4 t) (ix2 a d)
      = hR (F := Ideal) (m ((c : Thread nD τ).loc main_arg0)) (m ((c : Thread nD τ).loc main_arg1)) (m ((c : Thread nD τ).loc main_arg2)) (ix3 b s d) := by
  have hN : cfg0.N = 32 := by decide +kernel
  have ht : t.val < 32 := hN ▸ t.isLt
  have e : near (iblk m c 0 t) (iblk m c 1 t) (iblk m c 2 t) a
      = fun i => (m ((c : Thread nD τ).loc main_arg0) : Vec Ideal S2x8192x1024 .f32) (ix3 b s i) := by
    funext i
    unfold near
    by_cases c1 : a.val < 16
    · rw [dif_pos c1, blk_above m c t _ i b s (by show (32 * t.val - 1) * 16 + a.val = _; omega)]
    · rw [dif_neg c1]
      by_cases c2 : a.val < 528
      · rw [dif_pos c2, blk_x m c t _ i b s (by show t.val * 512 + (a.val - 16) = _; omega)]
      · rw [dif_neg c2, blk_below m c t _ i b s (by show min (32 * (t.val + 1)) 1023 * 16 + (a.val - 528) = _; omega)]
  rw [rows_read, hR_read, e]
  simp only [blk_mod m c t _ _ b hb, blk_gain]
  simp only [show ((3 : Fin 6) : ℕ) = 3 from rfl, show ((4 : Fin 6) : ℕ) = 4 from rfl, Nat.reduceMul]

theorem keep_set : keep 1#1 = 0 := by
  show Ideal.ofBits .f32 0x00000000#32 = 0
  simp [Ideal.ofBits, Ideal.ieee]
theorem keep_clear : keep 0#1 = 1 := by
  show Ideal.ofBits .f32 0x3F800000#32 = 1
  simp [Ideal.ofBits, Ideal.ieee, -EReal.coe_mul]; norm_num

/-- The gate of a point at the places the convolution takes is the reference's padded gate. -/
theorem gate_at (a : Fin 544) (J : Fin 2816) (b : Fin 2) (P : Fin 8194) (hb : b.val = t.val / 16) (ha : 15 ≤ a.val ∧ a.val ≤ 528)
    (hP : P.val + 15 = t.val % 16 * 512 + a.val) :
    gateAt (kernelRun0_A.sl.v10 (grid0.coords t)) (kernelRun0_A.sl.v11 (grid0.coords t))
        (rows (iblk m c 0 t) (iblk m c 1 t) (iblk m c 2 t) (iblk m c 3 t) (iblk m c 4 t)) (fun d => (iblk m c 6 t : Vec Ideal S1024x2816 .bf16) (ix2 d J)) a
      = padR (F := Ideal) (gateR (hR (m ((c : Thread nD τ).loc main_arg0)) (m ((c : Thread nD τ).loc main_arg1)) (m ((c : Thread nD τ).loc main_arg2)))
          (m ((c : Thread nD τ).loc main_arg3))) (ix3 b P J) := by
  have hN : cfg0.N = 32 := by decide +kernel
  have ht : t.val < 32 := hN ▸ t.isLt
  rw [padR_read]
  have inner : ∀ h : 1 ≤ P.val ∧ P.val - 1 < 8192,
      (∑ d : Fin 1024, rows (iblk m c 0 t) (iblk m c 1 t) (iblk m c 2 t) (iblk m c 3 t) (iblk m c 4 t) (ix2 a d)
        * (iblk m c 6 t : Vec Ideal S1024x2816 .bf16) (ix2 d J))
      = gateR (F := Ideal) (hR (m ((c : Thread nD τ).loc main_arg0)) (m ((c : Thread nD τ).loc main_arg1)) (m ((c : Thread nD τ).loc main_arg2)))
          (m ((c : Thread nD τ).loc main_arg3)) (ix3 b ⟨P - 1, h.2⟩ J) := by
    intro h
    rw [gateR_read]
    refine Finset.sum_congr rfl fun d _ => ?_
    rw [rows_at m c t a d b ⟨P - 1, h.2⟩ hb ha (by show P.val - 1 + 16 = _; omega), blk_gate]
  obtain ⟨f0, f1⟩ := flags t
  unfold gateAt
  rw [f0, f1]
  by_cases c1 : a.val < 16
  · rw [if_pos c1]
    by_cases h0 : t.val % 16 = 0
    · rw [if_pos h0, keep_set, mul_zero, dif_neg (by omega)]
    · rw [if_neg h0, keep_clear, mul_one, dif_pos (by omega)]
      exact inner (by omega)
  · rw [if_neg c1]
    by_cases c2 : a.val < 528
    · rw [if_pos c2, dif_pos (by omega)]
      exact inner (by omega)
    · rw [if_neg c2]
      by_cases h0 : t.val % 16 = 15
      · rw [if_pos h0, keep_set, mul_zero, dif_neg (by omega)]
      · rw [if_neg h0, keep_clear, mul_one, dif_pos (by omega)]
        exact inner (by omega)

/-- The gated columns of a point are the reference's. -/
theorem mixed_at (r : Fin 512) (J : Fin 2816) (b : Fin 2) (s : Fin 8192) (hb : b.val = t.val / 16) (hs : s.val = t.val % 16 * 512 + r.val) :
    mixed (kernelRun0_A.sl.v10 (grid0.coords t)) (kernelRun0_A.sl.v11 (grid0.coords t))
        (rows (iblk m c 0 t) (iblk m c 1 t) (iblk m c 2 t) (iblk m c 3 t) (iblk m c 4 t)) (iblk m c 5 t) (iblk m c 6 t) (iblk m c 7 t) (iblk m c 8 t) r J
      = midR (F := Ideal) (valR (hR (m ((c : Thread nD τ).loc main_arg0)) (m ((c : Thread nD τ).loc main_arg1)) (m ((c : Thread nD τ).loc main_arg2)))
          (m ((c : Thread nD τ).loc main_arg3)))
        (convR (padR (gateR (hR (m ((c : Thread nD τ).loc main_arg0)) (m ((c : Thread nD τ).loc main_arg1)) (m ((c : Thread nD τ).loc main_arg2)))
          (m ((c : Thread nD τ).loc main_arg3)))) (m ((c : Thread nD τ).loc main_arg4)) (m ((c : Thread nD τ).loc main_arg5))) (ix3 b s J) := by
  rw [midR_read, valR_read, convR_read]
  unfold mixed
  rw [gate_at m c t ⟨16 + r, by omega⟩ J b ⟨1 + s, by omega⟩ hb ⟨by show 15 ≤ 16 + r.val; omega, by show 16 + r.val ≤ 528; omega⟩
      (by show 1 + s.val + 15 = t.val % 16 * 512 + (16 + r.val); omega),
    gate_at m c t ⟨15 + r, by omega⟩ J b ⟨s, by omega⟩ hb ⟨by show 15 ≤ 15 + r.val; omega, by show 15 + r.val ≤ 528; omega⟩
      (by show s.val + 15 = t.val % 16 * 512 + (15 + r.val); omega),
    gate_at m c t ⟨17 + r, by omega⟩ J b ⟨2 + s, by omega⟩ hb ⟨by show 15 ≤ 17 + r.val; omega, by show 17 + r.val ≤ 528; omega⟩
      (by show 2 + s.val + 15 = t.val % 16 * 512 + (17 + r.val); omega)]
  rw [blk_bias, blk_conv, blk_conv, blk_conv]
  refine congr (congrArg _ (Finset.sum_congr rfl fun d _ => ?_)) (congrArg _ ?_)
  · rw [rows_at m c t ⟨16 + r, by omega⟩ d b s hb ⟨by show 15 ≤ 16 + r.val; omega, by show 16 + r.val ≤ 528; omega⟩
      (by show s.val + 16 = t.val % 16 * 512 + (16 + r.val); omega), blk_val]
  · abel
end blocks

/-- The feed-forward part's output array is the reference's, at the same arguments. -/
theorem final (m : (ℓ : Loc nD τ sig) → Buf (Elt Ideal) ℓ) (c : Dev nD) :
    (dats m 0 c).arrAt 11 cfg0.N = allR (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  refine (dats m 0 c).arrAt_eq_of_cover 11 _ (fun t _ => ?_) cover
  rw [Value.flushed11]
  have hN : cfg0.N = 32 := by decide +kernel
  have ht : t.val < 32 := hN ▸ t.isLt
  refine funext fun j => ?_
  obtain ⟨r, hr⟩ : ∃ r : Fin 512, r = j 0 := ⟨j 0, rfl⟩
  obtain ⟨k, hk⟩ : ∃ k : Fin 1024, k = j 1 := ⟨j 1, rfl⟩
  have hj : j = (ix2 r k : S512x1024.Idx) := by
    refine funext fun a => ?_
    match a with
    | ⟨0, _⟩ => exact hr.symm
    | ⟨1, _⟩ => exact hk.symm
  let y : Fin 16384 := ⟨t.val * 512 + r.val, by omega⟩
  have e : (win0_11.rect t).emb j = (ix2 y k : S16384x1024.Idx) := by
    rw [hj]
    refine funext fun a => Fin.ext ?_
    match a with
    | ⟨0, _⟩ => show win0_11.index t 0 * 512 + 1 * r.val = t.val * 512 + r.val; rw [(index_x t).2.2.2.1]; omega
    | ⟨1, _⟩ => show win0_11.index t 1 * 1024 + 1 * k.val = k.val; rw [(index_x t).2.2.2.2]; omega
  show _ = allR (F := Ideal) _ _ _ _ _ _ _ _ ((win0_11.rect t).emb j)
  rw [e, hj]
  unfold allR
  rw [lastR_read]
  show outsAt0 m c t (ix2 r k) = _
  unfold outsAt0
  rw [run_read, stored_read]
  have hb : (⟨y.val / 8192, by omega⟩ : Fin 2).val = t.val / 16 := by show (t.val * 512 + r.val) / 8192 = t.val / 16; omega
  have hs : (⟨y.val % 8192, by omega⟩ : Fin 8192).val = t.val % 16 * 512 + r.val := by
    show (t.val * 512 + r.val) % 8192 = t.val % 16 * 512 + r.val; omega
  have hy : t.val * 512 + r.val = (⟨y.val / 8192, by omega⟩ : Fin 2).val * 8192 + (⟨y.val % 8192, by omega⟩ : Fin 8192).val := by
    show t.val * 512 + r.val = (t.val * 512 + r.val) / 8192 * 8192 + (t.val * 512 + r.val) % 8192; omega
  simp only [mid_read, mixed_at m c t r _ _ _ hb hs, ontoR_read, blk_x m c t r _ _ _ hy, blk_mod m c t _ _ _ hb, blk_down, blk_last]
  simp only [show ((5 : Fin 6) : ℕ) = 5 from rfl, Nat.reduceMul]

end Cert.Kernel2Ideal.Agree

end
-- ==== Proof.MergeRef.lean ====
/-
  The reference merge, in named steps, and each step read element by element.
-/
module

public import proofs.«01_k».proof.Proof.Gen.Reference3Ideal.Run
public import proofs.«01_k».proof.Proof.Scalar

@[expose] public section

set_option maxRecDepth 16384

noncomputable section

open Idealize.ShloMosaic Idealize.ShloMosaic.TcCoe Idealize.SL.Sem

namespace Cert.Reference3Ideal.Steps

open Cert.Reference3Ideal Cert.Reference3Ideal.Gen Cert.Layer

section defs
variable {F : FTy → Type} [FloatOps F]

/-- The modulated norm of the stream. -/
def hR (x : FVec F S2x8192x1024 .f32) (mod : FVec F S2x6144 .f32) (g : FVec F S1024 .f32) : FVec F S2x8192x1024 .f32 :=
  addf (mulf (mulf (mulf x (broadcastInDim S2x8192x1024 ![0, 1, 2] bcast_S2x8192x1_S2x8192x1024_0_1_2
    (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_))
      (broadcastInDim S2x8192x1 ![] bcast_S_S2x8192x1 (constant S_ .f32 0x44800000#32))) (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 g)))
    (broadcastInDim S2x8192x1024 ![0, 1, 2] bcast_S2x1x1024_S2x8192x1024_0_1_2 (addf (broadcastInDim S2x1x1024 ![] bcast_S_S2x1x1024 (constant S_ .f32 0x3F800000#32))
      (extractStridedSlice S2x1x1024 ![0, 0, 1024] (broadcastInDim S2x1x6144 ![0, 2] bcast_S2x6144_S2x1x6144_0_2 mod) slices_S2x1x6144_S2x1x1024_0_0_1024))))
    (broadcastInDim S2x8192x1024 ![0, 1, 2] bcast_S2x1x1024_S2x8192x1024_0_1_2
      (extractStridedSlice S2x1x1024 ![0, 0, 0] (broadcastInDim S2x1x6144 ![0, 2] bcast_S2x6144_S2x1x6144_0_2 mod) slices_S2x1x6144_S2x1x1024_0_0_0))

/-- The four gates. -/
def gatesR (h : FVec F S2x8192x1024 .f32) (w : FVec F S1024x6656 .f32) : FVec F S2x8192x4x1024 .f32 :=
  shapeCast _ (Host.divf (broadcastInDim S2x8192x4096 ![] bcast_S_S2x8192x4096 (constant S_ .f32 0x3F800000#32))
    (addf (broadcastInDim S2x8192x4096 ![] bcast_S_S2x8192x4096 (constant S_ .f32 0x3F800000#32))
      (Host.exp (Host.negf (extractStridedSlice S2x8192x4096 ![0, 0, 2560] (Host.dotGeneral dot_S2x8192x1024_S1024x6656_S2x8192x6656_2_0_01_1_n_n none h w : FVec F S2x8192x6656 .f32)
        slices_S2x8192x6656_S2x8192x4096_0_0_2560))) : FVec F S2x8192x4096 .f32)) shapeCasts_S2x8192x4096_S2x8192x4x1024

/-- The gated sum. -/
def gatedR (q : FVec F S2x8192x4x1024 .f32) (fm : FVec F S2x8192x256 .f32) (oa : FVec F S2x8192x512 .f32) (cc pp : FVec F S2x8192x256 .f32)
    (wf : FVec F S256x1024 .f32) (wa : FVec F S512x1024 .f32) (wc wp : FVec F S256x1024 .f32) : FVec F S2x8192x1024 .f32 :=
  addf (addf (addf
    (mulf (shapeCast _ (extractStridedSlice S2x8192x1x1024 ![0, 0, 0, 0] q slices_S2x8192x4x1024_S2x8192x1x1024_0_0_0_0) shapeCasts_S2x8192x1x1024_S2x8192x1024)
      (Host.dotGeneral dot_S2x8192x256_S256x1024_S2x8192x1024_2_0_01_1_n_n none fm wf))
    (mulf (shapeCast _ (extractStridedSlice S2x8192x1x1024 ![0, 0, 1, 0] q slices_S2x8192x4x1024_S2x8192x1x1024_0_0_1_0) shapeCasts_S2x8192x1x1024_S2x8192x1024)
      (Host.dotGeneral dot_S2x8192x512_S512x1024_S2x8192x1024_2_0_01_1_n_n none oa wa)))
    (mulf (shapeCast _ (extractStridedSlice S2x8192x1x1024 ![0, 0, 2, 0] q slices_S2x8192x4x1024_S2x8192x1x1024_0_0_2_0) shapeCasts_S2x8192x1x1024_S2x8192x1024)
      (Host.dotGeneral dot_S2x8192x256_S256x1024_S2x8192x1024_2_0_01_1_n_n none cc wc)))
    (mulf (shapeCast _ (extractStridedSlice S2x8192x1x1024 ![0, 0, 3, 0] q slices_S2x8192x4x1024_S2x8192x1x1024_0_0_3_0) shapeCasts_S2x8192x1x1024_S2x8192x1024)
      (Host.dotGeneral dot_S2x8192x256_S256x1024_S2x8192x1024_2_0_01_1_n_n none pp wp))

/-- The projected sum, gated onto the stream. -/
def ontoR (x : FVec F S2x8192x1024 .f32) (mod : FVec F S2x6144 .f32) (y : FVec F S2x8192x1024 .f32) (w : FVec F S1024x1024 .f32) : FVec F S16384x1024 .f32 :=
  shapeCast _ (addf x (mulf (broadcastInDim S2x8192x1024 ![0, 1, 2] bcast_S2x1x1024_S2x8192x1024_0_1_2
    (extractStridedSlice S2x1x1024 ![0, 0, 2048] (broadcastInDim S2x1x6144 ![0, 2] bcast_S2x6144_S2x1x6144_0_2 mod) slices_S2x1x6144_S2x1x1024_0_0_2048))
    (Host.dotGeneral dot_S2x8192x1024_S1024x1024_S2x8192x1024_2_0_01_1_n_n none y w)) : FVec F S2x8192x1024 .f32) shapeCasts_S2x8192x1024_S16384x1024

/-- The reference's result is these steps one after the other. -/
theorem res_eq (m : (ℓ : Loc nD τ sig) → Buf (Elt F) ℓ) (c : Dev nD) :
    Value.res_main_v58 m c = ontoR (m ((c.tc : Thread nD τ).loc main_arg0)) (m ((c.tc : Thread nD τ).loc main_arg1))
      (gatedR (gatesR (hR (m ((c.tc : Thread nD τ).loc main_arg0)) (m ((c.tc : Thread nD τ).loc main_arg1)) (m ((c.tc : Thread nD τ).loc main_arg2)))
          (m ((c.tc : Thread nD τ).loc main_arg7)))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg8)) (m ((c.tc : Thread nD τ).loc main_arg9))
        (m ((c.tc : Thread nD τ).loc main_arg10)) (m ((c.tc : Thread nD τ).loc main_arg11))) (m ((c.tc : Thread nD τ).loc main_arg12)) := rfl
end defs

theorem hR_read (x mod g) (b : Fin 2) (r : Fin 8192) (k : Fin 1024) :
    hR (F := Ideal) x mod g (ix3 b r k)
      = modn (fun i => x (ix3 b r i)) (fun i => g (ix1 i)) (fun i => mod (ix2 b ⟨1024 + i, by omega⟩)) (fun i => mod (ix2 b ⟨i, by omega⟩)) k := by
  unfold modn rms
  pointwise [hR]

theorem gatesR_read (h w) (b : Fin 2) (r : Fin 8192) (p : Fin 4) (k : Fin 1024) :
    gatesR (F := Ideal) h w (ix4 b r p k)
      = Ideal.logistic (∑ d : Fin 1024, h (ix3 b r d) * w (ix2 d ⟨2560 + (p * 1024 + k), by omega⟩)) := by
  unfold Ideal.logistic
  pointwise [gatesR]

theorem gatedR_read (q fm oa cc pp wf wa wc wp) (b : Fin 2) (r : Fin 8192) (k : Fin 1024) :
    gatedR (F := Ideal) q fm oa cc pp wf wa wc wp (ix3 b r k)
      = q (ix4 b r 0 k) * (∑ e : Fin 256, fm (ix3 b r e) * wf (ix2 e k))
        + q (ix4 b r 1 k) * (∑ e : Fin 512, oa (ix3 b r e) * wa (ix2 e k))
        + q (ix4 b r 2 k) * (∑ e : Fin 256, cc (ix3 b r e) * wc (ix2 e k))
        + q (ix4 b r 3 k) * (∑ e : Fin 256, pp (ix3 b r e) * wp (ix2 e k)) := by
  pointwise [gatedR]

theorem ontoR_read (x mod y w) (r : Fin 16384) (k : Fin 1024) :
    ontoR (F := Ideal) x mod y w (ix2 r k)
      = x (ix3 ⟨r / 8192, by omega⟩ ⟨r % 8192, by omega⟩ k) + mod (ix2 ⟨r / 8192, by omega⟩ ⟨2048 + k, by omega⟩)
        * ∑ i : Fin 1024, y (ix3 ⟨r / 8192, by omega⟩ ⟨r % 8192, by omega⟩ i) * w (ix2 i k) := by
  pointwise [ontoR]

end Cert.Reference3Ideal.Steps

end
-- ==== Proof.MergeTile.lean ====
/-
  The merge's tile, read element by element.
-/
module

public import proofs.«01_k».proof.Proof.Gen.Kernel3Ideal.Value
public import proofs.«01_k».proof.Proof.Scalar
public import Idealize.ShloMosaic.Lib.Claim
public import Idealize.ShloMosaic.Lib.Pipeline.ValueKit.Tiles

@[expose] public section

set_option maxRecDepth 16384

noncomputable section

open Idealize.ShloMosaic Idealize.ShloMosaic.TcCoe Idealize.SL.Sem

namespace Cert.Kernel3Ideal.Tile

open Cert.Kernel3Ideal Cert.Kernel3Ideal.Gen Cert.Layer

/-- The normed tile. -/
theorem norm_read (x : Vec Ideal S512x1024 .f32) (g : Vec Ideal S1x1024 .f32) (sh sc : Vec Ideal S1x1x1024 .f32) (r : Fin 512) (k : Fin 1024) :
    k0_pay3 (F := Ideal) x g sh sc (ix2 r k)
      = modn (fun i => x (ix2 r i)) (fun i => g (ix2 0 i)) (fun i => sc (ix3 0 0 i)) (fun i => sh (ix3 0 0 i)) k := by
  unfold modn rms
  pointwise [k0_pay3, k0_pay2]

/-- The gated sum of the four branches. -/
theorem gated_read (h : FVec Ideal S512x1024 .bf16) (a : FVec Ideal S512x256 .bf16) (b : FVec Ideal S512x512 .bf16) (c d : FVec Ideal S512x256 .bf16)
    (ga : Vec Ideal S1024x1024 .bf16) (wa : Vec Ideal S256x1024 .bf16) (gb : Vec Ideal S1024x1024 .bf16) (wb : Vec Ideal S512x1024 .bf16)
    (gc : Vec Ideal S1024x1024 .bf16) (wc : Vec Ideal S256x1024 .bf16) (gd : Vec Ideal S1024x1024 .bf16) (wd : Vec Ideal S256x1024 .bf16)
    (r : Fin 512) (k : Fin 1024) :
    k0_pay8 (F := Ideal) h a b c d ga wa gb wb gc wc gd wd (ix2 r k)
      = branch (fun i => h (ix2 r i)) (fun i => ga (ix2 i k)) (fun i => a (ix2 r i)) (fun i => wa (ix2 i k))
        + branch (fun i => h (ix2 r i)) (fun i => gb (ix2 i k)) (fun i => b (ix2 r i)) (fun i => wb (ix2 i k))
        + branch (fun i => h (ix2 r i)) (fun i => gc (ix2 i k)) (fun i => c (ix2 r i)) (fun i => wc (ix2 i k))
        + branch (fun i => h (ix2 r i)) (fun i => gd (ix2 i k)) (fun i => d (ix2 r i)) (fun i => wd (ix2 i k)) := by
  unfold branch
  pointwise [k0_pay8]

/-- The projected sum, gated onto the stream. -/
theorem out_read (x : FVec Ideal S512x1024 .f32) (y : FVec Ideal S512x1024 .bf16) (w : Vec Ideal S1024x1024 .bf16) (g : Vec Ideal S1x1x1024 .f32)
    (r : Fin 512) (k : Fin 1024) :
    k0_pay1 (F := Ideal) x y w g (ix2 r k) = x (ix2 r k) + g (ix3 0 0 k) * ∑ i : Fin 1024, y (ix2 r i) * w (ix2 i k) := by
  pointwise [k0_pay1]

end Cert.Kernel3Ideal.Tile

end
-- ==== Proof.MergeAgree.lean ====
/-
  The merge's output array is the reference's.
-/
module

public import proofs.«01_k».proof.Proof.MergeTile
public import proofs.«01_k».proof.Proof.MergeRef
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.Kernel3Ideal.Agree

open Cert.Kernel3Ideal Cert.Kernel3Ideal.Gen Cert.Kernel3Ideal.Tile Cert.Layer

/-- The rows and the batch entry of each point's blocks. -/
theorem index_x : ∀ t : Fin grid0.N, (win0_0.index t 0 = t.val ∧ win0_0.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_13.index t 0 = t.val ∧ win0_13.index t 1 = 0) := by decide +kernel
theorem index_mod : ∀ t : Fin grid0.N, win0_1.index t 0 = t.val / 16 ∧ win0_1.index t 1 = 0 ∧ win0_1.index t 2 = 0 := by decide +kernel
theorem index_w : ∀ t : Fin grid0.N, (win0_2.index t 0 = 0 ∧ win0_2.index t 1 = 0) ∧ (win0_7.index t 0 = 0 ∧ win0_7.index t 1 = 0)
    ∧ (win0_8.index t 0 = 0 ∧ win0_8.index t 1 = 0) ∧ (win0_9.index t 0 = 0 ∧ win0_9.index t 1 = 0)
    ∧ (win0_10.index t 0 = 0 ∧ win0_10.index t 1 = 0) ∧ (win0_11.index t 0 = 0 ∧ win0_11.index t 1 = 0)
    ∧ (win0_12.index t 0 = 0 ∧ win0_12.index t 1 = 0) := by decide +kernel
theorem flush_o : ∀ t : Fin grid0.N, win0_13.flush t = true := by decide +kernel

section prep
variable {F : FTy → Type} [FloatOps F] (m : (ℓ : Loc nD τ sig) → Buf (Elt F) ℓ) (c : Dev nD)

theorem V_g : V m c main_v1 = truncf .bf16 (extractStridedSlice S1024x4096 ![0, 2560] (m ((c : Thread nD τ).loc main_arg7) : FVec F S1024x6656 .f32) slices_S1024x6656_S1024x4096_0_2560 : FVec F S1024x4096 .f32) bitsLt_bf16_f32 := by
  unfold_abbrev_sides
  after_results <;> rfl
theorem V_wf : V m c main_v2 = truncf .bf16 (m ((c : Thread nD τ).loc main_arg8) : FVec F S256x1024 .f32) bitsLt_bf16_f32 := by
  unfold_abbrev_sides
  after_results <;> rfl
theorem V_wa : V m c main_v3 = truncf .bf16 (m ((c : Thread nD τ).loc main_arg9) : FVec F S512x1024 .f32) bitsLt_bf16_f32 := by
  unfold_abbrev_sides
  after_results <;> rfl
theorem V_wc : V m c main_v4 = truncf .bf16 (m ((c : Thread nD τ).loc main_arg10) : FVec F S256x1024 .f32) bitsLt_bf16_f32 := by
  unfold_abbrev_sides
  after_results <;> rfl
theorem V_wp : V m c main_v5 = truncf .bf16 (m ((c : Thread nD τ).loc main_arg11) : FVec F S256x1024 .f32) bitsLt_bf16_f32 := by
  unfold_abbrev_sides
  after_results <;> rfl
theorem V_wo : V m c main_v6 = truncf .bf16 (m ((c : Thread nD τ).loc main_arg12) : FVec F S1024x1024 .f32) bitsLt_bf16_f32 := by
  unfold_abbrev_sides
  after_results <;> rfl
theorem V_x : V m c main_v7 = (shapeCast S16384x1024 (m ((c : Thread nD τ).loc main_arg0) : FVec F S2x8192x1024 .f32) shapeCasts_S2x8192x1024_S16384x1024 : FVec F S16384x1024 .f32) := by
  unfold_abbrev_sides
  after_results <;> rfl
theorem V_mod : V m c main_v8 = (shapeCast S2x6x1024 (m ((c : Thread nD τ).loc main_arg1) : FVec F S2x6144 .f32) shapeCasts_S2x6144_S2x6x1024 : FVec F S2x6x1024 .f32) := by
  unfold_abbrev_sides
  after_results <;> rfl
theorem V_fm : V m c main_v9 = (shapeCast S16384x256 (m ((c : Thread nD τ).loc main_arg3) : FVec F S2x8192x256 .f32) shapeCasts_S2x8192x256_S16384x256 : FVec F S16384x256 .f32) := by
  unfold_abbrev_sides
  after_results <;> rfl
theorem V_oa : V m c main_v11 = truncf .bf16 (shapeCast S16384x512 (m ((c : Thread nD τ).loc main_arg4) : FVec F S2x8192x512 .f32) shapeCasts_S2x8192x512_S16384x512 : FVec F S16384x512 .f32) bitsLt_bf16_f32 := by
  unfold_abbrev_sides
  after_results <;> rfl
theorem V_cc : V m c main_v13 = truncf .bf16 (shapeCast S16384x256 (m ((c : Thread nD τ).loc main_arg5) : FVec F S2x8192x256 .f32) shapeCasts_S2x8192x256_S16384x256 : FVec F S16384x256 .f32) bitsLt_bf16_f32 := by
  unfold_abbrev_sides
  after_results <;> rfl
theorem V_pp : V m c main_v15 = truncf .bf16 (shapeCast S16384x256 (m ((c : Thread nD τ).loc main_arg6) : FVec F S2x8192x256 .f32) shapeCasts_S2x8192x256_S16384x256 : FVec F S16384x256 .f32) bitsLt_bf16_f32 := by
  unfold_abbrev_sides
  after_results <;> rfl
theorem V_gain : V m c main_v16 = (shapeCast S1x1024 (m ((c : Thread nD τ).loc main_arg2) : FVec F S1024 .f32) shapeCasts_S1024_S1x1024 : FVec F S1x1024 .f32) := by
  unfold_abbrev_sides
  after_results <;> rfl
end prep

/-- A row of the flattened sequence is a row of one batch entry. -/
theorem flat_x (x : FVec Ideal S2x8192x1024 .f32) (y : Fin 16384) (k : Fin 1024) :
    (shapeCast S16384x1024 x shapeCasts_S2x8192x1024_S16384x1024 : FVec Ideal S16384x1024 .f32) (ix2 y k)
      = x (ix3 ⟨y / 8192, by omega⟩ ⟨y % 8192, by omega⟩ k) := by
  pointwise []
theorem flat_n (x : FVec Ideal S2x8192x256 .f32) (y : Fin 16384) (k : Fin 256) :
    (shapeCast S16384x256 x shapeCasts_S2x8192x256_S16384x256 : FVec Ideal S16384x256 .f32) (ix2 y k)
      = x (ix3 ⟨y / 8192, by omega⟩ ⟨y % 8192, by omega⟩ k) := by
  pointwise []
theorem flat_o (x : FVec Ideal S2x8192x512 .f32) (y : Fin 16384) (k : Fin 512) :
    (shapeCast S16384x512 x shapeCasts_S2x8192x512_S16384x512 : FVec Ideal S16384x512 .f32) (ix2 y k)
      = x (ix3 ⟨y / 8192, by omega⟩ ⟨y % 8192, by omega⟩ k) := by
  pointwise []
/-- A cast between floats changes nothing. -/
theorem cast_id {s : Shape} (x : FVec Ideal s .f32) (i : s.Idx) : (truncf .bf16 x bitsLt_bf16_f32 : FVec Ideal s .bf16) i = x i := rfl

section blocks
variable (m : (ℓ : Loc nD τ sig) → Buf (Elt Ideal) ℓ) (c : Dev nD) (t : Fin cfg0.N)

/-- The blocks of rows: row `r` of point `t` is row `y` of the sequence. -/
theorem blk_x (r : Fin 512) (k : Fin 1024) (y : Fin 16384) (hy : y.val = t.val * 512 + r.val) :
    (iblk m c 0 t : Vec Ideal S512x1024 .f32) (ix2 r k)
      = (m ((c : Thread nD τ).loc main_arg0) : Vec Ideal S2x8192x1024 .f32) (ix3 ⟨y / 8192, by omega⟩ ⟨y % 8192, by omega⟩ k) := by
  have : (iblk m c 0 t : Vec Ideal S512x1024 .f32) (ix2 r k) = (V m c main_v7 : Vec Ideal S16384x1024 .f32) (ix2 y k) := by
    refine congrArg (V m c main_v7 : Vec Ideal S16384x1024 .f32) (funext fun a => Fin.ext ?_)
    match a with
    | ⟨0, _⟩ => show win0_0.index t 0 * 512 + 1 * r.val = y.val; rw [(index_x t).1.1, hy]; omega
    | ⟨1, _⟩ => show win0_0.index t 1 * 1024 + 1 * k.val = k.val; rw [(index_x t).1.2]; omega
  rw [this, V_x, flat_x]

theorem blk_fm (r : Fin 512) (k : Fin 256) (y : Fin 16384) (hy : y.val = t.val * 512 + r.val) :
    (iblk m c 3 t : Vec Ideal S512x256 .f32) (ix2 r k)
      = (m ((c : Thread nD τ).loc main_arg3) : Vec Ideal S2x8192x256 .f32) (ix3 ⟨y / 8192, by omega⟩ ⟨y % 8192, by omega⟩ k) := by
  have : (iblk m c 3 t : Vec Ideal S512x256 .f32) (ix2 r k) = (V m c main_v9 : Vec Ideal S16384x256 .f32) (ix2 y k) := by
    refine congrArg (V m c main_v9 : Vec Ideal S16384x256 .f32) (funext fun a => Fin.ext ?_)
    match a with
    | ⟨0, _⟩ => show win0_3.index t 0 * 512 + 1 * r.val = y.val; rw [(index_x t).2.1.1, hy]; omega
    | ⟨1, _⟩ => show win0_3.index t 1 * 256 + 1 * k.val = k.val; rw [(index_x t).2.1.2]; omega
  rw [this, V_fm, flat_n]

theorem blk_oa (r : Fin 512) (k : Fin 512) (y : Fin 16384) (hy : y.val = t.val * 512 + r.val) :
    (iblk m c 4 t : Vec Ideal S512x512 .bf16) (ix2 r k)
      = (m ((c : Thread nD τ).loc main_arg4) : Vec Ideal S2x8192x512 .f32) (ix3 ⟨y / 8192, by omega⟩ ⟨y % 8192, by omega⟩ k) := by
  have : (iblk m c 4 t : Vec Ideal S512x512 .bf16) (ix2 r k) = (V m c main_v11 : Vec Ideal S16384x512 .bf16) (ix2 y k) := by
    refine congrArg (V m c main_v11 : Vec Ideal S16384x512 .bf16) (funext fun a => Fin.ext ?_)
    match a with
    | ⟨0, _⟩ => show win0_4.index t 0 * 512 + 1 * r.val = y.val; rw [(index_x t).2.2.1.1, hy]; omega
    | ⟨1, _⟩ => show win0_4.index t 1 * 512 + 1 * k.val = k.val; rw [(index_x t).2.2.1.2]; omega
  rw [this, V_oa, cast_id, flat_o]

theorem blk_cc (r : Fin 512) (k : Fin 256) (y : Fin 16384) (hy : y.val = t.val * 512 + r.val) :
    (iblk m c 5 t : Vec Ideal S512x256 .bf16) (ix2 r k)
      = (m ((c : Thread nD τ).loc main_arg5) : Vec Ideal S2x8192x256 .f32) (ix3 ⟨y / 8192, by omega⟩ ⟨y % 8192, by omega⟩ k) := by
  have : (iblk m c 5 t : Vec Ideal S512x256 .bf16) (ix2 r k) = (V m c main_v13 : Vec Ideal S16384x256 .bf16) (ix2 y k) := by
    refine congrArg (V m c main_v13 : Vec Ideal S16384x256 .bf16) (funext fun a => Fin.ext ?_)
    match a with
    | ⟨0, _⟩ => show win0_5.index t 0 * 512 + 1 * r.val = y.val; rw [(index_x t).2.2.2.1.1, hy]; omega
    | ⟨1, _⟩ => show win0_5.index t 1 * 256 + 1 * k.val = k.val; rw [(index_x t).2.2.2.1.2]; omega
  rw [this, V_cc, cast_id, flat_n]

theorem blk_pp (r : Fin 512) (k : Fin 256) (y : Fin 16384) (hy : y.val = t.val * 512 + r.val) :
    (iblk m c 6 t : Vec Ideal S512x256 .bf16) (ix2 r k)
      = (m ((c : Thread nD τ).loc main_arg6) : Vec Ideal S2x8192x256 .f32) (ix3 ⟨y / 8192, by omega⟩ ⟨y % 8192, by omega⟩ k) := by
  have : (iblk m c 6 t : Vec Ideal S512x256 .bf16) (ix2 r k) = (V m c main_v15 : Vec Ideal S16384x256 .bf16) (ix2 y k) := by
    refine congrArg (V m c main_v15 : Vec Ideal S16384x256 .bf16) (funext fun a => Fin.ext ?_)
    match a with
    | ⟨0, _⟩ => show win0_6.index t 0 * 512 + 1 * r.val = y.val; rw [(index_x t).2.2.2.2.1.1, hy]; omega
    | ⟨1, _⟩ => show win0_6.index t 1 * 256 + 1 * k.val = k.val; rw [(index_x t).2.2.2.2.1.2]; omega
  rw [this, V_pp, cast_id, flat_n]

/-- The modulation vectors of the point's batch entry. -/
theorem blk_mod (p : Fin 6) (k : Fin 1024) (b : Fin 2) (hb : b.val = t.val / 16) :
    (iblk m c 1 t : Vec Ideal S1x6x1024 .f32) (ix3 0 p k)
      = (m ((c : Thread nD τ).loc main_arg1) : Vec Ideal S2x6144 .f32) (ix2 b ⟨p * 1024 + k, by omega⟩) := by
  have : (iblk m c 1 t : Vec Ideal S1x6x1024 .f32) (ix3 0 p k) = (V m c main_v8 : Vec Ideal S2x6x1024 .f32) (ix3 b p k) := by
    obtain ⟨e0, e1, e2⟩ := index_mod t
    refine congrArg (V m c main_v8 : Vec Ideal S2x6x1024 .f32) (funext fun a => Fin.ext ?_)
    match a with
    | ⟨0, _⟩ => show win0_1.index t 0 * 1 + 1 * 0 = b.val; rw [e0, hb]; omega
    | ⟨1, _⟩ => show win0_1.index t 1 * 6 + 1 * p.val = p.val; rw [e1]; omega
    | ⟨2, _⟩ => show win0_1.index t 2 * 1024 + 1 * k.val = k.val; rw [e2]; omega
  rw [this, V_mod]
  pointwise []

/-- The weights, whole at every point. -/
theorem blk_gain (k : Fin 1024) : (iblk m c 2 t : Vec Ideal S1x1024 .f32) (ix2 0 k)
      = (m ((c : Thread nD τ).loc main_arg2) : Vec Ideal S1024 .f32) (ix1 k) := by
  have : (iblk m c 2 t : Vec Ideal S1x1024 .f32) (ix2 0 k) = (V m c main_v16 : Vec Ideal S1x1024 .f32) (ix2 0 k) := by
    refine congrArg (V m c main_v16 : Vec Ideal S1x1024 .f32) (funext fun a => Fin.ext ?_)
    match a with
    | ⟨0, _⟩ => show win0_2.index t 0 * 1 + 1 * 0 = 0; rw [(index_w t).1.1]
    | ⟨1, _⟩ => show win0_2.index t 1 * 1024 + 1 * k.val = k.val; rw [(index_w t).1.2]; omega
  rw [this, V_gain]
  pointwise []

theorem blk_g (i : Fin 1024) (k : Fin 4096) : (iblk m c 7 t : Vec Ideal S1024x4096 .bf16) (ix2 i k)
      = (m ((c : Thread nD τ).loc main_arg7) : Vec Ideal S1024x6656 .f32) (ix2 i ⟨2560 + k, by omega⟩) := by
  have : (iblk m c 7 t : Vec Ideal S1024x4096 .bf16) (ix2 i k) = (V m c main_v1 : Vec Ideal S1024x4096 .bf16) (ix2 i k) := by
    refine congrArg (V m c main_v1 : Vec Ideal S1024x4096 .bf16) (funext fun a => Fin.ext ?_)
    match a with
    | ⟨0, _⟩ => show win0_7.index t 0 * 1024 + 1 * i.val = i.val; rw [(index_w t).2.1.1]; omega
    | ⟨1, _⟩ => show win0_7.index t 1 * 4096 + 1 * k.val = k.val; rw [(index_w t).2.1.2]; omega
  rw [this, V_g]
  pointwise []

theorem blk_wf (i : Fin 256) (k : Fin 1024) : (iblk m c 8 t : Vec Ideal S256x1024 .bf16) (ix2 i k)
      = (m ((c : Thread nD τ).loc main_arg8) : Vec Ideal S256x1024 .f32) (ix2 i k) := by
  have : (iblk m c 8 t : Vec Ideal S256x1024 .bf16) (ix2 i k) = (V m c main_v2 : Vec Ideal S256x1024 .bf16) (ix2 i k) := by
    refine congrArg (V m c main_v2 : Vec Ideal S256x1024 .bf16) (funext fun a => Fin.ext ?_)
    match a with
    | ⟨0, _⟩ => show win0_8.index t 0 * 256 + 1 * i.val = i.val; rw [(index_w t).2.2.1.1]; omega
    | ⟨1, _⟩ => show win0_8.index t 1 * 1024 + 1 * k.val = k.val; rw [(index_w t).2.2.1.2]; omega
  rw [this, V_wf]
  pointwise []

theorem blk_wa (i : Fin 512) (k : Fin 1024) : (iblk m c 9 t : Vec Ideal S512x1024 .bf16) (ix2 i k)
      = (m ((c : Thread nD τ).loc main_arg9) : Vec Ideal S512x1024 .f32) (ix2 i k) := by
  have : (iblk m c 9 t : Vec Ideal S512x1024 .bf16) (ix2 i k) = (V m c main_v3 : Vec Ideal S512x1024 .bf16) (ix2 i k) := by
    refine congrArg (V m c main_v3 : Vec Ideal S512x1024 .bf16) (funext fun a => Fin.ext ?_)
    match a with
    | ⟨0, _⟩ => show win0_9.index t 0 * 512 + 1 * i.val = i.val; rw [(index_w t).2.2.2.1.1]; omega
    | ⟨1, _⟩ => show win0_9.index t 1 * 1024 + 1 * k.val = k.val; rw [(index_w t).2.2.2.1.2]; omega
  rw [this, V_wa]
  pointwise []

theorem blk_wc (i : Fin 256) (k : Fin 1024) : (iblk m c 10 t : Vec Ideal S256x1024 .bf16) (ix2 i k)
      = (m ((c : Thread nD τ).loc main_arg10) : Vec Ideal S256x1024 .f32) (ix2 i k) := by
  have : (iblk m c 10 t : Vec Ideal S256x1024 .bf16) (ix2 i k) = (V m c main_v4 : Vec Ideal S256x1024 .bf16) (ix2 i k) := by
    refine congrArg (V m c main_v4 : Vec Ideal S256x1024 .bf16) (funext fun a => Fin.ext ?_)
    match a with
    | ⟨0, _⟩ => show win0_10.index t 0 * 256 + 1 * i.val = i.val; rw [(index_w t).2.2.2.2.1.1]; omega
    | ⟨1, _⟩ => show win0_10.index t 1 * 1024 + 1 * k.val = k.val; rw [(index_w t).2.2.2.2.1.2]; omega
  rw [this, V_wc]
  pointwise []

theorem blk_wp (i : Fin 256) (k : Fin 1024) : (iblk m c 11 t : Vec Ideal S256x1024 .bf16) (ix2 i k)
      = (m ((c : Thread nD τ).loc main_arg11) : Vec Ideal S256x1024 .f32) (ix2 i k) := by
  have : (iblk m c 11 t : Vec Ideal S256x1024 .bf16) (ix2 i k) = (V m c main_v5 : Vec Ideal S256x1024 .bf16) (ix2 i k) := by
    refine congrArg (V m c main_v5 : Vec Ideal S256x1024 .bf16) (funext fun a => Fin.ext ?_)
    match a with
    | ⟨0, _⟩ => show win0_11.index t 0 * 256 + 1 * i.val = i.val; rw [(index_w t).2.2.2.2.2.1.1]; omega
    | ⟨1, _⟩ => show win0_11.index t 1 * 1024 + 1 * k.val = k.val; rw [(index_w t).2.2.2.2.2.1.2]; omega
  rw [this, V_wp]
  pointwise []

theorem blk_wo (i : Fin 1024) (k : Fin 1024) : (iblk m c 12 t : Vec Ideal S1024x1024 .bf16) (ix2 i k)
      = (m ((c : Thread nD τ).loc main_arg12) : Vec Ideal S1024x1024 .f32) (ix2 i k) := by
  have : (iblk m c 12 t : Vec Ideal S1024x1024 .bf16) (ix2 i k) = (V m c main_v6 : Vec Ideal S1024x1024 .bf16) (ix2 i k) := by
    refine congrArg (V m c main_v6 : Vec Ideal S1024x1024 .bf16) (funext fun a => Fin.ext ?_)
    match a with
    | ⟨0, _⟩ => show win0_12.index t 0 * 1024 + 1 * i.val = i.val; rw [(index_w t).2.2.2.2.2.2.1]; omega
    | ⟨1, _⟩ => show win0_12.index t 1 * 1024 + 1 * k.val = k.val; rw [(index_w t).2.2.2.2.2.2.2]; omega
  rw [this, V_wo]
  pointwise []

/-- The points' blocks tile the output. -/
theorem cover (i : S16384x1024.Idx) : ∃ t : Fin cfg0.N, (cfg0.win 13).flush t = true ∧ i ∈ ((cfg0.win 13).blk t).view.set := by
  have h0 : (i 0 : Nat) < 16384 := (i 0).isLt
  have h1 : (i 1 : Nat) < 1024 := (i 1).isLt
  have hN : grid0.N = 32 := by decide +kernel
  let t : Fin grid0.N := ⟨(i 0 : Nat) / 512, by omega⟩
  refine ⟨t, flush_o t, ?_⟩
  show i ∈ ((View.whole main_v17).slice (win0_13.rect t)).set
  rw [View.set_slice_whole, Rect.mem_set_unit]
  obtain ⟨e0, e1⟩ := (index_x t).2.2.2.2.2
  have ht : t.val = (i 0 : Nat) / 512 := rfl
  intro a
  match a with
  | ⟨0, _⟩ => show win0_13.index t 0 * 512 ≤ (i 0 : Nat) ∧ (i 0 : Nat) < win0_13.index t 0 * 512 + 512
              rw [e0]; omega
  | ⟨1, _⟩ => show win0_13.index t 1 * 1024 ≤ (i 1 : Nat) ∧ (i 1 : Nat) < win0_13.index t 1 * 1024 + 1024
              rw [e1]; omega
end blocks

/-- What a point stores at one place, from its blocks. -/
theorem tile_read (x0 : Vec Ideal S512x1024 .f32) (x1 : Vec Ideal S1x6x1024 .f32) (x2 : Vec Ideal S1x1024 .f32) (x3 : Vec Ideal S512x256 .f32)
    (x4 : Vec Ideal S512x512 .bf16) (x5 x6 : Vec Ideal S512x256 .bf16) (x7 : Vec Ideal S1024x4096 .bf16) (x8 : Vec Ideal S256x1024 .bf16)
    (x9 : Vec Ideal S512x1024 .bf16) (x10 x11 : Vec Ideal S256x1024 .bf16) (x12 : Vec Ideal S1024x1024 .bf16) (r : Fin 512) (k : Fin 1024) :
    let h := modn (fun i => x0 (ix2 r i)) (fun i => x2 (ix2 0 i)) (fun i => x1 (ix3 0 1 i)) (fun i => x1 (ix3 0 0 i))
    out0_13 x0 x1 x2 x3 x4 x5 x6 x7 x8 x9 x10 x11 x12 (ix2 r k)
      = x0 (ix2 r k) + x1 (ix3 0 2 k) * ∑ j : Fin 1024,
        (branch h (fun i => x7 (ix2 i ⟨j, by omega⟩)) (fun i => x3 (ix2 r i)) (fun i => x8 (ix2 i j))
          + branch h (fun i => x7 (ix2 i ⟨1024 + j, by omega⟩)) (fun i => x4 (ix2 r i)) (fun i => x9 (ix2 i j))
          + branch h (fun i => x7 (ix2 i ⟨2048 + j, by omega⟩)) (fun i => x5 (ix2 r i)) (fun i => x10 (ix2 i j))
          + branch h (fun i => x7 (ix2 i ⟨3072 + j, by omega⟩)) (fun i => x6 (ix2 r i)) (fun i => x11 (ix2 i j))) * x12 (ix2 j k) := by
  intro h
  unfold out0_13
  rw [View.canon_unit_zero (funext fun a => by match a with | ⟨0, _⟩ => rfl | ⟨1, _⟩ => rfl)]
  rw [out_read]
  refine congr (congrArg _ ?_) (congr (congrArg _ ?_) (Finset.sum_congr rfl fun j _ => congr (congrArg _ ?_) ?_))
  · pointwise [k0_pay2]
  · pointwise []
  · rw [gated_read]
    simp only [norm_read]
    refine congr (congrArg _ (congr (congrArg _ (congr (congrArg _ ?_) ?_)) ?_)) ?_
    all_goals
      refine congr (congr (congr (congrArg _ ?_) ?_) ?_) ?_
      · funext i
        refine congrFun (congr (congr (congr (congrArg _ ?_) ?_) ?_) ?_) i
        all_goals
          funext i
          pointwise []
      · funext i
        pointwise []
      · funext i
        pointwise [k0_pay4, k0_pay5, k0_pay6, k0_pay7]
      · funext i
        pointwise []
  · pointwise []

/-- The merge's output array is the reference's, at the same arguments. -/
theorem final (m : (ℓ : Loc nD τ sig) → Buf (Elt Ideal) ℓ) (c : Dev nD) :
    (dats m 0 c).arrAt 13 cfg0.N = Cert.Reference3Ideal.Steps.ontoR (F := Ideal) (m ((c : Thread nD τ).loc main_arg0)) (m ((c : Thread nD τ).loc main_arg1))
      (Cert.Reference3Ideal.Steps.gatedR (Cert.Reference3Ideal.Steps.gatesR (Cert.Reference3Ideal.Steps.hR (m ((c : Thread nD τ).loc main_arg0)) (m ((c : Thread nD τ).loc main_arg1)) (m ((c : Thread nD τ).loc main_arg2)))
          (m ((c : Thread nD τ).loc main_arg7)))
        (m ((c : Thread nD τ).loc main_arg3)) (m ((c : Thread nD τ).loc main_arg4)) (m ((c : Thread nD τ).loc main_arg5))
        (m ((c : Thread nD τ).loc main_arg6)) (m ((c : Thread nD τ).loc main_arg8)) (m ((c : Thread nD τ).loc main_arg9))
        (m ((c : Thread nD τ).loc main_arg10)) (m ((c : Thread nD τ).loc main_arg11))) (m ((c : Thread nD τ).loc main_arg12)) := by
  refine (dats m 0 c).arrAt_eq_of_cover 13 _ (fun t _ => ?_) cover
  rw [Value.flushed13]
  have hN : cfg0.N = 32 := by decide +kernel
  have ht : t.val < 32 := hN ▸ t.isLt
  refine funext fun j => ?_
  obtain ⟨r, hr⟩ : ∃ r : Fin 512, r = j 0 := ⟨j 0, rfl⟩
  obtain ⟨k, hk⟩ : ∃ k : Fin 1024, k = j 1 := ⟨j 1, rfl⟩
  have hj : j = (ix2 r k : S512x1024.Idx) := by
    refine funext fun a => ?_
    match a with
    | ⟨0, _⟩ => exact hr.symm
    | ⟨1, _⟩ => exact hk.symm
  let y : Fin 16384 := ⟨t.val * 512 + r.val, by omega⟩
  have e : (win0_13.rect t).emb j = (ix2 y k : S16384x1024.Idx) := by
    rw [hj]
    refine funext fun a => Fin.ext ?_
    match a with
    | ⟨0, _⟩ => show win0_13.index t 0 * 512 + 1 * r.val = t.val * 512 + r.val; rw [(index_x t).2.2.2.2.2.1]; omega
    | ⟨1, _⟩ => show win0_13.index t 1 * 1024 + 1 * k.val = k.val; rw [(index_x t).2.2.2.2.2.2]; omega
  show _ = Cert.Reference3Ideal.Steps.ontoR (F := Ideal) _ _ _ _ ((win0_13.rect t).emb j)
  rw [e, hj, Cert.Reference3Ideal.Steps.ontoR_read]
  show out0_13 (iblk m c 0 t) (iblk m c 1 t) (iblk m c 2 t) (iblk m c 3 t) (iblk m c 4 t) (iblk m c 5 t) (iblk m c 6 t) (iblk m c 7 t) (iblk m c 8 t)
    (iblk m c 9 t) (iblk m c 10 t) (iblk m c 11 t) (iblk m c 12 t) (ix2 r k) = _
  rw [tile_read]
  have hy : y.val = t.val * 512 + r.val := rfl
  have hb : (⟨y.val / 8192, by omega⟩ : Fin 2).val = t.val / 16 := by show y.val / 8192 = t.val / 16; omega
  simp only [Cert.Reference3Ideal.Steps.gatedR_read, Cert.Reference3Ideal.Steps.gatesR_read, Cert.Reference3Ideal.Steps.hR_read,
    blk_x m c t r _ y hy, blk_fm m c t r _ y hy, blk_oa m c t r _ y hy, blk_cc m c t r _ y hy, blk_pp m c t r _ y hy,
    blk_mod m c t _ _ _ hb, blk_gain, blk_g, blk_wf, blk_wa, blk_wc, blk_wp, blk_wo]
  unfold branch
  simp only [show ((0 : Fin 6) : ℕ) = 0 from rfl, show ((1 : Fin 6) : ℕ) = 1 from rfl, show ((2 : Fin 6) : ℕ) = 2 from rfl,
    show ((0 : Fin 4) : ℕ) = 0 from rfl, show ((1 : Fin 4) : ℕ) = 1 from rfl, show ((2 : Fin 4) : ℕ) = 2 from rfl,
    show ((3 : Fin 4) : ℕ) = 3 from rfl, Nat.zero_mul, Nat.one_mul, Nat.zero_add, Nat.reduceMul]

end Cert.Kernel3Ideal.Agree

end
-- ==== Proof.InRef.lean ====
/-
  The reference input projection, in named steps, and each step read element by element.
-/
module

public import proofs.«01_k».proof.Proof.Gen.Reference4Ideal.Run
public import proofs.«01_k».proof.Proof.Scalar

@[expose] public section

set_option maxRecDepth 16384

noncomputable section

open Idealize.ShloMosaic Idealize.ShloMosaic.TcCoe Idealize.SL.Sem

namespace Cert.Reference4Ideal.Steps

open Cert.Reference4Ideal Cert.Reference4Ideal.Gen Cert.Layer

section defs
variable {F : FTy → Type} [FloatOps F]

/-- The modulated norm of the stream. -/
def hR (x : FVec F S2x8192x1024 .f32) (mod : FVec F S2x6144 .f32) (g : FVec F S1024 .f32) : FVec F S2x8192x1024 .f32 :=
  addf (mulf (mulf (mulf x (broadcastInDim S2x8192x1024 ![0, 1, 2] bcast_S2x8192x1_S2x8192x1024_0_1_2
    (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_))
      (broadcastInDim S2x8192x1 ![] bcast_S_S2x8192x1 (constant S_ .f32 0x44800000#32))) (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 g)))
    (broadcastInDim S2x8192x1024 ![0, 1, 2] bcast_S2x1x1024_S2x8192x1024_0_1_2 (addf (broadcastInDim S2x1x1024 ![] bcast_S_S2x1x1024 (constant S_ .f32 0x3F800000#32))
      (extractStridedSlice S2x1x1024 ![0, 0, 1024] (broadcastInDim S2x1x6144 ![0, 2] bcast_S2x6144_S2x1x6144_0_2 mod) slices_S2x1x6144_S2x1x1024_0_0_1024))))
    (broadcastInDim S2x8192x1024 ![0, 1, 2] bcast_S2x1x1024_S2x8192x1024_0_1_2
      (extractStridedSlice S2x1x1024 ![0, 0, 0] (broadcastInDim S2x1x6144 ![0, 2] bcast_S2x6144_S2x1x6144_0_2 mod) slices_S2x1x6144_S2x1x1024_0_0_0))

/-- The projection of the normed stream. -/
def prodR (h : FVec F S2x8192x1024 .f32) (w : FVec F S1024x6656 .f32) : FVec F S2x8192x6656 .f32 :=
  Host.dotGeneral dot_S2x8192x1024_S1024x6656_S2x8192x6656_2_0_01_1_n_n none h w

/-- The rotary frequencies. -/
def freqR : FVec F S16 .f32 :=
  Host.powf (broadcastInDim S16 ![] bcast_S_S16 (constant S_ .f32 0x461C4000#32))
    (Host.divf (Host.negf (sitofp .f32 (iotaInDim S16 32 0))) (broadcastInDim S16 ![] bcast_S_S16 (constant S_ .f32 0x41800000#32)))

/-- The grid row of each position. -/
def rowsR : FVec F S8192 .f32 :=
  shapeCast _ (broadcastInDim S128x64 ![0] bcast_S128_S128x64_0 (sitofp .f32 (iotaInDim S128 32 0) : FVec F S128 .f32)) shapeCasts_S128x64_S8192

/-- The grid column of each position. -/
def colsR : FVec F S8192 .f32 :=
  shapeCast _ (broadcastInDim S128x64 ![0, 1] bcast_S1x64_S128x64_0_1 (shapeCast _ (sitofp .f32 (iotaInDim S64 32 0) : FVec F S64 .f32) shapeCasts_S64_S1x64)) shapeCasts_S128x64_S8192

/-- The angles along one axis. -/
def angR (a : FVec F S8192 .f32) : FVec F S8192x16 .f32 :=
  mulf (broadcastInDim S8192x16 ![0, 1] bcast_S8192x1_S8192x16_0_1 (broadcastInDim S8192x1 ![0] bcast_S8192_S8192x1_0 a))
    (broadcastInDim S8192x16 ![0, 1] bcast_S1x16_S8192x16_0_1 (broadcastInDim S1x16 ![1] bcast_S16_S1x16_1 freqR))

/-- A table over positions and frequencies, laid over the batch, the heads and the components. -/
def spreadR (t : FVec F S8192x16 .f32) : FVec F S2x8192x4x2x16 .f32 :=
  broadcastInDim S2x8192x4x2x16 ![0, 1, 2, 3, 4] bcast_S1x8192x1x1x16_S2x8192x4x2x16_0_1_2_3_4
    (broadcastInDim S1x8192x1x1x16 ![1, 2, 3, 4] bcast_S8192x1x1x16_S1x8192x1x1x16_1_2_3_4 (shapeCast _ t shapeCasts_S8192x16_S8192x1x1x16))

/-- One axis turned by its angles. -/
def turnR (x : FVec F S2x8192x4x2x32 .f32) (a : FVec F S8192x16 .f32) : FVec F S2x8192x4x2x32 .f32 :=
  concatenate S2x8192x4x2x32 4
    [⟨S2x8192x4x2x16, subf (mulf (extractStridedSlice S2x8192x4x2x16 ![0, 0, 0, 0, 0] x slices_S2x8192x4x2x32_S2x8192x4x2x16_0_0_0_0_0) (spreadR (Host.cos a)))
        (mulf (extractStridedSlice S2x8192x4x2x16 ![0, 0, 0, 0, 16] x slices_S2x8192x4x2x32_S2x8192x4x2x16_0_0_0_0_16) (spreadR (Host.sin a)))⟩,
     ⟨S2x8192x4x2x16, addf (mulf (extractStridedSlice S2x8192x4x2x16 ![0, 0, 0, 0, 16] x slices_S2x8192x4x2x32_S2x8192x4x2x16_0_0_0_0_16) (spreadR (Host.cos a)))
        (mulf (extractStridedSlice S2x8192x4x2x16 ![0, 0, 0, 0, 0] x slices_S2x8192x4x2x32_S2x8192x4x2x16_0_0_0_0_0) (spreadR (Host.sin a)))⟩]
    concatenates_S2x8192x4x2x16_S2x8192x4x2x16_S2x8192x4x2x32_d4

/-- Both axes turned. -/
def ropeR (y : FVec F S2x8192x4x2x64 .f32) : FVec F S2x8192x4x2x64 .f32 :=
  concatenate S2x8192x4x2x64 4
    [⟨S2x8192x4x2x32, turnR (extractStridedSlice S2x8192x4x2x32 ![0, 0, 0, 0, 0] y slices_S2x8192x4x2x64_S2x8192x4x2x32_0_0_0_0_0) (angR rowsR)⟩,
     ⟨S2x8192x4x2x32, turnR (extractStridedSlice S2x8192x4x2x32 ![0, 0, 0, 0, 32] y slices_S2x8192x4x2x64_S2x8192x4x2x32_0_0_0_0_32) (angR colsR)⟩]
    concatenates_S2x8192x4x2x32_S2x8192x4x2x32_S2x8192x4x2x64_d4

/-- The queries' columns, by head and component. -/
def queryR (p : FVec F S2x8192x6656 .f32) : FVec F S2x8192x4x2x64 .f32 :=
  shapeCast _ (extractStridedSlice S2x8192x512 ![0, 0, 256] p slices_S2x8192x6656_S2x8192x512_0_0_256) shapeCasts_S2x8192x512_S2x8192x4x2x64

/-- The keys' columns, by head and component. -/
def keyR (p : FVec F S2x8192x6656 .f32) : FVec F S2x8192x4x2x64 .f32 :=
  shapeCast _ (extractStridedSlice S2x8192x512 ![0, 0, 768] p slices_S2x8192x6656_S2x8192x512_0_0_768) shapeCasts_S2x8192x512_S2x8192x4x2x64

/-- The scaled queries. -/
def scaledR (y : FVec F S2x8192x4x2x64 .f32) : FVec F S2x8192x4x2x64 .f32 :=
  Host.divf (mulf y (broadcastInDim S2x8192x4x2x64 ![] bcast_S_S2x8192x4x2x64 (constant S_ .f32 0x3E000000#32)))
    (broadcastInDim S2x8192x4x2x64 ![] bcast_S_S2x8192x4x2x64 (Host.log (constant S_ .f32 0x40000000#32)))

/-- The two axes' halves interleaved. -/
def interR (y : FVec F S2x8192x4x2x64 .f32) : FVec F S16384x512 .f32 :=
  shapeCast _ (transpose S16384x8x2x2x16 [0, 1, 3, 2, 4] (shapeCast S16384x8x2x2x16 y shapeCasts_S2x8192x4x2x64_S16384x8x2x2x16)
    transposes_S16384x8x2x2x16_S16384x8x2x2x16_0_1_3_2_4) shapeCasts_S16384x8x2x2x16_S16384x512

/-- The five results. -/
def out0 (p : FVec F S2x8192x6656 .f32) : FVec F S16384x256 .f32 :=
  shapeCast _ (extractStridedSlice S2x8192x256 ![0, 0, 0] p slices_S2x8192x6656_S2x8192x256_0_0_0) shapeCasts_S2x8192x256_S16384x256
def out1 (p : FVec F S2x8192x6656 .f32) : FVec F S16384x512 .bf16 := truncf .bf16 (interR (ropeR (keyR p))) bitsLt_bf16_f32
def out2 (p : FVec F S2x8192x6656 .f32) : FVec F S512x16384 .bf16 :=
  truncf .bf16 (transpose S512x16384 [1, 0] (interR (scaledR (ropeR (queryR p)))) transposes_S16384x512_S512x16384_1_0) bitsLt_bf16_f32
def out3 (p : FVec F S2x8192x6656 .f32) : FVec F S576x16384 .bf16 :=
  truncf .bf16 (shapeCast _ (concatenate S4x144x16384 1
    [⟨S4x128x16384, transpose S4x128x16384 [1, 2, 0] (shapeCast _ (extractStridedSlice S2x8192x512 ![0, 0, 1280] p slices_S2x8192x6656_S2x8192x512_0_0_1280)
        shapeCasts_S2x8192x512_S16384x4x128) transposes_S16384x4x128_S4x128x16384_1_2_0⟩,
     ⟨S4x16x16384, broadcastInDim S4x16x16384 ![] bcast_S_S4x16x16384 (constant S_ .f32 0x3F800000#32)⟩] concatenates_S4x128x16384_S4x16x16384_S4x144x16384_d1)
    shapeCasts_S4x144x16384_S576x16384) bitsLt_bf16_f32
def out4 (p : FVec F S2x8192x6656 .f32) : FVec F S16384x768 .bf16 :=
  truncf .bf16 (shapeCast _ (extractStridedSlice S2x8192x768 ![0, 0, 1792] p slices_S2x8192x6656_S2x8192x768_0_0_1792) shapeCasts_S2x8192x768_S16384x768) bitsLt_bf16_f32

/-- The projection of a run's arguments. -/
def projR (m : (ℓ : Loc nD τ sig) → Buf (Elt F) ℓ) (c : Dev nD) : FVec F S2x8192x6656 .f32 :=
  prodR (hR (m ((c.tc : Thread nD τ).loc main_arg0)) (m ((c.tc : Thread nD τ).loc main_arg1)) (m ((c.tc : Thread nD τ).loc main_arg2)))
    (m ((c.tc : Thread nD τ).loc main_arg3))

/-- The turned keys and queries of the run are these steps one after the other. -/
theorem res1_eq (m : (ℓ : Loc nD τ sig) → Buf (Elt F) ℓ) (c : Dev nD) : Value.res_main_v152 m c = out1 (projR m c) := rfl
theorem res2_eq (m : (ℓ : Loc nD τ sig) → Buf (Elt F) ℓ) (c : Dev nD) : Value.res_main_v157 m c = out2 (projR m c) := rfl
end defs

theorem hR_read (x mod g) (b : Fin 2) (r : Fin 8192) (k : Fin 1024) :
    hR (F := Ideal) x mod g (ix3 b r k)
      = modn (fun i => x (ix3 b r i)) (fun i => g (ix1 i)) (fun i => mod (ix2 b ⟨1024 + i, by omega⟩)) (fun i => mod (ix2 b ⟨i, by omega⟩)) k := by
  unfold modn rms
  pointwise [hR]

theorem prodR_read (h w) (b : Fin 2) (r : Fin 8192) (n : Fin 6656) :
    prodR (F := Ideal) h w (ix3 b r n) = ∑ k : Fin 1024, h (ix3 b r k) * w (ix2 k n) := by
  pointwise [prodR]

theorem freqR_read (f : Fin 16) : freqR (F := Ideal) (ix1 f) = freq f := by
  unfold freq place
  pointwise [freqR]
  rfl
theorem rowsR_read (s : Fin 8192) : rowsR (F := Ideal) (ix1 s) = place (s / 64) := by
  unfold place
  pointwise [rowsR]
  rfl
theorem colsR_read (s : Fin 8192) : colsR (F := Ideal) (ix1 s) = place (s % 64) := by
  unfold place
  pointwise [colsR]
  rfl
theorem angR_read (a) (s : Fin 8192) (f : Fin 16) : angR (F := Ideal) a (ix2 s f) = a (ix1 s) * freq f := by
  rw [← freqR_read]
  pointwise [angR]
theorem spreadR_read (t) (b : Fin 2) (s : Fin 8192) (h : Fin 4) (c : Fin 2) (f : Fin 16) :
    spreadR (F := Ideal) t (ix5 b s h c f) = t (ix2 s f) := by
  pointwise [spreadR]
theorem cos_read (a : FVec Ideal S8192x16 .f32) (i) : Host.cos a i = Ideal.cos (a i) := rfl
theorem sin_read (a : FVec Ideal S8192x16 .f32) (i) : Host.sin a i = Ideal.sin (a i) := rfl
theorem turnR_read (x a) (b : Fin 2) (s : Fin 8192) (h : Fin 4) (c : Fin 2) (j : Fin 32) :
    turnR (F := Ideal) x a (ix5 b s h c j)
      = if hj : j.val < 16
        then x (ix5 b s h c j) * Ideal.cos (a (ix2 s ⟨j, hj⟩)) - x (ix5 b s h c ⟨16 + j, by omega⟩) * Ideal.sin (a (ix2 s ⟨j, hj⟩))
        else x (ix5 b s h c ⟨16 + (j - 16), by omega⟩) * Ideal.cos (a (ix2 s ⟨j - 16, by omega⟩)) + x (ix5 b s h c ⟨j - 16, by omega⟩) * Ideal.sin (a (ix2 s ⟨j - 16, by omega⟩)) := by
  pointwise [turnR]
  simp only [spreadR_read, cos_read, sin_read]

theorem ropeR_read (y) (b : Fin 2) (s : Fin 8192) (h : Fin 4) (c : Fin 2) (j : Fin 64) :
    ropeR (F := Ideal) y (ix5 b s h c j)
      = if hj : j.val % 32 < 16
        then y (ix5 b s h c j) * Ideal.cos (place (if j.val < 32 then s / 64 else s % 64) * freq (j % 16))
          - y (ix5 b s h c ⟨j + 16, by omega⟩) * Ideal.sin (place (if j.val < 32 then s / 64 else s % 64) * freq (j % 16))
        else y (ix5 b s h c j) * Ideal.cos (place (if j.val < 32 then s / 64 else s % 64) * freq (j % 16))
          + y (ix5 b s h c ⟨j - 16, by omega⟩) * Ideal.sin (place (if j.val < 32 then s / 64 else s % 64) * freq (j % 16)) := by
  have hj := j.isLt
  pointwise [ropeR]
  simp only [turnR_read, angR_read, rowsR_read, colsR_read]
  pointwise []
  by_cases h1 : j.val < 32 <;> by_cases h2 : j.val % 32 < 16
  · have h3 : j.val < 16 := by omega
    have h4 : j.val % 16 = j.val := by omega
    simp only [h1, h2, h3, h4, dite_true, if_true, Nat.add_comm]
  · have h3 : ¬ j.val < 16 := by omega
    have h4 : j.val % 16 = j.val - 16 := by omega
    have h5 : 16 + (j.val - 16) = j.val := by omega
    simp only [h1, h2, h3, h4, h5, dite_true, dite_false, if_true]
  · have h3 : j.val - 32 < 16 := by omega
    have h4 : j.val % 16 = j.val - 32 := by omega
    have h5 : 32 + (j.val - 32) = j.val := by omega
    have h6 : 32 + (16 + (j.val - 32)) = j.val + 16 := by omega
    simp only [h1, h2, h3, h4, h5, h6, dite_true, dite_false, if_false]
  · have h3 : ¬ j.val - 32 < 16 := by omega
    have h4 : j.val % 16 = j.val - 32 - 16 := by omega
    have h5 : 32 + (16 + (j.val - 32 - 16)) = j.val := by omega
    have h6 : 32 + (j.val - 32 - 16) = j.val - 16 := by omega
    simp only [h1, h2, h3, h4, h5, h6, dite_false, if_false]

theorem queryR_read (p) (b : Fin 2) (s : Fin 8192) (h : Fin 4) (c : Fin 2) (j : Fin 64) :
    queryR (F := Ideal) p (ix5 b s h c j) = p (ix3 b s ⟨256 + (h * 128 + c * 64 + j), by omega⟩) := by
  pointwise [queryR]
theorem keyR_read (p) (b : Fin 2) (s : Fin 8192) (h : Fin 4) (c : Fin 2) (j : Fin 64) :
    keyR (F := Ideal) p (ix5 b s h c j) = p (ix3 b s ⟨768 + (h * 128 + c * 64 + j), by omega⟩) := by
  pointwise [keyR]
theorem scaledR_read (y) (i : S2x8192x4x2x64.Idx) : scaledR (F := Ideal) y i = y i * (((1 : ℝ) / 8 * (Real.log 2)⁻¹ : ℝ) : EReal) := by
  rw [← div_log]
  pointwise [scaledR]
theorem interR_read (y) (r : Fin 16384) (n : Fin 512) :
    interR (F := Ideal) y (ix2 r n) = y (ix5 ⟨r / 8192, by omega⟩ ⟨r % 8192, by omega⟩ ⟨n / 128, by omega⟩ ⟨n / 64 % 2, by omega⟩
      ⟨n % 32 / 16 * 32 + (n % 64 / 32 * 16 + n % 16), by omega⟩) := by
  pointwise [interR]
  have e1 : n.val / 64 / 2 = n.val / 128 := by omega
  have e2 : n.val / 16 % 2 * 32 + n.val / 32 % 2 * 16 + n.val % 16 = n.val % 32 / 16 * 32 + (n.val % 64 / 32 * 16 + n.val % 16) := by omega
  simp only [e1, e2]

/-- Columns at an offset of the projection, turned and interleaved. -/
theorem axial_read (q : FVec Ideal S2x8192x6656 .f32) (y : FVec Ideal S2x8192x4x2x64 .f32) (o : ℕ) (ho : o + 512 ≤ 6656)
    (hy : ∀ (b : Fin 2) (s : Fin 8192) (h : Fin 4) (c : Fin 2) (j : Fin 64), y (ix5 b s h c j) = q (ix3 b s ⟨o + (h * 128 + c * 64 + j), by omega⟩))
    (b : Fin 2) (s : Fin 8192) (n : Fin 512) :
    ropeR (F := Ideal) y (ix5 b s ⟨n / 128, by omega⟩ ⟨n / 64 % 2, by omega⟩ ⟨n % 32 / 16 * 32 + (n % 64 / 32 * 16 + n % 16), by omega⟩)
      = axial (fun i => q (ix3 b s ⟨o + i, by omega⟩)) s n := by
  rw [ropeR_read]
  unfold axial angle orig
  simp only [hy]
  have e1 : (n.val % 32 / 16 * 32 + (n.val % 64 / 32 * 16 + n.val % 16)) % 16 = n.val % 16 := by omega
  have e2 : (n.val % 32 / 16 * 32 + (n.val % 64 / 32 * 16 + n.val % 16) < 32) = (n.val % 32 < 16) := propext (by omega)
  have e3 : n.val / 128 * 128 + n.val / 64 % 2 * 64 = n.val / 64 * 64 := by omega
  by_cases h : n.val % 64 < 32
  · have h1 : (n.val % 32 / 16 * 32 + (n.val % 64 / 32 * 16 + n.val % 16)) % 32 < 16 := by omega
    have h2 : n.val / 64 * 64 + (n.val % 32 / 16 * 32 + (n.val % 64 / 32 * 16 + n.val % 16) + 16)
      = (n.val + 32) / 64 * 64 + ((n.val + 32) % 32 / 16 * 32 + ((n.val + 32) % 64 / 32 * 16 + (n.val + 32) % 16)) := by omega
    rw [dif_pos h1, dif_pos h]
    simp only [e1, e2, e3, h2]
  · have h1 : ¬ (n.val % 32 / 16 * 32 + (n.val % 64 / 32 * 16 + n.val % 16)) % 32 < 16 := by omega
    have h2 : n.val / 64 * 64 + (n.val % 32 / 16 * 32 + (n.val % 64 / 32 * 16 + n.val % 16) - 16)
      = (n.val - 32) / 64 * 64 + ((n.val - 32) % 32 / 16 * 32 + ((n.val - 32) % 64 / 32 * 16 + (n.val - 32) % 16)) := by omega
    rw [dif_neg h1, dif_neg h]
    simp only [e1, e2, e3, h2]

theorem out0_read (p) (r : Fin 16384) (n : Fin 256) :
    out0 (F := Ideal) p (ix2 r n) = p (ix3 ⟨r / 8192, by omega⟩ ⟨r % 8192, by omega⟩ ⟨n, by omega⟩) := by
  pointwise [out0]
theorem out1_read (p) (r : Fin 16384) (n : Fin 512) :
    out1 (F := Ideal) p (ix2 r n) = axial (fun i => p (ix3 ⟨r / 8192, by omega⟩ ⟨r % 8192, by omega⟩ ⟨768 + i, by omega⟩)) (r % 8192) n := by
  have e : out1 (F := Ideal) p (ix2 r n) = interR (ropeR (keyR p)) (ix2 r n) := by
    pointwise [out1]
  rw [e, interR_read]
  exact axial_read p _ 768 (by norm_num) (keyR_read p) ⟨r / 8192, by omega⟩ ⟨r % 8192, by omega⟩ n
theorem out2_read (p) (n : Fin 512) (r : Fin 16384) :
    out2 (F := Ideal) p (ix2 n r) = axial (fun i => p (ix3 ⟨r / 8192, by omega⟩ ⟨r % 8192, by omega⟩ ⟨256 + i, by omega⟩)) (r % 8192) n
      * (((1 : ℝ) / 8 * (Real.log 2)⁻¹ : ℝ) : EReal) := by
  have e : out2 (F := Ideal) p (ix2 n r) = interR (scaledR (ropeR (queryR p))) (ix2 r n) := by
    pointwise [out2]
  rw [e, interR_read, scaledR_read]
  refine congrArg (· * _) ?_
  exact axial_read p _ 256 (by norm_num) (queryR_read p) ⟨r / 8192, by omega⟩ ⟨r % 8192, by omega⟩ n
theorem out3_read (p) (n : Fin 576) (r : Fin 16384) :
    out3 (F := Ideal) p (ix2 n r) = if h : n.val % 144 < 128
      then p (ix3 ⟨r / 8192, by omega⟩ ⟨r % 8192, by omega⟩ ⟨1280 + (n / 144 * 128 + n % 144), by omega⟩) else 1 := by
  pointwise [out3]
theorem out4_read (p) (r : Fin 16384) (n : Fin 768) :
    out4 (F := Ideal) p (ix2 r n) = p (ix3 ⟨r / 8192, by omega⟩ ⟨r % 8192, by omega⟩ ⟨1792 + n, by omega⟩) := by
  pointwise [out4]

end Cert.Reference4Ideal.Steps

end
-- ==== Proof.InTile.lean ====
/-
  One point of the input projection: the normed rows, their products with the weights, the rotary embedding of the keys and of
  the queries, and what is stored of them, read element by element.
-/
module

public import proofs.«01_k».proof.Proof.Gen.Kernel4Ideal.Value
public import proofs.«01_k».proof.Proof.Scalar
public import Idealize.ShloMosaic.Lib.Claim
public import Idealize.ShloMosaic.Lib.Pipeline.Value
public import Idealize.ShloMosaic.Lib.Pipeline.ValueKit.Tiles

@[expose] public section

set_option maxRecDepth 16384

noncomputable section

open Idealize.ShloMosaic Idealize.ShloMosaic.TcCoe Idealize.SL.Sem

namespace Cert.Kernel4Ideal.Tile

open Cert.Kernel4Ideal Cert.Kernel4Ideal.Gen Cert.Layer

/-- The normed tile. -/
theorem norm_read (x : Vec Ideal S512x1024 .f32) (g : Vec Ideal S1x1024 .f32) (sh sc : Vec Ideal S1x1x1024 .f32) (r : Fin 512) (k : Fin 1024) :
    k0_pay3 (F := Ideal) x g sh sc (ix2 r k)
      = modn (fun i => x (ix2 r i)) (fun i => g (ix2 0 i)) (fun i => sc (ix3 0 0 i)) (fun i => sh (ix3 0 0 i)) k := by
  unfold modn rms
  pointwise [k0_pay3]

/-- The products of the normed tile. -/
theorem mix_read (x : Vec Ideal S512x1024 .f32) (g : Vec Ideal S1x1024 .f32) (sh sc : Vec Ideal S1x1x1024 .f32) (w) (r : Fin 512) (n : Fin 256) :
    k0_pay4 (F := Ideal) x g sh sc w (ix2 r n) = ∑ i : Fin 1024, k0_pay3 (F := Ideal) x g sh sc (ix2 r i) * w (ix2 i n) := by
  pointwise [k0_pay4]
theorem conv_read (x : Vec Ideal S512x1024 .f32) (g : Vec Ideal S1x1024 .f32) (sh sc : Vec Ideal S1x1x1024 .f32) (w) (r : Fin 512) (n : Fin 768) :
    k0_pay5 (F := Ideal) x g sh sc w (ix2 r n) = ∑ i : Fin 1024, k0_pay3 (F := Ideal) x g sh sc (ix2 r i) * w (ix2 i n) := by
  pointwise [k0_pay5]
theorem value_read (h w) (n r : Fin 512) : k0_pay6 (F := Ideal) h w (ix2 n r) = ∑ i : Fin 1024, w (ix2 n i) * h (ix2 r i) := by
  pointwise [k0_pay6]
theorem key_read (h w) (r n : Fin 512) : k0_pay15 (F := Ideal) h w (ix2 r n) = ∑ i : Fin 1024, h (ix2 r i) * w (ix2 i n) := by
  pointwise [k0_pay15]
theorem query_read (h w) (n r : Fin 512) : k0_pay16 (F := Ideal) h w (ix2 n r) = ∑ i : Fin 1024, w (ix2 n i) * h (ix2 r i) := by
  pointwise [k0_pay16]

/-- One head's keys rotated: column `n` of the head with the columns 32 to its right and to its left, around the head. -/
def turned (k : FVec Ideal S512x512 .f32) (kc ksa ksb : Vec Ideal S512x128 .f32) (r : Fin 512) (o : ℕ) (h : o + 128 ≤ 512) (n : Fin 128) : EReal :=
  k (ix2 r ⟨o + n, by omega⟩) * kc (ix2 r n) + k (ix2 r ⟨o + (n + 32) % 128, by omega⟩) * ksb (ix2 r n)
    + k (ix2 r ⟨o + (n + 96) % 128, by omega⟩) * ksa (ix2 r n)

theorem shift_a (n : Fin 128) : (n.val + 128 - 96) % 128 = (n.val + 32) % 128 := by omega
theorem shift_b (n : Fin 128) : (n.val + 128 - 32) % 128 = (n.val + 96) % 128 := by omega

theorem head0_read (k : FVec Ideal S512x512 .f32) (kc ksa ksb : Vec Ideal S512x128 .f32) (r : Fin 512) (n : Fin 128) :
    k0_pay20 (F := Ideal) k kc ksa ksb (ix2 r n) = turned k kc ksa ksb r 0 (by norm_num) n := by
  unfold turned
  simp only [Nat.zero_add]
  pointwise [k0_pay20, k0_pay17, k0_pay18, k0_pay19]
  simp only [shift_a, shift_b]
theorem head1_read (k : FVec Ideal S512x512 .f32) (kc ksa ksb : Vec Ideal S512x128 .f32) (r : Fin 512) (n : Fin 128) :
    k0_pay21 (F := Ideal) k kc ksa ksb (ix2 r n) = turned k kc ksa ksb r 128 (by norm_num) n := by
  unfold turned
  pointwise [k0_pay21, k0_pay17, k0_pay18, k0_pay19]
  simp only [shift_a, shift_b]
theorem head2_read (k : FVec Ideal S512x512 .f32) (kc ksa ksb : Vec Ideal S512x128 .f32) (r : Fin 512) (n : Fin 128) :
    k0_pay22 (F := Ideal) k kc ksa ksb (ix2 r n) = turned k kc ksa ksb r 256 (by norm_num) n := by
  unfold turned
  pointwise [k0_pay22, k0_pay17, k0_pay18, k0_pay19]
  simp only [shift_a, shift_b]
theorem head3_read (k : FVec Ideal S512x512 .f32) (kc ksa ksb : Vec Ideal S512x128 .f32) (r : Fin 512) (n : Fin 128) :
    k0_pay1 (F := Ideal) k (k0_pay17 kc) (k0_pay18 ksa) (k0_pay19 ksb) (ix2 r n) = turned k kc ksa ksb r 384 (by norm_num) n := by
  unfold turned
  pointwise [k0_pay1, k0_pay17, k0_pay18, k0_pay19]
  simp only [shift_a, shift_b]

/-- The scale of the queries: an eighth, over the logarithm of two. -/
def scale : EReal := ((((1 : ℝ) / 8) * (Real.log 2)⁻¹ : ℝ) : EReal)

theorem scale_named : (Named.named κ "q_scale" 0x3E38AA3B#32 : Ideal .f32) = scale := by
  unfold scale
  exact IdealRules.named_const.ideal_named_scalar _ _ _ _ rfl

/-- The queries rotated and scaled. -/
theorem rotated_read (q : FVec Ideal S512x512 .f32) (qc qs : Vec Ideal S64x512 .f32) (n r : Fin 512) :
    k0_pay2 (F := Ideal) q qc qs (ix2 n r)
      = (q (ix2 n r) * qc (ix2 ⟨n % 64, by omega⟩ r)
        + (if h : n.val % 64 < 32 then q (ix2 ⟨n / 64 * 64 + (32 + n % 64), by omega⟩ r) else q (ix2 ⟨n / 64 * 64 + (n % 64 - 32), by omega⟩ r))
          * qs (ix2 ⟨n % 64, by omega⟩ r)) * scale := by
  rw [← scale_named]
  pointwise [k0_pay2]

theorem one_read (n : Fin 16) (r : Fin 512) : k0_pay8 (F := Ideal) (ix2 n r) = 1 := by
  pointwise [k0_pay8]

section run
variable (c : Dev nD) (i : grid0.Coords)
  (arg1 : Memref sig .tc .vmem S512x1024 .f32) (harg1 : arg1.IsWhole)
  (arg2 : Memref sig .tc .vmem S1x6x1024 .f32) (harg2 : arg2.IsWhole)
  (arg3 : Memref sig .tc .vmem S1x1024 .f32) (harg3 : arg3.IsWhole)
  (arg4 : Memref sig .tc .vmem S1024x256 .bf16) (harg4 : arg4.IsWhole)
  (arg5 : Memref sig .tc .vmem S1024x512 .bf16) (harg5 : arg5.IsWhole)
  (arg6 : Memref sig .tc .vmem S512x1024 .bf16) (harg6 : arg6.IsWhole)
  (arg7 : Memref sig .tc .vmem S512x1024 .bf16) (harg7 : arg7.IsWhole)
  (arg8 : Memref sig .tc .vmem S1024x768 .bf16) (harg8 : arg8.IsWhole)
  (arg9 : Memref sig .tc .vmem S512x128 .f32) (harg9 : arg9.IsWhole)
  (arg10 : Memref sig .tc .vmem S512x128 .f32) (harg10 : arg10.IsWhole)
  (arg11 : Memref sig .tc .vmem S512x128 .f32) (harg11 : arg11.IsWhole)
  (arg12 : Memref sig .tc .vmem S64x512 .f32) (harg12 : arg12.IsWhole)
  (arg13 : Memref sig .tc .vmem S64x512 .f32) (harg13 : arg13.IsWhole)
  (arg14 : Memref sig .tc .vmem S512x256 .f32) (harg14 : arg14.IsWhole)
  (arg15 : Memref sig .tc .vmem S512x512 .bf16) (harg15 : arg15.IsWhole)
  (arg16 : Memref sig .tc .vmem S512x512 .bf16) (harg16 : arg16.IsWhole)
  (arg17 : Memref sig .tc .vmem S576x512 .bf16) (harg17 : arg17.IsWhole)
  (arg18 : Memref sig .tc .vmem S512x768 .bf16) (harg18 : arg18.IsWhole)
  (x0 : Vec Ideal S512x1024 .f32) (x1 : Vec Ideal S1x6x1024 .f32) (x2 : Vec Ideal S1x1024 .f32) (x3 : Vec Ideal S1024x256 .bf16) (x4 : Vec Ideal S1024x512 .bf16) (x5 : Vec Ideal S512x1024 .bf16) (x6 : Vec Ideal S512x1024 .bf16) (x7 : Vec Ideal S1024x768 .bf16) (x8 : Vec Ideal S512x128 .f32) (x9 : Vec Ideal S512x128 .f32) (x10 : Vec Ideal S512x128 .f32) (x11 : Vec Ideal S64x512 .f32) (x12 : Vec Ideal S64x512 .f32)

/-- The row `r` of the point, normed. -/
def row (x0 : Vec Ideal S512x1024 .f32) (x1 : Vec Ideal S1x6x1024 .f32) (x2 : Vec Ideal S1x1024 .f32) (r : Fin 512) : Fin 1024 → EReal :=
  modn (fun k => x0 (ix2 r k)) (fun k => x2 (ix2 0 k)) (fun k => x1 (ix3 0 1 k)) (fun k => x1 (ix3 0 0 k))

/-- The normed tile as the point loads it. -/
def tile (x0 : Vec Ideal S512x1024 .f32) (x1 : Vec Ideal S1x6x1024 .f32) (x2 : Vec Ideal S1x1024 .f32) : FVec Ideal S512x1024 .bf16 :=
  k0_pay3 (F := Ideal) (View.ld x0 (Rect.unit (s := S512x1024) ![0, 0] S512x1024.size inb_S512x1024_S512x1024_0_0))
    (View.ld x2 (Rect.unit (s := S1x1024) ![0, 0] S1x1024.size inb_S1x1024_S1x1024_0_0))
    (View.ld x1 (Rect.unit (s := S1x6x1024) ![0, 0, 0] S1x1x1024.size inb_S1x6x1024_S1x1x1024_0_0_0))
    (View.ld x1 (Rect.unit (s := S1x6x1024) ![0, 1, 0] S1x1x1024.size inb_S1x6x1024_S1x1x1024_0_1_0))

theorem tile_read (r : Fin 512) (k : Fin 1024) : tile x0 x1 x2 (ix2 r k) = row x0 x1 x2 r k := by
  unfold tile row
  rw [norm_read]
  refine congrFun (congr (congr (congr (congrArg _ ?_) ?_) ?_) ?_) k
  all_goals
    funext i
    pointwise []

/-- The mixing branch's columns. -/
theorem run13 (r : Fin 512) (n : Fin 256) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 (ix2 r n) = ∑ k : Fin 1024, row x0 x1 x2 r k * x3 (ix2 k n) := by
  unfold out0_A_13 kernelRun0_A
  dsimp only
  rw [View.read_writes_junk_eq_canon]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, View.readAt_eq_ld, Memref.IsWhole.read_unread]
  rw [View.canon_unit_zero (funext fun a => by match a with | ⟨0, _⟩ => rfl | ⟨1, _⟩ => rfl)]
  refine (mix_read _ _ _ _ _ r n).trans (Finset.sum_congr rfl fun k _ => congr (congrArg _ (tile_read x0 x1 x2 r k)) ?_)
  pointwise []

/-- The convolution branch's columns. -/
theorem run17 (r : Fin 512) (n : Fin 768) :
    out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 (ix2 r n) = ∑ k : Fin 1024, row x0 x1 x2 r k * x7 (ix2 k n) := by
  unfold out0_A_17 kernelRun0_A
  dsimp only
  rw [View.read_writes_junk_eq_canon]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, View.readAt_eq_ld, Memref.IsWhole.read_unread]
  rw [View.canon_unit_zero (funext fun a => by match a with | ⟨0, _⟩ => rfl | ⟨1, _⟩ => rfl)]
  refine (conv_read _ _ _ _ _ r n).trans (Finset.sum_congr rfl fun k _ => congr (congrArg _ (tile_read x0 x1 x2 r k)) ?_)
  pointwise []

/-- A product of a normed row with a row of weights. -/
def along (w : Vec Ideal S512x1024 .bf16) (r n : Fin 512) : EReal := ∑ k : Fin 1024, w (ix2 n k) * row x0 x1 x2 r k

/-- The queries. -/
theorem run15 (n r : Fin 512) :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 (ix2 n r)
      = (along x0 x1 x2 x5 r n * x11 (ix2 ⟨n % 64, by omega⟩ r)
        + (if h : n.val % 64 < 32 then along x0 x1 x2 x5 r ⟨n / 64 * 64 + (32 + n % 64), by omega⟩ else along x0 x1 x2 x5 r ⟨n / 64 * 64 + (n % 64 - 32), by omega⟩)
          * x12 (ix2 ⟨n % 64, by omega⟩ r)) * scale := by
  have e : ∀ n', k0_pay16 (F := Ideal) (tile x0 x1 x2) (View.ld x5 (Rect.unit (s := S512x1024) ![0, 0] S512x1024.size inb_S512x1024_S512x1024_0_0)) (ix2 n' r)
      = along x0 x1 x2 x5 r n' := fun n' => by
    refine (query_read _ _ n' r).trans (Finset.sum_congr rfl fun k _ => congr (congrArg _ ?_) (tile_read x0 x1 x2 r k))
    pointwise []
  unfold out0_A_15 kernelRun0_A
  dsimp only
  rw [View.read_writes_junk_eq_canon]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, View.readAt_eq_ld, Memref.IsWhole.read_unread]
  rw [View.canon_unit_zero (funext fun a => by match a with | ⟨0, _⟩ => rfl | ⟨1, _⟩ => rfl)]
  refine (rotated_read _ _ _ n r).trans ?_
  simp only [show k0_pay3 (F := Ideal) (View.ld x0 (Rect.unit (s := S512x1024) ![0, 0] S512x1024.size inb_S512x1024_S512x1024_0_0))
    (View.ld x2 (Rect.unit (s := S1x1024) ![0, 0] S1x1024.size inb_S1x1024_S1x1024_0_0))
    (View.ld x1 (Rect.unit (s := S1x6x1024) ![0, 0, 0] S1x1x1024.size inb_S1x6x1024_S1x1x1024_0_0_0))
    (View.ld x1 (Rect.unit (s := S1x6x1024) ![0, 1, 0] S1x1x1024.size inb_S1x6x1024_S1x1x1024_0_1_0)) = tile x0 x1 x2 from rfl]
  simp only [e]
  refine congr (congrArg _ (congr (congrArg _ (congr (congrArg _ rfl) ?_)) (congr (congrArg _ rfl) ?_))) rfl
  · pointwise []
  · pointwise []

/-- A product of a normed row with a column of weights. -/
def down (w : Vec Ideal S1024x512 .bf16) (r n : Fin 512) : EReal := ∑ k : Fin 1024, row x0 x1 x2 r k * w (ix2 k n)

/-- The keys. -/
theorem run14 (r n : Fin 512) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 (ix2 r n)
      = down x0 x1 x2 x4 r n * x8 (ix2 r ⟨n % 128, by omega⟩) + down x0 x1 x2 x4 r ⟨n / 128 * 128 + (n % 128 + 32) % 128, by omega⟩ * x10 (ix2 r ⟨n % 128, by omega⟩)
        + down x0 x1 x2 x4 r ⟨n / 128 * 128 + (n % 128 + 96) % 128, by omega⟩ * x9 (ix2 r ⟨n % 128, by omega⟩) := by
  have e : ∀ n', k0_pay15 (F := Ideal) (tile x0 x1 x2) (View.ld x4 (Rect.unit (s := S1024x512) ![0, 0] S1024x512.size inb_S1024x512_S1024x512_0_0)) (ix2 r n')
      = down x0 x1 x2 x4 r n' := fun n' => by
    refine (key_read _ _ r n').trans (Finset.sum_congr rfl fun k _ => congr (congrArg _ (tile_read x0 x1 x2 r k)) ?_)
    pointwise []
  have ld : ∀ (x : Vec Ideal S512x128 .f32), View.ld x (Rect.unit (s := S512x128) ![0, 0] S512x128.size inb_S512x128_S512x128_0_0) = x := fun x =>
    View.ld_unit_zero (funext fun a => by match a with | ⟨0, _⟩ => rfl | ⟨1, _⟩ => rfl) _ x
  unfold out0_A_14 kernelRun0_A
  dsimp only
  rw [View.read_writes_junk_eq_canon]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, View.readAt_eq_ld, Memref.IsWhole.read_unread, ld]
  have one : ∀ (o : ℕ) (h : o + 128 ≤ 512) (ho : o % 128 = 0) (hb : ∀ a, (![0, o] : Fin 2 → ℕ) a + S512x128.size a ≤ S512x512.size a)
      (p : Vec Ideal S512x128 .bf16) (hp : ∀ j, p (ix2 r j)
        = turned (k0_pay15 (F := Ideal) (tile x0 x1 x2) (View.ld x4 (Rect.unit (s := S1024x512) ![0, 0] S1024x512.size inb_S1024x512_S1024x512_0_0))) x8 x9 x10 r o h j)
      (x : (Rect.unit (s := S512x512) ![0, o] S512x128.size hb).shape.Idx),
      (Rect.unit (s := S512x512) ![0, o] S512x128.size hb).idx x = ix2 r n →
      p x = down x0 x1 x2 x4 r n * x8 (ix2 r ⟨n % 128, by omega⟩) + down x0 x1 x2 x4 r ⟨n / 128 * 128 + (n % 128 + 32) % 128, by omega⟩ * x10 (ix2 r ⟨n % 128, by omega⟩)
        + down x0 x1 x2 x4 r ⟨n / 128 * 128 + (n % 128 + 96) % 128, by omega⟩ * x9 (ix2 r ⟨n % 128, by omega⟩) := by
    intro o h ho hb p hp x hx
    have h0 : 0 + 1 * (x 0).val = r.val := congrArg (fun y : S512x512.Idx => (y 0).val) hx
    have h1 : o + 1 * (x 1).val = n.val := congrArg (fun y : S512x512.Idx => (y 1).val) hx
    have hx1 : (x 1).val < 128 := (x 1).isLt
    have ex : x = (ix2 r ⟨n.val % 128, by omega⟩ : S512x128.Idx) := by
      refine funext fun a => Fin.ext ?_
      match a with
      | ⟨0, _⟩ => show (x 0).val = r.val; omega
      | ⟨1, _⟩ => show (x 1).val = n.val % 128; omega
    have hd : n.val / 128 * 128 = o := by omega
    refine (congrArg p ex).trans ((hp _).trans ?_)
    unfold turned
    simp only [e, hd]
    have hn : (⟨o + n.val % 128, by omega⟩ : Fin 512) = n := Fin.ext (by show o + n.val % 128 = n.val; omega)
    rw [hn]
  refine View.canon_eq_of_allAt _ _ _ (View.cover_of_tiled_head _ _ _ rfl _) ?_
  intro p hp x hx
  simp only [List.mem_cons, List.not_mem_nil, or_false] at hp
  rcases hp with rfl | rfl | rfl | rfl
  · exact one 384 (by norm_num) (by norm_num) inb_S512x512_S512x128_0_384 _ (fun j => head3_read _ _ _ _ r j) x hx
  · exact one 256 (by norm_num) (by norm_num) inb_S512x512_S512x128_0_256 _ (fun j => head2_read _ _ _ _ r j) x hx
  · exact one 128 (by norm_num) (by norm_num) inb_S512x512_S512x128_0_128 _ (fun j => head1_read _ _ _ _ r j) x hx
  · exact one 0 (by norm_num) (by norm_num) inb_S512x512_S512x128_0_0 _ (fun j => head0_read _ _ _ _ r j) x hx

/-- The values, with the rows of ones. -/
theorem run16 (n : Fin 576) (r : Fin 512) :
    out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 (ix2 n r)
      = if h : n.val % 144 < 128 then along x0 x1 x2 x6 r ⟨n / 144 * 128 + n % 144, by omega⟩ else 1 := by
  have e : ∀ n', k0_pay6 (F := Ideal) (tile x0 x1 x2) (View.ld x6 (Rect.unit (s := S512x1024) ![0, 0] S512x1024.size inb_S512x1024_S512x1024_0_0)) (ix2 n' r)
      = along x0 x1 x2 x6 r n' := fun n' => by
    refine (value_read _ _ n' r).trans (Finset.sum_congr rfl fun k _ => congr (congrArg _ ?_) (tile_read x0 x1 x2 r k))
    pointwise []
  have cov := cover0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 (ix2 n r)
  revert cov
  unfold out0_A_16 kernelRun0_A
  dsimp only
  rw [View.read_writes_junk_eq_canon]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, View.readAt_eq_ld, Memref.IsWhole.read_unread]
  intro cov
  have vals : ∀ (a b : ℕ) (hab : b = a / 144 * 128 ∧ a % 144 = 0) (hb : ∀ d, (![a, 0] : Fin 2 → ℕ) d + S128x512.size d ≤ S576x512.size d)
      (p : Vec Ideal S128x512 .bf16) (hp : ∀ (j : Fin 128) (hj : b + j.val < 512), p (ix2 j r)
        = k0_pay6 (F := Ideal) (tile x0 x1 x2) (View.ld x6 (Rect.unit (s := S512x1024) ![0, 0] S512x1024.size inb_S512x1024_S512x1024_0_0)) (ix2 ⟨b + j.val, hj⟩ r))
      (x : (Rect.unit (s := S576x512) ![a, 0] S128x512.size hb).shape.Idx),
      (Rect.unit (s := S576x512) ![a, 0] S128x512.size hb).idx x = ix2 n r →
      p x = if h : n.val % 144 < 128 then along x0 x1 x2 x6 r ⟨n / 144 * 128 + n % 144, by omega⟩ else 1 := by
    intro a b hab hb p hp x hx
    have h0 : a + 1 * (x 0).val = n.val := congrArg (fun y : S576x512.Idx => (y 0).val) hx
    have h1 : 0 + 1 * (x 1).val = r.val := congrArg (fun y : S576x512.Idx => (y 1).val) hx
    have hx0 : (x 0).val < 128 := (x 0).isLt
    have hn : n.val < 576 := n.isLt
    have ex : x = (ix2 ⟨n.val % 144, by omega⟩ r : S128x512.Idx) := by
      refine funext fun d => Fin.ext ?_
      match d with
      | ⟨0, _⟩ => show (x 0).val = n.val % 144; omega
      | ⟨1, _⟩ => show (x 1).val = r.val; omega
    have hj : b + n.val % 144 < 512 := by omega
    rw [dif_pos (by omega)]
    refine (congrArg p ex).trans ((hp ⟨n.val % 144, by omega⟩ hj).trans ((e _).trans ?_))
    exact congrArg _ (Fin.ext (by show b + n.val % 144 = n.val / 144 * 128 + n.val % 144; omega))
  have ones : ∀ (a : ℕ) (ha : a % 144 = 128) (hb : ∀ d, (![a, 0] : Fin 2 → ℕ) d + S16x512.size d ≤ S576x512.size d)
      (x : (Rect.unit (s := S576x512) ![a, 0] S16x512.size hb).shape.Idx),
      (Rect.unit (s := S576x512) ![a, 0] S16x512.size hb).idx x = ix2 n r →
      k0_pay8 (F := Ideal) x = if h : n.val % 144 < 128 then along x0 x1 x2 x6 r ⟨n / 144 * 128 + n % 144, by omega⟩ else 1 := by
    intro a ha hb x hx
    have h0 : a + 1 * (x 0).val = n.val := congrArg (fun y : S576x512.Idx => (y 0).val) hx
    have hx0 : (x 0).val < 16 := (x 0).isLt
    have ex : x = (ix2 (x 0) (x 1) : S16x512.Idx) := by
      refine funext fun d => Fin.ext ?_
      match d with
      | ⟨0, _⟩ => rfl
      | ⟨1, _⟩ => rfl
    rw [dif_neg (by omega)]
    exact (congrArg _ ex).trans (one_read (x 0) (x 1))
  refine View.canon_eq_of_allAt _ _ _ cov ?_
  intro p hp x hx
  simp only [List.mem_cons, List.not_mem_nil, or_false] at hp
  rcases hp with rfl | rfl | rfl | rfl | rfl | rfl | rfl | rfl
  · exact ones 560 (by norm_num) inb_S576x512_S16x512_560_0 x hx
  · exact vals 432 384 (by norm_num) inb_S576x512_S128x512_432_0 _ (fun j hj => by
      unfold k0_pay13
      pointwise []
      rfl) x hx
  · exact ones 416 (by norm_num) inb_S576x512_S16x512_416_0 x hx
  · exact vals 288 256 (by norm_num) inb_S576x512_S128x512_288_0 _ (fun j hj => by
      unfold k0_pay11
      pointwise []
      rfl) x hx
  · exact ones 272 (by norm_num) inb_S576x512_S16x512_272_0 x hx
  · exact vals 144 128 (by norm_num) inb_S576x512_S128x512_144_0 _ (fun j hj => by
      unfold k0_pay9
      pointwise []
      rfl) x hx
  · exact ones 128 (by norm_num) inb_S576x512_S16x512_128_0 x hx
  · exact vals 0 0 (by norm_num) inb_S576x512_S128x512_0_0 _ (fun j hj => by
      unfold k0_pay7
      pointwise []
      rfl) x hx
end run

end Cert.Kernel4Ideal.Tile

end
-- ==== Proof.InHost.lean ====
/-
  What the input projection's host code hands its kernel: the weights' columns, and the rotary tables.
-/
module

public import proofs.«01_k».proof.Proof.Gen.Kernel4Ideal.Value
public import proofs.«01_k».proof.Proof.Scalar
public import Idealize.ShloMosaic.Lib.Routing.Ops

@[expose] public section

set_option maxRecDepth 16384

noncomputable section

open Idealize.ShloMosaic Idealize.ShloMosaic.TcCoe Idealize.SL.Sem

namespace Cert.Kernel4Ideal.Host4

open Cert.Kernel4Ideal Cert.Kernel4Ideal.Gen Cert.Layer

section defs
variable {F : FTy → Type} [FloatOps F]

/-- The order in which the columns are taken. -/
def order : IVec S512 32 := fun i => lit0 (S512.rowMajor i)

/-- The columns, in that order. -/
def picked (x : FVec F S1024x512 .f32) : FVec F S1024x512 .f32 :=
  Host.gather gather_S1024x512_S512x1_S1024x512_0_1_n_n_1_1_10241 x
    (broadcastInDim S512x1 ![0] bcast_S512_S512x1_0 (select (constantI S512 1 0#1) (addi order (broadcastInDim S512 ![] bcast_S_S512 (constantI S_ 32 512#32))) order))

/-- The rotary frequencies. -/
def freqK : FVec F S16 .f32 :=
  Host.powf (broadcastInDim S16 ![] bcast_S_S16 (constant S_ .f32 0x461C4000#32))
    (Host.divf (Host.negf (sitofp .f32 (iotaInDim S16 32 0))) (broadcastInDim S16 ![] bcast_S_S16 (constant S_ .f32 0x41800000#32)))

/-- The grid row and the grid column of each position. -/
def rowsK : FVec F S8192 .f32 :=
  shapeCast _ (broadcastInDim S128x64 ![0, 1] bcast_S128x1_S128x64_0_1 (broadcastInDim S128x1 ![0] bcast_S128_S128x1_0 (sitofp .f32 (iotaInDim S128 32 0) : FVec F S128 .f32)))
    shapeCasts_S128x64_S8192
def colsK : FVec F S8192 .f32 :=
  shapeCast _ (broadcastInDim S128x64 ![0, 1] bcast_S1x64_S128x64_0_1 (broadcastInDim S1x64 ![1] bcast_S64_S1x64_1 (sitofp .f32 (iotaInDim S64 32 0) : FVec F S64 .f32)))
    shapeCasts_S128x64_S8192

/-- The angles along one axis. -/
def angK (a : FVec F S8192 .f32) : FVec F S8192x16 .f32 :=
  mulf (broadcastInDim S8192x16 ![0, 1] bcast_S8192x1_S8192x16_0_1 (broadcastInDim S8192x1 ![0] bcast_S8192_S8192x1_0 a))
    (broadcastInDim S8192x16 ![0, 1] bcast_S1x16_S8192x16_0_1 (broadcastInDim S1x16 ![1] bcast_S16_S1x16_1 freqK))

/-- The angles of both axes. -/
def angles : FVec F S8192x32 .f32 :=
  concatenate S8192x32 1 [⟨S8192x16, angK rowsK⟩, ⟨S8192x16, angK colsK⟩] concatenates_S8192x16_S8192x16_S8192x32_d1

def zeros : FVec F S8192x32 .f32 := broadcastInDim S8192x32 ![] bcast_S_S8192x32 (constant S_ .f32 0x00000000#32)

/-- Four tables side by side. -/
def four (a b c d : FVec F S8192x32 .f32) : FVec F S8192x128 .f32 :=
  concatenate S8192x128 1 [⟨S8192x32, a⟩, ⟨S8192x32, b⟩, ⟨S8192x32, c⟩, ⟨S8192x32, d⟩] concatenates_S8192x32_S8192x32_S8192x32_S8192x32_S8192x128_d1

/-- Two tables one above the other. -/
def two (a b : FVec F S8192x32 .f32) : FVec F S64x8192 .f32 :=
  transpose S64x8192 [1, 0] (concatenate S8192x64 1 [⟨S8192x32, a⟩, ⟨S8192x32, b⟩] concatenates_S8192x32_S8192x32_S8192x64_d1) transposes_S8192x64_S64x8192_1_0

variable (m : (ℓ : Loc nD τ sig) → Buf (Elt F) ℓ) (c : Dev nD)

theorem V_wf : V m c main_v1 = truncf .bf16 (extractStridedSlice S1024x256 ![0, 0] (m ((c : Thread nD τ).loc main_arg3) : FVec F S1024x6656 .f32) slices_S1024x6656_S1024x256_0_0 : FVec F S1024x256 .f32) bitsLt_bf16_f32 := by
  unfold_abbrev_sides
  after_results <;> rfl
theorem V_wk : V m c main_v8 = truncf .bf16 (picked (extractStridedSlice S1024x512 ![0, 768] (m ((c : Thread nD τ).loc main_arg3) : FVec F S1024x6656 .f32) slices_S1024x6656_S1024x512_0_768)) bitsLt_bf16_f32 := by
  unfold_abbrev_sides
  after_results <;> rfl
theorem V_wq : V m c main_v16 = truncf .bf16 (transpose S512x1024 [1, 0] (picked (extractStridedSlice S1024x512 ![0, 256] (m ((c : Thread nD τ).loc main_arg3) : FVec F S1024x6656 .f32) slices_S1024x6656_S1024x512_0_256))
    transposes_S1024x512_S512x1024_1_0 : FVec F S512x1024 .f32) bitsLt_bf16_f32 := by
  unfold_abbrev_sides
  after_results <;> rfl
theorem V_wv : V m c main_v19 = truncf .bf16 (transpose S512x1024 [1, 0] (extractStridedSlice S1024x512 ![0, 1280] (m ((c : Thread nD τ).loc main_arg3) : FVec F S1024x6656 .f32) slices_S1024x6656_S1024x512_0_1280)
    transposes_S1024x512_S512x1024_1_0 : FVec F S512x1024 .f32) bitsLt_bf16_f32 := by
  unfold_abbrev_sides
  after_results <;> rfl
theorem V_wc : V m c main_v21 = truncf .bf16 (extractStridedSlice S1024x768 ![0, 1792] (m ((c : Thread nD τ).loc main_arg3) : FVec F S1024x6656 .f32) slices_S1024x6656_S1024x768_0_1792 : FVec F S1024x768 .f32) bitsLt_bf16_f32 := by
  unfold_abbrev_sides
  after_results <;> rfl
theorem V_x : V m c main_v22 = (shapeCast S16384x1024 (m ((c : Thread nD τ).loc main_arg0) : FVec F S2x8192x1024 .f32) shapeCasts_S2x8192x1024_S16384x1024 : FVec F S16384x1024 .f32) := by
  unfold_abbrev_sides
  after_results <;> rfl
theorem V_mod : V m c main_v23 = (shapeCast S2x6x1024 (m ((c : Thread nD τ).loc main_arg1) : FVec F S2x6144 .f32) shapeCasts_S2x6144_S2x6x1024 : FVec F S2x6x1024 .f32) := by
  unfold_abbrev_sides
  after_results <;> rfl
theorem V_gain : V m c main_v62 = (shapeCast S1x1024 (m ((c : Thread nD τ).loc main_arg2) : FVec F S1024 .f32) shapeCasts_S1024_S1x1024 : FVec F S1x1024 .f32) := by
  unfold_abbrev_sides
  after_results <;> rfl
set_option maxHeartbeats 4000000 in
theorem V_kc : V m c main_v52 = four (Host.cos angles) (Host.cos angles) (Host.cos angles) (Host.cos (F := F) angles) := by
  unfold_abbrev_sides
  after_results <;> rfl
set_option maxHeartbeats 4000000 in
theorem V_ka : V m c main_v53 = four zeros (Host.sin angles) zeros (Host.sin (F := F) angles) := by
  unfold_abbrev_sides
  after_results <;> rfl
set_option maxHeartbeats 4000000 in
theorem V_kb : V m c main_v56 = four (Host.negf (Host.sin angles)) zeros (Host.negf (Host.sin (F := F) angles)) zeros := by
  unfold_abbrev_sides
  after_results <;> rfl
theorem V_qc : V m c main_v58 = two (Host.cos angles) (Host.cos (F := F) angles) := by
  unfold_abbrev_sides
  after_results <;> rfl
theorem V_qs : V m c main_v61 = two (Host.negf (Host.sin angles)) (Host.sin (F := F) angles) := by
  unfold_abbrev_sides
  after_results <;> rfl
end defs

/-- The columns' order is the interleaved layout's. -/
theorem order_lit : ∀ n : Fin 512, (lit0 n).toInt.toNat = orig n := by decide +kernel

theorem order_read (n : Fin 512) : (order (ix1 n)).toInt.toNat = orig n := by
  have e : S512.rowMajor (ix1 n : S512.Idx) = n := by
    have h := (Equiv.symm_apply_eq _).1 (Routing.symm1 (N := 512) (n.cast (Routing.numel1 512).symm))
    exact Fin.ext (congrArg Fin.val h).symm
  show (lit0 (S512.rowMajor (ix1 n : S512.Idx))).toInt.toNat = orig n
  rw [e]
  exact order_lit n

/-- A gather of columns takes, at column `n`, the operand's column of that number. -/
theorem gather_col {α : Type} (x : S1024x512.Idx → α) (idx : IVec S512x1 32) (i : Fin 1024) (n b : Fin 512)
    (hb : (idx (ix2 n 0)).toInt.toNat = b.val) :
    Host.gather gather_S1024x512_S512x1_S1024x512_0_1_n_n_1_1_10241 x idx (ix2 i n) = x (ix2 i b) := by
  let d : GatherDims S1024x512 S512x1 S1024x512 := gather_S1024x512_S512x1_S1024x512_0_1_n_n_1_1_10241
  show Host.gather d x idx (ix2 i n) = x (ix2 i b)
  have hbN : ∀ a' : Fin S1024x512.rank, a' ∉ d.operandBatchingDims := fun a' => List.not_mem_nil
  unfold Host.gather
  refine congrArg x (funext fun a => Fin.ext ?_)
  match a with
  | ⟨0, _⟩ =>
    have hm : (0 : Fin 2) ∉ d.startIndexMap := by show (0 : Fin 2) ∉ [1]; decide
    have hk : (0 : Fin 2) ∈ d.sKept := (d.mem_sKept 0).2 ⟨by show (0 : Fin 2) ∉ [1]; decide, hbN 0⟩
    show d.start (ix2 i n) idx 0 + d.batchCoord (ix2 i n) 0 + d.offCoord (ix2 i n) 0 = i.val
    rw [d.batchCoord_eq_zero _ _ (hbN 0), Nat.add_zero]
    unfold GatherDims.start GatherDims.offCoord
    rw [dif_neg hm, dif_pos hk, Nat.zero_add]
    rfl
  | ⟨1, _⟩ =>
    have hk : (1 : Fin 2) ∉ d.sKept := fun h => ((d.mem_sKept 1).1 h).1 (List.mem_singleton.2 rfl)
    have hm : (1 : Fin 2) ∈ d.startIndexMap := List.mem_singleton.2 rfl
    show d.start (ix2 i n) idx 1 + d.batchCoord (ix2 i n) 1 + d.offCoord (ix2 i n) 1 = b.val
    rw [d.batchCoord_eq_zero _ _ (hbN 1), d.offCoord_eq_zero _ _ hk]
    simp only [Nat.add_zero]
    unfold GatherDims.start
    rw [dif_pos hm]
    have hsi : d.siIdx (ix2 i n) ⟨d.startIndexMap.idxOf 1, List.idxOf_lt_length_iff.2 hm⟩ = ix2 n (0 : Fin 1) := by
      funext b'
      refine Fin.ext ?_
      match b' with
      | ⟨0, _⟩ => rfl
      | ⟨1, _⟩ => rfl
    rw [hsi, hb]
    show min b.val (512 - 1) = b.val
    omega

theorem picked_read (x : FVec Ideal S1024x512 .f32) (i : Fin 1024) (n : Fin 512) :
    picked (F := Ideal) x (ix2 i n) = x (ix2 i ⟨orig n, orig_lt _ n.isLt⟩) := by
  unfold picked
  refine gather_col x _ i n ⟨orig n, orig_lt _ n.isLt⟩ ?_
  refine Eq.trans (congrArg (fun v : BitVec 32 => v.toInt.toNat) ?_) (order_read n)
  pointwise []

theorem freqK_read (f : Fin 16) : freqK (F := Ideal) (ix1 f) = freq f := by
  unfold freq place
  pointwise [freqK]
  rfl
theorem rowsK_read (s : Fin 8192) : rowsK (F := Ideal) (ix1 s) = place (s / 64) := by
  unfold place
  pointwise [rowsK]
  rfl
theorem colsK_read (s : Fin 8192) : colsK (F := Ideal) (ix1 s) = place (s % 64) := by
  unfold place
  pointwise [colsK]
  rfl
theorem angK_read (a) (s : Fin 8192) (f : Fin 16) : angK (F := Ideal) a (ix2 s f) = a (ix1 s) * freq f := by
  rw [← freqK_read]
  pointwise [angK]

/-- The angle depends on the column's place in its axis alone. -/
theorem angle_mod (s n : ℕ) : angle s (n % 32) = angle s n := by
  unfold angle
  rw [Nat.mod_mod, Nat.mod_mod_of_dvd n (by norm_num : 16 ∣ 32)]

theorem angles_read (s : Fin 8192) (j : Fin 32) : angles (F := Ideal) (ix2 s j) = angle s j := by
  have hj := j.isLt
  pointwise [angles]
  simp only [angK_read, rowsK_read, colsK_read]
  unfold angle
  by_cases h : j.val < 16
  · have h1 : j.val % 32 < 16 := by omega
    have h2 : j.val % 16 = j.val := by omega
    simp only [h, h1, h2, dite_true, if_true]
  · have h1 : ¬ j.val % 32 < 16 := by omega
    have h2 : j.val % 16 = j.val - 16 := by omega
    simp only [h, h1, h2, dite_false, if_false]

theorem cos_read (s : Fin 8192) (j : Fin 32) : Host.cos (F := Ideal) angles (ix2 s j) = Ideal.cos (angle s j) := congrArg Ideal.cos (angles_read s j)
theorem sin_read (s : Fin 8192) (j : Fin 32) : Host.sin (F := Ideal) angles (ix2 s j) = Ideal.sin (angle s j) := congrArg Ideal.sin (angles_read s j)
theorem neg_read (s : Fin 8192) (j : Fin 32) : Host.negf (Host.sin (F := Ideal) angles) (ix2 s j) = -Ideal.sin (angle s j) :=
  congrArg (fun v => -Ideal.sin v) (angles_read s j)
theorem zeros_read (s : Fin 8192) (j : Fin 32) : zeros (F := Ideal) (ix2 s j) = 0 := by
  pointwise [zeros]

/-- Four tables side by side, read where the even and the odd ones are alike. -/
theorem four_read (a b c d : FVec Ideal S8192x32 .f32) (u v : Fin 32 → EReal) (s : Fin 8192)
    (ha : ∀ j, a (ix2 s j) = u j) (hb : ∀ j, b (ix2 s j) = v j) (hc : ∀ j, c (ix2 s j) = u j) (hd : ∀ j, d (ix2 s j) = v j) (n : Fin 128) :
    four (F := Ideal) a b c d (ix2 s n) = if n.val % 64 < 32 then u ⟨n % 32, by omega⟩ else v ⟨n % 32, by omega⟩ := by
  have hn := n.isLt
  pointwise [four]
  simp only [ha, hb, hc, hd]
  by_cases h1 : n.val < 32
  · have e1 : n.val % 64 < 32 := by omega
    have e2 : n.val % 32 = n.val := by omega
    simp only [h1, e1, e2, dite_true, if_true]
  · by_cases h2 : n.val - 32 < 32
    · have e1 : ¬ n.val % 64 < 32 := by omega
      have e2 : n.val % 32 = n.val - 32 := by omega
      simp only [h1, h2, e1, e2, dite_true, dite_false, if_false]
    · by_cases h3 : n.val - 32 - 32 < 32
      · have e1 : n.val % 64 < 32 := by omega
        have e2 : n.val % 32 = n.val - 32 - 32 := by omega
        simp only [h1, h2, h3, e1, e2, dite_true, dite_false, if_true]
      · have e1 : ¬ n.val % 64 < 32 := by omega
        have e2 : n.val % 32 = n.val - 32 - 32 - 32 := by omega
        simp only [h1, h2, h3, e1, e2, dite_false, if_false]

theorem two_read (a b : FVec Ideal S8192x32 .f32) (n : Fin 64) (s : Fin 8192) :
    two (F := Ideal) a b (ix2 n s) = if n.val < 32 then a (ix2 s ⟨n % 32, by omega⟩) else b (ix2 s ⟨n % 32, by omega⟩) := by
  have hn := n.isLt
  pointwise [two]
  by_cases h : n.val < 32
  · have e : n.val % 32 = n.val := by omega
    simp only [h, e, dite_true, if_true]
  · have e : n.val % 32 = n.val - 32 := by omega
    simp only [h, e, dite_false, if_false]

theorem kc_read (s : Fin 8192) (n : Fin 128) :
    four (Host.cos angles) (Host.cos angles) (Host.cos angles) (Host.cos (F := Ideal) angles) (ix2 s n) = Ideal.cos (angle s n) := by
  rw [four_read _ _ _ _ _ _ s (cos_read s) (cos_read s) (cos_read s) (cos_read s) n, ite_self, angle_mod]
theorem ka_read (s : Fin 8192) (n : Fin 128) :
    four zeros (Host.sin angles) zeros (Host.sin (F := Ideal) angles) (ix2 s n) = if n.val % 64 < 32 then 0 else Ideal.sin (angle s n) := by
  rw [four_read _ _ _ _ (fun _ => 0) _ s (zeros_read s) (sin_read s) (zeros_read s) (sin_read s) n, angle_mod]
theorem kb_read (s : Fin 8192) (n : Fin 128) :
    four (Host.negf (Host.sin angles)) zeros (Host.negf (Host.sin (F := Ideal) angles)) zeros (ix2 s n) = if n.val % 64 < 32 then -Ideal.sin (angle s n) else 0 := by
  rw [four_read _ _ _ _ _ (fun _ => 0) s (neg_read s) (zeros_read s) (neg_read s) (zeros_read s) n, angle_mod]
theorem qc_read (n : Fin 64) (s : Fin 8192) :
    two (Host.cos angles) (Host.cos (F := Ideal) angles) (ix2 n s) = Ideal.cos (angle s n) := by
  rw [two_read, ite_self, cos_read, angle_mod]
theorem qs_read (n : Fin 64) (s : Fin 8192) :
    two (Host.negf (Host.sin angles)) (Host.sin (F := Ideal) angles) (ix2 n s) = if n.val < 32 then -Ideal.sin (angle s n) else Ideal.sin (angle s n) := by
  rw [two_read, neg_read, sin_read, angle_mod]

end Cert.Kernel4Ideal.Host4

end
-- ==== Proof.InAgree.lean ====
/-
  The input projection's output arrays are the reference's.
-/
module

public import proofs.«01_k».proof.Proof.InTile
public import proofs.«01_k».proof.Proof.InRef
public import proofs.«01_k».proof.Proof.InHost
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.Kernel4Ideal.Agree

open Cert.Kernel4Ideal Cert.Kernel4Ideal.Gen Cert.Kernel4Ideal.Tile Cert.Kernel4Ideal.Host4 Cert.Layer
open Cert.Reference4Ideal.Steps (hR prodR hR_read prodR_read)

/-- Where each point's blocks lie. -/
theorem index_rows : ∀ t : Fin grid0.N, (win0_0.index t 0 = t.val ∧ win0_0.index t 1 = 0) ∧ (win0_13.index t 0 = t.val ∧ win0_13.index t 1 = 0)
    ∧ (win0_14.index t 0 = t.val ∧ win0_14.index t 1 = 0) ∧ (win0_17.index t 0 = t.val ∧ win0_17.index t 1 = 0) := by decide +kernel
theorem index_cols : ∀ t : Fin grid0.N, (win0_15.index t 0 = 0 ∧ win0_15.index t 1 = t.val) ∧ (win0_16.index t 0 = 0 ∧ win0_16.index t 1 = t.val) := by decide +kernel
theorem index_mod : ∀ t : Fin grid0.N, win0_1.index t 0 = t.val / 16 ∧ win0_1.index t 1 = 0 ∧ win0_1.index t 2 = 0 := by decide +kernel
theorem index_w : ∀ t : Fin grid0.N, (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0) := by decide +kernel
theorem index_k : ∀ t : Fin grid0.N, (win0_8.index t 0 = t.val % 16 ∧ win0_8.index t 1 = 0) ∧ (win0_9.index t 0 = t.val % 16 ∧ win0_9.index t 1 = 0)
    ∧ (win0_10.index t 0 = t.val % 16 ∧ win0_10.index t 1 = 0) := by decide +kernel
theorem index_q : ∀ t : Fin grid0.N, (win0_11.index t 0 = 0 ∧ win0_11.index t 1 = t.val % 16) ∧ (win0_12.index t 0 = 0 ∧ win0_12.index t 1 = t.val % 16) := by decide +kernel
theorem flush_o : ∀ t : Fin grid0.N, win0_13.flush t = true ∧ win0_14.flush t = true ∧ win0_15.flush t = true ∧ win0_16.flush t = true ∧ win0_17.flush t = true := by
  decide +kernel

/-- A row of the flattened sequence is a row of one batch entry. -/
theorem flat_x (x : FVec Ideal S2x8192x1024 .f32) (y : Fin 16384) (k : Fin 1024) :
    (shapeCast S16384x1024 x shapeCasts_S2x8192x1024_S16384x1024 : FVec Ideal S16384x1024 .f32) (ix2 y k)
      = x (ix3 ⟨y / 8192, by omega⟩ ⟨y % 8192, by omega⟩ k) := by
  pointwise []
/-- A cast between floats changes nothing. -/
theorem cast_id {s : Shape} (x : FVec Ideal s .f32) (i : s.Idx) : (truncf .bf16 x bitsLt_bf16_f32 : FVec Ideal s .bf16) i = x i := rfl
/-- A transposed weight, read. -/
theorem turn_id (x : FVec Ideal S1024x512 .f32) (n : Fin 512) (i : Fin 1024) :
    (transpose S512x1024 [1, 0] x transposes_S1024x512_S512x1024_1_0 : FVec Ideal S512x1024 .f32) (ix2 n i) = x (ix2 i n) := by
  pointwise []
theorem cut_k (x : FVec Ideal S1024x6656 .f32) (i : Fin 1024) (n : Fin 512) :
    (extractStridedSlice S1024x512 ![0, 768] x slices_S1024x6656_S1024x512_0_768 : FVec Ideal S1024x512 .f32) (ix2 i n) = x (ix2 i ⟨768 + n, by omega⟩) := by
  pointwise []
theorem cut_q (x : FVec Ideal S1024x6656 .f32) (i : Fin 1024) (n : Fin 512) :
    (extractStridedSlice S1024x512 ![0, 256] x slices_S1024x6656_S1024x512_0_256 : FVec Ideal S1024x512 .f32) (ix2 i n) = x (ix2 i ⟨256 + n, by omega⟩) := by
  pointwise []

section blocks
variable (m : (ℓ : Loc nD τ sig) → Buf (Elt Ideal) ℓ) (c : Dev nD) (t : Fin cfg0.N)

/-- The block of rows: row `r` of point `t` is row `y` of the sequence. -/
theorem blk_x (r : Fin 512) (k : Fin 1024) (y : Fin 16384) (hy : y.val = t.val * 512 + r.val) :
    (iblk m c 0 t : Vec Ideal S512x1024 .f32) (ix2 r k)
      = (m ((c : Thread nD τ).loc main_arg0) : Vec Ideal S2x8192x1024 .f32) (ix3 ⟨y / 8192, by omega⟩ ⟨y % 8192, by omega⟩ k) := by
  have : (iblk m c 0 t : Vec Ideal S512x1024 .f32) (ix2 r k) = (V m c main_v22 : Vec Ideal S16384x1024 .f32) (ix2 y k) := by
    refine congrArg (V m c main_v22 : Vec Ideal S16384x1024 .f32) (funext fun a => Fin.ext ?_)
    match a with
    | ⟨0, _⟩ => show win0_0.index t 0 * 512 + 1 * r.val = y.val; rw [(index_rows t).1.1, hy]; omega
    | ⟨1, _⟩ => show win0_0.index t 1 * 1024 + 1 * k.val = k.val; rw [(index_rows t).1.2]; omega
  rw [this, V_x, flat_x]

/-- The modulation vectors of the point's batch entry. -/
theorem blk_mod (p : Fin 6) (k : Fin 1024) (b : Fin 2) (hb : b.val = t.val / 16) :
    (iblk m c 1 t : Vec Ideal S1x6x1024 .f32) (ix3 0 p k)
      = (m ((c : Thread nD τ).loc main_arg1) : Vec Ideal S2x6144 .f32) (ix2 b ⟨p * 1024 + k, by omega⟩) := by
  have : (iblk m c 1 t : Vec Ideal S1x6x1024 .f32) (ix3 0 p k) = (V m c main_v23 : Vec Ideal S2x6x1024 .f32) (ix3 b p k) := by
    obtain ⟨e0, e1, e2⟩ := index_mod t
    refine congrArg (V m c main_v23 : Vec Ideal S2x6x1024 .f32) (funext fun a => Fin.ext ?_)
    match a with
    | ⟨0, _⟩ => show win0_1.index t 0 * 1 + 1 * 0 = b.val; rw [e0, hb]; omega
    | ⟨1, _⟩ => show win0_1.index t 1 * 6 + 1 * p.val = p.val; rw [e1]; omega
    | ⟨2, _⟩ => show win0_1.index t 2 * 1024 + 1 * k.val = k.val; rw [e2]; omega
  rw [this, V_mod]
  pointwise []

/-- The weights, whole at every point. -/
theorem blk_gain (k : Fin 1024) : (iblk m c 2 t : Vec Ideal S1x1024 .f32) (ix2 0 k)
      = (m ((c : Thread nD τ).loc main_arg2) : Vec Ideal S1024 .f32) (ix1 k) := by
  have : (iblk m c 2 t : Vec Ideal S1x1024 .f32) (ix2 0 k) = (V m c main_v62 : Vec Ideal S1x1024 .f32) (ix2 0 k) := by
    refine congrArg (V m c main_v62 : Vec Ideal S1x1024 .f32) (funext fun a => Fin.ext ?_)
    match a with
    | ⟨0, _⟩ => show win0_2.index t 0 * 1 + 1 * 0 = 0; rw [(index_w t).1.1]
    | ⟨1, _⟩ => show win0_2.index t 1 * 1024 + 1 * k.val = k.val; rw [(index_w t).1.2]; omega
  rw [this, V_gain]
  pointwise []

theorem blk_wf (i : Fin 1024) (n : Fin 256) : (iblk m c 3 t : Vec Ideal S1024x256 .bf16) (ix2 i n)
      = (m ((c : Thread nD τ).loc main_arg3) : Vec Ideal S1024x6656 .f32) (ix2 i ⟨n, by omega⟩) := by
  have : (iblk m c 3 t : Vec Ideal S1024x256 .bf16) (ix2 i n) = (V m c main_v1 : Vec Ideal S1024x256 .bf16) (ix2 i n) := by
    refine congrArg (V m c main_v1 : Vec Ideal S1024x256 .bf16) (funext fun a => Fin.ext ?_)
    match a with
    | ⟨0, _⟩ => show win0_3.index t 0 * 1024 + 1 * i.val = i.val; rw [(index_w t).2.1.1]; omega
    | ⟨1, _⟩ => show win0_3.index t 1 * 256 + 1 * n.val = n.val; rw [(index_w t).2.1.2]; omega
  rw [this, V_wf]
  pointwise []

theorem blk_wk (i : Fin 1024) (n : Fin 512) : (iblk m c 4 t : Vec Ideal S1024x512 .bf16) (ix2 i n)
      = (m ((c : Thread nD τ).loc main_arg3) : Vec Ideal S1024x6656 .f32) (ix2 i ⟨768 + orig n, by have := orig_lt n n.isLt; omega⟩) := by
  have : (iblk m c 4 t : Vec Ideal S1024x512 .bf16) (ix2 i n) = (V m c main_v8 : Vec Ideal S1024x512 .bf16) (ix2 i n) := by
    refine congrArg (V m c main_v8 : Vec Ideal S1024x512 .bf16) (funext fun a => Fin.ext ?_)
    match a with
    | ⟨0, _⟩ => show win0_4.index t 0 * 1024 + 1 * i.val = i.val; rw [(index_w t).2.2.1.1]; omega
    | ⟨1, _⟩ => show win0_4.index t 1 * 512 + 1 * n.val = n.val; rw [(index_w t).2.2.1.2]; omega
  rw [this, V_wk, cast_id, picked_read, cut_k]

theorem blk_wq (n : Fin 512) (i : Fin 1024) : (iblk m c 5 t : Vec Ideal S512x1024 .bf16) (ix2 n i)
      = (m ((c : Thread nD τ).loc main_arg3) : Vec Ideal S1024x6656 .f32) (ix2 i ⟨256 + orig n, by have := orig_lt n n.isLt; omega⟩) := by
  have : (iblk m c 5 t : Vec Ideal S512x1024 .bf16) (ix2 n i) = (V m c main_v16 : Vec Ideal S512x1024 .bf16) (ix2 n i) := by
    refine congrArg (V m c main_v16 : Vec Ideal S512x1024 .bf16) (funext fun a => Fin.ext ?_)
    match a with
    | ⟨0, _⟩ => show win0_5.index t 0 * 512 + 1 * n.val = n.val; rw [(index_w t).2.2.2.1.1]; omega
    | ⟨1, _⟩ => show win0_5.index t 1 * 1024 + 1 * i.val = i.val; rw [(index_w t).2.2.2.1.2]; omega
  rw [this, V_wq, cast_id, turn_id, picked_read, cut_q]

theorem blk_wv (n : Fin 512) (i : Fin 1024) : (iblk m c 6 t : Vec Ideal S512x1024 .bf16) (ix2 n i)
      = (m ((c : Thread nD τ).loc main_arg3) : Vec Ideal S1024x6656 .f32) (ix2 i ⟨1280 + n, by omega⟩) := by
  have : (iblk m c 6 t : Vec Ideal S512x1024 .bf16) (ix2 n i) = (V m c main_v19 : Vec Ideal S512x1024 .bf16) (ix2 n i) := by
    refine congrArg (V m c main_v19 : Vec Ideal S512x1024 .bf16) (funext fun a => Fin.ext ?_)
    match a with
    | ⟨0, _⟩ => show win0_6.index t 0 * 512 + 1 * n.val = n.val; rw [(index_w t).2.2.2.2.1.1]; omega
    | ⟨1, _⟩ => show win0_6.index t 1 * 1024 + 1 * i.val = i.val; rw [(index_w t).2.2.2.2.1.2]; omega
  rw [this, V_wv]
  pointwise []

theorem blk_wc (i : Fin 1024) (n : Fin 768) : (iblk m c 7 t : Vec Ideal S1024x768 .bf16) (ix2 i n)
      = (m ((c : Thread nD τ).loc main_arg3) : Vec Ideal S1024x6656 .f32) (ix2 i ⟨1792 + n, by omega⟩) := by
  have : (iblk m c 7 t : Vec Ideal S1024x768 .bf16) (ix2 i n) = (V m c main_v21 : Vec Ideal S1024x768 .bf16) (ix2 i n) := by
    refine congrArg (V m c main_v21 : Vec Ideal S1024x768 .bf16) (funext fun a => Fin.ext ?_)
    match a with
    | ⟨0, _⟩ => show win0_7.index t 0 * 1024 + 1 * i.val = i.val; rw [(index_w t).2.2.2.2.2.1]; omega
    | ⟨1, _⟩ => show win0_7.index t 1 * 768 + 1 * n.val = n.val; rw [(index_w t).2.2.2.2.2.2]; omega
  rw [this, V_wc]
  pointwise []

/-- The tables' blocks: place `r` of point `t` is position `s` of its batch entry. -/
theorem blk_kc (r : Fin 512) (n : Fin 128) (s : Fin 8192) (hs : s.val = t.val % 16 * 512 + r.val) :
    (iblk m c 8 t : Vec Ideal S512x128 .f32) (ix2 r n) = Ideal.cos (angle s n) := by
  have : (iblk m c 8 t : Vec Ideal S512x128 .f32) (ix2 r n) = (V m c main_v52 : Vec Ideal S8192x128 .f32) (ix2 s n) := by
    refine congrArg (V m c main_v52 : Vec Ideal S8192x128 .f32) (funext fun a => Fin.ext ?_)
    match a with
    | ⟨0, _⟩ => show win0_8.index t 0 * 512 + 1 * r.val = s.val; rw [(index_k t).1.1, hs, Nat.one_mul]
    | ⟨1, _⟩ => show win0_8.index t 1 * 128 + 1 * n.val = n.val; rw [(index_k t).1.2]; omega
  rw [this, V_kc, kc_read]
theorem blk_ka (r : Fin 512) (n : Fin 128) (s : Fin 8192) (hs : s.val = t.val % 16 * 512 + r.val) :
    (iblk m c 9 t : Vec Ideal S512x128 .f32) (ix2 r n) = if n.val % 64 < 32 then 0 else Ideal.sin (angle s n) := by
  have : (iblk m c 9 t : Vec Ideal S512x128 .f32) (ix2 r n) = (V m c main_v53 : Vec Ideal S8192x128 .f32) (ix2 s n) := by
    refine congrArg (V m c main_v53 : Vec Ideal S8192x128 .f32) (funext fun a => Fin.ext ?_)
    match a with
    | ⟨0, _⟩ => show win0_9.index t 0 * 512 + 1 * r.val = s.val; rw [(index_k t).2.1.1, hs, Nat.one_mul]
    | ⟨1, _⟩ => show win0_9.index t 1 * 128 + 1 * n.val = n.val; rw [(index_k t).2.1.2]; omega
  rw [this, V_ka, ka_read]
theorem blk_kb (r : Fin 512) (n : Fin 128) (s : Fin 8192) (hs : s.val = t.val % 16 * 512 + r.val) :
    (iblk m c 10 t : Vec Ideal S512x128 .f32) (ix2 r n) = if n.val % 64 < 32 then -Ideal.sin (angle s n) else 0 := by
  have : (iblk m c 10 t : Vec Ideal S512x128 .f32) (ix2 r n) = (V m c main_v56 : Vec Ideal S8192x128 .f32) (ix2 s n) := by
    refine congrArg (V m c main_v56 : Vec Ideal S8192x128 .f32) (funext fun a => Fin.ext ?_)
    match a with
    | ⟨0, _⟩ => show win0_10.index t 0 * 512 + 1 * r.val = s.val; rw [(index_k t).2.2.1, hs, Nat.one_mul]
    | ⟨1, _⟩ => show win0_10.index t 1 * 128 + 1 * n.val = n.val; rw [(index_k t).2.2.2]; omega
  rw [this, V_kb, kb_read]
theorem blk_qc (n : Fin 64) (r : Fin 512) (s : Fin 8192) (hs : s.val = t.val % 16 * 512 + r.val) :
    (iblk m c 11 t : Vec Ideal S64x512 .f32) (ix2 n r) = Ideal.cos (angle s n) := by
  have : (iblk m c 11 t : Vec Ideal S64x512 .f32) (ix2 n r) = (V m c main_v58 : Vec Ideal S64x8192 .f32) (ix2 n s) := by
    refine congrArg (V m c main_v58 : Vec Ideal S64x8192 .f32) (funext fun a => Fin.ext ?_)
    match a with
    | ⟨0, _⟩ => show win0_11.index t 0 * 64 + 1 * n.val = n.val; rw [(index_q t).1.1]; omega
    | ⟨1, _⟩ => show win0_11.index t 1 * 512 + 1 * r.val = s.val; rw [(index_q t).1.2, hs, Nat.one_mul]
  rw [this, V_qc, qc_read]
theorem blk_qs (n : Fin 64) (r : Fin 512) (s : Fin 8192) (hs : s.val = t.val % 16 * 512 + r.val) :
    (iblk m c 12 t : Vec Ideal S64x512 .f32) (ix2 n r) = if n.val < 32 then -Ideal.sin (angle s n) else Ideal.sin (angle s n) := by
  have : (iblk m c 12 t : Vec Ideal S64x512 .f32) (ix2 n r) = (V m c main_v61 : Vec Ideal S64x8192 .f32) (ix2 n s) := by
    refine congrArg (V m c main_v61 : Vec Ideal S64x8192 .f32) (funext fun a => Fin.ext ?_)
    match a with
    | ⟨0, _⟩ => show win0_12.index t 0 * 64 + 1 * n.val = n.val; rw [(index_q t).2.1]; omega
    | ⟨1, _⟩ => show win0_12.index t 1 * 512 + 1 * r.val = s.val; rw [(index_q t).2.2, hs, Nat.one_mul]
  rw [this, V_qs, qs_read]

end blocks

end Cert.Kernel4Ideal.Agree

end
-- ==== Proof.InFinal.lean ====
/-
  The input projection's five output arrays are the reference's.
-/
module

public import proofs.«01_k».proof.Proof.InAgree

@[expose] public section

set_option maxRecDepth 16384

noncomputable section

open Idealize.ShloMosaic Idealize.ShloMosaic.TcCoe Idealize.SL.Sem
open Idealize.ShloMosaic.Pipeline (Dat)

namespace Cert.Kernel4Ideal.Agree

open Cert.Kernel4Ideal Cert.Kernel4Ideal.Gen Cert.Kernel4Ideal.Tile Cert.Kernel4Ideal.Host4 Cert.Layer
open Cert.Reference4Ideal.Steps (hR prodR hR_read prodR_read out0_read out1_read out2_read out3_read out4_read)

/-- The kernel's rotation of a key's column. -/
theorem key_turn (P : Fin 512 → EReal) (s : ℕ) (n : Fin 512) :
    P ⟨orig n, orig_lt _ n.isLt⟩ * Ideal.cos (angle s (n.val % 128))
      + P ⟨orig (n.val / 128 * 128 + (n.val % 128 + 32) % 128), orig_lt _ (by omega)⟩ * (if n.val % 128 % 64 < 32 then -Ideal.sin (angle s (n.val % 128)) else 0)
      + P ⟨orig (n.val / 128 * 128 + (n.val % 128 + 96) % 128), orig_lt _ (by omega)⟩ * (if n.val % 128 % 64 < 32 then 0 else Ideal.sin (angle s (n.val % 128)))
      = axial P s n := by
  have ea : angle s (n.val % 128) = angle s n.val := by
    rw [← angle_mod s (n.val % 128), ← angle_mod s n.val, show n.val % 128 % 32 = n.val % 32 by omega]
  have em : n.val % 128 % 64 = n.val % 64 := by omega
  unfold axial
  rw [ea, em]
  by_cases h : n.val % 64 < 32
  · have e : n.val / 128 * 128 + (n.val % 128 + 32) % 128 = n.val + 32 := by omega
    rw [dif_pos h, if_pos h, if_pos h, mul_zero, add_zero, mul_neg, ← sub_eq_add_neg]
    simp only [e]
  · have e : n.val / 128 * 128 + (n.val % 128 + 96) % 128 = n.val - 32 := by omega
    rw [dif_neg h, if_neg h, if_neg h, mul_zero, add_zero]
    simp only [e]

/-- The kernel's rotation of a query's column. -/
theorem query_turn (P : Fin 512 → EReal) (s : ℕ) (n : Fin 512) :
    P ⟨orig n, orig_lt _ n.isLt⟩ * Ideal.cos (angle s (n.val % 64))
      + (if h : n.val % 64 < 32 then P ⟨orig (n.val / 64 * 64 + (32 + n.val % 64)), orig_lt _ (by omega)⟩ else P ⟨orig (n.val / 64 * 64 + (n.val % 64 - 32)), orig_lt _ (by omega)⟩)
        * (if n.val % 64 < 32 then -Ideal.sin (angle s (n.val % 64)) else Ideal.sin (angle s (n.val % 64)))
      = axial P s n := by
  have ea : angle s (n.val % 64) = angle s n.val := by
    rw [← angle_mod s (n.val % 64), ← angle_mod s n.val, show n.val % 64 % 32 = n.val % 32 by omega]
  unfold axial
  rw [ea]
  by_cases h : n.val % 64 < 32
  · have e : n.val / 64 * 64 + (32 + n.val % 64) = n.val + 32 := by omega
    rw [dif_pos h, dif_pos h, if_pos h, mul_neg, ← sub_eq_add_neg]
    simp only [e]
  · have e : n.val / 64 * 64 + (n.val % 64 - 32) = n.val - 32 := by omega
    rw [dif_neg h, dif_neg h, if_neg h]
    simp only [e]

section points
variable (m : (ℓ : Loc nD τ sig) → Buf (Elt Ideal) ℓ) (c : Dev nD) (t : Fin cfg0.N)

/-- The reference's projection of the kernel's arguments. -/
def proj : FVec Ideal Cert.Reference4Ideal.S2x8192x6656 .f32 :=
  prodR (F := Ideal) (hR (m ((c : Thread nD τ).loc main_arg0)) (m ((c : Thread nD τ).loc main_arg1)) (m ((c : Thread nD τ).loc main_arg2)))
    (m ((c : Thread nD τ).loc main_arg3))

variable (r : Fin 512) (y : Fin 16384) (hy : y.val = t.val * 512 + r.val)
include hy

/-- A normed row of a point is the reference's. -/
theorem row_at (k : Fin 1024) : row (iblk m c 0 t) (iblk m c 1 t) (iblk m c 2 t) r k
    = hR (F := Ideal) (m ((c : Thread nD τ).loc main_arg0)) (m ((c : Thread nD τ).loc main_arg1)) (m ((c : Thread nD τ).loc main_arg2))
      (ix3 ⟨y / 8192, by omega⟩ ⟨y % 8192, by omega⟩ k) := by
  have hb : (⟨y.val / 8192, by omega⟩ : Fin 2).val = t.val / 16 := by show y.val / 8192 = t.val / 16; omega
  unfold row
  rw [hR_read]
  simp only [blk_x m c t r _ y hy, blk_mod m c t _ _ _ hb, blk_gain]
  simp only [show ((0 : Fin 6) : ℕ) = 0 from rfl, show ((1 : Fin 6) : ℕ) = 1 from rfl, Nat.zero_mul, Nat.one_mul, Nat.zero_add]

theorem mix_at (n : Fin 256) : (∑ k : Fin 1024, row (iblk m c 0 t) (iblk m c 1 t) (iblk m c 2 t) r k * (iblk m c 3 t : Vec Ideal S1024x256 .bf16) (ix2 k n))
    = proj m c (ix3 ⟨y / 8192, by omega⟩ ⟨y % 8192, by omega⟩ ⟨n, by omega⟩) := by
  unfold proj
  rw [prodR_read]
  exact Finset.sum_congr rfl fun k _ => congr (congrArg _ (row_at m c t r y hy k)) (blk_wf m c t k n)
theorem conv_at (n : Fin 768) : (∑ k : Fin 1024, row (iblk m c 0 t) (iblk m c 1 t) (iblk m c 2 t) r k * (iblk m c 7 t : Vec Ideal S1024x768 .bf16) (ix2 k n))
    = proj m c (ix3 ⟨y / 8192, by omega⟩ ⟨y % 8192, by omega⟩ ⟨1792 + n, by omega⟩) := by
  unfold proj
  rw [prodR_read]
  exact Finset.sum_congr rfl fun k _ => congr (congrArg _ (row_at m c t r y hy k)) (blk_wc m c t k n)
theorem key_at (n : Fin 512) : down (iblk m c 0 t) (iblk m c 1 t) (iblk m c 2 t) (iblk m c 4 t) r n
    = proj m c (ix3 ⟨y / 8192, by omega⟩ ⟨y % 8192, by omega⟩ ⟨768 + orig n, by have := orig_lt n n.isLt; omega⟩) := by
  unfold proj down
  rw [prodR_read]
  exact Finset.sum_congr rfl fun k _ => congr (congrArg _ (row_at m c t r y hy k)) (blk_wk m c t k n)
theorem query_at (n : Fin 512) : along (iblk m c 0 t) (iblk m c 1 t) (iblk m c 2 t) (iblk m c 5 t) r n
    = proj m c (ix3 ⟨y / 8192, by omega⟩ ⟨y % 8192, by omega⟩ ⟨256 + orig n, by have := orig_lt n n.isLt; omega⟩) := by
  unfold proj along
  rw [prodR_read]
  exact Finset.sum_congr rfl fun k _ => (mul_comm _ _).trans (congr (congrArg _ (row_at m c t r y hy k)) (blk_wq m c t n k))
theorem value_at (n : Fin 512) : along (iblk m c 0 t) (iblk m c 1 t) (iblk m c 2 t) (iblk m c 6 t) r n
    = proj m c (ix3 ⟨y / 8192, by omega⟩ ⟨y % 8192, by omega⟩ ⟨1280 + n, by omega⟩) := by
  unfold proj along
  rw [prodR_read]
  exact Finset.sum_congr rfl fun k _ => (mul_comm _ _).trans (congr (congrArg _ (row_at m c t r y hy k)) (blk_wv m c t n k))
end points

/-- The points' blocks tile each output. -/
theorem cover13 (i : S16384x256.Idx) : ∃ t : Fin cfg0.N, (cfg0.win 13).flush t = true ∧ i ∈ ((cfg0.win 13).blk t).view.set := by
  have h0 : (i 0 : Nat) < 16384 := (i 0).isLt
  have h1 : (i 1 : Nat) < 256 := (i 1).isLt
  have hN : grid0.N = 32 := by decide +kernel
  let t : Fin grid0.N := ⟨(i 0 : Nat) / 512, by omega⟩
  refine ⟨t, (flush_o t).1, ?_⟩
  show i ∈ ((View.whole main_v63_0).slice (win0_13.rect t)).set
  rw [View.set_slice_whole, Rect.mem_set_unit]
  obtain ⟨e0, e1⟩ := (index_rows t).2.1
  have ht : t.val = (i 0 : Nat) / 512 := rfl
  intro a
  match a with
  | ⟨0, _⟩ => show win0_13.index t 0 * 512 ≤ (i 0 : Nat) ∧ (i 0 : Nat) < win0_13.index t 0 * 512 + 512
              rw [e0]; omega
  | ⟨1, _⟩ => show win0_13.index t 1 * 256 ≤ (i 1 : Nat) ∧ (i 1 : Nat) < win0_13.index t 1 * 256 + 256
              rw [e1]; omega

theorem cover14 (i : S16384x512.Idx) : ∃ t : Fin cfg0.N, (cfg0.win 14).flush t = true ∧ i ∈ ((cfg0.win 14).blk t).view.set := by
  have h0 : (i 0 : Nat) < 16384 := (i 0).isLt
  have h1 : (i 1 : Nat) < 512 := (i 1).isLt
  have hN : grid0.N = 32 := by decide +kernel
  let t : Fin grid0.N := ⟨(i 0 : Nat) / 512, by omega⟩
  refine ⟨t, (flush_o t).2.1, ?_⟩
  show i ∈ ((View.whole main_v63_1).slice (win0_14.rect t)).set
  rw [View.set_slice_whole, Rect.mem_set_unit]
  obtain ⟨e0, e1⟩ := (index_rows t).2.2.1
  have ht : t.val = (i 0 : Nat) / 512 := rfl
  intro a
  match a with
  | ⟨0, _⟩ => show win0_14.index t 0 * 512 ≤ (i 0 : Nat) ∧ (i 0 : Nat) < win0_14.index t 0 * 512 + 512
              rw [e0]; omega
  | ⟨1, _⟩ => show win0_14.index t 1 * 512 ≤ (i 1 : Nat) ∧ (i 1 : Nat) < win0_14.index t 1 * 512 + 512
              rw [e1]; omega

theorem cover15 (i : S512x16384.Idx) : ∃ t : Fin cfg0.N, (cfg0.win 15).flush t = true ∧ i ∈ ((cfg0.win 15).blk t).view.set := by
  have h0 : (i 0 : Nat) < 512 := (i 0).isLt
  have h1 : (i 1 : Nat) < 16384 := (i 1).isLt
  have hN : grid0.N = 32 := by decide +kernel
  let t : Fin grid0.N := ⟨(i 1 : Nat) / 512, by omega⟩
  refine ⟨t, (flush_o t).2.2.1, ?_⟩
  show i ∈ ((View.whole main_v63_2).slice (win0_15.rect t)).set
  rw [View.set_slice_whole, Rect.mem_set_unit]
  obtain ⟨e0, e1⟩ := (index_cols t).1
  have ht : t.val = (i 1 : Nat) / 512 := rfl
  intro a
  match a with
  | ⟨0, _⟩ => show win0_15.index t 0 * 512 ≤ (i 0 : Nat) ∧ (i 0 : Nat) < win0_15.index t 0 * 512 + 512
              rw [e0]; omega
  | ⟨1, _⟩ => show win0_15.index t 1 * 512 ≤ (i 1 : Nat) ∧ (i 1 : Nat) < win0_15.index t 1 * 512 + 512
              rw [e1]; omega

theorem cover16 (i : S576x16384.Idx) : ∃ t : Fin cfg0.N, (cfg0.win 16).flush t = true ∧ i ∈ ((cfg0.win 16).blk t).view.set := by
  have h0 : (i 0 : Nat) < 576 := (i 0).isLt
  have h1 : (i 1 : Nat) < 16384 := (i 1).isLt
  have hN : grid0.N = 32 := by decide +kernel
  let t : Fin grid0.N := ⟨(i 1 : Nat) / 512, by omega⟩
  refine ⟨t, (flush_o t).2.2.2.1, ?_⟩
  show i ∈ ((View.whole main_v63_3).slice (win0_16.rect t)).set
  rw [View.set_slice_whole, Rect.mem_set_unit]
  obtain ⟨e0, e1⟩ := (index_cols t).2
  have ht : t.val = (i 1 : Nat) / 512 := rfl
  intro a
  match a with
  | ⟨0, _⟩ => show win0_16.index t 0 * 576 ≤ (i 0 : Nat) ∧ (i 0 : Nat) < win0_16.index t 0 * 576 + 576
              rw [e0]; omega
  | ⟨1, _⟩ => show win0_16.index t 1 * 512 ≤ (i 1 : Nat) ∧ (i 1 : Nat) < win0_16.index t 1 * 512 + 512
              rw [e1]; omega

theorem cover17 (i : S16384x768.Idx) : ∃ t : Fin cfg0.N, (cfg0.win 17).flush t = true ∧ i ∈ ((cfg0.win 17).blk t).view.set := by
  have h0 : (i 0 : Nat) < 16384 := (i 0).isLt
  have h1 : (i 1 : Nat) < 768 := (i 1).isLt
  have hN : grid0.N = 32 := by decide +kernel
  let t : Fin grid0.N := ⟨(i 0 : Nat) / 512, by omega⟩
  refine ⟨t, (flush_o t).2.2.2.2, ?_⟩
  show i ∈ ((View.whole main_v63_4).slice (win0_17.rect t)).set
  rw [View.set_slice_whole, Rect.mem_set_unit]
  obtain ⟨e0, e1⟩ := (index_rows t).2.2.2
  have ht : t.val = (i 0 : Nat) / 512 := rfl
  intro a
  match a with
  | ⟨0, _⟩ => show win0_17.index t 0 * 512 ≤ (i 0 : Nat) ∧ (i 0 : Nat) < win0_17.index t 0 * 512 + 512
              rw [e0]; omega
  | ⟨1, _⟩ => show win0_17.index t 1 * 768 ≤ (i 1 : Nat) ∧ (i 1 : Nat) < win0_17.index t 1 * 768 + 768
              rw [e1]; omega

set_option maxHeartbeats 1000000 in
/-- The mixing columns. -/
theorem final13 (m : (ℓ : Loc nD τ sig) → Buf (Elt Ideal) ℓ) (c : Dev nD) :
    (dats m 0 c).arrAt 13 cfg0.N = Cert.Reference4Ideal.Steps.out0 (F := Ideal) (proj m c) := by
  refine (dats m 0 c).arrAt_eq_of_cover 13 _ (fun t _ => ?_) cover13
  rw [Value.flushed13]
  have hN : cfg0.N = 32 := by decide +kernel
  have ht : t.val < 32 := hN ▸ t.isLt
  refine funext fun j => ?_
  obtain ⟨r, hr⟩ : ∃ r : Fin 512, r = j 0 := ⟨j 0, rfl⟩
  obtain ⟨n, hn⟩ : ∃ n : Fin 256, n = j 1 := ⟨j 1, rfl⟩
  have hj : j = (ix2 r n : S512x256.Idx) := by
    refine funext fun a => ?_
    match a with
    | ⟨0, _⟩ => exact hr.symm
    | ⟨1, _⟩ => exact hn.symm
  let y : Fin 16384 := ⟨t.val * 512 + r.val, by omega⟩
  have hy : y.val = t.val * 512 + r.val := rfl
  have e : (win0_13.rect t).emb j = (ix2 y n : S16384x256.Idx) := by
    rw [hj]
    refine funext fun a => Fin.ext ?_
    match a with
    | ⟨0, _⟩ => show win0_13.index t 0 * 512 + 1 * r.val = t.val * 512 + r.val; rw [((index_rows t).2.1).1, Nat.one_mul]
    | ⟨1, _⟩ => show win0_13.index t 1 * 256 + 1 * n.val = n.val; rw [((index_rows t).2.1).2, Nat.zero_mul, Nat.zero_add, Nat.one_mul]
  show _ = Cert.Reference4Ideal.Steps.out0 (F := Ideal) _ ((win0_13.rect t).emb j)
  rw [e, hj, out0_read]
  show (outsAt0 m c t).1 (ix2 r n) = _
  unfold outsAt0
  dsimp only
  rw [run13]
  exact mix_at m c t r y hy n

set_option maxHeartbeats 1000000 in
/-- The keys. -/
theorem final14 (m : (ℓ : Loc nD τ sig) → Buf (Elt Ideal) ℓ) (c : Dev nD) :
    (dats m 0 c).arrAt 14 cfg0.N = Cert.Reference4Ideal.Steps.out1 (F := Ideal) (proj m c) := by
  refine (dats m 0 c).arrAt_eq_of_cover 14 _ (fun t _ => ?_) cover14
  rw [Value.flushed14]
  have hN : cfg0.N = 32 := by decide +kernel
  have ht : t.val < 32 := hN ▸ t.isLt
  refine funext fun j => ?_
  obtain ⟨r, hr⟩ : ∃ r : Fin 512, r = j 0 := ⟨j 0, rfl⟩
  obtain ⟨n, hn⟩ : ∃ n : Fin 512, n = j 1 := ⟨j 1, rfl⟩
  have hj : j = (ix2 r n : S512x512.Idx) := by
    refine funext fun a => ?_
    match a with
    | ⟨0, _⟩ => exact hr.symm
    | ⟨1, _⟩ => exact hn.symm
  let y : Fin 16384 := ⟨t.val * 512 + r.val, by omega⟩
  have hy : y.val = t.val * 512 + r.val := rfl
  have e : (win0_14.rect t).emb j = (ix2 y n : S16384x512.Idx) := by
    rw [hj]
    refine funext fun a => Fin.ext ?_
    match a with
    | ⟨0, _⟩ => show win0_14.index t 0 * 512 + 1 * r.val = t.val * 512 + r.val; rw [((index_rows t).2.2.1).1, Nat.one_mul]
    | ⟨1, _⟩ => show win0_14.index t 1 * 512 + 1 * n.val = n.val; rw [((index_rows t).2.2.1).2, Nat.zero_mul, Nat.zero_add, Nat.one_mul]
  show _ = Cert.Reference4Ideal.Steps.out1 (F := Ideal) _ ((win0_14.rect t).emb j)
  rw [e, hj, out1_read]
  show (outsAt0 m c t).2.1 (ix2 r n) = _
  unfold outsAt0
  dsimp only
  rw [run14]
  have hs : (⟨y.val % 8192, by omega⟩ : Fin 8192).val = t.val % 16 * 512 + r.val := by show y.val % 8192 = t.val % 16 * 512 + r.val; omega
  rw [blk_kc m c t r _ _ hs, blk_ka m c t r _ _ hs, blk_kb m c t r _ _ hs, key_at m c t r y hy, key_at m c t r y hy, key_at m c t r y hy]
  exact key_turn (fun i => proj m c (ix3 ⟨y / 8192, by omega⟩ ⟨y % 8192, by omega⟩ ⟨768 + i, by omega⟩)) (y % 8192) n

set_option maxHeartbeats 1000000 in
/-- The queries. -/
theorem final15 (m : (ℓ : Loc nD τ sig) → Buf (Elt Ideal) ℓ) (c : Dev nD) :
    (dats m 0 c).arrAt 15 cfg0.N = Cert.Reference4Ideal.Steps.out2 (F := Ideal) (proj m c) := by
  refine (dats m 0 c).arrAt_eq_of_cover 15 _ (fun t _ => ?_) cover15
  rw [Value.flushed15]
  have hN : cfg0.N = 32 := by decide +kernel
  have ht : t.val < 32 := hN ▸ t.isLt
  refine funext fun j => ?_
  obtain ⟨r, hr⟩ : ∃ r : Fin 512, r = j 1 := ⟨j 1, rfl⟩
  obtain ⟨n, hn⟩ : ∃ n : Fin 512, n = j 0 := ⟨j 0, rfl⟩
  have hj : j = (ix2 n r : S512x512.Idx) := by
    refine funext fun a => ?_
    match a with
    | ⟨0, _⟩ => exact hn.symm
    | ⟨1, _⟩ => exact hr.symm
  let y : Fin 16384 := ⟨t.val * 512 + r.val, by omega⟩
  have hy : y.val = t.val * 512 + r.val := rfl
  have e : (win0_15.rect t).emb j = (ix2 n y : S512x16384.Idx) := by
    rw [hj]
    refine funext fun a => Fin.ext ?_
    match a with
    | ⟨0, _⟩ => show win0_15.index t 0 * 512 + 1 * n.val = n.val; rw [((index_cols t).1).1, Nat.zero_mul, Nat.zero_add, Nat.one_mul]
    | ⟨1, _⟩ => show win0_15.index t 1 * 512 + 1 * r.val = t.val * 512 + r.val; rw [((index_cols t).1).2, Nat.one_mul]
  show _ = Cert.Reference4Ideal.Steps.out2 (F := Ideal) _ ((win0_15.rect t).emb j)
  rw [e, hj, out2_read]
  show (outsAt0 m c t).2.2.1 (ix2 n r) = _
  unfold outsAt0
  dsimp only
  rw [run15]
  have hs : (⟨y.val % 8192, by omega⟩ : Fin 8192).val = t.val % 16 * 512 + r.val := by show y.val % 8192 = t.val % 16 * 512 + r.val; omega
  rw [blk_qc m c t _ r _ hs, blk_qs m c t _ r _ hs, scale]
  refine congrArg (· * _) ?_
  simp only [query_at m c t r y hy]
  exact query_turn (fun i => proj m c (ix3 ⟨y / 8192, by omega⟩ ⟨y % 8192, by omega⟩ ⟨256 + i, by omega⟩)) (y % 8192) n

set_option maxHeartbeats 1000000 in
/-- The values and the rows of ones. -/
theorem final16 (m : (ℓ : Loc nD τ sig) → Buf (Elt Ideal) ℓ) (c : Dev nD) :
    (dats m 0 c).arrAt 16 cfg0.N = Cert.Reference4Ideal.Steps.out3 (F := Ideal) (proj m c) := by
  refine (dats m 0 c).arrAt_eq_of_cover 16 _ (fun t _ => ?_) cover16
  rw [Value.flushed16]
  have hN : cfg0.N = 32 := by decide +kernel
  have ht : t.val < 32 := hN ▸ t.isLt
  refine funext fun j => ?_
  obtain ⟨r, hr⟩ : ∃ r : Fin 512, r = j 1 := ⟨j 1, rfl⟩
  obtain ⟨n, hn⟩ : ∃ n : Fin 576, n = j 0 := ⟨j 0, rfl⟩
  have hj : j = (ix2 n r : S576x512.Idx) := by
    refine funext fun a => ?_
    match a with
    | ⟨0, _⟩ => exact hn.symm
    | ⟨1, _⟩ => exact hr.symm
  let y : Fin 16384 := ⟨t.val * 512 + r.val, by omega⟩
  have hy : y.val = t.val * 512 + r.val := rfl
  have e : (win0_16.rect t).emb j = (ix2 n y : S576x16384.Idx) := by
    rw [hj]
    refine funext fun a => Fin.ext ?_
    match a with
    | ⟨0, _⟩ => show win0_16.index t 0 * 576 + 1 * n.val = n.val; rw [((index_cols t).2).1, Nat.zero_mul, Nat.zero_add, Nat.one_mul]
    | ⟨1, _⟩ => show win0_16.index t 1 * 512 + 1 * r.val = t.val * 512 + r.val; rw [((index_cols t).2).2, Nat.one_mul]
  show _ = Cert.Reference4Ideal.Steps.out3 (F := Ideal) _ ((win0_16.rect t).emb j)
  rw [e, hj, out3_read]
  show (outsAt0 m c t).2.2.2.1 (ix2 n r) = _
  unfold outsAt0
  dsimp only
  rw [run16]
  by_cases h : n.val % 144 < 128
  · rw [dif_pos h, dif_pos h, value_at m c t r y hy]
  · rw [dif_neg h, dif_neg h]

set_option maxHeartbeats 1000000 in
/-- The convolution columns. -/
theorem final17 (m : (ℓ : Loc nD τ sig) → Buf (Elt Ideal) ℓ) (c : Dev nD) :
    (dats m 0 c).arrAt 17 cfg0.N = Cert.Reference4Ideal.Steps.out4 (F := Ideal) (proj m c) := by
  refine (dats m 0 c).arrAt_eq_of_cover 17 _ (fun t _ => ?_) cover17
  rw [Value.flushed17]
  have hN : cfg0.N = 32 := by decide +kernel
  have ht : t.val < 32 := hN ▸ t.isLt
  refine funext fun j => ?_
  obtain ⟨r, hr⟩ : ∃ r : Fin 512, r = j 0 := ⟨j 0, rfl⟩
  obtain ⟨n, hn⟩ : ∃ n : Fin 768, n = j 1 := ⟨j 1, rfl⟩
  have hj : j = (ix2 r n : S512x768.Idx) := by
    refine funext fun a => ?_
    match a with
    | ⟨0, _⟩ => exact hr.symm
    | ⟨1, _⟩ => exact hn.symm
  let y : Fin 16384 := ⟨t.val * 512 + r.val, by omega⟩
  have hy : y.val = t.val * 512 + r.val := rfl
  have e : (win0_17.rect t).emb j = (ix2 y n : S16384x768.Idx) := by
    rw [hj]
    refine funext fun a => Fin.ext ?_
    match a with
    | ⟨0, _⟩ => show win0_17.index t 0 * 512 + 1 * r.val = t.val * 512 + r.val; rw [((index_rows t).2.2.2).1, Nat.one_mul]
    | ⟨1, _⟩ => show win0_17.index t 1 * 768 + 1 * n.val = n.val; rw [((index_rows t).2.2.2).2, Nat.zero_mul, Nat.zero_add, Nat.one_mul]
  show _ = Cert.Reference4Ideal.Steps.out4 (F := Ideal) _ ((win0_17.rect t).emb j)
  rw [e, hj, out4_read]
  show (outsAt0 m c t).2.2.2.2 (ix2 r n) = _
  unfold outsAt0
  dsimp only
  rw [run17]
  exact conv_at m c t r y hy n

end Cert.Kernel4Ideal.Agree

end
-- ==== Proof.MixHost.lean ====
/-
  The mixing kernel's operands as the host code prepares them, and each point's blocks of them.
-/
module

public import proofs.«01_k».proof.Proof.Gen.Kernel5Ideal.Value
public import proofs.«01_k».proof.Proof.Scalar

@[expose] public section

set_option maxRecDepth 16384

noncomputable section

open Idealize.ShloMosaic Idealize.ShloMosaic.TcCoe Idealize.SL.Sem
open Idealize.ShloMosaic.Pipeline (Dat)

namespace Cert.Kernel5Ideal.Host5

open Cert.Kernel5Ideal Cert.Kernel5Ideal.Gen Cert.Layer

/-- The rows and the batch entry of each point's blocks. -/
theorem index_x : ∀ t : Fin grid0.N, (win0_0.index t 0 = t.val ∧ win0_0.index t 1 = 0) ∧ (win0_1.index t 0 = 32 * t.val - 1 ∧ win0_1.index t 1 = 0)
    ∧ (win0_2.index t 0 = min (32 * (t.val + 1)) 1023 ∧ win0_2.index t 1 = 0) ∧ (win0_9.index t 0 = t.val ∧ win0_9.index t 1 = 0)
    ∧ (win0_10.index t 0 = t.val ∧ win0_10.index t 1 = 0) := by
  decide +kernel
theorem index_w : ∀ t : Fin grid0.N, (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0)
    ∧ (win0_7.index t 0 = 0 ∧ win0_7.index t 1 = 0) ∧ (win0_8.index t 0 = 0 ∧ win0_8.index t 1 = 0) := by decide +kernel
theorem flush_conv : ∀ t : Fin grid0.N, win0_9.flush t = true := by decide +kernel
theorem flush_pool : ∀ t : Fin grid0.N, win0_10.flush t = true := by decide +kernel

section prep
variable {F : FTy → Type} [FloatOps F] [Named F] (m : (ℓ : Loc nD τ sig) → Buf (Elt F) ℓ) (c : Dev nD)

/-- The four weights along a diagonal. -/
def diag (w : FVec F S4x64x64 .f32) : FVec F S256x256 .f32 :=
  concatenate S256x256 0
    [⟨S64x256, (pad S64x256 ![0, 0] ![0, 192] ![0, 0] (shapeCast S64x64 (extractStridedSlice S1x64x64 ![0, 0, 0] w slices_S4x64x64_S1x64x64_0_0_0) shapeCasts_S1x64x64_S64x64 : FVec F S64x64 .f32) (constant S_ .f32 0x00000000#32) pads_S64x64_S64x256_000_01920 h_S_ : FVec F S64x256 .f32)⟩,
      ⟨S64x256, (pad S64x256 ![0, 64] ![0, 128] ![0, 0] (shapeCast S64x64 (extractStridedSlice S1x64x64 ![1, 0, 0] w slices_S4x64x64_S1x64x64_1_0_0) shapeCasts_S1x64x64_S64x64 : FVec F S64x64 .f32) (constant S_ .f32 0x00000000#32) pads_S64x64_S64x256_000_641280 h_S_ : FVec F S64x256 .f32)⟩,
      ⟨S64x256, (pad S64x256 ![0, 128] ![0, 64] ![0, 0] (shapeCast S64x64 (extractStridedSlice S1x64x64 ![2, 0, 0] w slices_S4x64x64_S1x64x64_2_0_0) shapeCasts_S1x64x64_S64x64 : FVec F S64x64 .f32) (constant S_ .f32 0x00000000#32) pads_S64x64_S64x256_000_128640 h_S_ : FVec F S64x256 .f32)⟩,
      ⟨S64x256, (pad S64x256 ![0, 192] ![0, 0] ![0, 0] (shapeCast S64x64 (extractStridedSlice S1x64x64 ![3, 0, 0] w slices_S4x64x64_S1x64x64_3_0_0) shapeCasts_S1x64x64_S64x64 : FVec F S64x64 .f32) (constant S_ .f32 0x00000000#32) pads_S64x64_S64x256_000_19200 h_S_ : FVec F S64x256 .f32)⟩]
    concatenates_S64x256_S64x256_S64x256_S64x256_S256x256_d0

set_option maxHeartbeats 4000000 in
theorem V_mix : V m c main_v9 = truncf .bf16 (diag (m ((c : Thread nD τ).loc main_arg5) : FVec F S4x64x64 .f32)) bitsLt_bf16_f32 := by
  unfold_abbrev_sides
  simp only [hostOps0, hostOps0_1, hostOps0_2, List.flatten_cons, List.flatten_nil, List.append_nil, List.cons_append, List.nil_append]
  after_results <;> rfl
theorem V_x : V m c main_v11 = truncf .bf16 (shapeCast S16384x768 (m ((c : Thread nD τ).loc main_arg0) : FVec F S2x8192x768 .f32) shapeCasts_S2x8192x768_S16384x768 : FVec F S16384x768 .f32) bitsLt_bf16_f32 := by
  unfold_abbrev_sides
  simp only [hostOps0, hostOps0_1, hostOps0_2, List.flatten_cons, List.flatten_nil, List.append_nil, List.cons_append, List.nil_append]
  after_results <;> rfl
theorem V_bias : V m c main_v12 = (shapeCast S1x256 (m ((c : Thread nD τ).loc main_arg2) : FVec F S256 .f32) shapeCasts_S256_S1x256 : FVec F S1x256 .f32) := by
  unfold_abbrev_sides
  simp only [hostOps0, hostOps0_1, hostOps0_2, List.flatten_cons, List.flatten_nil, List.append_nil, List.cons_append, List.nil_append]
  after_results <;> rfl
theorem V_gain : V m c main_v13 = (shapeCast S1x256 (m ((c : Thread nD τ).loc main_arg3) : FVec F S256 .f32) shapeCasts_S256_S1x256 : FVec F S1x256 .f32) := by
  unfold_abbrev_sides
  simp only [hostOps0, hostOps0_1, hostOps0_2, List.flatten_cons, List.flatten_nil, List.append_nil, List.cons_append, List.nil_append]
  after_results <;> rfl
theorem V_shift : V m c main_v14 = (shapeCast S1x256 (m ((c : Thread nD τ).loc main_arg4) : FVec F S256 .f32) shapeCasts_S256_S1x256 : FVec F S1x256 .f32) := by
  unfold_abbrev_sides
  simp only [hostOps0, hostOps0_1, hostOps0_2, List.flatten_cons, List.flatten_nil, List.append_nil, List.cons_append, List.nil_append]
  after_results <;> rfl
theorem V_scale : V m c main_v15 = (shapeCast S1x256 (m ((c : Thread nD τ).loc main_arg6) : FVec F S256 .f32) shapeCasts_S256_S1x256 : FVec F S1x256 .f32) := by
  unfold_abbrev_sides
  simp only [hostOps0, hostOps0_1, hostOps0_2, List.flatten_cons, List.flatten_nil, List.append_nil, List.cons_append, List.nil_append]
  after_results <;> rfl
theorem V_conv : V m c main_arg1 = m ((c : Thread nD τ).loc main_arg1) := by
  unfold_abbrev_sides
  simp only [hostOps0, hostOps0_1, hostOps0_2, List.flatten_cons, List.flatten_nil, List.append_nil, List.cons_append, List.nil_append]
  after_results <;> rfl
end prep

set_option maxHeartbeats 4000000 in
/-- The weights along the diagonal, zero elsewhere. -/
theorem diag_read (w : FVec Ideal S4x64x64 .f32) (i j : Fin 256) :
    diag w (ix2 i j) = if i.val / 64 = j.val / 64 then w (ix3 ⟨i / 64, by omega⟩ ⟨i % 64, by omega⟩ ⟨j % 64, by omega⟩) else 0 := by
  have at_ : ∀ {p p' : Fin 4} {a a' b b' : Fin 64}, p.val = p'.val → a.val = a'.val → b.val = b'.val → w (ix3 p a b) = w (ix3 p' a' b') := fun h g f => by
    rw [Fin.ext h, Fin.ext g, Fin.ext f]
  pointwise [diag]
  by_cases q : i.val / 64 = j.val / 64
  on_goal 1 => rw [if_pos q]
  on_goal 2 => rw [if_neg q]
  all_goals split_ifs <;> first
    | rfl
    | (exfalso; omega)
    | exact at_ (p := 0) (p' := ⟨i.val / 64, by omega⟩) (by show 0 = i.val / 64; omega) (by dsimp only; omega) (by dsimp only; omega)
    | exact at_ (p := 1) (p' := ⟨i.val / 64, by omega⟩) (by show 1 = i.val / 64; omega) (by dsimp only; omega) (by dsimp only; omega)
    | exact at_ (p := 2) (p' := ⟨i.val / 64, by omega⟩) (by show 2 = i.val / 64; omega) (by dsimp only; omega) (by dsimp only; omega)
    | exact at_ (p := 3) (p' := ⟨i.val / 64, by omega⟩) (by show 3 = i.val / 64; omega) (by dsimp only; omega) (by dsimp only; omega)

/-- A row of the flattened sequence is a row of one batch entry. -/
theorem flat_x (x : FVec Ideal S2x8192x768 .f32) (y : Fin 16384) (k : Fin 768) (b : Fin 2) (s : Fin 8192) (h : y.val = b.val * 8192 + s.val) :
    (truncf .bf16 (shapeCast S16384x768 x shapeCasts_S2x8192x768_S16384x768 : FVec Ideal S16384x768 .f32) bitsLt_bf16_f32 : FVec Ideal S16384x768 .bf16) (ix2 y k) = x (ix3 b s k) := by
  have e : (truncf .bf16 (shapeCast S16384x768 x shapeCasts_S2x8192x768_S16384x768 : FVec Ideal S16384x768 .f32) bitsLt_bf16_f32 : FVec Ideal S16384x768 .bf16) (ix2 y k)
      = x (ix3 ⟨y / 8192, by omega⟩ ⟨y % 8192, by omega⟩ k) := by
    pointwise []
  rw [e, show (⟨y / 8192, by omega⟩ : Fin 2) = b from Fin.ext (by show y.val / 8192 = b.val; omega),
    show (⟨y % 8192, by omega⟩ : Fin 8192) = s from Fin.ext (by show y.val % 8192 = s.val; omega)]

section blocks
variable (m : (ℓ : Loc nD τ sig) → Buf (Elt Ideal) ℓ) (c : Dev nD) (t : Fin cfg0.N)

/-- The blocks of rows: the tile's own, and the sixteen rows above and below it. -/
theorem blk_x (r : Fin 512) (k : Fin 768) (b : Fin 2) (s : Fin 8192) (h : t.val * 512 + r.val = b.val * 8192 + s.val) :
    (iblk m c 0 t : Vec Ideal S512x768 .bf16) (ix2 r k) = (m ((c : Thread nD τ).loc main_arg0) : Vec Ideal S2x8192x768 .f32) (ix3 b s k) := by
  have : (iblk m c 0 t : Vec Ideal S512x768 .bf16) (ix2 r k) = (V m c main_v11 : Vec Ideal S16384x768 .bf16) (ix2 ⟨b.val * 8192 + s.val, by omega⟩ k) := by
    refine congrArg (V m c main_v11 : Vec Ideal S16384x768 .bf16) (funext fun a => Fin.ext ?_)
    match a with
    | ⟨0, _⟩ => show win0_0.index t 0 * 512 + 1 * r.val = b.val * 8192 + s.val; rw [(index_x t).1.1, ← h, Nat.one_mul]
    | ⟨1, _⟩ => show win0_0.index t 1 * 768 + 1 * k.val = k.val; rw [(index_x t).1.2, Nat.zero_mul, Nat.zero_add, Nat.one_mul]
  rw [this, V_x, flat_x _ _ k b s rfl]

theorem blk_above (r : Fin 16) (k : Fin 768) (b : Fin 2) (s : Fin 8192) (h : (32 * t.val - 1) * 16 + r.val = b.val * 8192 + s.val) :
    (iblk m c 1 t : Vec Ideal S16x768 .bf16) (ix2 r k) = (m ((c : Thread nD τ).loc main_arg0) : Vec Ideal S2x8192x768 .f32) (ix3 b s k) := by
  have : (iblk m c 1 t : Vec Ideal S16x768 .bf16) (ix2 r k) = (V m c main_v11 : Vec Ideal S16384x768 .bf16) (ix2 ⟨b.val * 8192 + s.val, by omega⟩ k) := by
    refine congrArg (V m c main_v11 : Vec Ideal S16384x768 .bf16) (funext fun a => Fin.ext ?_)
    match a with
    | ⟨0, _⟩ => show win0_1.index t 0 * 16 + 1 * r.val = b.val * 8192 + s.val; rw [(index_x t).2.1.1, ← h, Nat.one_mul]
    | ⟨1, _⟩ => show win0_1.index t 1 * 768 + 1 * k.val = k.val; rw [(index_x t).2.1.2, Nat.zero_mul, Nat.zero_add, Nat.one_mul]
  rw [this, V_x, flat_x _ _ k b s rfl]

theorem blk_below (r : Fin 16) (k : Fin 768) (b : Fin 2) (s : Fin 8192) (h : min (32 * (t.val + 1)) 1023 * 16 + r.val = b.val * 8192 + s.val) :
    (iblk m c 2 t : Vec Ideal S16x768 .bf16) (ix2 r k) = (m ((c : Thread nD τ).loc main_arg0) : Vec Ideal S2x8192x768 .f32) (ix3 b s k) := by
  have : (iblk m c 2 t : Vec Ideal S16x768 .bf16) (ix2 r k) = (V m c main_v11 : Vec Ideal S16384x768 .bf16) (ix2 ⟨b.val * 8192 + s.val, by omega⟩ k) := by
    refine congrArg (V m c main_v11 : Vec Ideal S16384x768 .bf16) (funext fun a => Fin.ext ?_)
    match a with
    | ⟨0, _⟩ => show win0_2.index t 0 * 16 + 1 * r.val = b.val * 8192 + s.val; rw [(index_x t).2.2.1.1, ← h, Nat.one_mul]
    | ⟨1, _⟩ => show win0_2.index t 1 * 768 + 1 * k.val = k.val; rw [(index_x t).2.2.1.2, Nat.zero_mul, Nat.zero_add, Nat.one_mul]
  rw [this, V_x, flat_x _ _ k b s rfl]

/-- The weights, whole at every point. -/
theorem blk_conv (p : Fin 31) (k : Fin 256) : (iblk m c 3 t : Vec Ideal S31x256 .f32) (ix2 p k)
      = (m ((c : Thread nD τ).loc main_arg1) : Vec Ideal S31x256 .f32) (ix2 p k) := by
  have : (iblk m c 3 t : Vec Ideal S31x256 .f32) (ix2 p k) = (V m c main_arg1 : Vec Ideal S31x256 .f32) (ix2 p k) := by
    refine congrArg (V m c main_arg1 : Vec Ideal S31x256 .f32) (funext fun a => Fin.ext ?_)
    match a with
    | ⟨0, _⟩ => show win0_3.index t 0 * 31 + 1 * p.val = p.val; rw [(index_w t).1.1, Nat.zero_mul, Nat.zero_add, Nat.one_mul]
    | ⟨1, _⟩ => show win0_3.index t 1 * 256 + 1 * k.val = k.val; rw [(index_w t).1.2, Nat.zero_mul, Nat.zero_add, Nat.one_mul]
  rw [this, V_conv]

theorem blk_bias (k : Fin 256) : (iblk m c 4 t : Vec Ideal S1x256 .f32) (ix2 0 k) = (m ((c : Thread nD τ).loc main_arg2) : Vec Ideal S256 .f32) (ix1 k) := by
  have : (iblk m c 4 t : Vec Ideal S1x256 .f32) (ix2 0 k) = (V m c main_v12 : Vec Ideal S1x256 .f32) (ix2 0 k) := by
    refine congrArg (V m c main_v12 : Vec Ideal S1x256 .f32) (funext fun a => Fin.ext ?_)
    match a with
    | ⟨0, _⟩ => show win0_4.index t 0 * 1 + 1 * 0 = 0; rw [(index_w t).2.1.1]
    | ⟨1, _⟩ => show win0_4.index t 1 * 256 + 1 * k.val = k.val; rw [(index_w t).2.1.2, Nat.zero_mul, Nat.zero_add, Nat.one_mul]
  rw [this, V_bias]
  pointwise []

theorem blk_gain (k : Fin 256) : (iblk m c 5 t : Vec Ideal S1x256 .f32) (ix2 0 k) = (m ((c : Thread nD τ).loc main_arg3) : Vec Ideal S256 .f32) (ix1 k) := by
  have : (iblk m c 5 t : Vec Ideal S1x256 .f32) (ix2 0 k) = (V m c main_v13 : Vec Ideal S1x256 .f32) (ix2 0 k) := by
    refine congrArg (V m c main_v13 : Vec Ideal S1x256 .f32) (funext fun a => Fin.ext ?_)
    match a with
    | ⟨0, _⟩ => show win0_5.index t 0 * 1 + 1 * 0 = 0; rw [(index_w t).2.2.1.1]
    | ⟨1, _⟩ => show win0_5.index t 1 * 256 + 1 * k.val = k.val; rw [(index_w t).2.2.1.2, Nat.zero_mul, Nat.zero_add, Nat.one_mul]
  rw [this, V_gain]
  pointwise []

theorem blk_shift (k : Fin 256) : (iblk m c 6 t : Vec Ideal S1x256 .f32) (ix2 0 k) = (m ((c : Thread nD τ).loc main_arg4) : Vec Ideal S256 .f32) (ix1 k) := by
  have : (iblk m c 6 t : Vec Ideal S1x256 .f32) (ix2 0 k) = (V m c main_v14 : Vec Ideal S1x256 .f32) (ix2 0 k) := by
    refine congrArg (V m c main_v14 : Vec Ideal S1x256 .f32) (funext fun a => Fin.ext ?_)
    match a with
    | ⟨0, _⟩ => show win0_6.index t 0 * 1 + 1 * 0 = 0; rw [(index_w t).2.2.2.1.1]
    | ⟨1, _⟩ => show win0_6.index t 1 * 256 + 1 * k.val = k.val; rw [(index_w t).2.2.2.1.2, Nat.zero_mul, Nat.zero_add, Nat.one_mul]
  rw [this, V_shift]
  pointwise []

theorem blk_mix (i j : Fin 256) : (iblk m c 7 t : Vec Ideal S256x256 .bf16) (ix2 i j)
      = (if i.val / 64 = j.val / 64 then (m ((c : Thread nD τ).loc main_arg5) : Vec Ideal S4x64x64 .f32) (ix3 ⟨i / 64, by omega⟩ ⟨i % 64, by omega⟩ ⟨j % 64, by omega⟩) else (0 : EReal)) := by
  have : (iblk m c 7 t : Vec Ideal S256x256 .bf16) (ix2 i j) = (V m c main_v9 : Vec Ideal S256x256 .bf16) (ix2 i j) := by
    refine congrArg (V m c main_v9 : Vec Ideal S256x256 .bf16) (funext fun a => Fin.ext ?_)
    match a with
    | ⟨0, _⟩ => show win0_7.index t 0 * 256 + 1 * i.val = i.val; rw [(index_w t).2.2.2.2.1.1, Nat.zero_mul, Nat.zero_add, Nat.one_mul]
    | ⟨1, _⟩ => show win0_7.index t 1 * 256 + 1 * j.val = j.val; rw [(index_w t).2.2.2.2.1.2, Nat.zero_mul, Nat.zero_add, Nat.one_mul]
  rw [this, V_mix, ← diag_read]
  rfl

theorem blk_scale (k : Fin 256) : (iblk m c 8 t : Vec Ideal S1x256 .f32) (ix2 0 k) = (m ((c : Thread nD τ).loc main_arg6) : Vec Ideal S256 .f32) (ix1 k) := by
  have : (iblk m c 8 t : Vec Ideal S1x256 .f32) (ix2 0 k) = (V m c main_v15 : Vec Ideal S1x256 .f32) (ix2 0 k) := by
    refine congrArg (V m c main_v15 : Vec Ideal S1x256 .f32) (funext fun a => Fin.ext ?_)
    match a with
    | ⟨0, _⟩ => show win0_8.index t 0 * 1 + 1 * 0 = 0; rw [(index_w t).2.2.2.2.2.1]
    | ⟨1, _⟩ => show win0_8.index t 1 * 256 + 1 * k.val = k.val; rw [(index_w t).2.2.2.2.2.2, Nat.zero_mul, Nat.zero_add, Nat.one_mul]
  rw [this, V_scale]
  pointwise []
end blocks

end Cert.Kernel5Ideal.Host5

end
-- ==== Proof.MixTile.lean ====
/-
  One point of the mixing kernel: its two scratches of rows with their halo, and what it stores as functions of the point's blocks.
-/
module

public import proofs.«01_k».proof.Proof.Gen.Kernel5Ideal.Value
public import proofs.«01_k».proof.Proof.FfnAgree

@[expose] public section

set_option maxRecDepth 16384

noncomputable section

open Idealize.ShloMosaic Idealize.ShloMosaic.TcCoe Idealize.SL.Sem

namespace Cert.Kernel5Ideal.Tile

open Cert.Kernel5Ideal Cert.Kernel5Ideal.Gen Cert.Layer
open Cert.Kernel2Ideal.Tile (slim keep)

/-- A load of a scratch after its three stores. -/
theorem load_slim {κ : Kind} {sp : Space} (v : View sig κ sp S544x256 .f32) (h1 : ∀ a, (![528, 0] : Fin 2 → ℕ) a + (![16, 256] : Fin 2 → ℕ) a ≤ (![544, 256] : Fin 2 → ℕ) a)
    (h2 : ∀ a, (![0, 0] : Fin 2 → ℕ) a + (![16, 256] : Fin 2 → ℕ) a ≤ (![544, 256] : Fin 2 → ℕ) a)
    (h3 : ∀ a, (![16, 0] : Fin 2 → ℕ) a + (![512, 256] : Fin 2 → ℕ) a ≤ (![544, 256] : Fin 2 → ℕ) a)
    (n p : Vec Ideal S16x256 .f32) (q : Vec Ideal S512x256 .f32) (L : List (View.Piece (Elt Ideal) S544x256 .f32)) (r : Rect S544x256) :
    v.readCov (⟨Rect.unit (s := S544x256) ![528, 0] ![16, 256] h1, n⟩ :: ⟨Rect.unit (s := S544x256) ![0, 0] ![16, 256] h2, p⟩
      :: ⟨Rect.unit (s := S544x256) ![16, 0] ![512, 256] h3, q⟩ :: L) r.toLoadRect = View.ld (slim n p q) r := by
  rw [View.readCov_eq_canon']; exact congrArg (fun X => View.ld X r) (Cert.Kernel2Ideal.Tile.canon_slim h1 h2 h3 n p q L)

theorem seg_in {o : ℕ} (h : o ≤ 8) : ∀ a, (![o, 0] : Fin 2 → ℕ) a + S536x256.size a ≤ S544x256.size a := by
  intro a
  match a with
  | ⟨0, _⟩ => show o + 536 ≤ 544; omega
  | ⟨1, _⟩ => show 0 + 256 ≤ 256; omega

theorem tap_in {j : ℕ} (h : j < 31) : ∀ a, (![j, 0] : Fin 2 → ℕ) a + S1x256.size a ≤ S31x256.size a := by
  intro a
  match a with
  | ⟨0, _⟩ => show j + 1 ≤ 31; omega
  | ⟨1, _⟩ => show 0 + 256 ≤ 256; omega

/-- The scratch's rows from row `o` on. -/
def seg (Z : Vec Ideal S544x256 .f32) (o : ℕ) (h : o ≤ 8) : Vec Ideal S536x256 .f32 :=
  View.ld Z (Rect.unit (s := S544x256) ![o, 0] S536x256.size (seg_in h))

/-- One tap's weights. -/
def tapw (w : Vec Ideal S31x256 .f32) (j : ℕ) (h : j < 31) : Vec Ideal S1x256 .f32 :=
  View.ld w (Rect.unit (s := S31x256) ![j, 0] S1x256.size (tap_in h))

/-- A vector loaded whole. -/
def vec (x : Vec Ideal S1x256 .f32) : Vec Ideal S1x256 .f32 := View.ld x (Rect.unit (s := S1x256) ![0, 0] S1x256.size inb_S1x256_S1x256_0_0)

/-- A halo block loaded whole. -/
def halo (x : Vec Ideal S16x768 .bf16) : Vec Ideal S16x768 .bf16 := View.ld x (Rect.unit (s := S16x768) ![0, 0] S16x768.size inb_S16x768_S16x768_0_0)

/-- A block loaded whole. -/
def block (x : Vec Ideal S512x768 .bf16) : Vec Ideal S512x768 .bf16 := View.ld x (Rect.unit (s := S512x768) ![0, 0] S512x768.size inb_S512x768_S512x768_0_0)

/-- The scratch of gated rows. -/
def zc (i : grid0.Coords) (x0 : Vec Ideal S512x768 .bf16) (x1 x2 : Vec Ideal S16x768 .bf16) : Vec Ideal S544x256 .f32 :=
  slim (k0_pay13 (F := Ideal) (kernelRun0_A.sl.v11 i) (halo x2)) (k0_pay9 (k0_pay8 (F := Ideal) i (halo x1))) (k0_pay3 (F := Ideal) (block x0))

/-- The scratch of pooled rows. -/
def zp (i : grid0.Coords) (x0 : Vec Ideal S512x768 .bf16) (x1 x2 : Vec Ideal S16x768 .bf16) : Vec Ideal S544x256 .f32 :=
  slim (k0_pay14 (F := Ideal) (kernelRun0_A.sl.v11 i) (halo x2)) (k0_pay10 (k0_pay6 (F := Ideal) (halo x1)) (k0_pay7 i)) (k0_pay4 (F := Ideal) (block x0))

/-- The convolution's first fifteen terms. -/
def acc1 (Z : Vec Ideal S544x256 .f32) (w : Vec Ideal S31x256 .f32) (b : Vec Ideal S1x256 .f32) : FVec Ideal S512x256 .f32 :=
  k0_pay20 (F := Ideal) (k0_pay18 (F := Ideal) (k0_pay15 (F := Ideal) b) (seg Z 0 (by norm_num)) (k0_pay16 (seg Z 0 (by norm_num)) (tapw w 7 (by norm_num))) (k0_pay17 (seg Z 0 (by norm_num)))
      (tapw w 15 (by norm_num)) (tapw w 23 (by norm_num)) (seg Z 1 (by norm_num)) (tapw w 0 (by norm_num)) (tapw w 8 (by norm_num)) (tapw w 16 (by norm_num)) (tapw w 24 (by norm_num)))
    (seg Z 2 (by norm_num)) (k0_pay19 (seg Z 2 (by norm_num)) (tapw w 1 (by norm_num)) (tapw w 9 (by norm_num))) (tapw w 17 (by norm_num)) (tapw w 25 (by norm_num))
    (seg Z 3 (by norm_num)) (tapw w 2 (by norm_num)) (tapw w 10 (by norm_num)) (tapw w 18 (by norm_num)) (tapw w 26 (by norm_num))

/-- Eight terms more. -/
def acc2 (Z : Vec Ideal S544x256 .f32) (w : Vec Ideal S31x256 .f32) (b : Vec Ideal S1x256 .f32) : FVec Ideal S512x256 .f32 :=
  k0_pay24 (F := Ideal) (acc1 Z w b) (seg Z 4 (by norm_num)) (k0_pay21 (seg Z 4 (by norm_num)) (tapw w 3 (by norm_num))) (k0_pay22 (seg Z 4 (by norm_num)))
    (k0_pay23 (tapw w 11 (by norm_num))) (tapw w 19 (by norm_num)) (tapw w 27 (by norm_num))
    (seg Z 5 (by norm_num)) (tapw w 4 (by norm_num)) (tapw w 12 (by norm_num)) (tapw w 20 (by norm_num)) (tapw w 28 (by norm_num))

/-- What a point stores of the convolution, from its sum, its mean and its squared deviations. -/
def conv (Z : Vec Ideal S544x256 .f32) (w : Vec Ideal S31x256 .f32) (b g s : Vec Ideal S1x256 .f32) : FVec Ideal S512x256 .bf16 :=
  k0_pay30 (F := Ideal)
    (k0_pay27 (F := Ideal) (acc2 Z w b) (seg Z 6 (by norm_num)) (k0_pay25 (seg Z 6 (by norm_num)) (tapw w 5 (by norm_num))) (k0_pay26 (seg Z 6 (by norm_num)))
      (tapw w 13 (by norm_num)) (tapw w 21 (by norm_num)) (tapw w 29 (by norm_num)) (seg Z 7 (by norm_num)) (tapw w 6 (by norm_num)) (tapw w 14 (by norm_num)) (tapw w 22 (by norm_num)) (tapw w 30 (by norm_num)))
    (k0_pay28 (F := Ideal) (acc2 Z w b) (seg Z 6 (by norm_num)) (k0_pay25 (seg Z 6 (by norm_num)) (tapw w 5 (by norm_num))) (k0_pay26 (seg Z 6 (by norm_num)))
      (tapw w 13 (by norm_num)) (tapw w 21 (by norm_num)) (tapw w 29 (by norm_num)) (seg Z 7 (by norm_num)) (tapw w 6 (by norm_num)) (tapw w 14 (by norm_num)) (tapw w 22 (by norm_num)) (tapw w 30 (by norm_num)))
    (k0_pay29 (F := Ideal) (acc2 Z w b) (seg Z 6 (by norm_num)) (k0_pay25 (seg Z 6 (by norm_num)) (tapw w 5 (by norm_num))) (k0_pay26 (seg Z 6 (by norm_num)))
      (tapw w 13 (by norm_num)) (tapw w 21 (by norm_num)) (tapw w 29 (by norm_num)) (seg Z 7 (by norm_num)) (tapw w 6 (by norm_num)) (tapw w 14 (by norm_num)) (tapw w 22 (by norm_num)) (tapw w 30 (by norm_num))) g s

/-- The sums over windows of eight rows. -/
def sum8 (Z : Vec Ideal S544x256 .f32) : FVec Ideal S512x256 .f32 :=
  k0_pay36 (F := Ideal) (k0_pay34 (F := Ideal) (seg Z 0 (by norm_num)) (seg Z 7 (by norm_num)) (seg Z 6 (by norm_num)) (seg Z 1 (by norm_num)) (seg Z 4 (by norm_num)))
    (k0_pay35 (seg Z 5 (by norm_num))) (seg Z 2 (by norm_num)) (seg Z 3 (by norm_num))

/-- The sums over windows of sixteen rows. -/
def sum16 (Z : Vec Ideal S544x256 .f32) : FVec Ideal S512x256 .f32 :=
  k0_pay37 (F := Ideal) (seg Z 0 (by norm_num)) (seg Z 7 (by norm_num)) (seg Z 6 (by norm_num)) (seg Z 1 (by norm_num)) (seg Z 4 (by norm_num))
    (k0_pay34 (F := Ideal) (seg Z 0 (by norm_num)) (seg Z 7 (by norm_num)) (seg Z 6 (by norm_num)) (seg Z 1 (by norm_num)) (seg Z 4 (by norm_num)))
    (seg Z 5 (by norm_num)) (k0_pay35 (seg Z 5 (by norm_num))) (seg Z 2 (by norm_num)) (seg Z 3 (by norm_num))

/-- The number of a column's window. -/
def lane : IVec S512x256 32 :=
  k0_pay42 kernelRun0_A.sl.v315 64#32 k0_pay39 k0_pay40 k0_pay41

/-- What a point stores of the pooling. -/
def pool (i : grid0.Coords) (Z : Vec Ideal S544x256 .f32) (w : Vec Ideal S256x256 .bf16) (s : Vec Ideal S1x256 .f32) : FVec Ideal S512x256 .bf16 :=
  k0_pay1 (F := Ideal) (k0_pay46 (F := Ideal) (k0_pay31 (seg Z 0 (by norm_num))) (sum8 Z) (sum16 Z) (k0_pay38 (BitVec.ofNat 32 (i 0).val)) lane
    (k0_pay43 (k0_pay32 (seg Z 0 (by norm_num)) (seg Z 7 (by norm_num))) (k0_pay38 (BitVec.ofNat 32 (i 0).val)))
    (k0_pay44 (k0_pay33 (seg Z 0 (by norm_num)) (seg Z 7 (by norm_num)) (seg Z 6 (by norm_num)) (seg Z 1 (by norm_num))) (k0_pay38 (BitVec.ofNat 32 (i 0).val)))
    k0_pay45 (View.ld w (Rect.unit (s := S256x256) ![0, 0] S256x256.size inb_S256x256_S256x256_0_0))) (k0_pay47 (F := Ideal) s)

section run
variable (c : Dev nD) (i : grid0.Coords)
  (arg1 : Memref sig .tc .vmem S512x768 .bf16) (harg1 : arg1.IsWhole)
  (arg2 : Memref sig .tc .vmem S16x768 .bf16) (harg2 : arg2.IsWhole)
  (arg3 : Memref sig .tc .vmem S16x768 .bf16) (harg3 : arg3.IsWhole)
  (arg4 : Memref sig .tc .vmem S31x256 .f32) (harg4 : arg4.IsWhole)
  (arg5 : Memref sig .tc .vmem S1x256 .f32) (harg5 : arg5.IsWhole)
  (arg6 : Memref sig .tc .vmem S1x256 .f32) (harg6 : arg6.IsWhole)
  (arg7 : Memref sig .tc .vmem S1x256 .f32) (harg7 : arg7.IsWhole)
  (arg8 : Memref sig .tc .vmem S256x256 .bf16) (harg8 : arg8.IsWhole)
  (arg9 : Memref sig .tc .vmem S1x256 .f32) (harg9 : arg9.IsWhole)
  (arg10 : Memref sig .tc .vmem S512x256 .bf16) (harg10 : arg10.IsWhole)
  (arg11 : Memref sig .tc .vmem S512x256 .bf16) (harg11 : arg11.IsWhole)
  (arg12 : Memref sig .tc .vmem S544x256 .f32) (harg12 : arg12.IsWhole)
  (arg13 : Memref sig .tc .vmem S544x256 .f32) (harg13 : arg13.IsWhole)
  (x0 : Vec Ideal S512x768 .bf16) (x1 x2 : Vec Ideal S16x768 .bf16) (x3 : Vec Ideal S31x256 .f32) (x4 x5 x6 : Vec Ideal S1x256 .f32)
  (x7 : Vec Ideal S256x256 .bf16) (x8 : Vec Ideal S1x256 .f32)

set_option maxHeartbeats 4000000 in
/-- What a point leaves of the convolution. -/
theorem run9 : out0_A_9 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8
    = conv (zc i x0 x1 x2) x3 (vec x4) (vec x5) (vec x6) := by
  unfold out0_A_9 kernelRun0_A
  dsimp only
  rw [View.read_writes_junk_eq_canon]
  simp only [kernelRun0_A.sl.HS0_3, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7,
    kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16,
    kernelRun0_A.sl.v69, kernelRun0_A.sl.v85, kernelRun0_A.sl.v106, kernelRun0_A.sl.v127, kernelRun0_A.sl.v148, kernelRun0_A.sl.v169, kernelRun0_A.sl.v190, kernelRun0_A.sl.v211,
    load_slim, View.readAt_eq_ld, Memref.IsWhole.read_unread]
  rw [View.canon_unit_zero (funext fun a => by match a with | ⟨0, _⟩ => rfl | ⟨1, _⟩ => rfl)]
  unfold conv acc2 acc1 zc seg tapw vec halo block
  rfl

set_option maxHeartbeats 4000000 in
/-- What a point leaves of the pooling. -/
theorem run10 : out0_A_10 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8
    = pool i (zp i x0 x1 x2) x7 (vec x8) := by
  unfold out0_A_10 kernelRun0_A
  dsimp only
  rw [View.read_writes_junk_eq_canon]
  simp only [kernelRun0_A.sl.HS1_3, kernelRun0_A.sl.r, kernelRun0_A.sl.r_17, kernelRun0_A.sl.r_18, kernelRun0_A.sl.r_19, kernelRun0_A.sl.r_20, kernelRun0_A.sl.r_21, kernelRun0_A.sl.r_22, kernelRun0_A.sl.r_23,
    kernelRun0_A.sl.r_24, kernelRun0_A.sl.r_25, kernelRun0_A.sl.r_26, kernelRun0_A.sl.r_27, kernelRun0_A.sl.r_28, kernelRun0_A.sl.r_29,
    kernelRun0_A.sl.v262, kernelRun0_A.sl.v264, kernelRun0_A.sl.v267, kernelRun0_A.sl.v270, kernelRun0_A.sl.v273, kernelRun0_A.sl.v276, kernelRun0_A.sl.v279, kernelRun0_A.sl.v282,
    load_slim, View.readAt_eq_ld, Memref.IsWhole.read_unread]
  rw [View.canon_unit_zero (funext fun a => by match a with | ⟨0, _⟩ => rfl | ⟨1, _⟩ => rfl)]
  unfold pool sum8 sum16 lane zp seg vec halo block
  rfl
end run

end Cert.Kernel5Ideal.Tile

end
-- ==== Proof.MixCount.lean ====
/-
  The count of a window's positions, as the kernel and as the reference compute it in words.
-/
module

public import proofs.«01_k».proof.Proof.Scalar

@[expose] public section

set_option maxRecDepth 16384

noncomputable section

open Idealize.ShloMosaic Idealize.ShloMosaic.TcCoe Idealize.SL.Sem

namespace Cert.Layer

/-- How many positions of the sequence lie in the window of half width `h` around position `s`. -/
def many (h s : ℕ) : BitVec 32 := BitVec.ofNat 32 (min (s + h - 1) 8191 + 1 - (s - h))

/-- A position as a number of the sequence's sixty-four stretches and a place in it. -/
theorem stretch {p : ℕ → Prop} (h : ∀ a : Fin 64, ∀ b : Fin 128, p (a.val * 128 + b.val)) (s : ℕ) (hs : s < 8192) : p s := by
  have := h ⟨s / 128, by omega⟩ ⟨s % 128, by omega⟩
  rwa [show s / 128 * 128 + s % 128 = s by omega] at this

/-- The kernel's count of a window's positions. -/
theorem kernel_many1 : ∀ s < 8192, IntOp.addi (IntOp.subi (IntOp.minsi (IntOp.addi (BitVec.ofNat 32 s) 0#32) 8191#32) (IntOp.maxsi (IntOp.subi (BitVec.ofNat 32 s) 1#32) 0#32)) 1#32 = many 1 s :=
  stretch (by decide +kernel)
theorem kernel_many2 : ∀ s < 8192, IntOp.addi (IntOp.subi (IntOp.minsi (IntOp.addi (BitVec.ofNat 32 s) 1#32) 8191#32) (IntOp.maxsi (IntOp.subi (BitVec.ofNat 32 s) 2#32) 0#32)) 1#32 = many 2 s :=
  stretch (by decide +kernel)
theorem kernel_many4 : ∀ s < 8192, IntOp.addi (IntOp.subi (IntOp.minsi (IntOp.addi (BitVec.ofNat 32 s) 3#32) 8191#32) (IntOp.maxsi (IntOp.subi (BitVec.ofNat 32 s) 4#32) 0#32)) 1#32 = many 4 s :=
  stretch (by decide +kernel)
theorem kernel_many8 : ∀ s < 8192, IntOp.addi (IntOp.subi (IntOp.minsi (IntOp.addi (BitVec.ofNat 32 s) 7#32) 8191#32) (IntOp.maxsi (IntOp.subi (BitVec.ofNat 32 s) 8#32) 0#32)) 1#32 = many 8 s :=
  stretch (by decide +kernel)

/-- The reference's. -/
theorem reference_many1 : ∀ s < 8192, IntOp.addi (IntOp.subi (IntOp.minsi 8191#32 (IntOp.maxsi 0#32 (IntOp.subi (IntOp.subi (IntOp.addi (BitVec.ofNat 32 s) 2#32) 1#32) 1#32)))
    (IntOp.minsi 8191#32 (IntOp.maxsi 0#32 (IntOp.subi (BitVec.ofNat 32 s) 1#32)))) 1#32 = many 1 s :=
  stretch (by decide +kernel)
theorem reference_many2 : ∀ s < 8192, IntOp.addi (IntOp.subi (IntOp.minsi 8191#32 (IntOp.maxsi 0#32 (IntOp.subi (IntOp.subi (IntOp.addi (BitVec.ofNat 32 s) 4#32) 2#32) 1#32)))
    (IntOp.minsi 8191#32 (IntOp.maxsi 0#32 (IntOp.subi (BitVec.ofNat 32 s) 2#32)))) 1#32 = many 2 s :=
  stretch (by decide +kernel)
theorem reference_many4 : ∀ s < 8192, IntOp.addi (IntOp.subi (IntOp.minsi 8191#32 (IntOp.maxsi 0#32 (IntOp.subi (IntOp.subi (IntOp.addi (BitVec.ofNat 32 s) 8#32) 4#32) 1#32)))
    (IntOp.minsi 8191#32 (IntOp.maxsi 0#32 (IntOp.subi (BitVec.ofNat 32 s) 4#32)))) 1#32 = many 4 s :=
  stretch (by decide +kernel)
theorem reference_many8 : ∀ s < 8192, IntOp.addi (IntOp.subi (IntOp.minsi 8191#32 (IntOp.maxsi 0#32 (IntOp.subi (IntOp.subi (IntOp.addi (BitVec.ofNat 32 s) 16#32) 8#32) 1#32)))
    (IntOp.minsi 8191#32 (IntOp.maxsi 0#32 (IntOp.subi (BitVec.ofNat 32 s) 8#32)))) 1#32 = many 8 s :=
  stretch (by decide +kernel)

end Cert.Layer

end
-- ==== Proof.MixScalar.lean ====
/-
  The scalar functions of the mixing part: the normed and gated value of a row, and the mean over a window clipped to the sequence.
-/
module

public import proofs.«01_k».proof.Proof.MixCount

@[expose] public section

set_option maxRecDepth 16384

noncomputable section

open Idealize.ShloMosaic Idealize.ShloMosaic.TcCoe Idealize.SL.Sem

namespace Cert.Layer

/-- The layer norm of a row: centred, over the root of its variance, gained and shifted. -/
def lnorm (y g b : Fin 256 → EReal) (k : Fin 256) : EReal :=
  (y k - Ideal.div (∑ i : Fin 256, y i) (Ideal.ofBits .f32 0x43800000#32))
    * Ideal.rsqrt (Ideal.div (∑ i : Fin 256, (y i - Ideal.div (∑ j : Fin 256, y j) (Ideal.ofBits .f32 0x43800000#32)) * (y i - Ideal.div (∑ j : Fin 256, y j) (Ideal.ofBits .f32 0x43800000#32)))
        (Ideal.ofBits .f32 0x43800000#32) + Ideal.ofBits .f32 0x358637BD#32)
    * g k + b k

/-- The norm times its own sigmoid. -/
def lsilu (y g b : Fin 256 → EReal) (k : Fin 256) : EReal := lnorm y g b k * Ideal.logistic (lnorm y g b k)

/-- The sum of thirty-one successive values, each times its weight. -/
def taps (P W : ℕ → EReal) (s : ℕ) : EReal := ∑ j ∈ Finset.range 31, P (s + j) * W j

/-- The sum of the values of a window. -/
def window (P : ℕ → EReal) (n s : ℕ) : EReal := ∑ j ∈ Finset.range n, P (s + j)

/-- A column's half width: one, two, four or eight, by its quarter. -/
def half (k : Fin 256) : ℕ := 2 ^ (k.val / 64)

/-- The mean over a column's window less the window's centre; the window starts at row `a` for the widest. -/
def pooled (P : Fin 256 → ℕ → EReal) (a s : ℕ) (k : Fin 256) : EReal :=
  Ideal.div (window (P k) (2 * half k) (a + 8 - half k)) (FloatOps.sitofp .f32 (many (half k) s) : Ideal .f32) - P k (a + 8)

/-- A choice by an equality of words. -/
theorem select_eq (a b : BitVec 32) (x y : EReal) : Scalar.select (IntOp.cmpi .eq a b) x y = if a = b then x else y := by
  by_cases h : a = b
  · subst h; simp [Scalar.select, IntOp.cmpi]
  · have e : (a == b) = false := beq_eq_false_iff_ne.mpr h
    simp [Scalar.select, IntOp.cmpi, h, e]

end Cert.Layer

end
-- ==== Proof.MixRead.lean ====
/-
  One point of the mixing kernel read element by element.
-/
module

public import proofs.«01_k».proof.Proof.MixTile
public import proofs.«01_k».proof.Proof.MixScalar

@[expose] public section

set_option maxRecDepth 16384

noncomputable section

open Idealize.ShloMosaic Idealize.ShloMosaic.TcCoe Idealize.SL.Sem

namespace Cert.Kernel5Ideal.Tile

open Cert.Kernel5Ideal Cert.Kernel5Ideal.Gen Cert.Layer
open Cert.Kernel2Ideal.Tile (slim keep)

/-- A column of the scratch by the number of its row. -/
def rowAt (Z : Vec Ideal S544x256 .f32) (n : Fin 256) (a : ℕ) : EReal := if h : a < 544 then Z (ix2 ⟨a, h⟩ n) else 0

/-- A column of the weights by the number of the tap. -/
def wt (w : Vec Ideal S31x256 .f32) (n : Fin 256) (j : ℕ) : EReal := if h : j < 31 then w (ix2 ⟨j, h⟩ n) else 0

theorem seg_read (Z : Vec Ideal S544x256 .f32) (o : ℕ) (h : o ≤ 8) (a : Fin 536) (n : Fin 256) : seg Z o h (ix2 a n) = rowAt Z n (o + a.val) := by
  unfold rowAt
  rw [dif_pos (show o + a.val < 544 by omega)]
  refine congrArg Z (funext fun d => Fin.ext ?_)
  match d with
  | ⟨0, _⟩ => show o + 1 * a.val = o + a.val; omega
  | ⟨1, _⟩ => show 0 + 1 * n.val = n.val; omega

theorem tapw_read (w : Vec Ideal S31x256 .f32) (j : ℕ) (h : j < 31) (n : Fin 256) : tapw w j h (ix2 0 n) = wt w n j := by
  unfold wt
  rw [dif_pos h]
  refine congrArg w (funext fun d => Fin.ext ?_)
  match d with
  | ⟨0, _⟩ => show j + 1 * 0 = j; omega
  | ⟨1, _⟩ => show 0 + 1 * n.val = n.val; omega

theorem vec_read (x : Vec Ideal S1x256 .f32) (n : Fin 256) : vec x (ix2 0 n) = x (ix2 0 n) := by
  pointwise [vec]

/-- The whole sum of the convolution. -/
def acc3 (Z : Vec Ideal S544x256 .f32) (w : Vec Ideal S31x256 .f32) (b : Vec Ideal S1x256 .f32) : FVec Ideal S512x256 .f32 :=
  k0_pay27 (F := Ideal) (acc2 Z w b) (seg Z 6 (by norm_num)) (k0_pay25 (seg Z 6 (by norm_num)) (tapw w 5 (by norm_num))) (k0_pay26 (seg Z 6 (by norm_num)))
      (tapw w 13 (by norm_num)) (tapw w 21 (by norm_num)) (tapw w 29 (by norm_num)) (seg Z 7 (by norm_num)) (tapw w 6 (by norm_num)) (tapw w 14 (by norm_num)) (tapw w 22 (by norm_num)) (tapw w 30 (by norm_num))

set_option maxHeartbeats 2000000 in
/-- The convolution's sum: the bias and the thirty-one products. -/
theorem acc3_read (Z : Vec Ideal S544x256 .f32) (w : Vec Ideal S31x256 .f32) (b : Vec Ideal S1x256 .f32) (r : Fin 512) (n : Fin 256) :
    acc3 Z w b (ix2 r n) = taps (rowAt Z n) (wt w n) (1 + r.val) + b (ix2 0 n) := by
  unfold taps
  pointwise [acc3, acc2, acc1, k0_pay15, k0_pay16, k0_pay17, k0_pay18, k0_pay19, k0_pay20, k0_pay21, k0_pay22, k0_pay23, k0_pay24, k0_pay25, k0_pay26, k0_pay27]
  simp only [seg_read, tapw_read, Finset.sum_range_succ, Finset.sum_range_zero, Nat.add_comm _ r.val, ← Nat.add_assoc, Nat.add_zero, Nat.zero_add]
  simp only [Nat.add_assoc, Nat.reduceAdd]
  abel

set_option maxHeartbeats 2000000 in
theorem conv_read (Z : Vec Ideal S544x256 .f32) (w : Vec Ideal S31x256 .f32) (b g s : Vec Ideal S1x256 .f32) (r : Fin 512) (k : Fin 256) :
    conv Z w b g s (ix2 r k) = lsilu (fun n => acc3 Z w b (ix2 r n)) (fun n => g (ix2 0 n)) (fun n => s (ix2 0 n)) k := by
  unfold lsilu lnorm acc3
  pointwise [conv, k0_pay28, k0_pay29, k0_pay30]

set_option maxHeartbeats 2000000 in
theorem sum16_read (Z : Vec Ideal S544x256 .f32) (r : Fin 512) (n : Fin 256) :
    sum16 Z (ix2 r n) = window (rowAt Z n) 16 (8 + r.val) := by
  unfold window
  pointwise [sum16, k0_pay31, k0_pay32, k0_pay33, k0_pay34, k0_pay35, k0_pay36, k0_pay37]
  simp only [seg_read, Finset.sum_range_succ, Finset.sum_range_zero, Nat.add_comm _ r.val, ← Nat.add_assoc, Nat.add_zero, Nat.zero_add]
  simp only [Nat.add_assoc, Nat.reduceAdd]
  abel

set_option maxHeartbeats 2000000 in
theorem sum8_read (Z : Vec Ideal S544x256 .f32) (r : Fin 512) (n : Fin 256) :
    sum8 Z (ix2 r n) = window (rowAt Z n) 8 (12 + r.val) := by
  unfold window
  pointwise [sum8, k0_pay31, k0_pay32, k0_pay33, k0_pay34, k0_pay35, k0_pay36]
  simp only [seg_read, Finset.sum_range_succ, Finset.sum_range_zero, Nat.add_comm _ r.val, ← Nat.add_assoc, Nat.add_zero, Nat.zero_add]
  simp only [Nat.add_assoc, Nat.reduceAdd]
  abel

theorem lane_read (r : Fin 512) (n : Fin 256) : lane (ix2 r n) = BitVec.ofNat 32 (n.val / 64) := by
  unfold lane
  have e : kernelRun0_A.sl.v315 = (iota .tc S512x256 32 [1] iota_S512x256_d1_w32 : IVec S512x256 32) := rfl
  rw [e]
  pointwise [k0_pay39, k0_pay40, k0_pay41, k0_pay42]
  revert n
  decide +kernel

/-- The word of a point's first position. -/
theorem first_place : ∀ t : Fin 32, Scalar.muli
        (Scalar.select
          (Scalar.andi
            (Scalar.xori
              (Scalar.cmpi CmpIPredicate.slt
                (Scalar.remsi (BitVec.ofNat 32 t.val)
                  (Scalar.select (Scalar.cmpi CmpIPredicate.eq 16#32 0#32) 1#32 16#32))
                0#32)
              (Scalar.cmpi CmpIPredicate.slt (Scalar.select (Scalar.cmpi CmpIPredicate.eq 16#32 0#32) 1#32 16#32) 0#32))
            (Scalar.cmpi CmpIPredicate.ne
              (Scalar.remsi (BitVec.ofNat 32 t.val)
                (Scalar.select (Scalar.cmpi CmpIPredicate.eq 16#32 0#32) 1#32 16#32))
              0#32))
          (Scalar.addi
            (Scalar.remsi (BitVec.ofNat 32 t.val) (Scalar.select (Scalar.cmpi CmpIPredicate.eq 16#32 0#32) 1#32 16#32))
            (Scalar.select (Scalar.cmpi CmpIPredicate.eq 16#32 0#32) 1#32 16#32))
          (Scalar.remsi (BitVec.ofNat 32 t.val) (Scalar.select (Scalar.cmpi CmpIPredicate.eq 16#32 0#32) 1#32 16#32)))
        512#32 = BitVec.ofNat 32 (t.val % 16 * 512) := by decide +kernel

theorem place_read (t : ℕ) (ht : t < 32) (r : Fin 512) : k0_pay38 (BitVec.ofNat 32 t) (ix2 r 0) = BitVec.ofNat 32 (t % 16 * 512 + r.val) := by
  pointwise [k0_pay38]
  rw [first_place ⟨t, ht⟩, BitVec.ofNat_add]
  rfl

set_option maxHeartbeats 4000000 in
/-- What a point stores of the pooling: the pooled columns against the weights, scaled. -/
theorem pool_read (i : grid0.Coords) (t : ℕ) (hi : (i 0).val = t) (ht : t < 32) (Z : Vec Ideal S544x256 .f32) (w : Vec Ideal S256x256 .bf16) (s : Vec Ideal S1x256 .f32) (r : Fin 512) (k : Fin 256) :
    pool i Z w s (ix2 r k) = (∑ x : Fin 256, pooled (rowAt Z) (8 + r.val) (t % 16 * 512 + r.val) x * w (ix2 x k)) * s (ix2 0 k) := by
  have q8 := sum8_read Z
  have q16 := sum16_read Z
  have l := lane_read
  have p := place_read t ht
  have hs : t % 16 * 512 + r.val < 8192 := by omega
  unfold pool
  rw [hi]
  pointwise [k0_pay31, k0_pay32, k0_pay33, k0_pay1, k0_pay43, k0_pay44, k0_pay45, k0_pay46, k0_pay47]
  simp only [seg_read, q8, q16, l, p, select_eq, kernel_many1 _ hs, kernel_many2 _ hs, kernel_many4 _ hs, kernel_many8 _ hs]
  refine congrArg (· * s (ix2 0 k)) (Finset.sum_congr rfl fun x _ => congrArg (· * w (ix2 x k)) ?_)
  unfold pooled
  have hc : rowAt Z x (0 + (16 + r.val)) = rowAt Z x (8 + r.val + 8) := by congr 1; omega
  rw [hc]
  refine congrArg (· - rowAt Z x (8 + r.val + 8)) ?_
  have hx : x.val / 64 < 4 := by omega
  obtain h | h | h | h : x.val / 64 = 0 ∨ x.val / 64 = 1 ∨ x.val / 64 = 2 ∨ x.val / 64 = 3 := by omega
  · have hh : half x = 1 := by unfold half; rw [h]; rfl
    rw [h, hh, if_neg (by decide), if_neg (by decide), if_neg (by decide)]
    unfold window
    simp only [Nat.reduceMul, Finset.sum_range_succ, Finset.sum_range_zero, Nat.add_sub_cancel, zero_add]
    rw [show 7 + (8 + r.val) = 8 + r.val + 8 - 1 + 0 by omega, show 8 + r.val + 8 - 1 + 1 = 8 + r.val + 8 by omega]
  · have hh : half x = 2 := by unfold half; rw [h]; rfl
    rw [h, hh, if_neg (by decide), if_neg (by decide), if_pos (by decide)]
    unfold window
    simp only [Nat.reduceMul, Finset.sum_range_succ, Finset.sum_range_zero, zero_add]
    rw [show 7 + (8 + r.val) = 8 + r.val + 8 - 2 + 1 by omega, show 8 + r.val + 8 - 2 + 2 = 8 + r.val + 8 by omega,
      show 6 + (8 + r.val) = 8 + r.val + 8 - 2 + 0 by omega, show 1 + (16 + r.val) = 8 + r.val + 8 - 2 + 3 by omega]
    congr 1
    abel
  · have hh : half x = 4 := by unfold half; rw [h]; rfl
    rw [h, hh, if_neg (by decide), if_pos (by decide)]
    rw [show 12 + r.val = 8 + r.val + 8 - 4 by omega]
  · have hh : half x = 8 := by unfold half; rw [h]; rfl
    rw [h, hh, if_pos (by decide)]
    rw [show 8 + r.val + 8 - 8 = 8 + r.val by omega]

/-- The row of the sequence at place `a` of the block with its halo. -/
def near (x0 : Vec Ideal S512x768 .bf16) (x1 x2 : Vec Ideal S16x768 .bf16) (a : Fin 544) (n : Fin 768) : EReal :=
  if h : a.val < 16 then x1 (ix2 ⟨a.val, h⟩ n)
  else if h' : a.val < 528 then x0 (ix2 ⟨a.val - 16, by omega⟩ n)
  else x2 (ix2 ⟨a.val - 528, by omega⟩ n)

/-- The factor the row at place `a` is kept by. -/
def edge (top bot : BitVec 1) (a : Fin 544) : EReal := if a.val < 16 then keep top else if a.val < 528 then 1 else keep bot

/-- The flag of a batch entry's first tile. -/
def first (i : grid0.Coords) : BitVec 1 := Scalar.cmpi .eq (kernelRun0_A.sl.v9 i) 0#32

theorem zc_read (i : grid0.Coords) (x0 : Vec Ideal S512x768 .bf16) (x1 x2 : Vec Ideal S16x768 .bf16) (a : Fin 544) (n : Fin 256) :
    zc i x0 x1 x2 (ix2 a n) = near x0 x1 x2 a ⟨n, by omega⟩ * Ideal.logistic (near x0 x1 x2 a ⟨256 + n, by omega⟩) * edge (first i) (kernelRun0_A.sl.v11 i) a := by
  have k7 : k0_pay7 (F := Ideal) i = keep (first i) := rfl
  have k12 : k0_pay12 (F := Ideal) (kernelRun0_A.sl.v11 i) = keep (kernelRun0_A.sl.v11 i) := rfl
  unfold zc slim near edge
  show (if h : a.val < 16 then _ else if h' : a.val < 528 then _ else _) = _
  by_cases c1 : a.val < 16
  · simp only [dif_pos c1, if_pos c1]
    rw [← k7]
    show k0_pay9 (k0_pay8 (F := Ideal) i (halo x1)) (ix2 ⟨a.val, c1⟩ n) = _
    pointwise [k0_pay9, k0_pay8, k0_pay5, halo]
  · simp only [dif_neg c1, if_neg c1]
    by_cases c2 : a.val < 528
    · simp only [dif_pos c2, if_pos c2]
      show k0_pay3 (F := Ideal) (block x0) (ix2 ⟨a.val - 16, by omega⟩ n) = _
      pointwise [k0_pay3, k0_pay2, block]
    · simp only [dif_neg c2, if_neg c2]
      rw [← k12]
      show k0_pay13 (F := Ideal) (kernelRun0_A.sl.v11 i) (halo x2) (ix2 ⟨a.val - 528, by omega⟩ n) = _
      pointwise [k0_pay13, k0_pay11, halo]

theorem zp_read (i : grid0.Coords) (x0 : Vec Ideal S512x768 .bf16) (x1 x2 : Vec Ideal S16x768 .bf16) (a : Fin 544) (n : Fin 256) :
    zp i x0 x1 x2 (ix2 a n) = near x0 x1 x2 a ⟨512 + n, by omega⟩ * edge (first i) (kernelRun0_A.sl.v11 i) a := by
  have k7 : k0_pay7 (F := Ideal) i = keep (first i) := rfl
  have k12 : k0_pay12 (F := Ideal) (kernelRun0_A.sl.v11 i) = keep (kernelRun0_A.sl.v11 i) := rfl
  unfold zp slim near edge
  show (if h : a.val < 16 then _ else if h' : a.val < 528 then _ else _) = _
  by_cases c1 : a.val < 16
  · simp only [dif_pos c1, if_pos c1]
    rw [← k7]
    show k0_pay10 (F := Ideal) (k0_pay6 (F := Ideal) (halo x1)) (k0_pay7 i) (ix2 ⟨a.val, c1⟩ n) = _
    pointwise [k0_pay10, k0_pay6, k0_pay5, halo]
  · simp only [dif_neg c1, if_neg c1]
    by_cases c2 : a.val < 528
    · simp only [dif_pos c2, if_pos c2]
      show k0_pay4 (F := Ideal) (block x0) (ix2 ⟨a.val - 16, by omega⟩ n) = _
      pointwise [k0_pay4, k0_pay2, block]
    · simp only [dif_neg c2, if_neg c2]
      rw [← k12]
      show k0_pay14 (F := Ideal) (kernelRun0_A.sl.v11 i) (halo x2) (ix2 ⟨a.val - 528, by omega⟩ n) = _
      pointwise [k0_pay14, k0_pay11, halo]

end Cert.Kernel5Ideal.Tile

end
-- ==== Proof.MixRef.lean ====
/-
  The mixing part's reference read element by element.
-/
module

public import proofs.«01_k».proof.Proof.Gen.Reference5Ideal.Run
public import proofs.«01_k».proof.Proof.MixScalar

@[expose] public section

set_option maxRecDepth 16384

noncomputable section

open Idealize.ShloMosaic Idealize.ShloMosaic.TcCoe Idealize.SL.Sem

namespace Cert.Reference5Ideal.Steps

open Cert.Reference5Ideal Cert.Reference5Ideal.Gen Cert.Reference5Ideal.Value Cert.Layer

variable (V : Valuation τ sig (Elt Ideal))

/-- The arguments. -/
def xR : FVec Ideal S2x8192x768 .f32 := V (Proc.devRef .tc main_arg0)
def dwR : FVec Ideal S31x256 .f32 := V (Proc.devRef .tc main_arg1)
def dbR : FVec Ideal S256 .f32 := V (Proc.devRef .tc main_arg2)
def gainR : FVec Ideal S256 .f32 := V (Proc.devRef .tc main_arg3)
def shiftR : FVec Ideal S256 .f32 := V (Proc.devRef .tc main_arg4)
def mixR : FVec Ideal S4x64x64 .f32 := V (Proc.devRef .tc main_arg5)
def scaleR : FVec Ideal S256 .f32 := V (Proc.devRef .tc main_arg6)

/-- The gated rows with fifteen rows of zeros before and after; the convolution; its norm; the pooled rows with their padding; the means. -/
def upR : FVec Ideal S2x8222x256 .f32 := res_main_v10 V
def partR : FVec Ideal S2x8192x256 .f32 := res_main_v88 V
def moreR : FVec Ideal S2x8192x256 .f32 := res_main_v165 V
def convR : FVec Ideal S2x8192x256 .f32 := res_main_v231 V
def normR : FVec Ideal S2x8192x256 .f32 := res_main_v255 V
def deepR : FVec Ideal S2x8207x256 .f32 := res_main_v264 V
def meansR : FVec Ideal S2x8192x256 .f32 := res_main_v398 V
def centreR : FVec Ideal S2x8192x256 .f32 := res_main_v263 V

/-- A column of the gated rows by the number of its padded row. -/
def up (x : FVec Ideal S2x8192x768 .f32) (b : Fin 2) (n : Fin 256) (P : ℕ) : EReal :=
  if h : 15 ≤ P ∧ P - 15 < 8192 then x (ix3 b ⟨P - 15, h.2⟩ ⟨n, by omega⟩) * Ideal.logistic (x (ix3 b ⟨P - 15, h.2⟩ ⟨256 + n, by omega⟩)) else 0

/-- A column of the pooled rows by the number of its padded row. -/
def deep (x : FVec Ideal S2x8192x768 .f32) (b : Fin 2) (n : Fin 256) (P : ℕ) : EReal :=
  if h : 8 ≤ P ∧ P - 8 < 8192 then x (ix3 b ⟨P - 8, h.2⟩ ⟨512 + n, by omega⟩) else 0

/-- A column of the weights by the number of the tap. -/
def wt (w : FVec Ideal S31x256 .f32) (n : Fin 256) (j : ℕ) : EReal := if h : j < 31 then w (ix2 ⟨j, h⟩ n) else 0

theorem wt_of (w : FVec Ideal S31x256 .f32) (n : Fin 256) (j : Fin 31) : w (ix2 j n) = wt w n j.val := by
  unfold wt; rw [dif_pos j.isLt]

theorem zero_word : (FloatOps.sitofp .f32 (0#32) : Ideal .f32) = 0 := by
  show (((0#32 : BitVec 32).toInt : ℝ) : EReal) = 0
  simp

theorem upR_read (b : Fin 2) (r : Fin 8222) (k : Fin 256) : upR V (ix3 b r k) = up (xR V) b k r.val := by
  have z := zero_word
  unfold up Ideal.logistic
  pointwise [upR, res_main_v10, res_main_v0, xR, z]

theorem deepR_read (b : Fin 2) (r : Fin 8207) (k : Fin 256) : deepR V (ix3 b r k) = deep (xR V) b k r.val := by
  have z := zero_word
  have e : deepR V = pad S2x8207x256 ![0, 8, 0] ![0, 7, 0] ![0, 0, 0] (centreR V) (sitofp .f32 (constantI S_ 32 0#32) : FVec Ideal S_ .f32) pads_S2x8192x256_S2x8207x256_000_870_000 h_S_ := rfl
  rw [e]
  unfold deep
  pointwise [centreR, res_main_v263, xR, z]

set_option maxHeartbeats 2000000 in
/-- The convolution, eleven taps at a time. -/
theorem partR_read (b : Fin 2) (s : Fin 8192) (n : Fin 256) :
    partR V (ix3 b s n) = ∑ j ∈ Finset.range 11, up (xR V) b n (s.val + j) * wt (dwR V) n j := by
  have e : res_main_v10 V = upR V := rfl
  have d : V (Proc.devRef .tc main_arg1) = dwR V := rfl
  pointwise [partR, res_main_v88, e, d]
  simp only [upR_read, wt_of]
  simp only [Finset.sum_range_succ, Finset.sum_range_zero, zero_add, Nat.add_comm s.val]
  rfl

set_option maxHeartbeats 2000000 in
theorem moreR_read (b : Fin 2) (s : Fin 8192) (n : Fin 256) :
    moreR V (ix3 b s n) = ∑ j ∈ Finset.range 22, up (xR V) b n (s.val + j) * wt (dwR V) n j := by
  have e : res_main_v10 V = upR V := rfl
  have d : V (Proc.devRef .tc main_arg1) = dwR V := rfl
  have g : res_main_v88 V = partR V := rfl
  pointwise [moreR, res_main_v165, e, d, g]
  simp only [upR_read, wt_of, partR_read]
  simp only [Finset.sum_range_succ, Finset.sum_range_zero, zero_add, Nat.add_comm s.val]
  rfl

set_option maxHeartbeats 2000000 in
theorem convR_read (b : Fin 2) (s : Fin 8192) (n : Fin 256) :
    convR V (ix3 b s n) = taps (up (xR V) b n) (wt (dwR V) n) s.val + dbR V (ix1 n) := by
  have e : res_main_v10 V = upR V := rfl
  have d : V (Proc.devRef .tc main_arg1) = dwR V := rfl
  have f : V (Proc.devRef .tc main_arg2) = dbR V := rfl
  have g : res_main_v165 V = moreR V := rfl
  unfold taps
  pointwise [convR, res_main_v231, e, d, f, g]
  simp only [upR_read, wt_of, moreR_read]
  simp only [Finset.sum_range_succ, Finset.sum_range_zero, zero_add, Nat.add_comm s.val]
  rfl

set_option maxHeartbeats 2000000 in
theorem normR_read (b : Fin 2) (s : Fin 8192) (k : Fin 256) :
    normR V (ix3 b s k) = lnorm (fun n => convR V (ix3 b s n)) (fun n => gainR V (ix1 n)) (fun n => shiftR V (ix1 n)) k := by
  have e : res_main_v231 V = convR V := rfl
  have g : V (Proc.devRef .tc main_arg3) = gainR V := rfl
  have h : V (Proc.devRef .tc main_arg4) = shiftR V := rfl
  unfold lnorm
  pointwise [normR, res_main_v255, res_main_v237, res_main_v235, e, g, h]

theorem centreR_read (b : Fin 2) (s : Fin 8192) (k : Fin 256) : centreR V (ix3 b s k) = deep (xR V) b k (s.val + 8) := by
  unfold deep
  rw [dif_pos (by omega)]
  pointwise [centreR, res_main_v263, xR]
  rfl

set_option maxHeartbeats 4000000 in
theorem means_first (b : Fin 2) (s : Fin 8192) (k : Fin 256) (h : k.val / 64 = 0) :
    meansR V (ix3 b s k) = Ideal.div (window (deep (xR V) b k) 2 (s.val + 8 - 1)) (FloatOps.sitofp .f32 (many 1 s.val) : Ideal .f32) := by
  have e : res_main_v264 V = deepR V := rfl
  have hj : ∀ j, s.val + 8 - 1 + j = 7 + j + s.val := by omega
  pointwise [meansR, res_main_v398, res_main_v265, e]
  refine (dif_pos (show k.val < 64 by omega)).trans ?_
  rw [← reference_many1 _ s.isLt]
  unfold window
  simp only [deepR_read, Finset.sum_range_succ, Finset.sum_range_zero, zero_add, hj, Nat.reduceAdd]
  rfl

set_option maxHeartbeats 4000000 in
theorem means_second (b : Fin 2) (s : Fin 8192) (k : Fin 256) (h : k.val / 64 = 1) :
    meansR V (ix3 b s k) = Ideal.div (window (deep (xR V) b k) 4 (s.val + 8 - 2)) (FloatOps.sitofp .f32 (many 2 s.val) : Ideal .f32) := by
  have e : res_main_v264 V = deepR V := rfl
  have hj : ∀ j, s.val + 8 - 2 + j = 6 + j + s.val := by omega
  have hk : (⟨64 + (k.val - 64), by omega⟩ : Fin 256) = k := Fin.ext (by show 64 + (k.val - 64) = k.val; omega)
  pointwise [meansR, res_main_v398, res_main_v265, e]
  refine (dif_neg (show ¬ k.val < 64 by omega)).trans ((dif_pos (show k.val - 64 < 64 by omega)).trans ?_)
  rw [← reference_many2 _ s.isLt]
  unfold window
  simp only [hk, deepR_read, Finset.sum_range_succ, Finset.sum_range_zero, zero_add, hj, Nat.reduceAdd]
  rfl

set_option maxHeartbeats 4000000 in
theorem means_third (b : Fin 2) (s : Fin 8192) (k : Fin 256) (h : k.val / 64 = 2) :
    meansR V (ix3 b s k) = Ideal.div (window (deep (xR V) b k) 8 (s.val + 8 - 4)) (FloatOps.sitofp .f32 (many 4 s.val) : Ideal .f32) := by
  have e : res_main_v264 V = deepR V := rfl
  have hj : ∀ j, s.val + 8 - 4 + j = 4 + j + s.val := by omega
  have hk : (⟨128 + (k.val - 64 - 64), by omega⟩ : Fin 256) = k := Fin.ext (by show 128 + (k.val - 64 - 64) = k.val; omega)
  pointwise [meansR, res_main_v398, res_main_v265, e]
  refine (dif_neg (show ¬ k.val < 64 by omega)).trans ((dif_neg (show ¬ k.val - 64 < 64 by omega)).trans ((dif_pos (show k.val - 64 - 64 < 64 by omega)).trans ?_))
  rw [← reference_many4 _ s.isLt]
  unfold window
  simp only [hk, deepR_read, Finset.sum_range_succ, Finset.sum_range_zero, zero_add, hj, Nat.reduceAdd]
  rfl

set_option maxHeartbeats 4000000 in
theorem means_fourth (b : Fin 2) (s : Fin 8192) (k : Fin 256) (h : k.val / 64 = 3) :
    meansR V (ix3 b s k) = Ideal.div (window (deep (xR V) b k) 16 (s.val + 8 - 8)) (FloatOps.sitofp .f32 (many 8 s.val) : Ideal .f32) := by
  have e : res_main_v264 V = deepR V := rfl
  have hj : ∀ j, s.val + 8 - 8 + j = j + s.val := by omega
  have hk : (⟨192 + (k.val - 64 - 64 - 64), by omega⟩ : Fin 256) = k := Fin.ext (by show 192 + (k.val - 64 - 64 - 64) = k.val; omega)
  pointwise [meansR, res_main_v398, res_main_v265, e]
  refine (dif_neg (show ¬ k.val < 64 by omega)).trans ((dif_neg (show ¬ k.val - 64 < 64 by omega)).trans ((dif_neg (show ¬ k.val - 64 - 64 < 64 by omega)).trans ?_))
  rw [← reference_many8 _ s.isLt]
  unfold window
  simp only [hk, deepR_read, Finset.sum_range_succ, Finset.sum_range_zero, zero_add, hj, Nat.reduceAdd]
  rfl

/-- The means less the columns. -/
theorem meansR_read (b : Fin 2) (s : Fin 8192) (k : Fin 256) :
    meansR V (ix3 b s k) - centreR V (ix3 b s k) = pooled (deep (xR V) b) s.val s.val k := by
  rw [centreR_read]
  unfold pooled
  refine congrArg (· - deep (xR V) b k (s.val + 8)) ?_
  obtain h | h | h | h : k.val / 64 = 0 ∨ k.val / 64 = 1 ∨ k.val / 64 = 2 ∨ k.val / 64 = 3 := by omega
  · rw [show half k = 1 by unfold half; rw [h]; rfl]
    exact means_first V b s k h
  · rw [show half k = 2 by unfold half; rw [h]; rfl]
    exact means_second V b s k h
  · rw [show half k = 4 by unfold half; rw [h]; rfl]
    exact means_third V b s k h
  · rw [show half k = 8 by unfold half; rw [h]; rfl]
    exact means_fourth V b s k h

/-- The two results. -/
def out0 : FVec Ideal S16384x256 .bf16 :=
  truncf .bf16 (shapeCast _ (mulf (normR V) (Host.divf (broadcastInDim S2x8192x256 ![] bcast_S_S2x8192x256 (constant S_ .f32 0x3F800000#32)) (addf (broadcastInDim S2x8192x256 ![] bcast_S_S2x8192x256 (constant S_ .f32 0x3F800000#32)) (Host.exp (Host.negf (normR V)))))) shapeCasts_S2x8192x256_S16384x256) bitsLt_bf16_f32
def out1 : FVec Ideal S16384x256 .bf16 :=
  truncf .bf16 (shapeCast _ (mulf (shapeCast _ (transpose S2x8192x4x64 [2, 3, 0, 1] (Host.dotGeneral dot_S4x64x64_S2x8192x4x64_S4x64x2x8192_1_3_2_01_0_2 none (mixR V) (shapeCast _ (subf (meansR V) (centreR V)) shapeCasts_S2x8192x256_S2x8192x4x64)) transposes_S4x64x2x8192_S2x8192x4x64_2_3_0_1) shapeCasts_S2x8192x4x64_S2x8192x256) (broadcastInDim S2x8192x256 ![0, 1, 2] bcast_S1x1x256_S2x8192x256_0_1_2 (broadcastInDim S1x1x256 ![2] bcast_S256_S1x1x256_2 (scaleR V)))) shapeCasts_S2x8192x256_S16384x256) bitsLt_bf16_f32

theorem out0_read (y : Fin 16384) (k : Fin 256) :
    out0 V (ix2 y k) = normR V (ix3 ⟨y / 8192, by omega⟩ ⟨y % 8192, by omega⟩ k) * Ideal.logistic (normR V (ix3 ⟨y / 8192, by omega⟩ ⟨y % 8192, by omega⟩ k)) := by
  unfold Ideal.logistic
  pointwise [out0]

theorem out1_read (y : Fin 16384) (k : Fin 256) :
    out1 V (ix2 y k) = (∑ x : Fin 64, mixR V (ix3 ⟨k / 64, by omega⟩ x ⟨k % 64, by omega⟩)
        * (meansR V (ix3 ⟨y / 8192, by omega⟩ ⟨y % 8192, by omega⟩ ⟨k / 64 * 64 + x, by omega⟩) - centreR V (ix3 ⟨y / 8192, by omega⟩ ⟨y % 8192, by omega⟩ ⟨k / 64 * 64 + x, by omega⟩)))
      * scaleR V (ix1 k) := by
  pointwise [out1]

end Cert.Reference5Ideal.Steps

end
-- ==== Proof.MixAgree.lean ====
/-
  The mixing kernel's two output arrays are the reference's.
-/
module

public import proofs.«01_k».proof.Proof.MixHost
public import proofs.«01_k».proof.Proof.MixRead
public import proofs.«01_k».proof.Proof.MixRef
public import proofs.«01_k».proof.Proof.FfnAgree
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.Kernel5Ideal.Agree

open Cert.Kernel5Ideal Cert.Kernel5Ideal.Gen Cert.Kernel5Ideal.Tile Cert.Kernel5Ideal.Host5 Cert.Layer
open Cert.Kernel2Ideal.Tile (keep)
open Cert.Kernel2Ideal.Agree (keep_set keep_clear)
open Cert.Reference5Ideal.Steps (xR dwR dbR gainR shiftR mixR scaleR convR normR meansR centreR up deep out0 out1 convR_read normR_read meansR_read out0_read out1_read)

/-- The two flags: the first tile of a batch entry, and the last; and a point's number. -/
theorem flags : ∀ t : Fin grid0.N, first (grid0.coords t) = (if t.val % 16 = 0 then 1#1 else 0#1)
    ∧ kernelRun0_A.sl.v11 (grid0.coords t) = (if t.val % 16 = 15 then 1#1 else 0#1) := by decide +kernel
theorem number : ∀ t : Fin grid0.N, (grid0.coords t 0).val = t.val := by decide +kernel

theorem half_le (k : Fin 256) : half k ≤ 8 := by
  unfold half
  obtain h | h | h | h : k.val / 64 = 0 ∨ k.val / 64 = 1 ∨ k.val / 64 = 2 ∨ k.val / 64 = 3 := by omega
  all_goals rw [h]; norm_num

section points
variable (m : (ℓ : Loc nD τ sig) → Buf (Elt Ideal) ℓ) (c : Dev nD) (t : Fin cfg0.N)

/-- The sequence. -/
def seq : FVec Ideal S2x8192x768 .f32 := m ((c : Thread nD τ).loc main_arg0)

/-- A row of the block with its halo is a row of the sequence. -/
theorem near_at (a : Fin 544) (n : Fin 768) (b : Fin 2) (s : Fin 8192) (hb : b.val = t.val / 16) (h : s.val + 16 = t.val % 16 * 512 + a.val) :
    near (iblk m c 0 t) (iblk m c 1 t) (iblk m c 2 t) a n = seq m c (ix3 b s n) := by
  unfold near
  by_cases c1 : a.val < 16
  · rw [dif_pos c1]
    exact blk_above m c t ⟨a, c1⟩ n b s (by show (32 * t.val - 1) * 16 + a.val = _; omega)
  · rw [dif_neg c1]
    by_cases c2 : a.val < 528
    · rw [dif_pos c2]
      exact blk_x m c t ⟨a - 16, by omega⟩ n b s (by show t.val * 512 + (a.val - 16) = _; omega)
    · rw [dif_neg c2]
      exact blk_below m c t ⟨a - 528, by omega⟩ n b s (by show min (32 * (t.val + 1)) 1023 * 16 + (a.val - 528) = _; omega)

/-- The rows outside the batch entry are dropped, and the others kept. -/
theorem edge_at (a : Fin 544) :
    edge (first (grid0.coords t)) (kernelRun0_A.sl.v11 (grid0.coords t)) a
      = if 16 ≤ t.val % 16 * 512 + a.val ∧ t.val % 16 * 512 + a.val - 16 < 8192 then 1 else 0 := by
  obtain ⟨f0, f1⟩ := flags t
  unfold edge
  rw [f0, f1]
  by_cases c1 : a.val < 16
  · rw [if_pos c1]
    by_cases h0 : t.val % 16 = 0
    · rw [if_pos h0, keep_set, if_neg (by omega)]
    · rw [if_neg h0, keep_clear, if_pos (by omega)]
  · rw [if_neg c1]
    by_cases c2 : a.val < 528
    · rw [if_pos c2, if_pos (by omega)]
    · rw [if_neg c2]
      by_cases h0 : t.val % 16 = 15
      · rw [if_pos h0, keep_set, if_neg (by omega)]
      · rw [if_neg h0, keep_clear, if_pos (by omega)]

/-- The gated rows of a point are the reference's padded gated rows. -/
theorem gated_at (a P : ℕ) (n : Fin 256) (b : Fin 2) (hb : b.val = t.val / 16) (ha : a < 544) (hP : P + 1 = t.val % 16 * 512 + a) :
    rowAt (zc (grid0.coords t) (iblk m c 0 t) (iblk m c 1 t) (iblk m c 2 t)) n a = up (seq m c) b n P := by
  unfold rowAt
  rw [dif_pos ha, zc_read, edge_at]
  unfold up
  by_cases h : 15 ≤ P ∧ P - 15 < 8192
  · rw [dif_pos h, if_pos (by show 16 ≤ t.val % 16 * 512 + a ∧ t.val % 16 * 512 + a - 16 < 8192; omega), mul_one,
      near_at m c t ⟨a, ha⟩ _ b ⟨P - 15, h.2⟩ hb (by show P - 15 + 16 = t.val % 16 * 512 + a; omega),
      near_at m c t ⟨a, ha⟩ _ b ⟨P - 15, h.2⟩ hb (by show P - 15 + 16 = t.val % 16 * 512 + a; omega)]
  · rw [dif_neg h, if_neg (by show ¬ (16 ≤ t.val % 16 * 512 + a ∧ t.val % 16 * 512 + a - 16 < 8192); omega), mul_zero]

/-- The pooled rows of a point are the reference's padded rows. -/
theorem deep_at (a P : ℕ) (n : Fin 256) (b : Fin 2) (hb : b.val = t.val / 16) (ha : a < 544) (hP : P + 8 = t.val % 16 * 512 + a) :
    rowAt (zp (grid0.coords t) (iblk m c 0 t) (iblk m c 1 t) (iblk m c 2 t)) n a = deep (seq m c) b n P := by
  unfold rowAt
  rw [dif_pos ha, zp_read, edge_at]
  unfold deep
  by_cases h : 8 ≤ P ∧ P - 8 < 8192
  · rw [dif_pos h, if_pos (by show 16 ≤ t.val % 16 * 512 + a ∧ t.val % 16 * 512 + a - 16 < 8192; omega), mul_one,
      near_at m c t ⟨a, ha⟩ _ b ⟨P - 8, h.2⟩ hb (by show P - 8 + 16 = t.val % 16 * 512 + a; omega)]
  · rw [dif_neg h, if_neg (by show ¬ (16 ≤ t.val % 16 * 512 + a ∧ t.val % 16 * 512 + a - 16 < 8192); omega), mul_zero]

variable (r : Fin 512) (b : Fin 2) (s : Fin 8192) (hb : b.val = t.val / 16) (hs : s.val = t.val % 16 * 512 + r.val)
include hb hs

/-- A column's window of a point is the reference's. -/
theorem pooled_at (k : Fin 256) :
    pooled (rowAt (zp (grid0.coords t) (iblk m c 0 t) (iblk m c 1 t) (iblk m c 2 t))) (8 + r.val) (t.val % 16 * 512 + r.val) k
      = pooled (deep (seq m c) b) s.val s.val k := by
  have hh := half_le k
  unfold pooled window
  rw [← hs, deep_at m c t (8 + r.val + 8) (s.val + 8) k b hb (by omega) (by omega)]
  refine congrArg (fun z => Ideal.div z _ - _) (Finset.sum_congr rfl fun j hj => ?_)
  have := Finset.mem_range.mp hj
  exact deep_at m c t _ _ k b hb (by omega) (by omega)

variable (W : Valuation Cert.Reference5Ideal.τ Cert.Reference5Ideal.sig (Elt Ideal))
variable (e0 : xR W = m ((c : Thread nD τ).loc main_arg0)) (e1 : dwR W = m ((c : Thread nD τ).loc main_arg1)) (e2 : dbR W = m ((c : Thread nD τ).loc main_arg2))
  (e3 : gainR W = m ((c : Thread nD τ).loc main_arg3)) (e4 : shiftR W = m ((c : Thread nD τ).loc main_arg4))
  (e5 : mixR W = m ((c : Thread nD τ).loc main_arg5)) (e6 : scaleR W = m ((c : Thread nD τ).loc main_arg6))

include e0 e1 e2 in
/-- The convolution of a point is the reference's. -/
theorem acc_at (n : Fin 256) :
    acc3 (zc (grid0.coords t) (iblk m c 0 t) (iblk m c 1 t) (iblk m c 2 t)) (iblk m c 3 t) (vec (iblk m c 4 t)) (ix2 r n) = convR W (ix3 b s n) := by
  rw [acc3_read, convR_read, vec_read, blk_bias, ← e2, e0]
  refine congrArg (· + dbR W (ix1 n)) (Finset.sum_congr rfl fun j hj => ?_)
  have h31 := Finset.mem_range.mp hj
  rw [gated_at m c t (1 + r.val + j) (s.val + j) n b hb (by omega) (by omega)]
  refine congrArg (up (seq m c) b n (s.val + j) * ·) ?_
  unfold Tile.wt Cert.Reference5Ideal.Steps.wt
  rw [dif_pos h31, dif_pos h31, blk_conv, e1]

include e0 e1 e2 e3 e4 in
theorem conv_at (k : Fin 256) :
    conv (zc (grid0.coords t) (iblk m c 0 t) (iblk m c 1 t) (iblk m c 2 t)) (iblk m c 3 t) (vec (iblk m c 4 t)) (vec (iblk m c 5 t)) (vec (iblk m c 6 t)) (ix2 r k)
      = normR W (ix3 b s k) * Ideal.logistic (normR W (ix3 b s k)) := by
  have hg : (fun n : Fin 256 => vec (iblk m c 5 t) (ix2 0 n)) = fun n => gainR W (ix1 n) := funext fun n => by rw [vec_read, blk_gain, e3]
  have hh : (fun n : Fin 256 => vec (iblk m c 6 t) (ix2 0 n)) = fun n => shiftR W (ix1 n) := funext fun n => by rw [vec_read, blk_shift, e4]
  rw [conv_read, normR_read, hg, hh, funext (acc_at m c t r b s hb hs W e0 e1 e2)]
  rfl

include e0 e5 e6 in
theorem pool_at (k : Fin 256) :
    pool (grid0.coords t) (zp (grid0.coords t) (iblk m c 0 t) (iblk m c 1 t) (iblk m c 2 t)) (iblk m c 7 t) (vec (iblk m c 8 t)) (ix2 r k)
      = (∑ x : Fin 64, mixR W (ix3 ⟨k / 64, by omega⟩ x ⟨k % 64, by omega⟩)
          * (meansR W (ix3 b s ⟨k / 64 * 64 + x, by omega⟩) - centreR W (ix3 b s ⟨k / 64 * 64 + x, by omega⟩))) * scaleR W (ix1 k) := by
  have hN : cfg0.N = 32 := by decide +kernel
  have ht : t.val < 32 := hN ▸ t.isLt
  rw [pool_read (grid0.coords t) t.val (number t) ht, vec_read, blk_scale, e6]
  refine congrArg (· * (m ((c : Thread nD τ).loc main_arg6) : Vec Ideal S256 .f32) (ix1 k)) ?_
  refine (Finset.sum_of_injOn (fun x : Fin 64 => (⟨k / 64 * 64 + x, by omega⟩ : Fin 256)) ?_ ?_ ?_ ?_).symm
  · intro x _ x' _ h
    have : k.val / 64 * 64 + x.val = k.val / 64 * 64 + x'.val := congrArg Fin.val h
    exact Fin.ext (by omega)
  · intro x _
    exact Finset.mem_coe.mpr (Finset.mem_univ _)
  · intro x _ hx
    have hne : ¬ x.val / 64 = k.val / 64 := fun h => hx ⟨⟨x % 64, by omega⟩, Finset.mem_coe.mpr (Finset.mem_univ _),
      Fin.ext (by show k.val / 64 * 64 + x.val % 64 = x.val; omega)⟩
    rw [blk_mix, if_neg hne, mul_zero]
  · intro x _
    rw [pooled_at m c t r b s hb hs, meansR_read, blk_mix, if_pos (by show (k.val / 64 * 64 + x.val) / 64 = k.val / 64; omega), e0, e5, mul_comm]
    have hx : (⟨(k.val / 64 * 64 + x.val) / 64, by omega⟩ : Fin 4) = ⟨k / 64, by omega⟩ := Fin.ext (by show (k.val / 64 * 64 + x.val) / 64 = k.val / 64; omega)
    have hy : (⟨(k.val / 64 * 64 + x.val) % 64, by omega⟩ : Fin 64) = x := Fin.ext (by show (k.val / 64 * 64 + x.val) % 64 = x.val; omega)
    dsimp only
    rw [hx, hy]
    rfl

end points

/-- The points' blocks tile each output. -/
theorem cover9 (i : S16384x256.Idx) : ∃ t : Fin cfg0.N, (cfg0.win 9).flush t = true ∧ i ∈ ((cfg0.win 9).blk t).view.set := by
  have h0 : (i 0 : Nat) < 16384 := (i 0).isLt
  have h1 : (i 1 : Nat) < 256 := (i 1).isLt
  have hN : grid0.N = 32 := by decide +kernel
  let t : Fin grid0.N := ⟨(i 0 : Nat) / 512, by omega⟩
  refine ⟨t, flush_conv t, ?_⟩
  show i ∈ ((View.whole main_v16_0).slice (win0_9.rect t)).set
  rw [View.set_slice_whole, Rect.mem_set_unit]
  obtain ⟨e0, e1⟩ := (index_x t).2.2.2.1
  have ht : t.val = (i 0 : Nat) / 512 := rfl
  intro a
  match a with
  | ⟨0, _⟩ => show win0_9.index t 0 * 512 ≤ (i 0 : Nat) ∧ (i 0 : Nat) < win0_9.index t 0 * 512 + 512
              rw [e0]; omega
  | ⟨1, _⟩ => show win0_9.index t 1 * 256 ≤ (i 1 : Nat) ∧ (i 1 : Nat) < win0_9.index t 1 * 256 + 256
              rw [e1]; omega
theorem cover10 (i : S16384x256.Idx) : ∃ t : Fin cfg0.N, (cfg0.win 10).flush t = true ∧ i ∈ ((cfg0.win 10).blk t).view.set := by
  have h0 : (i 0 : Nat) < 16384 := (i 0).isLt
  have h1 : (i 1 : Nat) < 256 := (i 1).isLt
  have hN : grid0.N = 32 := by decide +kernel
  let t : Fin grid0.N := ⟨(i 0 : Nat) / 512, by omega⟩
  refine ⟨t, flush_pool t, ?_⟩
  show i ∈ ((View.whole main_v16_1).slice (win0_10.rect t)).set
  rw [View.set_slice_whole, Rect.mem_set_unit]
  obtain ⟨e0, e1⟩ := (index_x t).2.2.2.2
  have ht : t.val = (i 0 : Nat) / 512 := rfl
  intro a
  match a with
  | ⟨0, _⟩ => show win0_10.index t 0 * 512 ≤ (i 0 : Nat) ∧ (i 0 : Nat) < win0_10.index t 0 * 512 + 512
              rw [e0]; omega
  | ⟨1, _⟩ => show win0_10.index t 1 * 256 ≤ (i 1 : Nat) ∧ (i 1 : Nat) < win0_10.index t 1 * 256 + 256
              rw [e1]; omega

section finals
variable (m : (ℓ : Loc nD τ sig) → Buf (Elt Ideal) ℓ) (c : Dev nD)
variable (W : Valuation Cert.Reference5Ideal.τ Cert.Reference5Ideal.sig (Elt Ideal))
variable (e0 : xR W = m ((c : Thread nD τ).loc main_arg0)) (e1 : dwR W = m ((c : Thread nD τ).loc main_arg1)) (e2 : dbR W = m ((c : Thread nD τ).loc main_arg2))
  (e3 : gainR W = m ((c : Thread nD τ).loc main_arg3)) (e4 : shiftR W = m ((c : Thread nD τ).loc main_arg4))
  (e5 : mixR W = m ((c : Thread nD τ).loc main_arg5)) (e6 : scaleR W = m ((c : Thread nD τ).loc main_arg6))

include e0 e1 e2 e3 e4 in
set_option maxHeartbeats 1000000 in
/-- The convolution's array is the reference's. -/
theorem final9 : (dats m 0 c).arrAt 9 cfg0.N = out0 W := by
  refine (dats m 0 c).arrAt_eq_of_cover 9 _ (fun t _ => ?_) cover9
  rw [Value.flushed9]
  have hN : cfg0.N = 32 := by decide +kernel
  have ht : t.val < 32 := hN ▸ t.isLt
  refine funext fun j => ?_
  obtain ⟨r, hr⟩ : ∃ r : Fin 512, r = j 0 := ⟨j 0, rfl⟩
  obtain ⟨n, hn⟩ : ∃ n : Fin 256, n = j 1 := ⟨j 1, rfl⟩
  have hj : j = (ix2 r n : S512x256.Idx) := by
    refine funext fun a => ?_
    match a with
    | ⟨0, _⟩ => exact hr.symm
    | ⟨1, _⟩ => exact hn.symm
  let y : Fin 16384 := ⟨t.val * 512 + r.val, by omega⟩
  have hy : y.val = t.val * 512 + r.val := rfl
  have e : (win0_9.rect t).emb j = (ix2 y n : S16384x256.Idx) := by
    rw [hj]
    refine funext fun a => Fin.ext ?_
    match a with
    | ⟨0, _⟩ => show win0_9.index t 0 * 512 + 1 * r.val = t.val * 512 + r.val; rw [(index_x t).2.2.2.1.1, Nat.one_mul]
    | ⟨1, _⟩ => show win0_9.index t 1 * 256 + 1 * n.val = n.val; rw [(index_x t).2.2.2.1.2, Nat.zero_mul, Nat.zero_add, Nat.one_mul]
  show _ = out0 W ((win0_9.rect t).emb j)
  rw [e, hj, out0_read]
  show (outsAt0 m c t).1 (ix2 r n) = _
  unfold outsAt0
  dsimp only
  rw [run9]
  exact conv_at m c t r _ _ (by show y.val / 8192 = t.val / 16; omega) (by show y.val % 8192 = t.val % 16 * 512 + r.val; omega) W e0 e1 e2 e3 e4 n

include e0 e5 e6 in
set_option maxHeartbeats 1000000 in
/-- The pooling's array is the reference's. -/
theorem final10 : (dats m 0 c).arrAt 10 cfg0.N = out1 W := by
  refine (dats m 0 c).arrAt_eq_of_cover 10 _ (fun t _ => ?_) cover10
  rw [Value.flushed10]
  have hN : cfg0.N = 32 := by decide +kernel
  have ht : t.val < 32 := hN ▸ t.isLt
  refine funext fun j => ?_
  obtain ⟨r, hr⟩ : ∃ r : Fin 512, r = j 0 := ⟨j 0, rfl⟩
  obtain ⟨n, hn⟩ : ∃ n : Fin 256, n = j 1 := ⟨j 1, rfl⟩
  have hj : j = (ix2 r n : S512x256.Idx) := by
    refine funext fun a => ?_
    match a with
    | ⟨0, _⟩ => exact hr.symm
    | ⟨1, _⟩ => exact hn.symm
  let y : Fin 16384 := ⟨t.val * 512 + r.val, by omega⟩
  have hy : y.val = t.val * 512 + r.val := rfl
  have e : (win0_10.rect t).emb j = (ix2 y n : S16384x256.Idx) := by
    rw [hj]
    refine funext fun a => Fin.ext ?_
    match a with
    | ⟨0, _⟩ => show win0_10.index t 0 * 512 + 1 * r.val = t.val * 512 + r.val; rw [(index_x t).2.2.2.2.1, Nat.one_mul]
    | ⟨1, _⟩ => show win0_10.index t 1 * 256 + 1 * n.val = n.val; rw [(index_x t).2.2.2.2.2, Nat.zero_mul, Nat.zero_add, Nat.one_mul]
  show _ = out1 W ((win0_10.rect t).emb j)
  rw [e, hj, out1_read]
  show (outsAt0 m c t).2 (ix2 r n) = _
  unfold outsAt0
  dsimp only
  rw [run10]
  exact pool_at m c t r _ _ (by show y.val / 8192 = t.val / 16; omega) (by show y.val % 8192 = t.val % 16 * 512 + r.val; omega) W e0 e5 e6 n
end finals

end Cert.Kernel5Ideal.Agree

end
-- ==== Proof.lean ====
/- The claims: both frames and the reference's, the idealization's preservation, and the output's agreement with the reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference2Ideal
public import proofs.«01_k».proof.Proof.Gen.Reference2Ideal.Run
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Pre
public import proofs.«01_k».proof.Proof.Agree
public import proofs.«01_k».proof.Proof.FfnRef
public import proofs.«01_k».proof.Proof.FfnAgree
public import proofs.«01_k».proof.Proof.MergeRef
public import proofs.«01_k».proof.Proof.MergeAgree
public import proofs.«01_k».proof.Proof.InRef
public import proofs.«01_k».proof.Proof.InFinal
public import proofs.«01_k».proof.Proof.MixAgree
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

instance : Cert.Pre_finite.Facts := Cert.Pre_finite.facts

/-- The kernel and the reference end with equal outputs on finite arguments. -/
theorem agree : Cert.algebraic_KernelIdeal_ReferenceIdeal_pre_finite := by
  intro m g m' g' hpre hagree
  refine ⟨fun c => (Cert.KernelIdeal.Gen.dats m 0 c).arrAt 10 Cert.KernelIdeal.cfg0.N, ?_, ?_⟩
  · exact Cert.KernelIdeal.Value.run_blocks m g
  · refine (θ_run Cert.ReferenceIdeal.defs _ _).mono (fun r h c => ⟨(h c).1.trans ?_, (h c).2⟩) (Cert.ReferenceIdeal.Value.run m' g')
    obtain ⟨e0, e1, e2, e3, e4, e5, e6, e7, e8, e9⟩ := hagree c
    obtain ⟨h0, h1, h2, h3, h4, h5, h6, h7, h8⟩ := Cert.Pre_finite.real_args _ _ _ _ _ _ _ _ _ _ (hpre c)
    rw [Cert.ReferenceIdeal.Steps.res_eq, e0, e1, e2, e3, e4, e5, e6, e7, e8, e9]
    exact (Cert.KernelIdeal.Agree.final m c h0 h1 h2 h3 h4 h5 h6 h7 h8).symm

/-- The feed-forward part and its reference end with equal outputs. -/
theorem agree2 : Cert.algebraic_Kernel2Ideal_Reference2Ideal := by
  intro m g m' g' hpre hagree
  refine ⟨fun c => (Cert.Kernel2Ideal.Gen.dats m 0 c).arrAt 11 Cert.Kernel2Ideal.cfg0.N, ?_, ?_⟩
  · exact Cert.Kernel2Ideal.Value.run_blocks m g
  · refine (θ_run Cert.Reference2Ideal.defs _ _).mono (fun r h c => ⟨(h c).1.trans ?_, (h c).2⟩) (Cert.Reference2Ideal.Value.run m' g')
    obtain ⟨e0, e1, e2, e3, e4, e5, e6, e7⟩ := hagree c
    rw [Cert.Reference2Ideal.Steps.res_eq, e0, e1, e2, e3, e4, e5, e6, e7]
    exact (Cert.Kernel2Ideal.Agree.final m c).symm

/-- The merge and its reference end with equal outputs. -/
theorem agree3 : Cert.algebraic_Kernel3Ideal_Reference3Ideal := by
  intro m g m' g' hpre hagree
  refine ⟨fun c => (Cert.Kernel3Ideal.Gen.dats m 0 c).arrAt 13 Cert.Kernel3Ideal.cfg0.N, ?_, ?_⟩
  · exact Cert.Kernel3Ideal.Value.run_blocks m g
  · refine (θ_run Cert.Reference3Ideal.defs _ _).mono (fun r h c => ⟨(h c).1.trans ?_, (h c).2⟩) (Cert.Reference3Ideal.Value.run m' g')
    obtain ⟨e0, e1, e2, e3, e4, e5, e6, e7, e8, e9, e10, e11, e12⟩ := hagree c
    rw [Cert.Reference3Ideal.Steps.res_eq, e0, e1, e2, e3, e4, e5, e6, e7, e8, e9, e10, e11, e12]
    exact (Cert.Kernel3Ideal.Agree.final m c).symm

/-- The input projection and its reference end with equal outputs. -/
theorem agree4 : Cert.algebraic_Kernel4Ideal_Reference4Ideal := by
  intro m g m' g' hpre hagree
  refine ⟨fun c => (Cert.Kernel4Ideal.Gen.dats m 0 c).arrAt 13 Cert.Kernel4Ideal.cfg0.N, fun c => (Cert.Kernel4Ideal.Gen.dats m 0 c).arrAt 14 Cert.Kernel4Ideal.cfg0.N,
    fun c => (Cert.Kernel4Ideal.Gen.dats m 0 c).arrAt 15 Cert.Kernel4Ideal.cfg0.N, fun c => (Cert.Kernel4Ideal.Gen.dats m 0 c).arrAt 16 Cert.Kernel4Ideal.cfg0.N,
    fun c => (Cert.Kernel4Ideal.Gen.dats m 0 c).arrAt 17 Cert.Kernel4Ideal.cfg0.N, ?_, ?_⟩
  · exact Cert.Kernel4Ideal.Value.run_blocks m g
  · have e : ∀ c : Dev Cert.Kernel4Ideal.nD, Cert.Reference4Ideal.Steps.projR m' c = Cert.Kernel4Ideal.Agree.proj m c := by
      intro c
      obtain ⟨e0, e1, e2, e3⟩ := hagree c
      unfold Cert.Reference4Ideal.Steps.projR Cert.Kernel4Ideal.Agree.proj
      rw [e0, e1, e2, e3]
    refine (θ_run Cert.Reference4Ideal.defs _ _).mono (fun r h c => ⟨(h c).1.trans ?_, (h c).2.1.trans ?_, (h c).2.2.1.trans ?_,
      (h c).2.2.2.1.trans ?_, (h c).2.2.2.2.1.trans ?_, (h c).2.2.2.2.2⟩) (Cert.Reference4Ideal.Value.run m' g')
    · exact (congrArg Cert.Reference4Ideal.Steps.out0 (e c)).trans (Cert.Kernel4Ideal.Agree.final13 m c).symm
    · rw [Cert.Reference4Ideal.Steps.res1_eq]
      exact (congrArg Cert.Reference4Ideal.Steps.out1 (e c)).trans (Cert.Kernel4Ideal.Agree.final14 m c).symm
    · rw [Cert.Reference4Ideal.Steps.res2_eq]
      exact (congrArg Cert.Reference4Ideal.Steps.out2 (e c)).trans (Cert.Kernel4Ideal.Agree.final15 m c).symm
    · exact (congrArg Cert.Reference4Ideal.Steps.out3 (e c)).trans (Cert.Kernel4Ideal.Agree.final16 m c).symm
    · exact (congrArg Cert.Reference4Ideal.Steps.out4 (e c)).trans (Cert.Kernel4Ideal.Agree.final17 m c).symm

/-- The mixing kernel and its reference end with equal outputs. -/
theorem agree5 : Cert.algebraic_Kernel5Ideal_Reference5Ideal := by
  intro m g m' g' hpre hagree
  refine ⟨fun c => (Cert.Kernel5Ideal.Gen.dats m 0 c).arrAt 9 Cert.Kernel5Ideal.cfg0.N, fun c => (Cert.Kernel5Ideal.Gen.dats m 0 c).arrAt 10 Cert.Kernel5Ideal.cfg0.N, ?_, ?_⟩
  · exact Cert.Kernel5Ideal.Value.run_blocks m g
  · refine (θ_run Cert.Reference5Ideal.defs _ _).mono (fun r h c => ⟨(h c).1.trans ?_, (h c).2.1.trans ?_, (h c).2.2⟩) (Cert.Reference5Ideal.Value.run m' g')
    · obtain ⟨e0, e1, e2, e3, e4, e5, e6⟩ := hagree c
      exact (Cert.Kernel5Ideal.Agree.final9 m c (StableHlo.launchContents m' c) e0 e1 e2 e3 e4).symm
    · obtain ⟨e0, e1, e2, e3, e4, e5, e6⟩ := hagree c
      exact (Cert.Kernel5Ideal.Agree.final10 m c (StableHlo.launchContents m' c) e0 e5 e6).symm

/-- The whole claim. -/
theorem claim : Cert.Claim := by
  refine ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Pre_finite.facts,
    ?_, ?_, ?_, ?_, ?_, ?_, ?_, ?_, ?_, ?_, ?_, ?_, ?_, ?_, ?_, ?_, ?_, ?_, ?_, ?_, ?_, ?_, ?_, ?_, ?_, ?_, ?_⟩
  · intro m g _
    run_from Cert.Kernel.Gen.frame m g
  · intro m g _
    run_from Cert.KernelIdeal.Gen.frame m g
  · intro m g _
    run_from Cert.KernelIdeal.Gen.frame m g
  · intro m g _
    exact (θ_run Cert.ReferenceIdeal.defs _ _).mono (fun r h => ⟨fun c => (h c).2, sem_eq_zero_of_no_sems (by decide) r.2⟩) (Cert.ReferenceIdeal.Value.run m g)
  · intro m g _
    exact (θ_run Cert.ReferenceIdeal.defs _ _).mono (fun r h => ⟨fun c => (h c).2, sem_eq_zero_of_no_sems (by decide) r.2⟩) (Cert.ReferenceIdeal.Value.run m g)
  · intro m g _
    run_from Cert.Kernel2.Gen.frame m g
  · intro m g _
    run_from Cert.Kernel2Ideal.Gen.frame m g
  · intro m g _
    exact (θ_run Cert.Reference2Ideal.defs _ _).mono (fun r h => ⟨fun c => (h c).2, sem_eq_zero_of_no_sems (by decide) r.2⟩) (Cert.Reference2Ideal.Value.run m g)
  · intro m g _
    run_from Cert.Kernel3.Gen.frame m g
  · intro m g _
    run_from Cert.Kernel3Ideal.Gen.frame m g
  · intro m g _
    exact (θ_run Cert.Reference3Ideal.defs _ _).mono (fun r h => ⟨fun c => (h c).2, sem_eq_zero_of_no_sems (by decide) r.2⟩) (Cert.Reference3Ideal.Value.run m g)
  · intro m g _
    run_from Cert.Kernel4.Gen.frame m g
  · intro m g _
    run_from Cert.Kernel4Ideal.Gen.frame m g
  · intro m g _
    exact (θ_run Cert.Reference4Ideal.defs _ _).mono (fun r h => ⟨fun c => (h c).2.2.2.2.2, sem_eq_zero_of_no_sems (by decide) r.2⟩) (Cert.Reference4Ideal.Value.run m g)
  · intro m g _
    run_from Cert.Kernel5.Gen.frame m g
  · intro m g _
    run_from Cert.Kernel5Ideal.Gen.frame m g
  · intro m g _
    exact (θ_run Cert.Reference5Ideal.defs _ _).mono (fun r h => ⟨fun c => (h c).2.2, sem_eq_zero_of_no_sems (by decide) r.2⟩) (Cert.Reference5Ideal.Value.run m g)
  · trivial
  · exact agree
  · exact IdealRules.named_const.statement Cert.Kernel2Ideal.κ "inv_sqrt_2" .f32 0x3F3504F3#32 (((Real.sqrt 2)⁻¹ : ℝ) : EReal) rfl
  · exact agree2
  · trivial
  · exact agree3
  · exact IdealRules.named_const.statement Cert.Kernel4Ideal.κ "q_scale" .f32 0x3E38AA3B#32 (((1 / 8) * (Real.log 2)⁻¹ : ℝ) : EReal) rfl
  · exact agree4
  · trivial
  · exact agree5

end Cert.Proof

end
